-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def Pre_KeysValues (m : (ℓ : Loc Cert.KeysValues.nD Cert.KeysValues.τ Cert.KeysValues.sig) → Buf (Elt Bits) ℓ) : Prop :=
  True

def Pre_KeysValuesIdeal (m : (ℓ : Loc Cert.KeysValuesIdeal.nD Cert.KeysValuesIdeal.τ Cert.KeysValuesIdeal.sig) → Buf (Elt Ideal) ℓ) : Prop :=
  True

def Pre_RefKeysValuesIdeal (m : (ℓ : Loc Cert.RefKeysValuesIdeal.nD Cert.RefKeysValuesIdeal.τ Cert.RefKeysValuesIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_RefQueriesIdeal (m : (ℓ : Loc Cert.RefQueriesIdeal.nD Cert.RefQueriesIdeal.τ Cert.RefQueriesIdeal.sig) → Buf (Elt Ideal) ℓ) : Prop :=
  True

def Pre_ProjectOut (m : (ℓ : Loc Cert.ProjectOut.nD Cert.ProjectOut.τ Cert.ProjectOut.sig) → Buf (Elt Bits) ℓ) : Prop :=
  True

def Pre_ProjectOutIdeal (m : (ℓ : Loc Cert.ProjectOutIdeal.nD Cert.ProjectOutIdeal.τ Cert.ProjectOutIdeal.sig) → Buf (Elt Ideal) ℓ) : Prop :=
  True

def Pre_RefProjectOutIdeal (m : (ℓ : Loc Cert.RefProjectOutIdeal.nD Cert.RefProjectOutIdeal.τ Cert.RefProjectOutIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_finite_sample [hPre_finite_sample : Cert.Pre_finite_sample.Facts] (m : (ℓ : Loc Cert.SampleIdeal.nD Cert.SampleIdeal.τ Cert.SampleIdeal.sig) → Buf (Elt Ideal) ℓ) : Prop :=
  ∀ c : Dev Cert.SampleIdeal.nD,
    (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4))) = (fun _ => 1#1)

def Pre_RefSampleIdeal (m : (ℓ : Loc Cert.RefSampleIdeal.nD Cert.RefSampleIdeal.τ Cert.RefSampleIdeal.sig) → Buf (Elt Ideal) ℓ) : Prop :=
  True

def Pre_RefSampleIdeal_finite_sample [hPre_finite_sample : Cert.Pre_finite_sample.Facts] (m : (ℓ : Loc Cert.RefSampleIdeal.nD Cert.RefSampleIdeal.τ Cert.RefSampleIdeal.sig) → Buf (Elt Ideal) ℓ) : Prop :=
  ∀ c : Dev Cert.RefSampleIdeal.nD,
    (Cert.Pre_finite_sample.fn (F := Ideal) (m ((c.tc : Thread Cert.RefSampleIdeal.nD Cert.RefSampleIdeal.τ).loc Cert.RefSampleIdeal.main_arg0)) (m ((c.tc : Thread Cert.RefSampleIdeal.nD Cert.RefSampleIdeal.τ).loc Cert.RefSampleIdeal.main_arg1)) (m ((c.tc : Thread Cert.RefSampleIdeal.nD Cert.RefSampleIdeal.τ).loc Cert.RefSampleIdeal.main_arg2)) (m ((c.tc : Thread Cert.RefSampleIdeal.nD Cert.RefSampleIdeal.τ).loc Cert.RefSampleIdeal.main_arg3)) (m ((c.tc : Thread Cert.RefSampleIdeal.nD Cert.RefSampleIdeal.τ).loc Cert.RefSampleIdeal.main_arg4))) = (fun _ => 1#1)

def Pre_SampleKeysValues (m : (ℓ : Loc Cert.SampleKeysValues.nD Cert.SampleKeysValues.τ Cert.SampleKeysValues.sig) → Buf (Elt Bits) ℓ) : Prop :=
  True

def Pre_SampleKeysValuesIdeal (m : (ℓ : Loc Cert.SampleKeysValuesIdeal.nD Cert.SampleKeysValuesIdeal.τ Cert.SampleKeysValuesIdeal.sig) → Buf (Elt Ideal) ℓ) : Prop :=
  True

def Pre_RefSampleKeysValuesIdeal (m : (ℓ : Loc Cert.RefSampleKeysValuesIdeal.nD Cert.RefSampleKeysValuesIdeal.τ Cert.RefSampleKeysValuesIdeal.sig) → Buf (Elt Ideal) ℓ) : Prop :=
  True

def Pre_SampleQueries (m : (ℓ : Loc Cert.SampleQueries.nD Cert.SampleQueries.τ Cert.SampleQueries.sig) → Buf (Elt Bits) ℓ) : Prop :=
  True

def Pre_SampleQueriesIdeal (m : (ℓ : Loc Cert.SampleQueriesIdeal.nD Cert.SampleQueriesIdeal.τ Cert.SampleQueriesIdeal.sig) → Buf (Elt Ideal) ℓ) : Prop :=
  True

def Pre_RefSampleQueriesIdeal (m : (ℓ : Loc Cert.RefSampleQueriesIdeal.nD Cert.RefSampleQueriesIdeal.τ Cert.RefSampleQueriesIdeal.sig) → Buf (Elt Ideal) ℓ) : Prop :=
  True

def Pre_SampleProjectOut (m : (ℓ : Loc Cert.SampleProjectOut.nD Cert.SampleProjectOut.τ Cert.SampleProjectOut.sig) → Buf (Elt Bits) ℓ) : Prop :=
  True

def Pre_SampleProjectOutIdeal (m : (ℓ : Loc Cert.SampleProjectOutIdeal.nD Cert.SampleProjectOutIdeal.τ Cert.SampleProjectOutIdeal.sig) → Buf (Elt Ideal) ℓ) : Prop :=
  True

def Pre_RefSampleProjectOutIdeal (m : (ℓ : Loc Cert.RefSampleProjectOutIdeal.nD Cert.RefSampleProjectOutIdeal.τ Cert.RefSampleProjectOutIdeal.sig) → Buf (Elt Ideal) ℓ) : Prop :=
  True

def Pre_SampleConv (m : (ℓ : Loc Cert.SampleConv.nD Cert.SampleConv.τ Cert.SampleConv.sig) → Buf (Elt Bits) ℓ) : Prop :=
  True

def Pre_SampleConvIdeal (m : (ℓ : Loc Cert.SampleConvIdeal.nD Cert.SampleConvIdeal.τ Cert.SampleConvIdeal.sig) → Buf (Elt Ideal) ℓ) : Prop :=
  True

def Pre_RefSampleConvIdeal (m : (ℓ : Loc Cert.RefSampleConvIdeal.nD Cert.RefSampleConvIdeal.τ Cert.RefSampleConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3)
      ∧ r.2.mem ((c.tc : Thread Cert.RefConvIdeal.nD Cert.RefConvIdeal.τ).loc Cert.RefConvIdeal.main_arg4) = m ((c.tc : Thread Cert.RefConvIdeal.nD Cert.RefConvIdeal.τ).loc Cert.RefConvIdeal.main_arg4)
      ∧ r.2.mem ((c.tc : Thread Cert.RefConvIdeal.nD Cert.RefConvIdeal.τ).loc Cert.RefConvIdeal.main_arg5) = m ((c.tc : Thread Cert.RefConvIdeal.nD Cert.RefConvIdeal.τ).loc Cert.RefConvIdeal.main_arg5)
      ∧ r.2.mem ((c.tc : Thread Cert.RefConvIdeal.nD Cert.RefConvIdeal.τ).loc Cert.RefConvIdeal.main_arg6) = m ((c.tc : Thread Cert.RefConvIdeal.nD Cert.RefConvIdeal.τ).loc Cert.RefConvIdeal.main_arg6))
      ∧ r.2.sem = fun _ => 0)

def quiescent_KeysValues [hKeysValues : Cert.KeysValues.Facts] : Prop :=
  ∀ (m : (ℓ : Loc Cert.KeysValues.nD Cert.KeysValues.τ Cert.KeysValues.sig) → Buf (Elt Bits) ℓ) (g : Dev Cert.KeysValues.nD → PrngReg), Pre_KeysValues m →
    θ_run (Cert.KeysValues.defs (F := Bits)) (onTc (τ := Cert.KeysValues.τ) (Cert.KeysValues.main (F := Bits))) ⟨m, fun _ => 0, g⟩ (fun r => (∀ c : Dev Cert.KeysValues.nD,
      r.2.mem ((c.tc : Thread Cert.KeysValues.nD Cert.KeysValues.τ).loc Cert.KeysValues.main_arg0) = m ((c.tc : Thread Cert.KeysValues.nD Cert.KeysValues.τ).loc Cert.KeysValues.main_arg0)
      ∧ r.2.mem ((c.tc : Thread Cert.KeysValues.nD Cert.KeysValues.τ).loc Cert.KeysValues.main_arg1) = m ((c.tc : Thread Cert.KeysValues.nD Cert.KeysValues.τ).loc Cert.KeysValues.main_arg1)
      ∧ r.2.mem ((c.tc : Thread Cert.KeysValues.nD Cert.KeysValues.τ).loc Cert.KeysValues.main_arg2) = m ((c.tc : Thread Cert.KeysValues.nD Cert.KeysValues.τ).loc Cert.KeysValues.main_arg2))
      ∧ r.2.sem = fun _ => 0)

def quiescent_KeysValuesIdeal [hKeysValuesIdeal : Cert.KeysValuesIdeal.Facts] : Prop :=
  ∀ (m : (ℓ : Loc Cert.KeysValuesIdeal.nD Cert.KeysValuesIdeal.τ Cert.KeysValuesIdeal.sig) → Buf (Elt Ideal) ℓ) (g : Dev Cert.KeysValuesIdeal.nD → PrngReg), Pre_KeysValuesIdeal m →
    θ_run (Cert.KeysValuesIdeal.defs (F := Ideal)) (onTc (τ := Cert.KeysValuesIdeal.τ) (Cert.KeysValuesIdeal.main (F := Ideal))) ⟨m, fun _ => 0, g⟩ (fun r => (∀ c : Dev Cert.KeysValuesIdeal.nD,
      r.2.mem ((c.tc : Thread Cert.KeysValuesIdeal.nD Cert.KeysValuesIdeal.τ).loc Cert.KeysValuesIdeal.main_arg0) = m ((c.tc : Thread Cert.KeysValuesIdeal.nD Cert.KeysValuesIdeal.τ).loc Cert.KeysValuesIdeal.main_arg0)
      ∧ r.2.mem ((c.tc : Thread Cert.KeysValuesIdeal.nD Cert.KeysValuesIdeal.τ).loc Cert.KeysValuesIdeal.main_arg1) = m ((c.tc : Thread Cert.KeysValuesIdeal.nD Cert.KeysValuesIdeal.τ).loc Cert.KeysValuesIdeal.main_arg1)
      ∧ r.2.mem ((c.tc : Thread Cert.KeysValuesIdeal.nD Cert.KeysValuesIdeal.τ).loc Cert.KeysValuesIdeal.main_arg2) = m ((c.tc : Thread Cert.KeysValuesIdeal.nD Cert.KeysValuesIdeal.τ).loc Cert.KeysValuesIdeal.main_arg2))
      ∧ r.2.sem = fun _ => 0)

def quiescent_RefKeysValuesIdeal [hRefKeysValuesIdeal : Cert.RefKeysValuesIdeal.Facts] : Prop :=
  ∀ (m : (ℓ : Loc Cert.RefKeysValuesIdeal.nD Cert.RefKeysValuesIdeal.τ Cert.RefKeysValuesIdeal.sig) → Buf (Elt Ideal) ℓ) (g : Dev Cert.RefKeysValuesIdeal.nD → PrngReg), Pre_RefKeysValuesIdeal m →
    θ_run (Cert.RefKeysValuesIdeal.defs (F := Ideal)) (onTc (τ := Cert.RefKeysValuesIdeal.τ) (Cert.RefKeysValuesIdeal.main (F := Ideal))) ⟨m, fun _ => 0, g⟩ (fun r => (∀ c : Dev Cert.RefKeysValuesIdeal.nD,
      r.2.mem ((c.tc : Thread Cert.RefKeysValuesIdeal.nD Cert.RefKeysValuesIdeal.τ).loc Cert.RefKeysValuesIdeal.main_arg0) = m ((c.tc : Thread Cert.RefKeysValuesIdeal.nD Cert.RefKeysValuesIdeal.τ).loc Cert.RefKeysValuesIdeal.main_arg0)
      ∧ r.2.mem ((c.tc : Thread Cert.RefKeysValuesIdeal.nD Cert.RefKeysValuesIdeal.τ).loc Cert.RefKeysValuesIdeal.main_arg1) = m ((c.tc : Thread Cert.RefKeysValuesIdeal.nD Cert.RefKeysValuesIdeal.τ).loc Cert.RefKeysValuesIdeal.main_arg1)
      ∧ r.2.mem ((c.tc : Thread Cert.RefKeysValuesIdeal.nD Cert.RefKeysValuesIdeal.τ).loc Cert.RefKeysValuesIdeal.main_arg2) = m ((c.tc : Thread Cert.RefKeysValuesIdeal.nD Cert.RefKeysValuesIdeal.τ).loc Cert.RefKeysValuesIdeal.main_arg2))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_RefQueriesIdeal [hRefQueriesIdeal : Cert.RefQueriesIdeal.Facts] : Prop :=
  ∀ (m : (ℓ : Loc Cert.RefQueriesIdeal.nD Cert.RefQueriesIdeal.τ Cert.RefQueriesIdeal.sig) → Buf (Elt Ideal) ℓ) (g : Dev Cert.RefQueriesIdeal.nD → PrngReg), Pre_RefQueriesIdeal m →
    θ_run (Cert.RefQueriesIdeal.defs (F := Ideal)) (onTc (τ := Cert.RefQueriesIdeal.τ) (Cert.RefQueriesIdeal.main (F := Ideal))) ⟨m, fun _ => 0, g⟩ (fun r => (∀ c : Dev Cert.RefQueriesIdeal.nD,
      r.2.mem ((c.tc : Thread Cert.RefQueriesIdeal.nD Cert.RefQueriesIdeal.τ).loc Cert.RefQueriesIdeal.main_arg0) = m ((c.tc : Thread Cert.RefQueriesIdeal.nD Cert.RefQueriesIdeal.τ).loc Cert.RefQueriesIdeal.main_arg0)
      ∧ r.2.mem ((c.tc : Thread Cert.RefQueriesIdeal.nD Cert.RefQueriesIdeal.τ).loc Cert.RefQueriesIdeal.main_arg1) = m ((c.tc : Thread Cert.RefQueriesIdeal.nD Cert.RefQueriesIdeal.τ).loc Cert.RefQueriesIdeal.main_arg1))
      ∧ r.2.sem = fun _ => 0)

def quiescent_ProjectOut [hProjectOut : Cert.ProjectOut.Facts] : Prop :=
  ∀ (m : (ℓ : Loc Cert.ProjectOut.nD Cert.ProjectOut.τ Cert.ProjectOut.sig) → Buf (Elt Bits) ℓ) (g : Dev Cert.ProjectOut.nD → PrngReg), Pre_ProjectOut m →
    θ_run (Cert.ProjectOut.defs (F := Bits)) (onTc (τ := Cert.ProjectOut.τ) (Cert.ProjectOut.main (F := Bits))) ⟨m, fun _ => 0, g⟩ (fun r => (∀ c : Dev Cert.ProjectOut.nD,
      r.2.mem ((c.tc : Thread Cert.ProjectOut.nD Cert.ProjectOut.τ).loc Cert.ProjectOut.main_arg0) = m ((c.tc : Thread Cert.ProjectOut.nD Cert.ProjectOut.τ).loc Cert.ProjectOut.main_arg0)
      ∧ r.2.mem ((c.tc : Thread Cert.ProjectOut.nD Cert.ProjectOut.τ).loc Cert.ProjectOut.main_arg1) = m ((c.tc : Thread Cert.ProjectOut.nD Cert.ProjectOut.τ).loc Cert.ProjectOut.main_arg1)
      ∧ r.2.mem ((c.tc : Thread Cert.ProjectOut.nD Cert.ProjectOut.τ).loc Cert.ProjectOut.main_arg2) = m ((c.tc : Thread Cert.ProjectOut.nD Cert.ProjectOut.τ).loc Cert.ProjectOut.main_arg2)
      ∧ r.2.mem ((c.tc : Thread Cert.ProjectOut.nD Cert.ProjectOut.τ).loc Cert.ProjectOut.main_arg3) = m ((c.tc : Thread Cert.ProjectOut.nD Cert.ProjectOut.τ).loc Cert.ProjectOut.main_arg3)
      ∧ r.2.mem ((c.tc : Thread Cert.ProjectOut.nD Cert.ProjectOut.τ).loc Cert.ProjectOut.main_arg4) = m ((c.tc : Thread Cert.ProjectOut.nD Cert.ProjectOut.τ).loc Cert.ProjectOut.main_arg4))
      ∧ r.2.sem = fun _ => 0)

def quiescent_ProjectOutIdeal [hProjectOutIdeal : Cert.ProjectOutIdeal.Facts] : Prop :=
  ∀ (m : (ℓ : Loc Cert.ProjectOutIdeal.nD Cert.ProjectOutIdeal.τ Cert.ProjectOutIdeal.sig) → Buf (Elt Ideal) ℓ) (g : Dev Cert.ProjectOutIdeal.nD → PrngReg), Pre_ProjectOutIdeal m →
    θ_run (Cert.ProjectOutIdeal.defs (F := Ideal)) (onTc (τ := Cert.ProjectOutIdeal.τ) (Cert.ProjectOutIdeal.main (F := Ideal))) ⟨m, fun _ => 0, g⟩ (fun r => (∀ c : Dev Cert.ProjectOutIdeal.nD,
      r.2.mem ((c.tc : Thread Cert.ProjectOutIdeal.nD Cert.ProjectOutIdeal.τ).loc Cert.ProjectOutIdeal.main_arg0) = m ((c.tc : Thread Cert.ProjectOutIdeal.nD Cert.ProjectOutIdeal.τ).loc Cert.ProjectOutIdeal.main_arg0)
      ∧ r.2.mem ((c.tc : Thread Cert.ProjectOutIdeal.nD Cert.ProjectOutIdeal.τ).loc Cert.ProjectOutIdeal.main_arg1) = m ((c.tc : Thread Cert.ProjectOutIdeal.nD Cert.ProjectOutIdeal.τ).loc Cert.ProjectOutIdeal.main_arg1)
      ∧ r.2.mem ((c.tc : Thread Cert.ProjectOutIdeal.nD Cert.ProjectOutIdeal.τ).loc Cert.ProjectOutIdeal.main_arg2) = m ((c.tc : Thread Cert.ProjectOutIdeal.nD Cert.ProjectOutIdeal.τ).loc Cert.ProjectOutIdeal.main_arg2)
      ∧ r.2.mem ((c.tc : Thread Cert.ProjectOutIdeal.nD Cert.ProjectOutIdeal.τ).loc Cert.ProjectOutIdeal.main_arg3) = m ((c.tc : Thread Cert.ProjectOutIdeal.nD Cert.ProjectOutIdeal.τ).loc Cert.ProjectOutIdeal.main_arg3)
      ∧ r.2.mem ((c.tc : Thread Cert.ProjectOutIdeal.nD Cert.ProjectOutIdeal.τ).loc Cert.ProjectOutIdeal.main_arg4) = m ((c.tc : Thread Cert.ProjectOutIdeal.nD Cert.ProjectOutIdeal.τ).loc Cert.ProjectOutIdeal.main_arg4))
      ∧ r.2.sem = fun _ => 0)

def quiescent_RefProjectOutIdeal [hRefProjectOutIdeal : Cert.RefProjectOutIdeal.Facts] : Prop :=
  ∀ (m : (ℓ : Loc Cert.RefProjectOutIdeal.nD Cert.RefProjectOutIdeal.τ Cert.RefProjectOutIdeal.sig) → Buf (Elt Ideal) ℓ) (g : Dev Cert.RefProjectOutIdeal.nD → PrngReg), Pre_RefProjectOutIdeal m →
    θ_run (Cert.RefProjectOutIdeal.defs (F := Ideal)) (onTc (τ := Cert.RefProjectOutIdeal.τ) (Cert.RefProjectOutIdeal.main (F := Ideal))) ⟨m, fun _ => 0, g⟩ (fun r => (∀ c : Dev Cert.RefProjectOutIdeal.nD,
      r.2.mem ((c.tc : Thread Cert.RefProjectOutIdeal.nD Cert.RefProjectOutIdeal.τ).loc Cert.RefProjectOutIdeal.main_arg0) = m ((c.tc : Thread Cert.RefProjectOutIdeal.nD Cert.RefProjectOutIdeal.τ).loc Cert.RefProjectOutIdeal.main_arg0)
      ∧ r.2.mem ((c.tc : Thread Cert.RefProjectOutIdeal.nD Cert.RefProjectOutIdeal.τ).loc Cert.RefProjectOutIdeal.main_arg1) = m ((c.tc : Thread Cert.RefProjectOutIdeal.nD Cert.RefProjectOutIdeal.τ).loc Cert.RefProjectOutIdeal.main_arg1)
      ∧ r.2.mem ((c.tc : Thread Cert.RefProjectOutIdeal.nD Cert.RefProjectOutIdeal.τ).loc Cert.RefProjectOutIdeal.main_arg2) = m ((c.tc : Thread Cert.RefProjectOutIdeal.nD Cert.RefProjectOutIdeal.τ).loc Cert.RefProjectOutIdeal.main_arg2)
      ∧ r.2.mem ((c.tc : Thread Cert.RefProjectOutIdeal.nD Cert.RefProjectOutIdeal.τ).loc Cert.RefProjectOutIdeal.main_arg3) = m ((c.tc : Thread Cert.RefProjectOutIdeal.nD Cert.RefProjectOutIdeal.τ).loc Cert.RefProjectOutIdeal.main_arg3)
      ∧ r.2.mem ((c.tc : Thread Cert.RefProjectOutIdeal.nD Cert.RefProjectOutIdeal.τ).loc Cert.RefProjectOutIdeal.main_arg4) = m ((c.tc : Thread Cert.RefProjectOutIdeal.nD Cert.RefProjectOutIdeal.τ).loc Cert.RefProjectOutIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleIdeal_pre_finite_sample [hSampleIdeal : Cert.SampleIdeal.Facts] [hPre_finite_sample : Cert.Pre_finite_sample.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_finite_sample m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_RefSampleIdeal [hRefSampleIdeal : Cert.RefSampleIdeal.Facts] : Prop :=
  ∀ (m : (ℓ : Loc Cert.RefSampleIdeal.nD Cert.RefSampleIdeal.τ Cert.RefSampleIdeal.sig) → Buf (Elt Ideal) ℓ) (g : Dev Cert.RefSampleIdeal.nD → PrngReg), Pre_RefSampleIdeal m →
    θ_run (Cert.RefSampleIdeal.defs (F := Ideal)) (onTc (τ := Cert.RefSampleIdeal.τ) (Cert.RefSampleIdeal.main (F := Ideal))) ⟨m, fun _ => 0, g⟩ (fun r => (∀ c : Dev Cert.RefSampleIdeal.nD,
      r.2.mem ((c.tc : Thread Cert.RefSampleIdeal.nD Cert.RefSampleIdeal.τ).loc Cert.RefSampleIdeal.main_arg0) = m ((c.tc : Thread Cert.RefSampleIdeal.nD Cert.RefSampleIdeal.τ).loc Cert.RefSampleIdeal.main_arg0)
      ∧ r.2.mem ((c.tc : Thread Cert.RefSampleIdeal.nD Cert.RefSampleIdeal.τ).loc Cert.RefSampleIdeal.main_arg1) = m ((c.tc : Thread Cert.RefSampleIdeal.nD Cert.RefSampleIdeal.τ).loc Cert.RefSampleIdeal.main_arg1)
      ∧ r.2.mem ((c.tc : Thread Cert.RefSampleIdeal.nD Cert.RefSampleIdeal.τ).loc Cert.RefSampleIdeal.main_arg2) = m ((c.tc : Thread Cert.RefSampleIdeal.nD Cert.RefSampleIdeal.τ).loc Cert.RefSampleIdeal.main_arg2)
      ∧ r.2.mem ((c.tc : Thread Cert.RefSampleIdeal.nD Cert.RefSampleIdeal.τ).loc Cert.RefSampleIdeal.main_arg3) = m ((c.tc : Thread Cert.RefSampleIdeal.nD Cert.RefSampleIdeal.τ).loc Cert.RefSampleIdeal.main_arg3)
      ∧ r.2.mem ((c.tc : Thread Cert.RefSampleIdeal.nD Cert.RefSampleIdeal.τ).loc Cert.RefSampleIdeal.main_arg4) = m ((c.tc : Thread Cert.RefSampleIdeal.nD Cert.RefSampleIdeal.τ).loc Cert.RefSampleIdeal.main_arg4))
      ∧ r.2.sem = fun _ => 0)

def quiescent_RefSampleIdeal_pre_finite_sample [hRefSampleIdeal : Cert.RefSampleIdeal.Facts] [hPre_finite_sample : Cert.Pre_finite_sample.Facts] : Prop :=
  ∀ (m : (ℓ : Loc Cert.RefSampleIdeal.nD Cert.RefSampleIdeal.τ Cert.RefSampleIdeal.sig) → Buf (Elt Ideal) ℓ) (g : Dev Cert.RefSampleIdeal.nD → PrngReg), Pre_RefSampleIdeal_finite_sample m →
    θ_run (Cert.RefSampleIdeal.defs (F := Ideal)) (onTc (τ := Cert.RefSampleIdeal.τ) (Cert.RefSampleIdeal.main (F := Ideal))) ⟨m, fun _ => 0, g⟩ (fun r => (∀ c : Dev Cert.RefSampleIdeal.nD,
      r.2.mem ((c.tc : Thread Cert.RefSampleIdeal.nD Cert.RefSampleIdeal.τ).loc Cert.RefSampleIdeal.main_arg0) = m ((c.tc : Thread Cert.RefSampleIdeal.nD Cert.RefSampleIdeal.τ).loc Cert.RefSampleIdeal.main_arg0)
      ∧ r.2.mem ((c.tc : Thread Cert.RefSampleIdeal.nD Cert.RefSampleIdeal.τ).loc Cert.RefSampleIdeal.main_arg1) = m ((c.tc : Thread Cert.RefSampleIdeal.nD Cert.RefSampleIdeal.τ).loc Cert.RefSampleIdeal.main_arg1)
      ∧ r.2.mem ((c.tc : Thread Cert.RefSampleIdeal.nD Cert.RefSampleIdeal.τ).loc Cert.RefSampleIdeal.main_arg2) = m ((c.tc : Thread Cert.RefSampleIdeal.nD Cert.RefSampleIdeal.τ).loc Cert.RefSampleIdeal.main_arg2)
      ∧ r.2.mem ((c.tc : Thread Cert.RefSampleIdeal.nD Cert.RefSampleIdeal.τ).loc Cert.RefSampleIdeal.main_arg3) = m ((c.tc : Thread Cert.RefSampleIdeal.nD Cert.RefSampleIdeal.τ).loc Cert.RefSampleIdeal.main_arg3)
      ∧ r.2.mem ((c.tc : Thread Cert.RefSampleIdeal.nD Cert.RefSampleIdeal.τ).loc Cert.RefSampleIdeal.main_arg4) = m ((c.tc : Thread Cert.RefSampleIdeal.nD Cert.RefSampleIdeal.τ).loc Cert.RefSampleIdeal.main_arg4))
      ∧ r.2.sem = fun _ => 0)

def quiescent_SampleKeysValues [hSampleKeysValues : Cert.SampleKeysValues.Facts] : Prop :=
  ∀ (m : (ℓ : Loc Cert.SampleKeysValues.nD Cert.SampleKeysValues.τ Cert.SampleKeysValues.sig) → Buf (Elt Bits) ℓ) (g : Dev Cert.SampleKeysValues.nD → PrngReg), Pre_SampleKeysValues m →
    θ_run (Cert.SampleKeysValues.defs (F := Bits)) (onTc (τ := Cert.SampleKeysValues.τ) (Cert.SampleKeysValues.main (F := Bits))) ⟨m, fun _ => 0, g⟩ (fun r => (∀ c : Dev Cert.SampleKeysValues.nD,
      r.2.mem ((c.tc : Thread Cert.SampleKeysValues.nD Cert.SampleKeysValues.τ).loc Cert.SampleKeysValues.main_arg0) = m ((c.tc : Thread Cert.SampleKeysValues.nD Cert.SampleKeysValues.τ).loc Cert.SampleKeysValues.main_arg0)
      ∧ r.2.mem ((c.tc : Thread Cert.SampleKeysValues.nD Cert.SampleKeysValues.τ).loc Cert.SampleKeysValues.main_arg1) = m ((c.tc : Thread Cert.SampleKeysValues.nD Cert.SampleKeysValues.τ).loc Cert.SampleKeysValues.main_arg1)
      ∧ r.2.mem ((c.tc : Thread Cert.SampleKeysValues.nD Cert.SampleKeysValues.τ).loc Cert.SampleKeysValues.main_arg2) = m ((c.tc : Thread Cert.SampleKeysValues.nD Cert.SampleKeysValues.τ).loc Cert.SampleKeysValues.main_arg2))
      ∧ r.2.sem = fun _ => 0)

def quiescent_SampleKeysValuesIdeal [hSampleKeysValuesIdeal : Cert.SampleKeysValuesIdeal.Facts] : Prop :=
  ∀ (m : (ℓ : Loc Cert.SampleKeysValuesIdeal.nD Cert.SampleKeysValuesIdeal.τ Cert.SampleKeysValuesIdeal.sig) → Buf (Elt Ideal) ℓ) (g : Dev Cert.SampleKeysValuesIdeal.nD → PrngReg), Pre_SampleKeysValuesIdeal m →
    θ_run (Cert.SampleKeysValuesIdeal.defs (F := Ideal)) (onTc (τ := Cert.SampleKeysValuesIdeal.τ) (Cert.SampleKeysValuesIdeal.main (F := Ideal))) ⟨m, fun _ => 0, g⟩ (fun r => (∀ c : Dev Cert.SampleKeysValuesIdeal.nD,
      r.2.mem ((c.tc : Thread Cert.SampleKeysValuesIdeal.nD Cert.SampleKeysValuesIdeal.τ).loc Cert.SampleKeysValuesIdeal.main_arg0) = m ((c.tc : Thread Cert.SampleKeysValuesIdeal.nD Cert.SampleKeysValuesIdeal.τ).loc Cert.SampleKeysValuesIdeal.main_arg0)
      ∧ r.2.mem ((c.tc : Thread Cert.SampleKeysValuesIdeal.nD Cert.SampleKeysValuesIdeal.τ).loc Cert.SampleKeysValuesIdeal.main_arg1) = m ((c.tc : Thread Cert.SampleKeysValuesIdeal.nD Cert.SampleKeysValuesIdeal.τ).loc Cert.SampleKeysValuesIdeal.main_arg1)
      ∧ r.2.mem ((c.tc : Thread Cert.SampleKeysValuesIdeal.nD Cert.SampleKeysValuesIdeal.τ).loc Cert.SampleKeysValuesIdeal.main_arg2) = m ((c.tc : Thread Cert.SampleKeysValuesIdeal.nD Cert.SampleKeysValuesIdeal.τ).loc Cert.SampleKeysValuesIdeal.main_arg2))
      ∧ r.2.sem = fun _ => 0)

def quiescent_RefSampleKeysValuesIdeal [hRefSampleKeysValuesIdeal : Cert.RefSampleKeysValuesIdeal.Facts] : Prop :=
  ∀ (m : (ℓ : Loc Cert.RefSampleKeysValuesIdeal.nD Cert.RefSampleKeysValuesIdeal.τ Cert.RefSampleKeysValuesIdeal.sig) → Buf (Elt Ideal) ℓ) (g : Dev Cert.RefSampleKeysValuesIdeal.nD → PrngReg), Pre_RefSampleKeysValuesIdeal m →
    θ_run (Cert.RefSampleKeysValuesIdeal.defs (F := Ideal)) (onTc (τ := Cert.RefSampleKeysValuesIdeal.τ) (Cert.RefSampleKeysValuesIdeal.main (F := Ideal))) ⟨m, fun _ => 0, g⟩ (fun r => (∀ c : Dev Cert.RefSampleKeysValuesIdeal.nD,
      r.2.mem ((c.tc : Thread Cert.RefSampleKeysValuesIdeal.nD Cert.RefSampleKeysValuesIdeal.τ).loc Cert.RefSampleKeysValuesIdeal.main_arg0) = m ((c.tc : Thread Cert.RefSampleKeysValuesIdeal.nD Cert.RefSampleKeysValuesIdeal.τ).loc Cert.RefSampleKeysValuesIdeal.main_arg0)
      ∧ r.2.mem ((c.tc : Thread Cert.RefSampleKeysValuesIdeal.nD Cert.RefSampleKeysValuesIdeal.τ).loc Cert.RefSampleKeysValuesIdeal.main_arg1) = m ((c.tc : Thread Cert.RefSampleKeysValuesIdeal.nD Cert.RefSampleKeysValuesIdeal.τ).loc Cert.RefSampleKeysValuesIdeal.main_arg1)
      ∧ r.2.mem ((c.tc : Thread Cert.RefSampleKeysValuesIdeal.nD Cert.RefSampleKeysValuesIdeal.τ).loc Cert.RefSampleKeysValuesIdeal.main_arg2) = m ((c.tc : Thread Cert.RefSampleKeysValuesIdeal.nD Cert.RefSampleKeysValuesIdeal.τ).loc Cert.RefSampleKeysValuesIdeal.main_arg2))
      ∧ r.2.sem = fun _ => 0)

def quiescent_SampleQueries [hSampleQueries : Cert.SampleQueries.Facts] : Prop :=
  ∀ (m : (ℓ : Loc Cert.SampleQueries.nD Cert.SampleQueries.τ Cert.SampleQueries.sig) → Buf (Elt Bits) ℓ) (g : Dev Cert.SampleQueries.nD → PrngReg), Pre_SampleQueries m →
    θ_run (Cert.SampleQueries.defs (F := Bits)) (onTc (τ := Cert.SampleQueries.τ) (Cert.SampleQueries.main (F := Bits))) ⟨m, fun _ => 0, g⟩ (fun r => (∀ c : Dev Cert.SampleQueries.nD,
      r.2.mem ((c.tc : Thread Cert.SampleQueries.nD Cert.SampleQueries.τ).loc Cert.SampleQueries.main_arg0) = m ((c.tc : Thread Cert.SampleQueries.nD Cert.SampleQueries.τ).loc Cert.SampleQueries.main_arg0)
      ∧ r.2.mem ((c.tc : Thread Cert.SampleQueries.nD Cert.SampleQueries.τ).loc Cert.SampleQueries.main_arg1) = m ((c.tc : Thread Cert.SampleQueries.nD Cert.SampleQueries.τ).loc Cert.SampleQueries.main_arg1))
      ∧ r.2.sem = fun _ => 0)

def quiescent_SampleQueriesIdeal [hSampleQueriesIdeal : Cert.SampleQueriesIdeal.Facts] : Prop :=
  ∀ (m : (ℓ : Loc Cert.SampleQueriesIdeal.nD Cert.SampleQueriesIdeal.τ Cert.SampleQueriesIdeal.sig) → Buf (Elt Ideal) ℓ) (g : Dev Cert.SampleQueriesIdeal.nD → PrngReg), Pre_SampleQueriesIdeal m →
    θ_run (Cert.SampleQueriesIdeal.defs (F := Ideal)) (onTc (τ := Cert.SampleQueriesIdeal.τ) (Cert.SampleQueriesIdeal.main (F := Ideal))) ⟨m, fun _ => 0, g⟩ (fun r => (∀ c : Dev Cert.SampleQueriesIdeal.nD,
      r.2.mem ((c.tc : Thread Cert.SampleQueriesIdeal.nD Cert.SampleQueriesIdeal.τ).loc Cert.SampleQueriesIdeal.main_arg0) = m ((c.tc : Thread Cert.SampleQueriesIdeal.nD Cert.SampleQueriesIdeal.τ).loc Cert.SampleQueriesIdeal.main_arg0)
      ∧ r.2.mem ((c.tc : Thread Cert.SampleQueriesIdeal.nD Cert.SampleQueriesIdeal.τ).loc Cert.SampleQueriesIdeal.main_arg1) = m ((c.tc : Thread Cert.SampleQueriesIdeal.nD Cert.SampleQueriesIdeal.τ).loc Cert.SampleQueriesIdeal.main_arg1))
      ∧ r.2.sem = fun _ => 0)

def quiescent_RefSampleQueriesIdeal [hRefSampleQueriesIdeal : Cert.RefSampleQueriesIdeal.Facts] : Prop :=
  ∀ (m : (ℓ : Loc Cert.RefSampleQueriesIdeal.nD Cert.RefSampleQueriesIdeal.τ Cert.RefSampleQueriesIdeal.sig) → Buf (Elt Ideal) ℓ) (g : Dev Cert.RefSampleQueriesIdeal.nD → PrngReg), Pre_RefSampleQueriesIdeal m →
    θ_run (Cert.RefSampleQueriesIdeal.defs (F := Ideal)) (onTc (τ := Cert.RefSampleQueriesIdeal.τ) (Cert.RefSampleQueriesIdeal.main (F := Ideal))) ⟨m, fun _ => 0, g⟩ (fun r => (∀ c : Dev Cert.RefSampleQueriesIdeal.nD,
      r.2.mem ((c.tc : Thread Cert.RefSampleQueriesIdeal.nD Cert.RefSampleQueriesIdeal.τ).loc Cert.RefSampleQueriesIdeal.main_arg0) = m ((c.tc : Thread Cert.RefSampleQueriesIdeal.nD Cert.RefSampleQueriesIdeal.τ).loc Cert.RefSampleQueriesIdeal.main_arg0)
      ∧ r.2.mem ((c.tc : Thread Cert.RefSampleQueriesIdeal.nD Cert.RefSampleQueriesIdeal.τ).loc Cert.RefSampleQueriesIdeal.main_arg1) = m ((c.tc : Thread Cert.RefSampleQueriesIdeal.nD Cert.RefSampleQueriesIdeal.τ).loc Cert.RefSampleQueriesIdeal.main_arg1))
      ∧ r.2.sem = fun _ => 0)

def quiescent_SampleProjectOut [hSampleProjectOut : Cert.SampleProjectOut.Facts] : Prop :=
  ∀ (m : (ℓ : Loc Cert.SampleProjectOut.nD Cert.SampleProjectOut.τ Cert.SampleProjectOut.sig) → Buf (Elt Bits) ℓ) (g : Dev Cert.SampleProjectOut.nD → PrngReg), Pre_SampleProjectOut m →
    θ_run (Cert.SampleProjectOut.defs (F := Bits)) (onTc (τ := Cert.SampleProjectOut.τ) (Cert.SampleProjectOut.main (F := Bits))) ⟨m, fun _ => 0, g⟩ (fun r => (∀ c : Dev Cert.SampleProjectOut.nD,
      r.2.mem ((c.tc : Thread Cert.SampleProjectOut.nD Cert.SampleProjectOut.τ).loc Cert.SampleProjectOut.main_arg0) = m ((c.tc : Thread Cert.SampleProjectOut.nD Cert.SampleProjectOut.τ).loc Cert.SampleProjectOut.main_arg0)
      ∧ r.2.mem ((c.tc : Thread Cert.SampleProjectOut.nD Cert.SampleProjectOut.τ).loc Cert.SampleProjectOut.main_arg1) = m ((c.tc : Thread Cert.SampleProjectOut.nD Cert.SampleProjectOut.τ).loc Cert.SampleProjectOut.main_arg1)
      ∧ r.2.mem ((c.tc : Thread Cert.SampleProjectOut.nD Cert.SampleProjectOut.τ).loc Cert.SampleProjectOut.main_arg2) = m ((c.tc : Thread Cert.SampleProjectOut.nD Cert.SampleProjectOut.τ).loc Cert.SampleProjectOut.main_arg2)
      ∧ r.2.mem ((c.tc : Thread Cert.SampleProjectOut.nD Cert.SampleProjectOut.τ).loc Cert.SampleProjectOut.main_arg3) = m ((c.tc : Thread Cert.SampleProjectOut.nD Cert.SampleProjectOut.τ).loc Cert.SampleProjectOut.main_arg3)
      ∧ r.2.mem ((c.tc : Thread Cert.SampleProjectOut.nD Cert.SampleProjectOut.τ).loc Cert.SampleProjectOut.main_arg4) = m ((c.tc : Thread Cert.SampleProjectOut.nD Cert.SampleProjectOut.τ).loc Cert.SampleProjectOut.main_arg4))
      ∧ r.2.sem = fun _ => 0)

def quiescent_SampleProjectOutIdeal [hSampleProjectOutIdeal : Cert.SampleProjectOutIdeal.Facts] : Prop :=
  ∀ (m : (ℓ : Loc Cert.SampleProjectOutIdeal.nD Cert.SampleProjectOutIdeal.τ Cert.SampleProjectOutIdeal.sig) → Buf (Elt Ideal) ℓ) (g : Dev Cert.SampleProjectOutIdeal.nD → PrngReg), Pre_SampleProjectOutIdeal m →
    θ_run (Cert.SampleProjectOutIdeal.defs (F := Ideal)) (onTc (τ := Cert.SampleProjectOutIdeal.τ) (Cert.SampleProjectOutIdeal.main (F := Ideal))) ⟨m, fun _ => 0, g⟩ (fun r => (∀ c : Dev Cert.SampleProjectOutIdeal.nD,
      r.2.mem ((c.tc : Thread Cert.SampleProjectOutIdeal.nD Cert.SampleProjectOutIdeal.τ).loc Cert.SampleProjectOutIdeal.main_arg0) = m ((c.tc : Thread Cert.SampleProjectOutIdeal.nD Cert.SampleProjectOutIdeal.τ).loc Cert.SampleProjectOutIdeal.main_arg0)
      ∧ r.2.mem ((c.tc : Thread Cert.SampleProjectOutIdeal.nD Cert.SampleProjectOutIdeal.τ).loc Cert.SampleProjectOutIdeal.main_arg1) = m ((c.tc : Thread Cert.SampleProjectOutIdeal.nD Cert.SampleProjectOutIdeal.τ).loc Cert.SampleProjectOutIdeal.main_arg1)
      ∧ r.2.mem ((c.tc : Thread Cert.SampleProjectOutIdeal.nD Cert.SampleProjectOutIdeal.τ).loc Cert.SampleProjectOutIdeal.main_arg2) = m ((c.tc : Thread Cert.SampleProjectOutIdeal.nD Cert.SampleProjectOutIdeal.τ).loc Cert.SampleProjectOutIdeal.main_arg2)
      ∧ r.2.mem ((c.tc : Thread Cert.SampleProjectOutIdeal.nD Cert.SampleProjectOutIdeal.τ).loc Cert.SampleProjectOutIdeal.main_arg3) = m ((c.tc : Thread Cert.SampleProjectOutIdeal.nD Cert.SampleProjectOutIdeal.τ).loc Cert.SampleProjectOutIdeal.main_arg3)
      ∧ r.2.mem ((c.tc : Thread Cert.SampleProjectOutIdeal.nD Cert.SampleProjectOutIdeal.τ).loc Cert.SampleProjectOutIdeal.main_arg4) = m ((c.tc : Thread Cert.SampleProjectOutIdeal.nD Cert.SampleProjectOutIdeal.τ).loc Cert.SampleProjectOutIdeal.main_arg4))
      ∧ r.2.sem = fun _ => 0)

def quiescent_RefSampleProjectOutIdeal [hRefSampleProjectOutIdeal : Cert.RefSampleProjectOutIdeal.Facts] : Prop :=
  ∀ (m : (ℓ : Loc Cert.RefSampleProjectOutIdeal.nD Cert.RefSampleProjectOutIdeal.τ Cert.RefSampleProjectOutIdeal.sig) → Buf (Elt Ideal) ℓ) (g : Dev Cert.RefSampleProjectOutIdeal.nD → PrngReg), Pre_RefSampleProjectOutIdeal m →
    θ_run (Cert.RefSampleProjectOutIdeal.defs (F := Ideal)) (onTc (τ := Cert.RefSampleProjectOutIdeal.τ) (Cert.RefSampleProjectOutIdeal.main (F := Ideal))) ⟨m, fun _ => 0, g⟩ (fun r => (∀ c : Dev Cert.RefSampleProjectOutIdeal.nD,
      r.2.mem ((c.tc : Thread Cert.RefSampleProjectOutIdeal.nD Cert.RefSampleProjectOutIdeal.τ).loc Cert.RefSampleProjectOutIdeal.main_arg0) = m ((c.tc : Thread Cert.RefSampleProjectOutIdeal.nD Cert.RefSampleProjectOutIdeal.τ).loc Cert.RefSampleProjectOutIdeal.main_arg0)
      ∧ r.2.mem ((c.tc : Thread Cert.RefSampleProjectOutIdeal.nD Cert.RefSampleProjectOutIdeal.τ).loc Cert.RefSampleProjectOutIdeal.main_arg1) = m ((c.tc : Thread Cert.RefSampleProjectOutIdeal.nD Cert.RefSampleProjectOutIdeal.τ).loc Cert.RefSampleProjectOutIdeal.main_arg1)
      ∧ r.2.mem ((c.tc : Thread Cert.RefSampleProjectOutIdeal.nD Cert.RefSampleProjectOutIdeal.τ).loc Cert.RefSampleProjectOutIdeal.main_arg2) = m ((c.tc : Thread Cert.RefSampleProjectOutIdeal.nD Cert.RefSampleProjectOutIdeal.τ).loc Cert.RefSampleProjectOutIdeal.main_arg2)
      ∧ r.2.mem ((c.tc : Thread Cert.RefSampleProjectOutIdeal.nD Cert.RefSampleProjectOutIdeal.τ).loc Cert.RefSampleProjectOutIdeal.main_arg3) = m ((c.tc : Thread Cert.RefSampleProjectOutIdeal.nD Cert.RefSampleProjectOutIdeal.τ).loc Cert.RefSampleProjectOutIdeal.main_arg3)
      ∧ r.2.mem ((c.tc : Thread Cert.RefSampleProjectOutIdeal.nD Cert.RefSampleProjectOutIdeal.τ).loc Cert.RefSampleProjectOutIdeal.main_arg4) = m ((c.tc : Thread Cert.RefSampleProjectOutIdeal.nD Cert.RefSampleProjectOutIdeal.τ).loc Cert.RefSampleProjectOutIdeal.main_arg4))
      ∧ r.2.sem = fun _ => 0)

def quiescent_SampleConv [hSampleConv : Cert.SampleConv.Facts] : Prop :=
  ∀ (m : (ℓ : Loc Cert.SampleConv.nD Cert.SampleConv.τ Cert.SampleConv.sig) → Buf (Elt Bits) ℓ) (g : Dev Cert.SampleConv.nD → PrngReg), Pre_SampleConv m →
    θ_run (Cert.SampleConv.defs (F := Bits)) (onTc (τ := Cert.SampleConv.τ) (Cert.SampleConv.main (F := Bits))) ⟨m, fun _ => 0, g⟩ (fun r => (∀ c : Dev Cert.SampleConv.nD,
      r.2.mem ((c.tc : Thread Cert.SampleConv.nD Cert.SampleConv.τ).loc Cert.SampleConv.main_arg0) = m ((c.tc : Thread Cert.SampleConv.nD Cert.SampleConv.τ).loc Cert.SampleConv.main_arg0)
      ∧ r.2.mem ((c.tc : Thread Cert.SampleConv.nD Cert.SampleConv.τ).loc Cert.SampleConv.main_arg1) = m ((c.tc : Thread Cert.SampleConv.nD Cert.SampleConv.τ).loc Cert.SampleConv.main_arg1)
      ∧ r.2.mem ((c.tc : Thread Cert.SampleConv.nD Cert.SampleConv.τ).loc Cert.SampleConv.main_arg2) = m ((c.tc : Thread Cert.SampleConv.nD Cert.SampleConv.τ).loc Cert.SampleConv.main_arg2)
      ∧ r.2.mem ((c.tc : Thread Cert.SampleConv.nD Cert.SampleConv.τ).loc Cert.SampleConv.main_arg3) = m ((c.tc : Thread Cert.SampleConv.nD Cert.SampleConv.τ).loc Cert.SampleConv.main_arg3)
      ∧ r.2.mem ((c.tc : Thread Cert.SampleConv.nD Cert.SampleConv.τ).loc Cert.SampleConv.main_arg4) = m ((c.tc : Thread Cert.SampleConv.nD Cert.SampleConv.τ).loc Cert.SampleConv.main_arg4)
      ∧ r.2.mem ((c.tc : Thread Cert.SampleConv.nD Cert.SampleConv.τ).loc Cert.SampleConv.main_arg5) = m ((c.tc : Thread Cert.SampleConv.nD Cert.SampleConv.τ).loc Cert.SampleConv.main_arg5)
      ∧ r.2.mem ((c.tc : Thread Cert.SampleConv.nD Cert.SampleConv.τ).loc Cert.SampleConv.main_arg6) = m ((c.tc : Thread Cert.SampleConv.nD Cert.SampleConv.τ).loc Cert.SampleConv.main_arg6))
      ∧ r.2.sem = fun _ => 0)

def quiescent_SampleConvIdeal [hSampleConvIdeal : Cert.SampleConvIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg), Pre_SampleConvIdeal m →
    θ_run (Cert.SampleConvIdeal.defs (F := Ideal)) (onTc (τ := Cert.SampleConvIdeal.τ) (Cert.SampleConvIdeal.main (F := Ideal))) ⟨m, fun _ => 0, g⟩ (fun r => (∀ c : Dev Cert.SampleConvIdeal.nD,
      r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
      ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
      ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2)
      ∧ r.2.mem ((c.tc : Thread Cert.SampleConvIdeal.nD Cert.SampleConvIdeal.τ).loc Cert.SampleConvIdeal.main_arg3) = m ((c.tc : Thread Cert.SampleConvIdeal.nD Cert.SampleConvIdeal.τ).loc Cert.SampleConvIdeal.main_arg3)
      ∧ r.2.mem ((c.tc : Thread Cert.SampleConvIdeal.nD Cert.SampleConvIdeal.τ).loc Cert.SampleConvIdeal.main_arg4) = m ((c.tc : Thread Cert.SampleConvIdeal.nD Cert.SampleConvIdeal.τ).loc Cert.SampleConvIdeal.main_arg4)
      ∧ r.2.mem ((c.tc : Thread Cert.SampleConvIdeal.nD Cert.SampleConvIdeal.τ).loc Cert.SampleConvIdeal.main_arg5) = m ((c.tc : Thread Cert.SampleConvIdeal.nD Cert.SampleConvIdeal.τ).loc Cert.SampleConvIdeal.main_arg5)
      ∧ r.2.mem ((c.tc : Thread Cert.SampleConvIdeal.nD Cert.SampleConvIdeal.τ).loc Cert.SampleConvIdeal.main_arg6) = m ((c.tc : Thread Cert.SampleConvIdeal.nD Cert.SampleConvIdeal.τ).loc Cert.SampleConvIdeal.main_arg6))
      ∧ r.2.sem = fun _ => 0)

def quiescent_RefSampleConvIdeal [hRefSampleConvIdeal : Cert.RefSampleConvIdeal.Facts] : Prop :=
  ∀ (m : (ℓ : Loc Cert.RefSampleConvIdeal.nD Cert.RefSampleConvIdeal.τ Cert.RefSampleConvIdeal.sig) → Buf (Elt Ideal) ℓ) (g : Dev Cert.RefSampleConvIdeal.nD → PrngReg), Pre_RefSampleConvIdeal m →
    θ_run (Cert.RefSampleConvIdeal.defs (F := Ideal)) (onTc (τ := Cert.RefSampleConvIdeal.τ) (Cert.RefSampleConvIdeal.main (F := Ideal))) ⟨m, fun _ => 0, g⟩ (fun r => (∀ c : Dev Cert.RefSampleConvIdeal.nD,
      r.2.mem ((c.tc : Thread Cert.RefSampleConvIdeal.nD Cert.RefSampleConvIdeal.τ).loc Cert.RefSampleConvIdeal.main_arg0) = m ((c.tc : Thread Cert.RefSampleConvIdeal.nD Cert.RefSampleConvIdeal.τ).loc Cert.RefSampleConvIdeal.main_arg0)
      ∧ r.2.mem ((c.tc : Thread Cert.RefSampleConvIdeal.nD Cert.RefSampleConvIdeal.τ).loc Cert.RefSampleConvIdeal.main_arg1) = m ((c.tc : Thread Cert.RefSampleConvIdeal.nD Cert.RefSampleConvIdeal.τ).loc Cert.RefSampleConvIdeal.main_arg1)
      ∧ r.2.mem ((c.tc : Thread Cert.RefSampleConvIdeal.nD Cert.RefSampleConvIdeal.τ).loc Cert.RefSampleConvIdeal.main_arg2) = m ((c.tc : Thread Cert.RefSampleConvIdeal.nD Cert.RefSampleConvIdeal.τ).loc Cert.RefSampleConvIdeal.main_arg2)
      ∧ r.2.mem ((c.tc : Thread Cert.RefSampleConvIdeal.nD Cert.RefSampleConvIdeal.τ).loc Cert.RefSampleConvIdeal.main_arg3) = m ((c.tc : Thread Cert.RefSampleConvIdeal.nD Cert.RefSampleConvIdeal.τ).loc Cert.RefSampleConvIdeal.main_arg3)
      ∧ r.2.mem ((c.tc : Thread Cert.RefSampleConvIdeal.nD Cert.RefSampleConvIdeal.τ).loc Cert.RefSampleConvIdeal.main_arg4) = m ((c.tc : Thread Cert.RefSampleConvIdeal.nD Cert.RefSampleConvIdeal.τ).loc Cert.RefSampleConvIdeal.main_arg4)
      ∧ r.2.mem ((c.tc : Thread Cert.RefSampleConvIdeal.nD Cert.RefSampleConvIdeal.τ).loc Cert.RefSampleConvIdeal.main_arg5) = m ((c.tc : Thread Cert.RefSampleConvIdeal.nD Cert.RefSampleConvIdeal.τ).loc Cert.RefSampleConvIdeal.main_arg5)
      ∧ r.2.mem ((c.tc : Thread Cert.RefSampleConvIdeal.nD Cert.RefSampleConvIdeal.τ).loc Cert.RefSampleConvIdeal.main_arg6) = m ((c.tc : Thread Cert.RefSampleConvIdeal.nD Cert.RefSampleConvIdeal.τ).loc Cert.RefSampleConvIdeal.main_arg6))
      ∧ r.2.sem = fun _ => 0)

def preserves_Kernel_KernelIdeal : Prop :=
  IdealRules.named_const.Statement Cert.KernelIdeal.κ "underflow" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Conv_ConvIdeal : Prop :=
  True

def algebraic_ConvIdeal_RefConvIdeal [hConvIdeal : Cert.ConvIdeal.Facts] [hRefConvIdeal : Cert.RefConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)
      ∧ m' ((c.tc : Thread Cert.RefConvIdeal.nD Cert.RefConvIdeal.τ).loc Cert.RefConvIdeal.main_arg3) = m ((c.tc : Thread Cert.ConvIdeal.nD Cert.ConvIdeal.τ).loc Cert.ConvIdeal.main_arg3)
      ∧ m' ((c.tc : Thread Cert.RefConvIdeal.nD Cert.RefConvIdeal.τ).loc Cert.RefConvIdeal.main_arg4) = m ((c.tc : Thread Cert.ConvIdeal.nD Cert.ConvIdeal.τ).loc Cert.ConvIdeal.main_arg4)
      ∧ m' ((c.tc : Thread Cert.RefConvIdeal.nD Cert.RefConvIdeal.τ).loc Cert.RefConvIdeal.main_arg5) = m ((c.tc : Thread Cert.ConvIdeal.nD Cert.ConvIdeal.τ).loc Cert.ConvIdeal.main_arg5)
      ∧ m' ((c.tc : Thread Cert.RefConvIdeal.nD Cert.RefConvIdeal.τ).loc Cert.RefConvIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v54) = v0 c
          ∧ r.2.mem ((c.tc : Thread Cert.RefConvIdeal.nD Cert.RefConvIdeal.τ).loc Cert.RefConvIdeal.main_v55) = v1 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2)
          ∧ r.2.mem ((c.tc : Thread Cert.RefConvIdeal.nD Cert.RefConvIdeal.τ).loc Cert.RefConvIdeal.main_arg3) = m' ((c.tc : Thread Cert.RefConvIdeal.nD Cert.RefConvIdeal.τ).loc Cert.RefConvIdeal.main_arg3)
          ∧ r.2.mem ((c.tc : Thread Cert.RefConvIdeal.nD Cert.RefConvIdeal.τ).loc Cert.RefConvIdeal.main_arg4) = m' ((c.tc : Thread Cert.RefConvIdeal.nD Cert.RefConvIdeal.τ).loc Cert.RefConvIdeal.main_arg4)
          ∧ r.2.mem ((c.tc : Thread Cert.RefConvIdeal.nD Cert.RefConvIdeal.τ).loc Cert.RefConvIdeal.main_arg5) = m' ((c.tc : Thread Cert.RefConvIdeal.nD Cert.RefConvIdeal.τ).loc Cert.RefConvIdeal.main_arg5)
          ∧ r.2.mem ((c.tc : Thread Cert.RefConvIdeal.nD Cert.RefConvIdeal.τ).loc Cert.RefConvIdeal.main_arg6) = m' ((c.tc : Thread Cert.RefConvIdeal.nD Cert.RefConvIdeal.τ).loc Cert.RefConvIdeal.main_arg6))

def preserves_KeysValues_KeysValuesIdeal : Prop :=
  True

def algebraic_KeysValuesIdeal_RefKeysValuesIdeal [hKeysValuesIdeal : Cert.KeysValuesIdeal.Facts] [hRefKeysValuesIdeal : Cert.RefKeysValuesIdeal.Facts] : Prop :=
  ∀ (m : (ℓ : Loc Cert.KeysValuesIdeal.nD Cert.KeysValuesIdeal.τ Cert.KeysValuesIdeal.sig) → Buf (Elt Ideal) ℓ) (g : Dev Cert.KeysValuesIdeal.nD → PrngReg)
    (m' : (ℓ : Loc Cert.RefKeysValuesIdeal.nD Cert.RefKeysValuesIdeal.τ Cert.RefKeysValuesIdeal.sig) → Buf (Elt Ideal) ℓ) (g' : Dev Cert.RefKeysValuesIdeal.nD → PrngReg), Pre_KeysValuesIdeal m →
    (∀ c : Dev Cert.KeysValuesIdeal.nD,
      m' ((c.tc : Thread Cert.RefKeysValuesIdeal.nD Cert.RefKeysValuesIdeal.τ).loc Cert.RefKeysValuesIdeal.main_arg0) = m ((c.tc : Thread Cert.KeysValuesIdeal.nD Cert.KeysValuesIdeal.τ).loc Cert.KeysValuesIdeal.main_arg0)
      ∧ m' ((c.tc : Thread Cert.RefKeysValuesIdeal.nD Cert.RefKeysValuesIdeal.τ).loc Cert.RefKeysValuesIdeal.main_arg1) = m ((c.tc : Thread Cert.KeysValuesIdeal.nD Cert.KeysValuesIdeal.τ).loc Cert.KeysValuesIdeal.main_arg1)
      ∧ m' ((c.tc : Thread Cert.RefKeysValuesIdeal.nD Cert.RefKeysValuesIdeal.τ).loc Cert.RefKeysValuesIdeal.main_arg2) = m ((c.tc : Thread Cert.KeysValuesIdeal.nD Cert.KeysValuesIdeal.τ).loc Cert.KeysValuesIdeal.main_arg2)) →
    ∃ (v0 : (c : Dev Cert.KeysValuesIdeal.nD) → Buf (Elt Ideal) ((c.tc : Thread Cert.KeysValuesIdeal.nD Cert.KeysValuesIdeal.τ).loc Cert.KeysValuesIdeal.main_v4)) (v1 : (c : Dev Cert.KeysValuesIdeal.nD) → Buf (Elt Ideal) ((c.tc : Thread Cert.KeysValuesIdeal.nD Cert.KeysValuesIdeal.τ).loc Cert.KeysValuesIdeal.main_v5)) (v2 : (c : Dev Cert.KeysValuesIdeal.nD) → Buf (Elt Ideal) ((c.tc : Thread Cert.KeysValuesIdeal.nD Cert.KeysValuesIdeal.τ).loc Cert.KeysValuesIdeal.main_v6)) (v3 : (c : Dev Cert.KeysValuesIdeal.nD) → Buf (Elt Ideal) ((c.tc : Thread Cert.KeysValuesIdeal.nD Cert.KeysValuesIdeal.τ).loc Cert.KeysValuesIdeal.main_v7)),
      θ_run (Cert.KeysValuesIdeal.defs (F := Ideal)) (onTc (τ := Cert.KeysValuesIdeal.τ) (Cert.KeysValuesIdeal.main (F := Ideal))) ⟨m, fun _ => 0, g⟩ (fun r => ∀ c : Dev Cert.KeysValuesIdeal.nD,
          r.2.mem ((c.tc : Thread Cert.KeysValuesIdeal.nD Cert.KeysValuesIdeal.τ).loc Cert.KeysValuesIdeal.main_v4) = v0 c
          ∧ r.2.mem ((c.tc : Thread Cert.KeysValuesIdeal.nD Cert.KeysValuesIdeal.τ).loc Cert.KeysValuesIdeal.main_v5) = v1 c
          ∧ r.2.mem ((c.tc : Thread Cert.KeysValuesIdeal.nD Cert.KeysValuesIdeal.τ).loc Cert.KeysValuesIdeal.main_v6) = v2 c
          ∧ r.2.mem ((c.tc : Thread Cert.KeysValuesIdeal.nD Cert.KeysValuesIdeal.τ).loc Cert.KeysValuesIdeal.main_v7) = v3 c
          ∧ r.2.mem ((c.tc : Thread Cert.KeysValuesIdeal.nD Cert.KeysValuesIdeal.τ).loc Cert.KeysValuesIdeal.main_arg0) = m ((c.tc : Thread Cert.KeysValuesIdeal.nD Cert.KeysValuesIdeal.τ).loc Cert.KeysValuesIdeal.main_arg0)
          ∧ r.2.mem ((c.tc : Thread Cert.KeysValuesIdeal.nD Cert.KeysValuesIdeal.τ).loc Cert.KeysValuesIdeal.main_arg1) = m ((c.tc : Thread Cert.KeysValuesIdeal.nD Cert.KeysValuesIdeal.τ).loc Cert.KeysValuesIdeal.main_arg1)
          ∧ r.2.mem ((c.tc : Thread Cert.KeysValuesIdeal.nD Cert.KeysValuesIdeal.τ).loc Cert.KeysValuesIdeal.main_arg2) = m ((c.tc : Thread Cert.KeysValuesIdeal.nD Cert.KeysValuesIdeal.τ).loc Cert.KeysValuesIdeal.main_arg2))
      ∧ θ_run (Cert.RefKeysValuesIdeal.defs (F := Ideal)) (onTc (τ := Cert.RefKeysValuesIdeal.τ) (Cert.RefKeysValuesIdeal.main (F := Ideal))) ⟨m', fun _ => 0, g'⟩ (fun r => ∀ c : Dev Cert.RefKeysValuesIdeal.nD,
          r.2.mem ((c.tc : Thread Cert.RefKeysValuesIdeal.nD Cert.RefKeysValuesIdeal.τ).loc Cert.RefKeysValuesIdeal.main_v2) = v0 c
          ∧ r.2.mem ((c.tc : Thread Cert.RefKeysValuesIdeal.nD Cert.RefKeysValuesIdeal.τ).loc Cert.RefKeysValuesIdeal.main_v3) = v1 c
          ∧ r.2.mem ((c.tc : Thread Cert.RefKeysValuesIdeal.nD Cert.RefKeysValuesIdeal.τ).loc Cert.RefKeysValuesIdeal.main_v4) = v2 c
          ∧ r.2.mem ((c.tc : Thread Cert.RefKeysValuesIdeal.nD Cert.RefKeysValuesIdeal.τ).loc Cert.RefKeysValuesIdeal.main_v5) = v3 c
          ∧ r.2.mem ((c.tc : Thread Cert.RefKeysValuesIdeal.nD Cert.RefKeysValuesIdeal.τ).loc Cert.RefKeysValuesIdeal.main_arg0) = m' ((c.tc : Thread Cert.RefKeysValuesIdeal.nD Cert.RefKeysValuesIdeal.τ).loc Cert.RefKeysValuesIdeal.main_arg0)
          ∧ r.2.mem ((c.tc : Thread Cert.RefKeysValuesIdeal.nD Cert.RefKeysValuesIdeal.τ).loc Cert.RefKeysValuesIdeal.main_arg1) = m' ((c.tc : Thread Cert.RefKeysValuesIdeal.nD Cert.RefKeysValuesIdeal.τ).loc Cert.RefKeysValuesIdeal.main_arg1)
          ∧ r.2.mem ((c.tc : Thread Cert.RefKeysValuesIdeal.nD Cert.RefKeysValuesIdeal.τ).loc Cert.RefKeysValuesIdeal.main_arg2) = m' ((c.tc : Thread Cert.RefKeysValuesIdeal.nD Cert.RefKeysValuesIdeal.τ).loc Cert.RefKeysValuesIdeal.main_arg2))

def preserves_Queries_QueriesIdeal : Prop :=
  True

def algebraic_QueriesIdeal_RefQueriesIdeal [hQueriesIdeal : Cert.QueriesIdeal.Facts] [hRefQueriesIdeal : Cert.RefQueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.RefQueriesIdeal.nD Cert.RefQueriesIdeal.τ Cert.RefQueriesIdeal.sig) → Buf (Elt Ideal) ℓ) (g' : Dev Cert.RefQueriesIdeal.nD → PrngReg), Pre_QueriesIdeal m →
    (∀ c : Dev Cert.QueriesIdeal.nD,
      m' ((c.tc : Thread Cert.RefQueriesIdeal.nD Cert.RefQueriesIdeal.τ).loc Cert.RefQueriesIdeal.main_arg0) = m ((c.tc : Thread Cert.QueriesIdeal.nD Cert.QueriesIdeal.τ).loc Cert.QueriesIdeal.main_arg0)
      ∧ m' ((c.tc : Thread Cert.RefQueriesIdeal.nD Cert.RefQueriesIdeal.τ).loc Cert.RefQueriesIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v3)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v3) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.RefQueriesIdeal.defs (F := Ideal)) (onTc (τ := Cert.RefQueriesIdeal.τ) (Cert.RefQueriesIdeal.main (F := Ideal))) ⟨m', fun _ => 0, g'⟩ (fun r => ∀ c : Dev Cert.RefQueriesIdeal.nD,
          r.2.mem ((c.tc : Thread Cert.RefQueriesIdeal.nD Cert.RefQueriesIdeal.τ).loc Cert.RefQueriesIdeal.main_v3) = v0 c
          ∧ r.2.mem ((c.tc : Thread Cert.RefQueriesIdeal.nD Cert.RefQueriesIdeal.τ).loc Cert.RefQueriesIdeal.main_arg0) = m' ((c.tc : Thread Cert.RefQueriesIdeal.nD Cert.RefQueriesIdeal.τ).loc Cert.RefQueriesIdeal.main_arg0)
          ∧ r.2.mem ((c.tc : Thread Cert.RefQueriesIdeal.nD Cert.RefQueriesIdeal.τ).loc Cert.RefQueriesIdeal.main_arg1) = m' ((c.tc : Thread Cert.RefQueriesIdeal.nD Cert.RefQueriesIdeal.τ).loc Cert.RefQueriesIdeal.main_arg1))

def preserves_ProjectOut_ProjectOutIdeal : Prop :=
  True

def algebraic_ProjectOutIdeal_RefProjectOutIdeal [hProjectOutIdeal : Cert.ProjectOutIdeal.Facts] [hRefProjectOutIdeal : Cert.RefProjectOutIdeal.Facts] : Prop :=
  ∀ (m : (ℓ : Loc Cert.ProjectOutIdeal.nD Cert.ProjectOutIdeal.τ Cert.ProjectOutIdeal.sig) → Buf (Elt Ideal) ℓ) (g : Dev Cert.ProjectOutIdeal.nD → PrngReg)
    (m' : (ℓ : Loc Cert.RefProjectOutIdeal.nD Cert.RefProjectOutIdeal.τ Cert.RefProjectOutIdeal.sig) → Buf (Elt Ideal) ℓ) (g' : Dev Cert.RefProjectOutIdeal.nD → PrngReg), Pre_ProjectOutIdeal m →
    (∀ c : Dev Cert.ProjectOutIdeal.nD,
      m' ((c.tc : Thread Cert.RefProjectOutIdeal.nD Cert.RefProjectOutIdeal.τ).loc Cert.RefProjectOutIdeal.main_arg0) = m ((c.tc : Thread Cert.ProjectOutIdeal.nD Cert.ProjectOutIdeal.τ).loc Cert.ProjectOutIdeal.main_arg0)
      ∧ m' ((c.tc : Thread Cert.RefProjectOutIdeal.nD Cert.RefProjectOutIdeal.τ).loc Cert.RefProjectOutIdeal.main_arg1) = m ((c.tc : Thread Cert.ProjectOutIdeal.nD Cert.ProjectOutIdeal.τ).loc Cert.ProjectOutIdeal.main_arg1)
      ∧ m' ((c.tc : Thread Cert.RefProjectOutIdeal.nD Cert.RefProjectOutIdeal.τ).loc Cert.RefProjectOutIdeal.main_arg2) = m ((c.tc : Thread Cert.ProjectOutIdeal.nD Cert.ProjectOutIdeal.τ).loc Cert.ProjectOutIdeal.main_arg2)
      ∧ m' ((c.tc : Thread Cert.RefProjectOutIdeal.nD Cert.RefProjectOutIdeal.τ).loc Cert.RefProjectOutIdeal.main_arg3) = m ((c.tc : Thread Cert.ProjectOutIdeal.nD Cert.ProjectOutIdeal.τ).loc Cert.ProjectOutIdeal.main_arg3)
      ∧ m' ((c.tc : Thread Cert.RefProjectOutIdeal.nD Cert.RefProjectOutIdeal.τ).loc Cert.RefProjectOutIdeal.main_arg4) = m ((c.tc : Thread Cert.ProjectOutIdeal.nD Cert.ProjectOutIdeal.τ).loc Cert.ProjectOutIdeal.main_arg4)) →
    ∃ (v0 : (c : Dev Cert.ProjectOutIdeal.nD) → Buf (Elt Ideal) ((c.tc : Thread Cert.ProjectOutIdeal.nD Cert.ProjectOutIdeal.τ).loc Cert.ProjectOutIdeal.main_v6)),
      θ_run (Cert.ProjectOutIdeal.defs (F := Ideal)) (onTc (τ := Cert.ProjectOutIdeal.τ) (Cert.ProjectOutIdeal.main (F := Ideal))) ⟨m, fun _ => 0, g⟩ (fun r => ∀ c : Dev Cert.ProjectOutIdeal.nD,
          r.2.mem ((c.tc : Thread Cert.ProjectOutIdeal.nD Cert.ProjectOutIdeal.τ).loc Cert.ProjectOutIdeal.main_v6) = v0 c
          ∧ r.2.mem ((c.tc : Thread Cert.ProjectOutIdeal.nD Cert.ProjectOutIdeal.τ).loc Cert.ProjectOutIdeal.main_arg0) = m ((c.tc : Thread Cert.ProjectOutIdeal.nD Cert.ProjectOutIdeal.τ).loc Cert.ProjectOutIdeal.main_arg0)
          ∧ r.2.mem ((c.tc : Thread Cert.ProjectOutIdeal.nD Cert.ProjectOutIdeal.τ).loc Cert.ProjectOutIdeal.main_arg1) = m ((c.tc : Thread Cert.ProjectOutIdeal.nD Cert.ProjectOutIdeal.τ).loc Cert.ProjectOutIdeal.main_arg1)
          ∧ r.2.mem ((c.tc : Thread Cert.ProjectOutIdeal.nD Cert.ProjectOutIdeal.τ).loc Cert.ProjectOutIdeal.main_arg2) = m ((c.tc : Thread Cert.ProjectOutIdeal.nD Cert.ProjectOutIdeal.τ).loc Cert.ProjectOutIdeal.main_arg2)
          ∧ r.2.mem ((c.tc : Thread Cert.ProjectOutIdeal.nD Cert.ProjectOutIdeal.τ).loc Cert.ProjectOutIdeal.main_arg3) = m ((c.tc : Thread Cert.ProjectOutIdeal.nD Cert.ProjectOutIdeal.τ).loc Cert.ProjectOutIdeal.main_arg3)
          ∧ r.2.mem ((c.tc : Thread Cert.ProjectOutIdeal.nD Cert.ProjectOutIdeal.τ).loc Cert.ProjectOutIdeal.main_arg4) = m ((c.tc : Thread Cert.ProjectOutIdeal.nD Cert.ProjectOutIdeal.τ).loc Cert.ProjectOutIdeal.main_arg4))
      ∧ θ_run (Cert.RefProjectOutIdeal.defs (F := Ideal)) (onTc (τ := Cert.RefProjectOutIdeal.τ) (Cert.RefProjectOutIdeal.main (F := Ideal))) ⟨m', fun _ => 0, g'⟩ (fun r => ∀ c : Dev Cert.RefProjectOutIdeal.nD,
          r.2.mem ((c.tc : Thread Cert.RefProjectOutIdeal.nD Cert.RefProjectOutIdeal.τ).loc Cert.RefProjectOutIdeal.main_v28) = v0 c
          ∧ r.2.mem ((c.tc : Thread Cert.RefProjectOutIdeal.nD Cert.RefProjectOutIdeal.τ).loc Cert.RefProjectOutIdeal.main_arg0) = m' ((c.tc : Thread Cert.RefProjectOutIdeal.nD Cert.RefProjectOutIdeal.τ).loc Cert.RefProjectOutIdeal.main_arg0)
          ∧ r.2.mem ((c.tc : Thread Cert.RefProjectOutIdeal.nD Cert.RefProjectOutIdeal.τ).loc Cert.RefProjectOutIdeal.main_arg1) = m' ((c.tc : Thread Cert.RefProjectOutIdeal.nD Cert.RefProjectOutIdeal.τ).loc Cert.RefProjectOutIdeal.main_arg1)
          ∧ r.2.mem ((c.tc : Thread Cert.RefProjectOutIdeal.nD Cert.RefProjectOutIdeal.τ).loc Cert.RefProjectOutIdeal.main_arg2) = m' ((c.tc : Thread Cert.RefProjectOutIdeal.nD Cert.RefProjectOutIdeal.τ).loc Cert.RefProjectOutIdeal.main_arg2)
          ∧ r.2.mem ((c.tc : Thread Cert.RefProjectOutIdeal.nD Cert.RefProjectOutIdeal.τ).loc Cert.RefProjectOutIdeal.main_arg3) = m' ((c.tc : Thread Cert.RefProjectOutIdeal.nD Cert.RefProjectOutIdeal.τ).loc Cert.RefProjectOutIdeal.main_arg3)
          ∧ r.2.mem ((c.tc : Thread Cert.RefProjectOutIdeal.nD Cert.RefProjectOutIdeal.τ).loc Cert.RefProjectOutIdeal.main_arg4) = m' ((c.tc : Thread Cert.RefProjectOutIdeal.nD Cert.RefProjectOutIdeal.τ).loc Cert.RefProjectOutIdeal.main_arg4))

def preserves_Sample_SampleIdeal : Prop :=
  IdealRules.named_const.Statement Cert.SampleIdeal.κ "underflow" .f32 0xC2D00000#32 ⊥

def algebraic_SampleIdeal_RefSampleIdeal_pre_finite_sample [hSampleIdeal : Cert.SampleIdeal.Facts] [hRefSampleIdeal : Cert.RefSampleIdeal.Facts] [hPre_finite_sample : Cert.Pre_finite_sample.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.RefSampleIdeal.nD Cert.RefSampleIdeal.τ Cert.RefSampleIdeal.sig) → Buf (Elt Ideal) ℓ) (g' : Dev Cert.RefSampleIdeal.nD → PrngReg), Pre_SampleIdeal_finite_sample m →
    (∀ c : Dev Cert.SampleIdeal.nD,
      m' ((c.tc : Thread Cert.RefSampleIdeal.nD Cert.RefSampleIdeal.τ).loc Cert.RefSampleIdeal.main_arg0) = m ((c.tc : Thread Cert.SampleIdeal.nD Cert.SampleIdeal.τ).loc Cert.SampleIdeal.main_arg0)
      ∧ m' ((c.tc : Thread Cert.RefSampleIdeal.nD Cert.RefSampleIdeal.τ).loc Cert.RefSampleIdeal.main_arg1) = m ((c.tc : Thread Cert.SampleIdeal.nD Cert.SampleIdeal.τ).loc Cert.SampleIdeal.main_arg1)
      ∧ m' ((c.tc : Thread Cert.RefSampleIdeal.nD Cert.RefSampleIdeal.τ).loc Cert.RefSampleIdeal.main_arg2) = m ((c.tc : Thread Cert.SampleIdeal.nD Cert.SampleIdeal.τ).loc Cert.SampleIdeal.main_arg2)
      ∧ m' ((c.tc : Thread Cert.RefSampleIdeal.nD Cert.RefSampleIdeal.τ).loc Cert.RefSampleIdeal.main_arg3) = m ((c.tc : Thread Cert.SampleIdeal.nD Cert.SampleIdeal.τ).loc Cert.SampleIdeal.main_arg3)
      ∧ m' ((c.tc : Thread Cert.RefSampleIdeal.nD Cert.RefSampleIdeal.τ).loc Cert.RefSampleIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v18)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v18) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.RefSampleIdeal.defs (F := Ideal)) (onTc (τ := Cert.RefSampleIdeal.τ) (Cert.RefSampleIdeal.main (F := Ideal))) ⟨m', fun _ => 0, g'⟩ (fun r => ∀ c : Dev Cert.RefSampleIdeal.nD,
          r.2.mem ((c.tc : Thread Cert.RefSampleIdeal.nD Cert.RefSampleIdeal.τ).loc Cert.RefSampleIdeal.main_v26) = v0 c
          ∧ r.2.mem ((c.tc : Thread Cert.RefSampleIdeal.nD Cert.RefSampleIdeal.τ).loc Cert.RefSampleIdeal.main_arg0) = m' ((c.tc : Thread Cert.RefSampleIdeal.nD Cert.RefSampleIdeal.τ).loc Cert.RefSampleIdeal.main_arg0)
          ∧ r.2.mem ((c.tc : Thread Cert.RefSampleIdeal.nD Cert.RefSampleIdeal.τ).loc Cert.RefSampleIdeal.main_arg1) = m' ((c.tc : Thread Cert.RefSampleIdeal.nD Cert.RefSampleIdeal.τ).loc Cert.RefSampleIdeal.main_arg1)
          ∧ r.2.mem ((c.tc : Thread Cert.RefSampleIdeal.nD Cert.RefSampleIdeal.τ).loc Cert.RefSampleIdeal.main_arg2) = m' ((c.tc : Thread Cert.RefSampleIdeal.nD Cert.RefSampleIdeal.τ).loc Cert.RefSampleIdeal.main_arg2)
          ∧ r.2.mem ((c.tc : Thread Cert.RefSampleIdeal.nD Cert.RefSampleIdeal.τ).loc Cert.RefSampleIdeal.main_arg3) = m' ((c.tc : Thread Cert.RefSampleIdeal.nD Cert.RefSampleIdeal.τ).loc Cert.RefSampleIdeal.main_arg3)
          ∧ r.2.mem ((c.tc : Thread Cert.RefSampleIdeal.nD Cert.RefSampleIdeal.τ).loc Cert.RefSampleIdeal.main_arg4) = m' ((c.tc : Thread Cert.RefSampleIdeal.nD Cert.RefSampleIdeal.τ).loc Cert.RefSampleIdeal.main_arg4))

def preserves_SampleKeysValues_SampleKeysValuesIdeal : Prop :=
  True

def algebraic_SampleKeysValuesIdeal_RefSampleKeysValuesIdeal [hSampleKeysValuesIdeal : Cert.SampleKeysValuesIdeal.Facts] [hRefSampleKeysValuesIdeal : Cert.RefSampleKeysValuesIdeal.Facts] : Prop :=
  ∀ (m : (ℓ : Loc Cert.SampleKeysValuesIdeal.nD Cert.SampleKeysValuesIdeal.τ Cert.SampleKeysValuesIdeal.sig) → Buf (Elt Ideal) ℓ) (g : Dev Cert.SampleKeysValuesIdeal.nD → PrngReg)
    (m' : (ℓ : Loc Cert.RefSampleKeysValuesIdeal.nD Cert.RefSampleKeysValuesIdeal.τ Cert.RefSampleKeysValuesIdeal.sig) → Buf (Elt Ideal) ℓ) (g' : Dev Cert.RefSampleKeysValuesIdeal.nD → PrngReg), Pre_SampleKeysValuesIdeal m →
    (∀ c : Dev Cert.SampleKeysValuesIdeal.nD,
      m' ((c.tc : Thread Cert.RefSampleKeysValuesIdeal.nD Cert.RefSampleKeysValuesIdeal.τ).loc Cert.RefSampleKeysValuesIdeal.main_arg0) = m ((c.tc : Thread Cert.SampleKeysValuesIdeal.nD Cert.SampleKeysValuesIdeal.τ).loc Cert.SampleKeysValuesIdeal.main_arg0)
      ∧ m' ((c.tc : Thread Cert.RefSampleKeysValuesIdeal.nD Cert.RefSampleKeysValuesIdeal.τ).loc Cert.RefSampleKeysValuesIdeal.main_arg1) = m ((c.tc : Thread Cert.SampleKeysValuesIdeal.nD Cert.SampleKeysValuesIdeal.τ).loc Cert.SampleKeysValuesIdeal.main_arg1)
      ∧ m' ((c.tc : Thread Cert.RefSampleKeysValuesIdeal.nD Cert.RefSampleKeysValuesIdeal.τ).loc Cert.RefSampleKeysValuesIdeal.main_arg2) = m ((c.tc : Thread Cert.SampleKeysValuesIdeal.nD Cert.SampleKeysValuesIdeal.τ).loc Cert.SampleKeysValuesIdeal.main_arg2)) →
    ∃ (v0 : (c : Dev Cert.SampleKeysValuesIdeal.nD) → Buf (Elt Ideal) ((c.tc : Thread Cert.SampleKeysValuesIdeal.nD Cert.SampleKeysValuesIdeal.τ).loc Cert.SampleKeysValuesIdeal.main_v4)) (v1 : (c : Dev Cert.SampleKeysValuesIdeal.nD) → Buf (Elt Ideal) ((c.tc : Thread Cert.SampleKeysValuesIdeal.nD Cert.SampleKeysValuesIdeal.τ).loc Cert.SampleKeysValuesIdeal.main_v5)) (v2 : (c : Dev Cert.SampleKeysValuesIdeal.nD) → Buf (Elt Ideal) ((c.tc : Thread Cert.SampleKeysValuesIdeal.nD Cert.SampleKeysValuesIdeal.τ).loc Cert.SampleKeysValuesIdeal.main_v6)) (v3 : (c : Dev Cert.SampleKeysValuesIdeal.nD) → Buf (Elt Ideal) ((c.tc : Thread Cert.SampleKeysValuesIdeal.nD Cert.SampleKeysValuesIdeal.τ).loc Cert.SampleKeysValuesIdeal.main_v7)),
      θ_run (Cert.SampleKeysValuesIdeal.defs (F := Ideal)) (onTc (τ := Cert.SampleKeysValuesIdeal.τ) (Cert.SampleKeysValuesIdeal.main (F := Ideal))) ⟨m, fun _ => 0, g⟩ (fun r => ∀ c : Dev Cert.SampleKeysValuesIdeal.nD,
          r.2.mem ((c.tc : Thread Cert.SampleKeysValuesIdeal.nD Cert.SampleKeysValuesIdeal.τ).loc Cert.SampleKeysValuesIdeal.main_v4) = v0 c
          ∧ r.2.mem ((c.tc : Thread Cert.SampleKeysValuesIdeal.nD Cert.SampleKeysValuesIdeal.τ).loc Cert.SampleKeysValuesIdeal.main_v5) = v1 c
          ∧ r.2.mem ((c.tc : Thread Cert.SampleKeysValuesIdeal.nD Cert.SampleKeysValuesIdeal.τ).loc Cert.SampleKeysValuesIdeal.main_v6) = v2 c
          ∧ r.2.mem ((c.tc : Thread Cert.SampleKeysValuesIdeal.nD Cert.SampleKeysValuesIdeal.τ).loc Cert.SampleKeysValuesIdeal.main_v7) = v3 c
          ∧ r.2.mem ((c.tc : Thread Cert.SampleKeysValuesIdeal.nD Cert.SampleKeysValuesIdeal.τ).loc Cert.SampleKeysValuesIdeal.main_arg0) = m ((c.tc : Thread Cert.SampleKeysValuesIdeal.nD Cert.SampleKeysValuesIdeal.τ).loc Cert.SampleKeysValuesIdeal.main_arg0)
          ∧ r.2.mem ((c.tc : Thread Cert.SampleKeysValuesIdeal.nD Cert.SampleKeysValuesIdeal.τ).loc Cert.SampleKeysValuesIdeal.main_arg1) = m ((c.tc : Thread Cert.SampleKeysValuesIdeal.nD Cert.SampleKeysValuesIdeal.τ).loc Cert.SampleKeysValuesIdeal.main_arg1)
          ∧ r.2.mem ((c.tc : Thread Cert.SampleKeysValuesIdeal.nD Cert.SampleKeysValuesIdeal.τ).loc Cert.SampleKeysValuesIdeal.main_arg2) = m ((c.tc : Thread Cert.SampleKeysValuesIdeal.nD Cert.SampleKeysValuesIdeal.τ).loc Cert.SampleKeysValuesIdeal.main_arg2))
      ∧ θ_run (Cert.RefSampleKeysValuesIdeal.defs (F := Ideal)) (onTc (τ := Cert.RefSampleKeysValuesIdeal.τ) (Cert.RefSampleKeysValuesIdeal.main (F := Ideal))) ⟨m', fun _ => 0, g'⟩ (fun r => ∀ c : Dev Cert.RefSampleKeysValuesIdeal.nD,
          r.2.mem ((c.tc : Thread Cert.RefSampleKeysValuesIdeal.nD Cert.RefSampleKeysValuesIdeal.τ).loc Cert.RefSampleKeysValuesIdeal.main_v2) = v0 c
          ∧ r.2.mem ((c.tc : Thread Cert.RefSampleKeysValuesIdeal.nD Cert.RefSampleKeysValuesIdeal.τ).loc Cert.RefSampleKeysValuesIdeal.main_v3) = v1 c
          ∧ r.2.mem ((c.tc : Thread Cert.RefSampleKeysValuesIdeal.nD Cert.RefSampleKeysValuesIdeal.τ).loc Cert.RefSampleKeysValuesIdeal.main_v4) = v2 c
          ∧ r.2.mem ((c.tc : Thread Cert.RefSampleKeysValuesIdeal.nD Cert.RefSampleKeysValuesIdeal.τ).loc Cert.RefSampleKeysValuesIdeal.main_v5) = v3 c
          ∧ r.2.mem ((c.tc : Thread Cert.RefSampleKeysValuesIdeal.nD Cert.RefSampleKeysValuesIdeal.τ).loc Cert.RefSampleKeysValuesIdeal.main_arg0) = m' ((c.tc : Thread Cert.RefSampleKeysValuesIdeal.nD Cert.RefSampleKeysValuesIdeal.τ).loc Cert.RefSampleKeysValuesIdeal.main_arg0)
          ∧ r.2.mem ((c.tc : Thread Cert.RefSampleKeysValuesIdeal.nD Cert.RefSampleKeysValuesIdeal.τ).loc Cert.RefSampleKeysValuesIdeal.main_arg1) = m' ((c.tc : Thread Cert.RefSampleKeysValuesIdeal.nD Cert.RefSampleKeysValuesIdeal.τ).loc Cert.RefSampleKeysValuesIdeal.main_arg1)
          ∧ r.2.mem ((c.tc : Thread Cert.RefSampleKeysValuesIdeal.nD Cert.RefSampleKeysValuesIdeal.τ).loc Cert.RefSampleKeysValuesIdeal.main_arg2) = m' ((c.tc : Thread Cert.RefSampleKeysValuesIdeal.nD Cert.RefSampleKeysValuesIdeal.τ).loc Cert.RefSampleKeysValuesIdeal.main_arg2))

def preserves_SampleQueries_SampleQueriesIdeal : Prop :=
  True

def algebraic_SampleQueriesIdeal_RefSampleQueriesIdeal [hSampleQueriesIdeal : Cert.SampleQueriesIdeal.Facts] [hRefSampleQueriesIdeal : Cert.RefSampleQueriesIdeal.Facts] : Prop :=
  ∀ (m : (ℓ : Loc Cert.SampleQueriesIdeal.nD Cert.SampleQueriesIdeal.τ Cert.SampleQueriesIdeal.sig) → Buf (Elt Ideal) ℓ) (g : Dev Cert.SampleQueriesIdeal.nD → PrngReg)
    (m' : (ℓ : Loc Cert.RefSampleQueriesIdeal.nD Cert.RefSampleQueriesIdeal.τ Cert.RefSampleQueriesIdeal.sig) → Buf (Elt Ideal) ℓ) (g' : Dev Cert.RefSampleQueriesIdeal.nD → PrngReg), Pre_SampleQueriesIdeal m →
    (∀ c : Dev Cert.SampleQueriesIdeal.nD,
      m' ((c.tc : Thread Cert.RefSampleQueriesIdeal.nD Cert.RefSampleQueriesIdeal.τ).loc Cert.RefSampleQueriesIdeal.main_arg0) = m ((c.tc : Thread Cert.SampleQueriesIdeal.nD Cert.SampleQueriesIdeal.τ).loc Cert.SampleQueriesIdeal.main_arg0)
      ∧ m' ((c.tc : Thread Cert.RefSampleQueriesIdeal.nD Cert.RefSampleQueriesIdeal.τ).loc Cert.RefSampleQueriesIdeal.main_arg1) = m ((c.tc : Thread Cert.SampleQueriesIdeal.nD Cert.SampleQueriesIdeal.τ).loc Cert.SampleQueriesIdeal.main_arg1)) →
    ∃ (v0 : (c : Dev Cert.SampleQueriesIdeal.nD) → Buf (Elt Ideal) ((c.tc : Thread Cert.SampleQueriesIdeal.nD Cert.SampleQueriesIdeal.τ).loc Cert.SampleQueriesIdeal.main_v3)),
      θ_run (Cert.SampleQueriesIdeal.defs (F := Ideal)) (onTc (τ := Cert.SampleQueriesIdeal.τ) (Cert.SampleQueriesIdeal.main (F := Ideal))) ⟨m, fun _ => 0, g⟩ (fun r => ∀ c : Dev Cert.SampleQueriesIdeal.nD,
          r.2.mem ((c.tc : Thread Cert.SampleQueriesIdeal.nD Cert.SampleQueriesIdeal.τ).loc Cert.SampleQueriesIdeal.main_v3) = v0 c
          ∧ r.2.mem ((c.tc : Thread Cert.SampleQueriesIdeal.nD Cert.SampleQueriesIdeal.τ).loc Cert.SampleQueriesIdeal.main_arg0) = m ((c.tc : Thread Cert.SampleQueriesIdeal.nD Cert.SampleQueriesIdeal.τ).loc Cert.SampleQueriesIdeal.main_arg0)
          ∧ r.2.mem ((c.tc : Thread Cert.SampleQueriesIdeal.nD Cert.SampleQueriesIdeal.τ).loc Cert.SampleQueriesIdeal.main_arg1) = m ((c.tc : Thread Cert.SampleQueriesIdeal.nD Cert.SampleQueriesIdeal.τ).loc Cert.SampleQueriesIdeal.main_arg1))
      ∧ θ_run (Cert.RefSampleQueriesIdeal.defs (F := Ideal)) (onTc (τ := Cert.RefSampleQueriesIdeal.τ) (Cert.RefSampleQueriesIdeal.main (F := Ideal))) ⟨m', fun _ => 0, g'⟩ (fun r => ∀ c : Dev Cert.RefSampleQueriesIdeal.nD,
          r.2.mem ((c.tc : Thread Cert.RefSampleQueriesIdeal.nD Cert.RefSampleQueriesIdeal.τ).loc Cert.RefSampleQueriesIdeal.main_v3) = v0 c
          ∧ r.2.mem ((c.tc : Thread Cert.RefSampleQueriesIdeal.nD Cert.RefSampleQueriesIdeal.τ).loc Cert.RefSampleQueriesIdeal.main_arg0) = m' ((c.tc : Thread Cert.RefSampleQueriesIdeal.nD Cert.RefSampleQueriesIdeal.τ).loc Cert.RefSampleQueriesIdeal.main_arg0)
          ∧ r.2.mem ((c.tc : Thread Cert.RefSampleQueriesIdeal.nD Cert.RefSampleQueriesIdeal.τ).loc Cert.RefSampleQueriesIdeal.main_arg1) = m' ((c.tc : Thread Cert.RefSampleQueriesIdeal.nD Cert.RefSampleQueriesIdeal.τ).loc Cert.RefSampleQueriesIdeal.main_arg1))

def preserves_SampleProjectOut_SampleProjectOutIdeal : Prop :=
  True

def algebraic_SampleProjectOutIdeal_RefSampleProjectOutIdeal [hSampleProjectOutIdeal : Cert.SampleProjectOutIdeal.Facts] [hRefSampleProjectOutIdeal : Cert.RefSampleProjectOutIdeal.Facts] : Prop :=
  ∀ (m : (ℓ : Loc Cert.SampleProjectOutIdeal.nD Cert.SampleProjectOutIdeal.τ Cert.SampleProjectOutIdeal.sig) → Buf (Elt Ideal) ℓ) (g : Dev Cert.SampleProjectOutIdeal.nD → PrngReg)
    (m' : (ℓ : Loc Cert.RefSampleProjectOutIdeal.nD Cert.RefSampleProjectOutIdeal.τ Cert.RefSampleProjectOutIdeal.sig) → Buf (Elt Ideal) ℓ) (g' : Dev Cert.RefSampleProjectOutIdeal.nD → PrngReg), Pre_SampleProjectOutIdeal m →
    (∀ c : Dev Cert.SampleProjectOutIdeal.nD,
      m' ((c.tc : Thread Cert.RefSampleProjectOutIdeal.nD Cert.RefSampleProjectOutIdeal.τ).loc Cert.RefSampleProjectOutIdeal.main_arg0) = m ((c.tc : Thread Cert.SampleProjectOutIdeal.nD Cert.SampleProjectOutIdeal.τ).loc Cert.SampleProjectOutIdeal.main_arg0)
      ∧ m' ((c.tc : Thread Cert.RefSampleProjectOutIdeal.nD Cert.RefSampleProjectOutIdeal.τ).loc Cert.RefSampleProjectOutIdeal.main_arg1) = m ((c.tc : Thread Cert.SampleProjectOutIdeal.nD Cert.SampleProjectOutIdeal.τ).loc Cert.SampleProjectOutIdeal.main_arg1)
      ∧ m' ((c.tc : Thread Cert.RefSampleProjectOutIdeal.nD Cert.RefSampleProjectOutIdeal.τ).loc Cert.RefSampleProjectOutIdeal.main_arg2) = m ((c.tc : Thread Cert.SampleProjectOutIdeal.nD Cert.SampleProjectOutIdeal.τ).loc Cert.SampleProjectOutIdeal.main_arg2)
      ∧ m' ((c.tc : Thread Cert.RefSampleProjectOutIdeal.nD Cert.RefSampleProjectOutIdeal.τ).loc Cert.RefSampleProjectOutIdeal.main_arg3) = m ((c.tc : Thread Cert.SampleProjectOutIdeal.nD Cert.SampleProjectOutIdeal.τ).loc Cert.SampleProjectOutIdeal.main_arg3)
      ∧ m' ((c.tc : Thread Cert.RefSampleProjectOutIdeal.nD Cert.RefSampleProjectOutIdeal.τ).loc Cert.RefSampleProjectOutIdeal.main_arg4) = m ((c.tc : Thread Cert.SampleProjectOutIdeal.nD Cert.SampleProjectOutIdeal.τ).loc Cert.SampleProjectOutIdeal.main_arg4)) →
    ∃ (v0 : (c : Dev Cert.SampleProjectOutIdeal.nD) → Buf (Elt Ideal) ((c.tc : Thread Cert.SampleProjectOutIdeal.nD Cert.SampleProjectOutIdeal.τ).loc Cert.SampleProjectOutIdeal.main_v6)),
      θ_run (Cert.SampleProjectOutIdeal.defs (F := Ideal)) (onTc (τ := Cert.SampleProjectOutIdeal.τ) (Cert.SampleProjectOutIdeal.main (F := Ideal))) ⟨m, fun _ => 0, g⟩ (fun r => ∀ c : Dev Cert.SampleProjectOutIdeal.nD,
          r.2.mem ((c.tc : Thread Cert.SampleProjectOutIdeal.nD Cert.SampleProjectOutIdeal.τ).loc Cert.SampleProjectOutIdeal.main_v6) = v0 c
          ∧ r.2.mem ((c.tc : Thread Cert.SampleProjectOutIdeal.nD Cert.SampleProjectOutIdeal.τ).loc Cert.SampleProjectOutIdeal.main_arg0) = m ((c.tc : Thread Cert.SampleProjectOutIdeal.nD Cert.SampleProjectOutIdeal.τ).loc Cert.SampleProjectOutIdeal.main_arg0)
          ∧ r.2.mem ((c.tc : Thread Cert.SampleProjectOutIdeal.nD Cert.SampleProjectOutIdeal.τ).loc Cert.SampleProjectOutIdeal.main_arg1) = m ((c.tc : Thread Cert.SampleProjectOutIdeal.nD Cert.SampleProjectOutIdeal.τ).loc Cert.SampleProjectOutIdeal.main_arg1)
          ∧ r.2.mem ((c.tc : Thread Cert.SampleProjectOutIdeal.nD Cert.SampleProjectOutIdeal.τ).loc Cert.SampleProjectOutIdeal.main_arg2) = m ((c.tc : Thread Cert.SampleProjectOutIdeal.nD Cert.SampleProjectOutIdeal.τ).loc Cert.SampleProjectOutIdeal.main_arg2)
          ∧ r.2.mem ((c.tc : Thread Cert.SampleProjectOutIdeal.nD Cert.SampleProjectOutIdeal.τ).loc Cert.SampleProjectOutIdeal.main_arg3) = m ((c.tc : Thread Cert.SampleProjectOutIdeal.nD Cert.SampleProjectOutIdeal.τ).loc Cert.SampleProjectOutIdeal.main_arg3)
          ∧ r.2.mem ((c.tc : Thread Cert.SampleProjectOutIdeal.nD Cert.SampleProjectOutIdeal.τ).loc Cert.SampleProjectOutIdeal.main_arg4) = m ((c.tc : Thread Cert.SampleProjectOutIdeal.nD Cert.SampleProjectOutIdeal.τ).loc Cert.SampleProjectOutIdeal.main_arg4))
      ∧ θ_run (Cert.RefSampleProjectOutIdeal.defs (F := Ideal)) (onTc (τ := Cert.RefSampleProjectOutIdeal.τ) (Cert.RefSampleProjectOutIdeal.main (F := Ideal))) ⟨m', fun _ => 0, g'⟩ (fun r => ∀ c : Dev Cert.RefSampleProjectOutIdeal.nD,
          r.2.mem ((c.tc : Thread Cert.RefSampleProjectOutIdeal.nD Cert.RefSampleProjectOutIdeal.τ).loc Cert.RefSampleProjectOutIdeal.main_v28) = v0 c
          ∧ r.2.mem ((c.tc : Thread Cert.RefSampleProjectOutIdeal.nD Cert.RefSampleProjectOutIdeal.τ).loc Cert.RefSampleProjectOutIdeal.main_arg0) = m' ((c.tc : Thread Cert.RefSampleProjectOutIdeal.nD Cert.RefSampleProjectOutIdeal.τ).loc Cert.RefSampleProjectOutIdeal.main_arg0)
          ∧ r.2.mem ((c.tc : Thread Cert.RefSampleProjectOutIdeal.nD Cert.RefSampleProjectOutIdeal.τ).loc Cert.RefSampleProjectOutIdeal.main_arg1) = m' ((c.tc : Thread Cert.RefSampleProjectOutIdeal.nD Cert.RefSampleProjectOutIdeal.τ).loc Cert.RefSampleProjectOutIdeal.main_arg1)
          ∧ r.2.mem ((c.tc : Thread Cert.RefSampleProjectOutIdeal.nD Cert.RefSampleProjectOutIdeal.τ).loc Cert.RefSampleProjectOutIdeal.main_arg2) = m' ((c.tc : Thread Cert.RefSampleProjectOutIdeal.nD Cert.RefSampleProjectOutIdeal.τ).loc Cert.RefSampleProjectOutIdeal.main_arg2)
          ∧ r.2.mem ((c.tc : Thread Cert.RefSampleProjectOutIdeal.nD Cert.RefSampleProjectOutIdeal.τ).loc Cert.RefSampleProjectOutIdeal.main_arg3) = m' ((c.tc : Thread Cert.RefSampleProjectOutIdeal.nD Cert.RefSampleProjectOutIdeal.τ).loc Cert.RefSampleProjectOutIdeal.main_arg3)
          ∧ r.2.mem ((c.tc : Thread Cert.RefSampleProjectOutIdeal.nD Cert.RefSampleProjectOutIdeal.τ).loc Cert.RefSampleProjectOutIdeal.main_arg4) = m' ((c.tc : Thread Cert.RefSampleProjectOutIdeal.nD Cert.RefSampleProjectOutIdeal.τ).loc Cert.RefSampleProjectOutIdeal.main_arg4))

def preserves_SampleConv_SampleConvIdeal : Prop :=
  True

def algebraic_SampleConvIdeal_RefSampleConvIdeal [hSampleConvIdeal : Cert.SampleConvIdeal.Facts] [hRefSampleConvIdeal : Cert.RefSampleConvIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg)
    (m' : (ℓ : Loc Cert.RefSampleConvIdeal.nD Cert.RefSampleConvIdeal.τ Cert.RefSampleConvIdeal.sig) → Buf (Elt Ideal) ℓ) (g' : Dev Cert.RefSampleConvIdeal.nD → PrngReg), Pre_SampleConvIdeal m →
    (∀ c : Dev Cert.SampleConvIdeal.nD,
      m' ((c.tc : Thread Cert.RefSampleConvIdeal.nD Cert.RefSampleConvIdeal.τ).loc Cert.RefSampleConvIdeal.main_arg0) = m ((c.tc : Thread Cert.SampleConvIdeal.nD Cert.SampleConvIdeal.τ).loc Cert.SampleConvIdeal.main_arg0)
      ∧ m' ((c.tc : Thread Cert.RefSampleConvIdeal.nD Cert.RefSampleConvIdeal.τ).loc Cert.RefSampleConvIdeal.main_arg1) = m ((c.tc : Thread Cert.SampleConvIdeal.nD Cert.SampleConvIdeal.τ).loc Cert.SampleConvIdeal.main_arg1)
      ∧ m' ((c.tc : Thread Cert.RefSampleConvIdeal.nD Cert.RefSampleConvIdeal.τ).loc Cert.RefSampleConvIdeal.main_arg2) = m ((c.tc : Thread Cert.SampleConvIdeal.nD Cert.SampleConvIdeal.τ).loc Cert.SampleConvIdeal.main_arg2)
      ∧ m' ((c.tc : Thread Cert.RefSampleConvIdeal.nD Cert.RefSampleConvIdeal.τ).loc Cert.RefSampleConvIdeal.main_arg3) = m ((c.tc : Thread Cert.SampleConvIdeal.nD Cert.SampleConvIdeal.τ).loc Cert.SampleConvIdeal.main_arg3)
      ∧ m' ((c.tc : Thread Cert.RefSampleConvIdeal.nD Cert.RefSampleConvIdeal.τ).loc Cert.RefSampleConvIdeal.main_arg4) = m ((c.tc : Thread Cert.SampleConvIdeal.nD Cert.SampleConvIdeal.τ).loc Cert.SampleConvIdeal.main_arg4)
      ∧ m' ((c.tc : Thread Cert.RefSampleConvIdeal.nD Cert.RefSampleConvIdeal.τ).loc Cert.RefSampleConvIdeal.main_arg5) = m ((c.tc : Thread Cert.SampleConvIdeal.nD Cert.SampleConvIdeal.τ).loc Cert.SampleConvIdeal.main_arg5)
      ∧ m' ((c.tc : Thread Cert.RefSampleConvIdeal.nD Cert.RefSampleConvIdeal.τ).loc Cert.RefSampleConvIdeal.main_arg6) = m ((c.tc : Thread Cert.SampleConvIdeal.nD Cert.SampleConvIdeal.τ).loc Cert.SampleConvIdeal.main_arg6)) →
    ∃ (v0 : (c : Dev Cert.SampleConvIdeal.nD) → Buf (Elt Ideal) ((c.tc : Thread Cert.SampleConvIdeal.nD Cert.SampleConvIdeal.τ).loc Cert.SampleConvIdeal.main_v4_0)) (v1 : (c : Dev Cert.SampleConvIdeal.nD) → Buf (Elt Ideal) ((c.tc : Thread Cert.SampleConvIdeal.nD Cert.SampleConvIdeal.τ).loc Cert.SampleConvIdeal.main_v4_1)),
      θ_run (Cert.SampleConvIdeal.defs (F := Ideal)) (onTc (τ := Cert.SampleConvIdeal.τ) (Cert.SampleConvIdeal.main (F := Ideal))) ⟨m, fun _ => 0, g⟩ (fun r => ∀ c : Dev Cert.SampleConvIdeal.nD,
          r.2.mem ((c.tc : Thread Cert.SampleConvIdeal.nD Cert.SampleConvIdeal.τ).loc Cert.SampleConvIdeal.main_v4_0) = v0 c
          ∧ r.2.mem ((c.tc : Thread Cert.SampleConvIdeal.nD Cert.SampleConvIdeal.τ).loc Cert.SampleConvIdeal.main_v4_1) = v1 c
          ∧ r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
          ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
          ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2)
          ∧ r.2.mem ((c.tc : Thread Cert.SampleConvIdeal.nD Cert.SampleConvIdeal.τ).loc Cert.SampleConvIdeal.main_arg3) = m ((c.tc : Thread Cert.SampleConvIdeal.nD Cert.SampleConvIdeal.τ).loc Cert.SampleConvIdeal.main_arg3)
          ∧ r.2.mem ((c.tc : Thread Cert.SampleConvIdeal.nD Cert.SampleConvIdeal.τ).loc Cert.SampleConvIdeal.main_arg4) = m ((c.tc : Thread Cert.SampleConvIdeal.nD Cert.SampleConvIdeal.τ).loc Cert.SampleConvIdeal.main_arg4)
          ∧ r.2.mem ((c.tc : Thread Cert.SampleConvIdeal.nD Cert.SampleConvIdeal.τ).loc Cert.SampleConvIdeal.main_arg5) = m ((c.tc : Thread Cert.SampleConvIdeal.nD Cert.SampleConvIdeal.τ).loc Cert.SampleConvIdeal.main_arg5)
          ∧ r.2.mem ((c.tc : Thread Cert.SampleConvIdeal.nD Cert.SampleConvIdeal.τ).loc Cert.SampleConvIdeal.main_arg6) = m ((c.tc : Thread Cert.SampleConvIdeal.nD Cert.SampleConvIdeal.τ).loc Cert.SampleConvIdeal.main_arg6))
      ∧ θ_run (Cert.RefSampleConvIdeal.defs (F := Ideal)) (onTc (τ := Cert.RefSampleConvIdeal.τ) (Cert.RefSampleConvIdeal.main (F := Ideal))) ⟨m', fun _ => 0, g'⟩ (fun r => ∀ c : Dev Cert.RefSampleConvIdeal.nD,
          r.2.mem ((c.tc : Thread Cert.RefSampleConvIdeal.nD Cert.RefSampleConvIdeal.τ).loc Cert.RefSampleConvIdeal.main_v54) = v0 c
          ∧ r.2.mem ((c.tc : Thread Cert.RefSampleConvIdeal.nD Cert.RefSampleConvIdeal.τ).loc Cert.RefSampleConvIdeal.main_v55) = v1 c
          ∧ r.2.mem ((c.tc : Thread Cert.RefSampleConvIdeal.nD Cert.RefSampleConvIdeal.τ).loc Cert.RefSampleConvIdeal.main_arg0) = m' ((c.tc : Thread Cert.RefSampleConvIdeal.nD Cert.RefSampleConvIdeal.τ).loc Cert.RefSampleConvIdeal.main_arg0)
          ∧ r.2.mem ((c.tc : Thread Cert.RefSampleConvIdeal.nD Cert.RefSampleConvIdeal.τ).loc Cert.RefSampleConvIdeal.main_arg1) = m' ((c.tc : Thread Cert.RefSampleConvIdeal.nD Cert.RefSampleConvIdeal.τ).loc Cert.RefSampleConvIdeal.main_arg1)
          ∧ r.2.mem ((c.tc : Thread Cert.RefSampleConvIdeal.nD Cert.RefSampleConvIdeal.τ).loc Cert.RefSampleConvIdeal.main_arg2) = m' ((c.tc : Thread Cert.RefSampleConvIdeal.nD Cert.RefSampleConvIdeal.τ).loc Cert.RefSampleConvIdeal.main_arg2)
          ∧ r.2.mem ((c.tc : Thread Cert.RefSampleConvIdeal.nD Cert.RefSampleConvIdeal.τ).loc Cert.RefSampleConvIdeal.main_arg3) = m' ((c.tc : Thread Cert.RefSampleConvIdeal.nD Cert.RefSampleConvIdeal.τ).loc Cert.RefSampleConvIdeal.main_arg3)
          ∧ r.2.mem ((c.tc : Thread Cert.RefSampleConvIdeal.nD Cert.RefSampleConvIdeal.τ).loc Cert.RefSampleConvIdeal.main_arg4) = m' ((c.tc : Thread Cert.RefSampleConvIdeal.nD Cert.RefSampleConvIdeal.τ).loc Cert.RefSampleConvIdeal.main_arg4)
          ∧ r.2.mem ((c.tc : Thread Cert.RefSampleConvIdeal.nD Cert.RefSampleConvIdeal.τ).loc Cert.RefSampleConvIdeal.main_arg5) = m' ((c.tc : Thread Cert.RefSampleConvIdeal.nD Cert.RefSampleConvIdeal.τ).loc Cert.RefSampleConvIdeal.main_arg5)
          ∧ r.2.mem ((c.tc : Thread Cert.RefSampleConvIdeal.nD Cert.RefSampleConvIdeal.τ).loc Cert.RefSampleConvIdeal.main_arg6) = m' ((c.tc : Thread Cert.RefSampleConvIdeal.nD Cert.RefSampleConvIdeal.τ).loc Cert.RefSampleConvIdeal.main_arg6))

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts) (hRefConvIdeal : Cert.RefConvIdeal.Facts) (hKeysValues : Cert.KeysValues.Facts) (hKeysValuesIdeal : Cert.KeysValuesIdeal.Facts) (hRefKeysValuesIdeal : Cert.RefKeysValuesIdeal.Facts) (hQueries : Cert.Queries.Facts) (hQueriesIdeal : Cert.QueriesIdeal.Facts) (hRefQueriesIdeal : Cert.RefQueriesIdeal.Facts) (hProjectOut : Cert.ProjectOut.Facts) (hProjectOutIdeal : Cert.ProjectOutIdeal.Facts) (hRefProjectOutIdeal : Cert.RefProjectOutIdeal.Facts) (hSample : Cert.Sample.Facts) (hSampleIdeal : Cert.SampleIdeal.Facts) (hRefSampleIdeal : Cert.RefSampleIdeal.Facts) (hSampleKeysValues : Cert.SampleKeysValues.Facts) (hSampleKeysValuesIdeal : Cert.SampleKeysValuesIdeal.Facts) (hRefSampleKeysValuesIdeal : Cert.RefSampleKeysValuesIdeal.Facts) (hSampleQueries : Cert.SampleQueries.Facts) (hSampleQueriesIdeal : Cert.SampleQueriesIdeal.Facts) (hRefSampleQueriesIdeal : Cert.RefSampleQueriesIdeal.Facts) (hSampleProjectOut : Cert.SampleProjectOut.Facts) (hSampleProjectOutIdeal : Cert.SampleProjectOutIdeal.Facts) (hRefSampleProjectOutIdeal : Cert.RefSampleProjectOutIdeal.Facts) (hSampleConv : Cert.SampleConv.Facts) (hSampleConvIdeal : Cert.SampleConvIdeal.Facts) (hRefSampleConvIdeal : Cert.RefSampleConvIdeal.Facts) (hPre_finite : Cert.Pre_finite.Facts) (hPre_finite_sample : Cert.Pre_finite_sample.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Conv (hConv := hConv)
    ∧ quiescent_ConvIdeal (hConvIdeal := hConvIdeal)
    ∧ quiescent_RefConvIdeal (hRefConvIdeal := hRefConvIdeal)
    ∧ quiescent_KeysValues (hKeysValues := hKeysValues)
    ∧ quiescent_KeysValuesIdeal (hKeysValuesIdeal := hKeysValuesIdeal)
    ∧ quiescent_RefKeysValuesIdeal (hRefKeysValuesIdeal := hRefKeysValuesIdeal)
    ∧ quiescent_Queries (hQueries := hQueries)
    ∧ quiescent_QueriesIdeal (hQueriesIdeal := hQueriesIdeal)
    ∧ quiescent_RefQueriesIdeal (hRefQueriesIdeal := hRefQueriesIdeal)
    ∧ quiescent_ProjectOut (hProjectOut := hProjectOut)
    ∧ quiescent_ProjectOutIdeal (hProjectOutIdeal := hProjectOutIdeal)
    ∧ quiescent_RefProjectOutIdeal (hRefProjectOutIdeal := hRefProjectOutIdeal)
    ∧ quiescent_Sample (hSample := hSample)
    ∧ quiescent_SampleIdeal (hSampleIdeal := hSampleIdeal)
    ∧ quiescent_SampleIdeal_pre_finite_sample (hSampleIdeal := hSampleIdeal) (hPre_finite_sample := hPre_finite_sample)
    ∧ quiescent_RefSampleIdeal (hRefSampleIdeal := hRefSampleIdeal)
    ∧ quiescent_RefSampleIdeal_pre_finite_sample (hRefSampleIdeal := hRefSampleIdeal) (hPre_finite_sample := hPre_finite_sample)
    ∧ quiescent_SampleKeysValues (hSampleKeysValues := hSampleKeysValues)
    ∧ quiescent_SampleKeysValuesIdeal (hSampleKeysValuesIdeal := hSampleKeysValuesIdeal)
    ∧ quiescent_RefSampleKeysValuesIdeal (hRefSampleKeysValuesIdeal := hRefSampleKeysValuesIdeal)
    ∧ quiescent_SampleQueries (hSampleQueries := hSampleQueries)
    ∧ quiescent_SampleQueriesIdeal (hSampleQueriesIdeal := hSampleQueriesIdeal)
    ∧ quiescent_RefSampleQueriesIdeal (hRefSampleQueriesIdeal := hRefSampleQueriesIdeal)
    ∧ quiescent_SampleProjectOut (hSampleProjectOut := hSampleProjectOut)
    ∧ quiescent_SampleProjectOutIdeal (hSampleProjectOutIdeal := hSampleProjectOutIdeal)
    ∧ quiescent_RefSampleProjectOutIdeal (hRefSampleProjectOutIdeal := hRefSampleProjectOutIdeal)
    ∧ quiescent_SampleConv (hSampleConv := hSampleConv)
    ∧ quiescent_SampleConvIdeal (hSampleConvIdeal := hSampleConvIdeal)
    ∧ quiescent_RefSampleConvIdeal (hRefSampleConvIdeal := hRefSampleConvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Conv_ConvIdeal
    ∧ algebraic_ConvIdeal_RefConvIdeal (hConvIdeal := hConvIdeal) (hRefConvIdeal := hRefConvIdeal)
    ∧ preserves_KeysValues_KeysValuesIdeal
    ∧ algebraic_KeysValuesIdeal_RefKeysValuesIdeal (hKeysValuesIdeal := hKeysValuesIdeal) (hRefKeysValuesIdeal := hRefKeysValuesIdeal)
    ∧ preserves_Queries_QueriesIdeal
    ∧ algebraic_QueriesIdeal_RefQueriesIdeal (hQueriesIdeal := hQueriesIdeal) (hRefQueriesIdeal := hRefQueriesIdeal)
    ∧ preserves_ProjectOut_ProjectOutIdeal
    ∧ algebraic_ProjectOutIdeal_RefProjectOutIdeal (hProjectOutIdeal := hProjectOutIdeal) (hRefProjectOutIdeal := hRefProjectOutIdeal)
    ∧ preserves_Sample_SampleIdeal
    ∧ algebraic_SampleIdeal_RefSampleIdeal_pre_finite_sample (hSampleIdeal := hSampleIdeal) (hRefSampleIdeal := hRefSampleIdeal) (hPre_finite_sample := hPre_finite_sample)
    ∧ preserves_SampleKeysValues_SampleKeysValuesIdeal
    ∧ algebraic_SampleKeysValuesIdeal_RefSampleKeysValuesIdeal (hSampleKeysValuesIdeal := hSampleKeysValuesIdeal) (hRefSampleKeysValuesIdeal := hRefSampleKeysValuesIdeal)
    ∧ preserves_SampleQueries_SampleQueriesIdeal
    ∧ algebraic_SampleQueriesIdeal_RefSampleQueriesIdeal (hSampleQueriesIdeal := hSampleQueriesIdeal) (hRefSampleQueriesIdeal := hRefSampleQueriesIdeal)
    ∧ preserves_SampleProjectOut_SampleProjectOutIdeal
    ∧ algebraic_SampleProjectOutIdeal_RefSampleProjectOutIdeal (hSampleProjectOutIdeal := hSampleProjectOutIdeal) (hRefSampleProjectOutIdeal := hRefSampleProjectOutIdeal)
    ∧ preserves_SampleConv_SampleConvIdeal
    ∧ algebraic_SampleConvIdeal_RefSampleConvIdeal (hSampleConvIdeal := hSampleConvIdeal) (hRefSampleConvIdeal := hRefSampleConvIdeal)
-- ==== Pre_finite.lean ====
abbrev S32x2048x16x64 : Shape := ⟨4, ![32, 2048, 16, 64]⟩
abbrev S_ : Shape := ⟨0, ![]⟩

class Facts : Prop where
  bcast_S_S32x2048x16x64 : S_.BroadcastsInDim S32x2048x16x64 (![] : Fin 0 → Fin S32x2048x16x64.rank)
  reducesTo_S32x2048x16x64_S_d0_1_2_3 : S32x2048x16x64.ReducesTo [0, 1, 2, 3] S_
  h_S_ : 0 < S_.numel

variable [Facts]

def fn {F : FTy → Type} [FloatOps F] (main_arg0 : FVec F S32x2048x16x64 .f32) (main_arg1 : FVec F S32x2048x16x64 .f32) (main_arg2 : FVec F S32x2048x16x64 .f32) : IVec S_ 1 :=
  let main_v0 : FVec F S32x2048x16x64 .f32 := Host.absf main_arg0
  let main_cst : FVec F S_ .f32 := constant S_ .f32 0x7F800000#32
  let main_v1 : FVec F S32x2048x16x64 .f32 := broadcastInDim S32x2048x16x64 ![] bcast_S_S32x2048x16x64 main_cst
  let main_v2 : IVec S32x2048x16x64 1 := cmpf .olt main_v0 main_v1
  let main_c : IVec S_ 1 := constantI S_ 1 1#1
  let main_v3 : IVec S_ 1 := (fun x v => Host.reduce IntOp.andi x v reducesTo_S32x2048x16x64_S_d0_1_2_3 h_S_) main_v2 main_c
  let main_v4 : FVec F S32x2048x16x64 .f32 := Host.absf main_arg1
  let main_cst_0 : FVec F S_ .f32 := constant S_ .f32 0x7F800000#32
  let main_v5 : FVec F S32x2048x16x64 .f32 := broadcastInDim S32x2048x16x64 ![] bcast_S_S32x2048x16x64 main_cst_0
  let main_v6 : IVec S32x2048x16x64 1 := cmpf .olt main_v4 main_v5
  let main_c_1 : IVec S_ 1 := constantI S_ 1 1#1
  let main_v7 : IVec S_ 1 := (fun x v => Host.reduce IntOp.andi x v reducesTo_S32x2048x16x64_S_d0_1_2_3 h_S_) main_v6 main_c_1
  let main_v8 : IVec S_ 1 := andi main_v3 main_v7
  main_v8
-- ==== Pre_finite_sample.lean ====
abbrev S32x16x16x64 : Shape := ⟨4, ![32, 16, 16, 64]⟩
abbrev S32x1024x16x64 : Shape := ⟨4, ![32, 1024, 16, 64]⟩
abbrev S_ : Shape := ⟨0, ![]⟩

class Facts : Prop where
  bcast_S_S32x16x16x64 : S_.BroadcastsInDim S32x16x16x64 (![] : Fin 0 → Fin S32x16x16x64.rank)
  reducesTo_S32x16x16x64_S_d0_1_2_3 : S32x16x16x64.ReducesTo [0, 1, 2, 3] S_
  h_S_ : 0 < S_.numel
  bcast_S_S32x1024x16x64 : S_.BroadcastsInDim S32x1024x16x64 (![] : Fin 0 → Fin S32x1024x16x64.rank)
  reducesTo_S32x1024x16x64_S_d0_1_2_3 : S32x1024x16x64.ReducesTo [0, 1, 2, 3] S_

variable [Facts]

def fn {F : FTy → Type} [FloatOps F] (main_arg0 : FVec F S32x16x16x64 .f32) (main_arg1 : FVec F S32x1024x16x64 .f32) (main_arg2 : FVec F S32x1024x16x64 .f32) (main_arg3 : FVec F S32x16x16x64 .f32) (main_arg4 : FVec F S32x16x16x64 .f32) : IVec S_ 1 :=
  let main_v0 : FVec F S32x16x16x64 .f32 := Host.absf main_arg0
  let main_cst : FVec F S_ .f32 := constant S_ .f32 0x7F800000#32
  let main_v1 : FVec F S32x16x16x64 .f32 := broadcastInDim S32x16x16x64 ![] bcast_S_S32x16x16x64 main_cst
  let main_v2 : IVec S32x16x16x64 1 := cmpf .olt main_v0 main_v1
  let main_c : IVec S_ 1 := constantI S_ 1 1#1
  let main_v3 : IVec S_ 1 := (fun x v => Host.reduce IntOp.andi x v reducesTo_S32x16x16x64_S_d0_1_2_3 h_S_) main_v2 main_c
  let main_v4 : FVec F S32x1024x16x64 .f32 := Host.absf main_arg1
  let main_cst_0 : FVec F S_ .f32 := constant S_ .f32 0x7F800000#32
  let main_v5 : FVec F S32x1024x16x64 .f32 := broadcastInDim S32x1024x16x64 ![] bcast_S_S32x1024x16x64 main_cst_0
  let main_v6 : IVec S32x1024x16x64 1 := cmpf .olt main_v4 main_v5
  let main_c_1 : IVec S_ 1 := constantI S_ 1 1#1
  let main_v7 : IVec S_ 1 := (fun x v => Host.reduce IntOp.andi x v reducesTo_S32x1024x16x64_S_d0_1_2_3 h_S_) main_v6 main_c_1
  let main_v8 : IVec S_ 1 := andi main_v3 main_v7
  let main_v9 : FVec F S32x16x16x64 .f32 := Host.absf main_arg3
  let main_cst_2 : FVec F S_ .f32 := constant S_ .f32 0x7F800000#32
  let main_v10 : FVec F S32x16x16x64 .f32 := broadcastInDim S32x16x16x64 ![] bcast_S_S32x16x16x64 main_cst_2
  let main_v11 : IVec S32x16x16x64 1 := cmpf .olt main_v9 main_v10
  let main_c_3 : IVec S_ 1 := constantI S_ 1 1#1
  let main_v12 : IVec S_ 1 := (fun x v => Host.reduce IntOp.andi x v reducesTo_S32x16x16x64_S_d0_1_2_3 h_S_) main_v11 main_c_3
  let main_v13 : IVec S_ 1 := andi main_v8 main_v12
  main_v13
-- ==== Kernel.lean ====
abbrev S32x2048x16x64 : Shape := ⟨4, ![32, 2048, 16, 64]⟩
abbrev S32x2048x1024 : Shape := ⟨3, ![32, 2048, 1024]⟩
abbrev S_ : Shape := ⟨0, ![]⟩
abbrev S512x512 : Shape := ⟨2, ![512, 512]⟩
abbrev S1x256x1024 : Shape := ⟨3, ![1, 256, 1024]⟩
abbrev S1x2048x1024 : Shape := ⟨3, ![1, 2048, 1024]⟩
abbrev S1x256x256 : Shape := ⟨3, ![1, 256, 256]⟩
abbrev S256x256 : Shape := ⟨2, ![256, 256]⟩
abbrev S1x256 : Shape := ⟨2, ![1, 256]⟩
abbrev S256x1 : Shape := ⟨2, ![256, 1]⟩
abbrev S1x512x256 : Shape := ⟨3, ![1, 512, 256]⟩
abbrev S512x256 : Shape := ⟨2, ![512, 256]⟩
abbrev S1x512 : Shape := ⟨2, ![1, 512]⟩
abbrev S256x512 : Shape := ⟨2, ![256, 512]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 17
  | .vmem => 9
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x16x64, .f32⟩
  | .hbm, ⟨2, _⟩ => ⟨S32x2048x16x64, .f32⟩
  | .hbm, ⟨3, _⟩ => ⟨S32x2048x1024, .f32⟩
  | .hbm, ⟨4, _⟩ => ⟨S_, .f32⟩
  | .hbm, ⟨5, _⟩ => ⟨S32x2048x1024, .f32⟩
  | .hbm, ⟨6, _⟩ => ⟨S32x2048x1024, .f32⟩
  | .hbm, ⟨7, _⟩ => ⟨S32x2048x1024, .bf16⟩
  | .hbm, ⟨8, _⟩ => ⟨S32x2048x1024, .f32⟩
  | .hbm, ⟨9, _⟩ => ⟨S32x2048x1024, .bf16⟩
  | .hbm, ⟨10, _⟩ => ⟨S32x2048x1024, .f32⟩
  | .hbm, ⟨11, _⟩ => ⟨S32x2048x1024, .bf16⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S512x512, .bf16⟩
  | .hbm, ⟨16, _⟩ => ⟨S32x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S512x512, .bf16⟩
  | .local _ .vmem, ⟨7, _⟩ => ⟨S1x256x1024, .bf16⟩
  | .local _ .vmem, ⟨8, _⟩ => ⟨S1x256x1024, .bf16⟩
  | _, _ => ⟨S32x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_mult1 (i : grid0.Coords) (arg7 : BitVec 32) : BitVec 32 :=
  let c0_i32_8 : BitVec 32 := 0#32
  let arg1 : BitVec 32 := BitVec.ofNat 32 (i 1).val
  let c256_i32 : BitVec 32 := 256#32
  let v48 : BitVec 32 := Scalar.muli arg1 c256_i32
  let v49 : BitVec 32 := Scalar.addi c0_i32_8 v48
  let c256_i32_9 : BitVec 32 := 256#32
  let v50 : BitVec 32 := Scalar.addi v49 c256_i32_9
  let c512_i32_136 : BitVec 32 := 512#32
  let v380 : BitVec 32 := Scalar.muli arg7 c512_i32_136
  let v381 : BitVec 32 := Scalar.subi v50 v380
  let c512_i32_137 : BitVec 32 := 512#32
  let v382 : BitVec 32 := Scalar.subi v381 c512_i32_137
  let c0_i32_138 : BitVec 32 := 0#32
  let v383 : BitVec 32 := Scalar.maxsi v382 c0_i32_138
  v383

def k0_off1 (i : grid0.Coords) (arg7 : BitVec 32) : Fin 3 → Nat :=
  let c0_139 : Index := 0#32
  let c0_i32_8 : BitVec 32 := 0#32
  let arg1 : BitVec 32 := BitVec.ofNat 32 (i 1).val
  let c256_i32 : BitVec 32 := 256#32
  let v48 : BitVec 32 := Scalar.muli arg1 c256_i32
  let v49 : BitVec 32 := Scalar.addi c0_i32_8 v48
  let c256_i32_9 : BitVec 32 := 256#32
  let v50 : BitVec 32 := Scalar.addi v49 c256_i32_9
  let c512_i32_136 : BitVec 32 := 512#32
  let v380 : BitVec 32 := Scalar.muli arg7 c512_i32_136
  let v381 : BitVec 32 := Scalar.subi v50 v380
  let c512_i32_137 : BitVec 32 := 512#32
  let v382 : BitVec 32 := Scalar.subi v381 c512_i32_137
  let c0_i32_138 : BitVec 32 := 0#32
  let v383 : BitVec 32 := Scalar.maxsi v382 c0_i32_138
  let v384 : BitVec 32 := v383
  let v385 : Index := Scalar.indexCast v384
  let c0_140 : Index := 0#32
  ![0, v385.toNat, 0]

def k0_chk1 (i : grid0.Coords) (arg7 : BitVec 32) : Prop :=
  (16 ∣ (k0_mult1 i arg7).toNat) ∧
  (∀ a, (k0_off1 i arg7) a + S1x512x256.size a ≤ S1x2048x1024.size a)
theorem k0_mult1_dvd : ∀ (i : grid0.Coords) (arg7 : BitVec 32) (k0_hw1 : k0_chk1 i arg7), 16 ∣ (k0_mult1 i arg7).toNat := fun i arg7 k0_hw1 => k0_hw1.1
theorem k0_off1_inb : ∀ (i : grid0.Coords) (arg7 : BitVec 32) (k0_hw1 : k0_chk1 i arg7), ∀ a, (k0_off1 i arg7) a + S1x512x256.size a ≤ S1x2048x1024.size a := fun i arg7 k0_hw1 => k0_hw1.2

def k0_mult2 (i : grid0.Coords) (arg7 : BitVec 32) : BitVec 32 :=
  let c0_i32_43 : BitVec 32 := 0#32
  let arg1 : BitVec 32 := BitVec.ofNat 32 (i 1).val
  let c256_i32_42 : BitVec 32 := 256#32
  let v143 : BitVec 32 := Scalar.muli arg1 c256_i32_42
  let v144 : BitVec 32 := Scalar.addi c0_i32_43 v143
  let c256_i32_44 : BitVec 32 := 256#32
  let v145 : BitVec 32 := Scalar.addi v144 c256_i32_44
  let c512_i32_136 : BitVec 32 := 512#32
  let v380 : BitVec 32 := Scalar.muli arg7 c512_i32_136
  let v381 : BitVec 32 := Scalar.subi v145 v380
  let c512_i32_137 : BitVec 32 := 512#32
  let v382 : BitVec 32 := Scalar.subi v381 c512_i32_137
  let c0_i32_138 : BitVec 32 := 0#32
  let v383 : BitVec 32 := Scalar.maxsi v382 c0_i32_138
  v383

def k0_off2 (i : grid0.Coords) (arg7 : BitVec 32) : Fin 3 → Nat :=
  let c0_139 : Index := 0#32
  let c0_i32_43 : BitVec 32 := 0#32
  let arg1 : BitVec 32 := BitVec.ofNat 32 (i 1).val
  let c256_i32_42 : BitVec 32 := 256#32
  let v143 : BitVec 32 := Scalar.muli arg1 c256_i32_42
  let v144 : BitVec 32 := Scalar.addi c0_i32_43 v143
  let c256_i32_44 : BitVec 32 := 256#32
  let v145 : BitVec 32 := Scalar.addi v144 c256_i32_44
  let c512_i32_136 : BitVec 32 := 512#32
  let v380 : BitVec 32 := Scalar.muli arg7 c512_i32_136
  let v381 : BitVec 32 := Scalar.subi v145 v380
  let c512_i32_137 : BitVec 32 := 512#32
  let v382 : BitVec 32 := Scalar.subi v381 c512_i32_137
  let c0_i32_138 : BitVec 32 := 0#32
  let v383 : BitVec 32 := Scalar.maxsi v382 c0_i32_138
  let v384 : BitVec 32 := v383
  let v385 : Index := Scalar.indexCast v384
  let c256_140 : Index := 256#32
  ![0, v385.toNat, 256]

def k0_chk2 (i : grid0.Coords) (arg7 : BitVec 32) : Prop :=
  (16 ∣ (k0_mult2 i arg7).toNat) ∧
  (∀ a, (k0_off2 i arg7) a + S1x512x256.size a ≤ S1x2048x1024.size a)
theorem k0_mult2_dvd : ∀ (i : grid0.Coords) (arg7 : BitVec 32) (k0_hw2 : k0_chk2 i arg7), 16 ∣ (k0_mult2 i arg7).toNat := fun i arg7 k0_hw2 => k0_hw2.1
theorem k0_off2_inb : ∀ (i : grid0.Coords) (arg7 : BitVec 32) (k0_hw2 : k0_chk2 i arg7), ∀ a, (k0_off2 i arg7) a + S1x512x256.size a ≤ S1x2048x1024.size a := fun i arg7 k0_hw2 => k0_hw2.2

def k0_mult3 (i : grid0.Coords) (arg7 : BitVec 32) : BitVec 32 :=
  let c0_i32_79 : BitVec 32 := 0#32
  let arg1 : BitVec 32 := BitVec.ofNat 32 (i 1).val
  let c256_i32_78 : BitVec 32 := 256#32
  let v238 : BitVec 32 := Scalar.muli arg1 c256_i32_78
  let v239 : BitVec 32 := Scalar.addi c0_i32_79 v238
  let c256_i32_80 : BitVec 32 := 256#32
  let v240 : BitVec 32 := Scalar.addi v239 c256_i32_80
  let c512_i32_136 : BitVec 32 := 512#32
  let v380 : BitVec 32 := Scalar.muli arg7 c512_i32_136
  let v381 : BitVec 32 := Scalar.subi v240 v380
  let c512_i32_137 : BitVec 32 := 512#32
  let v382 : BitVec 32 := Scalar.subi v381 c512_i32_137
  let c0_i32_138 : BitVec 32 := 0#32
  let v383 : BitVec 32 := Scalar.maxsi v382 c0_i32_138
  v383

def k0_off3 (i : grid0.Coords) (arg7 : BitVec 32) : Fin 3 → Nat :=
  let c0_139 : Index := 0#32
  let c0_i32_79 : BitVec 32 := 0#32
  let arg1 : BitVec 32 := BitVec.ofNat 32 (i 1).val
  let c256_i32_78 : BitVec 32 := 256#32
  let v238 : BitVec 32 := Scalar.muli arg1 c256_i32_78
  let v239 : BitVec 32 := Scalar.addi c0_i32_79 v238
  let c256_i32_80 : BitVec 32 := 256#32
  let v240 : BitVec 32 := Scalar.addi v239 c256_i32_80
  let c512_i32_136 : BitVec 32 := 512#32
  let v380 : BitVec 32 := Scalar.muli arg7 c512_i32_136
  let v381 : BitVec 32 := Scalar.subi v240 v380
  let c512_i32_137 : BitVec 32 := 512#32
  let v382 : BitVec 32 := Scalar.subi v381 c512_i32_137
  let c0_i32_138 : BitVec 32 := 0#32
  let v383 : BitVec 32 := Scalar.maxsi v382 c0_i32_138
  let v384 : BitVec 32 := v383
  let v385 : Index := Scalar.indexCast v384
  let c512_140 : Index := 512#32
  ![0, v385.toNat, 512]

def k0_chk3 (i : grid0.Coords) (arg7 : BitVec 32) : Prop :=
  (16 ∣ (k0_mult3 i arg7).toNat) ∧
  (∀ a, (k0_off3 i arg7) a + S1x512x256.size a ≤ S1x2048x1024.size a)
theorem k0_mult3_dvd : ∀ (i : grid0.Coords) (arg7 : BitVec 32) (k0_hw3 : k0_chk3 i arg7), 16 ∣ (k0_mult3 i arg7).toNat := fun i arg7 k0_hw3 => k0_hw3.1
theorem k0_off3_inb : ∀ (i : grid0.Coords) (arg7 : BitVec 32) (k0_hw3 : k0_chk3 i arg7), ∀ a, (k0_off3 i arg7) a + S1x512x256.size a ≤ S1x2048x1024.size a := fun i arg7 k0_hw3 => k0_hw3.2

def k0_mult4 (i : grid0.Coords) (arg7 : BitVec 32) : BitVec 32 :=
  let c0_i32_115 : BitVec 32 := 0#32
  let arg1 : BitVec 32 := BitVec.ofNat 32 (i 1).val
  let c256_i32_114 : BitVec 32 := 256#32
  let v333 : BitVec 32 := Scalar.muli arg1 c256_i32_114
  let v334 : BitVec 32 := Scalar.addi c0_i32_115 v333
  let c256_i32_116 : BitVec 32 := 256#32
  let v335 : BitVec 32 := Scalar.addi v334 c256_i32_116
  let c512_i32_136 : BitVec 32 := 512#32
  let v380 : BitVec 32 := Scalar.muli arg7 c512_i32_136
  let v381 : BitVec 32 := Scalar.subi v335 v380
  let c512_i32_137 : BitVec 32 := 512#32
  let v382 : BitVec 32 := Scalar.subi v381 c512_i32_137
  let c0_i32_138 : BitVec 32 := 0#32
  let v383 : BitVec 32 := Scalar.maxsi v382 c0_i32_138
  v383

def k0_off4 (i : grid0.Coords) (arg7 : BitVec 32) : Fin 3 → Nat :=
  let c0_139 : Index := 0#32
  let c0_i32_115 : BitVec 32 := 0#32
  let arg1 : BitVec 32 := BitVec.ofNat 32 (i 1).val
  let c256_i32_114 : BitVec 32 := 256#32
  let v333 : BitVec 32 := Scalar.muli arg1 c256_i32_114
  let v334 : BitVec 32 := Scalar.addi c0_i32_115 v333
  let c256_i32_116 : BitVec 32 := 256#32
  let v335 : BitVec 32 := Scalar.addi v334 c256_i32_116
  let c512_i32_136 : BitVec 32 := 512#32
  let v380 : BitVec 32 := Scalar.muli arg7 c512_i32_136
  let v381 : BitVec 32 := Scalar.subi v335 v380
  let c512_i32_137 : BitVec 32 := 512#32
  let v382 : BitVec 32 := Scalar.subi v381 c512_i32_137
  let c0_i32_138 : BitVec 32 := 0#32
  let v383 : BitVec 32 := Scalar.maxsi v382 c0_i32_138
  let v384 : BitVec 32 := v383
  let v385 : Index := Scalar.indexCast v384
  let c768_140 : Index := 768#32
  ![0, v385.toNat, 768]

def k0_chk4 (i : grid0.Coords) (arg7 : BitVec 32) : Prop :=
  (16 ∣ (k0_mult4 i arg7).toNat) ∧
  (∀ a, (k0_off4 i arg7) a + S1x512x256.size a ≤ S1x2048x1024.size a)
theorem k0_mult4_dvd : ∀ (i : grid0.Coords) (arg7 : BitVec 32) (k0_hw4 : k0_chk4 i arg7), 16 ∣ (k0_mult4 i arg7).toNat := fun i arg7 k0_hw4 => k0_hw4.1
theorem k0_off4_inb : ∀ (i : grid0.Coords) (arg7 : BitVec 32) (k0_hw4 : k0_chk4 i arg7), ∀ a, (k0_off4 i arg7) a + S1x512x256.size a ≤ S1x2048x1024.size a := fun i arg7 k0_hw4 => k0_hw4.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "underflow" => some ⊥
  | _ => none
-- ==== ReferenceIdeal.lean ====
abbrev S32x2048x16x64 : Shape := ⟨4, ![32, 2048, 16, 64]⟩
abbrev S32x16x2048x2048 : Shape := ⟨4, ![32, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x16x64x2048 : Shape := ⟨4, ![32, 16, 64, 2048]⟩
abbrev S32x2048x1024 : Shape := ⟨3, ![32, 2048, 1024]⟩

abbrev nBuf : Space → Nat
  | .hbm => 67
  | .vmem => 0
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x16x64, .f32⟩
  | .hbm, ⟨2, _⟩ => ⟨S32x2048x16x64, .f32⟩
  | .hbm, ⟨3, _⟩ => ⟨S32x16x2048x2048, .f32⟩
  | .hbm, ⟨4, _⟩ => ⟨S_, .f32⟩
  | .hbm, ⟨5, _⟩ => ⟨S32x16x2048x2048, .f32⟩
  | .hbm, ⟨6, _⟩ => ⟨S32x16x2048x2048, .f32⟩
  | .hbm, ⟨7, _⟩ => ⟨S2048, .i32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S32x16x2048x2048, .f32⟩
  | .hbm, ⟨15, _⟩ => ⟨S32x16x2048x2048, .f32⟩
  | .hbm, ⟨16, _⟩ => ⟨S_, .f32⟩
  | .hbm, ⟨17, _⟩ => ⟨S32x16x2048x2048, .f32⟩
  | .hbm, ⟨18, _⟩ => ⟨S32x16x2048x2048, .f32⟩
  | .hbm, ⟨19, _⟩ => ⟨S32x16x2048x2048, .f32⟩
  | .hbm, ⟨20, _⟩ => ⟨S32x16x2048x2048, .f32⟩
  | .hbm, ⟨21, _⟩ => ⟨S32x16x2048x2048, .i1⟩
  | .hbm, ⟨22, _⟩ => ⟨S32x16x2048x2048, .f32⟩
  | .hbm, ⟨23, _⟩ => ⟨S32x16x2048x2048, .f32⟩
  | .hbm, ⟨24, _⟩ => ⟨S32x16x2048x2048, .f32⟩
  | .hbm, ⟨25, _⟩ => ⟨S32x16x2048x2048, .f32⟩
  | .hbm, ⟨26, _⟩ => ⟨S32x16x2048x2048, .f32⟩
  | .hbm, ⟨27, _⟩ => ⟨S32x16x2048x2048, .f32⟩
  | .hbm, ⟨28, _⟩ => ⟨S32x16x2048x2048, .f32⟩
  | .hbm, ⟨29, _⟩ => ⟨S32x16x2048x2048, .f32⟩
  | .hbm, ⟨30, _⟩ => ⟨S32x16x2048x2048, .f32⟩
  | .hbm, ⟨31, _⟩ => ⟨S_, .f32⟩
  | .hbm, ⟨32, _⟩ => ⟨S_, .f32⟩
  | .hbm, ⟨33, _⟩ => ⟨S32x16x2048x2048, .i1⟩
  | .hbm, ⟨34, _⟩ => ⟨S32x16x2048x2048, .f32⟩
  | .hbm, ⟨35, _⟩ => ⟨S32x16x2048x2048, .f32⟩
  | .hbm, ⟨36, _⟩ => ⟨S_, .f32⟩
  | .hbm, ⟨37, _⟩ => ⟨S_, .f32⟩
  | .hbm, ⟨38, _⟩ => ⟨S32x16x2048x2048, .f32⟩
  | .hbm, ⟨39, _⟩ => ⟨S32x16x2048x2048, .f32⟩
  | .hbm, ⟨40, _⟩ => ⟨S32x16x2048x2048, .f32⟩
  | .hbm, ⟨41, _⟩ => ⟨S_, .f32⟩
  | .hbm, ⟨42, _⟩ => ⟨S32x16x2048x2048, .f32⟩
  | .hbm, ⟨43, _⟩ => ⟨S32x16x2048x2048, .f32⟩
  | .hbm, ⟨44, _⟩ => ⟨S32x16x2048x2048, .f32⟩
  | .hbm, ⟨45, _⟩ => ⟨S32x16x2048x2048, .f32⟩
  | .hbm, ⟨46, _⟩ => ⟨S32x16x2048x2048, .i1⟩
  | .hbm, ⟨47, _⟩ => ⟨S32x16x2048x2048, .f32⟩
  | .hbm, ⟨48, _⟩ => ⟨S32x16x2048x2048, .f32⟩
  | .hbm, ⟨49, _⟩ => ⟨S32x16x2048x2048, .f32⟩
  | .hbm, ⟨50, _⟩ => ⟨S32x16x2048x2048, .f32⟩
  | .hbm, ⟨51, _⟩ => ⟨S32x16x2048x2048, .f32⟩
  | .hbm, ⟨52, _⟩ => ⟨S32x16x2048x2048, .f32⟩
  | .hbm, ⟨53, _⟩ => ⟨S32x16x2048x2048, .f32⟩
  | .hbm, ⟨54, _⟩ => ⟨S32x16x2048x2048, .f32⟩
  | .hbm, ⟨55, _⟩ => ⟨S32x16x2048x2048, .f32⟩
  | .hbm, ⟨56, _⟩ => ⟨S32x16x2048x2048, .f32⟩
  | .hbm, ⟨57, _⟩ => ⟨S32x16x2048x2048, .f32⟩
  | .hbm, ⟨58, _⟩ => ⟨S_, .f32⟩
  | .hbm, ⟨59, _⟩ => ⟨S_, .f32⟩
  | .hbm, ⟨60, _⟩ => ⟨S32x16x2048x2048, .i1⟩
  | .hbm, ⟨61, _⟩ => ⟨S32x16x2048x2048, .f32⟩
  | .hbm, ⟨62, _⟩ => ⟨S32x16x2048x2048, .f32⟩
  | .hbm, ⟨63, _⟩ => ⟨S32x16x64x2048, .f32⟩
  | .hbm, ⟨64, _⟩ => ⟨S32x2048x16x64, .f32⟩
  | .hbm, ⟨65, _⟩ => ⟨S32x2048x1024, .f32⟩
  | .hbm, ⟨66, _⟩ => ⟨S32x2048x1024, .bf16⟩
  | _, _ => ⟨S32x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v12 : Ref sig .tc := ⟨.hbm, 35, rfl⟩
abbrev main_call2_cst : Ref sig .tc := ⟨.hbm, 36, rfl⟩
abbrev main_call2_v0 : Ref sig .tc := ⟨.hbm, 37, rfl⟩
abbrev main_v13 : Ref sig .tc := ⟨.hbm, 38, rfl⟩
abbrev main_v14 : Ref sig .tc := ⟨.hbm, 39, rfl⟩
abbrev main_call3_v0 : Ref sig .tc := ⟨.hbm, 40, rfl⟩
abbrev main_call3_call0_cst : Ref sig .tc := ⟨.hbm, 41, rfl⟩
abbrev main_call3_call0_v0 : Ref sig .tc := ⟨.hbm, 42, rfl⟩
abbrev main_call3_call0_v1 : Ref sig .tc := ⟨.hbm, 43, rfl⟩
abbrev main_call3_call0_v2 : Ref sig .tc := ⟨.hbm, 44, rfl⟩
abbrev main_call3_call0_v3 : Ref sig .tc := ⟨.hbm, 45, rfl⟩
abbrev main_call3_call0_v4 : Ref sig .tc := ⟨.hbm, 46, rfl⟩
abbrev main_call3_call0_v5 : Ref sig .tc := ⟨.hbm, 47, rfl⟩
abbrev main_call3_call0_v6 : Ref sig .tc := ⟨.hbm, 48, rfl⟩
abbrev main_call3_call0_v7 : Ref sig .tc := ⟨.hbm, 49, rfl⟩
abbrev main_call3_call0_v8 : Ref sig .tc := ⟨.hbm, 50, rfl⟩
abbrev main_call3_call0_v9 : Ref sig .tc := ⟨.hbm, 51, rfl⟩
abbrev main_call3_call0_v10 : Ref sig .tc := ⟨.hbm, 52, rfl⟩
abbrev main_call3_call0_v11 : Ref sig .tc := ⟨.hbm, 53, rfl⟩
abbrev main_call3_v1 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩

abbrev nD : Nat := 1
abbrev τ : Topo := Topo.v7x

variable {F : FTy → Type} [FloatOps F]
-- ==== Conv.lean ====
abbrev S32x2048x1024 : Shape := ⟨3, ![32, 2048, 1024]⟩
abbrev S32x2x1024 : Shape := ⟨3, ![32, 2, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x2x1024 : Shape := ⟨3, ![1, 2, 1024]⟩
abbrev S8x1024 : Shape := ⟨2, ![8, 1024]⟩
abbrev S512x1024 : Shape := ⟨2, ![512, 1024]⟩
abbrev S512x3072 : Shape := ⟨2, ![512, 3072]⟩
abbrev S2x1024 : Shape := ⟨2, ![2, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x2x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x3072, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S32x2048x1024, .f32⟩
  | .hbm, ⟨12, _⟩ => ⟨S32x2x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1024x3072, .bf16⟩
  | .local _ .vmem, ⟨5, _⟩ => ⟨S3x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x2x1024, .f32⟩
  | .local _ .vmem, ⟨12, _⟩ => ⟨S1x2x1024, .f32⟩
  | .local _ .vmem, ⟨13, _⟩ => ⟨S8x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v83 : BitVec 1 := Scalar.cmpi .eq arg1 c3_i32
  let v84 : BitVec 32 := Scalar.extui v83
  let c0_i32_34 : BitVec 32 := 0#32
  let v85 : BitVec 1 := Scalar.cmpi .ne v84 c0_i32_34
  v85

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvIdeal.lean ====
abbrev S32x2048x1024 : Shape := ⟨3, ![32, 2048, 1024]⟩
abbrev S32x2x1024 : Shape := ⟨3, ![32, 2, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x2x1024 : Shape := ⟨3, ![1, 2, 1024]⟩
abbrev S8x1024 : Shape := ⟨2, ![8, 1024]⟩
abbrev S512x1024 : Shape := ⟨2, ![512, 1024]⟩
abbrev S512x3072 : Shape := ⟨2, ![512, 3072]⟩
abbrev S2x1024 : Shape := ⟨2, ![2, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x2x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x3072, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S32x2048x1024, .f32⟩
  | .hbm, ⟨12, _⟩ => ⟨S32x2x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1024x3072, .bf16⟩
  | .local _ .vmem, ⟨5, _⟩ => ⟨S3x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x2x1024, .f32⟩
  | .local _ .vmem, ⟨12, _⟩ => ⟨S1x2x1024, .f32⟩
  | .local _ .vmem, ⟨13, _⟩ => ⟨S8x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v83 : BitVec 1 := Scalar.cmpi .eq arg1 c3_i32
  let v84 : BitVec 32 := Scalar.extui v83
  let c0_i32_34 : BitVec 32 := 0#32
  let v85 : BitVec 1 := Scalar.cmpi .ne v84 c0_i32_34
  v85

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefConvIdeal.lean ====
abbrev S32x2048x1024 : Shape := ⟨3, ![32, 2048, 1024]⟩
abbrev S32x2x1024 : Shape := ⟨3, ![32, 2, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S32x2048x3072 : Shape := ⟨3, ![32, 2048, 3072]⟩
abbrev S32x2050x1024 : Shape := ⟨3, ![32, 2050, 1024]⟩
abbrev S1x1024 : Shape := ⟨2, ![1, 1024]⟩
abbrev S1x1x1024 : Shape := ⟨3, ![1, 1, 1024]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S32x2048x3072, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2050x1024, .f32⟩
  | .hbm, ⟨13, _⟩ => ⟨S1x1024, .f32⟩
  | .hbm, ⟨14, _⟩ => ⟨S1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S1x1024, .f32⟩
  | .hbm, ⟨20, _⟩ => ⟨S1024, .f32⟩
  | .hbm, ⟨21, _⟩ => ⟨S32x2048x1024, .f32⟩
  | .hbm, ⟨22, _⟩ => ⟨S1x1x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S1x1024, .f32⟩
  | .hbm, ⟨27, _⟩ => ⟨S1024, .f32⟩
  | .hbm, ⟨28, _⟩ => ⟨S32x2048x1024, .f32⟩
  | .hbm, ⟨29, _⟩ => ⟨S1x1x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S_, .f32⟩
  | .hbm, ⟨40, _⟩ => ⟨S32x2048, .f32⟩
  | .hbm, ⟨41, _⟩ => ⟨S32x2048x1, .f32⟩
  | .hbm, ⟨42, _⟩ => ⟨S_, .f32⟩
  | .hbm, ⟨43, _⟩ => ⟨S32x2048x1, .f32⟩
  | .hbm, ⟨44, _⟩ => ⟨S32x2048x1, .f32⟩
  | .hbm, ⟨45, _⟩ => ⟨S32x2048x1024, .f32⟩
  | .hbm, ⟨46, _⟩ => ⟨S32x2048x1024, .f32⟩
  | .hbm, ⟨47, _⟩ => ⟨S32x2048x1024, .f32⟩
  | .hbm, ⟨48, _⟩ => ⟨S_, .f32⟩
  | .hbm, ⟨49, _⟩ => ⟨S32x2048, .f32⟩
  | .hbm, ⟨50, _⟩ => ⟨S32x2048x1, .f32⟩
  | .hbm, ⟨51, _⟩ => ⟨S_, .f32⟩
  | .hbm, ⟨52, _⟩ => ⟨S32x2048x1, .f32⟩
  | .hbm, ⟨53, _⟩ => ⟨S32x2048x1, .f32⟩
  | .hbm, ⟨54, _⟩ => ⟨S32x2048x1024, .f32⟩
  | .hbm, ⟨55, _⟩ => ⟨S32x2048x1024, .f32⟩
  | .hbm, ⟨56, _⟩ => ⟨S_, .f32⟩
  | .hbm, ⟨57, _⟩ => ⟨S32x2048x1, .f32⟩
  | .hbm, ⟨58, _⟩ => ⟨S32x2048x1, .f32⟩
  | .hbm, ⟨59, _⟩ => ⟨S32x2048x1, .f32⟩
  | .hbm, ⟨60, _⟩ => ⟨S32x2048x1024, .f32⟩
  | .hbm, ⟨61, _⟩ => ⟨S32x2048x1024, .f32⟩
  | .hbm, ⟨62, _⟩ => ⟨S1x1x1024, .f32⟩
  | .hbm, ⟨63, _⟩ => ⟨S32x2048x1024, .f32⟩
  | .hbm, ⟨64, _⟩ => ⟨S32x2048x1024, .f32⟩
  | .hbm, ⟨65, _⟩ => ⟨S1x1x1024, .f32⟩
  | .hbm, ⟨66, _⟩ => ⟨S32x2048x1024, .f32⟩
  | .hbm, ⟨67, _⟩ => ⟨S32x2048x1024, .f32⟩
  | .hbm, ⟨68, _⟩ => ⟨S32x2x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== KeysValues.lean ====
abbrev S32x2048x1024 : Shape := ⟨3, ![32, 2048, 1024]⟩
abbrev S1024x1024 : Shape := ⟨2, ![1024, 1024]⟩
abbrev S1024x2048 : Shape := ⟨2, ![1024, 2048]⟩
abbrev S65536x1024 : Shape := ⟨2, ![65536, 1024]⟩
abbrev S512x1024 : Shape := ⟨2, ![512, 1024]⟩
abbrev S512x2048 : Shape := ⟨2, ![512, 2048]⟩
abbrev S32x2048x16x64 : Shape := ⟨4, ![32, 2048, 16, 64]⟩

abbrev nBuf : Space → Nat
  | .hbm => 14
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .bf16⟩
  | .hbm, ⟨5, _⟩ => ⟨S65536x1024, .f32⟩
  | .hbm, ⟨6, _⟩ => ⟨S65536x1024, .f32⟩
  | .hbm, ⟨7, _⟩ => ⟨S65536x1024, .f32⟩
  | .hbm, ⟨8, _⟩ => ⟨S65536x1024, .bf16⟩
  | .hbm, ⟨9, _⟩ => ⟨S65536x1024, .bf16⟩
  | .hbm, ⟨10, _⟩ => ⟨S32x2048x16x64, .f32⟩
  | .hbm, ⟨11, _⟩ => ⟨S32x2048x16x64, .f32⟩
  | .hbm, ⟨12, _⟩ => ⟨S32x2048x1024, .bf16⟩
  | .hbm, ⟨13, _⟩ => ⟨S32x2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KeysValuesIdeal.lean ====
abbrev S32x2048x1024 : Shape := ⟨3, ![32, 2048, 1024]⟩
abbrev S1024x1024 : Shape := ⟨2, ![1024, 1024]⟩
abbrev S1024x2048 : Shape := ⟨2, ![1024, 2048]⟩
abbrev S65536x1024 : Shape := ⟨2, ![65536, 1024]⟩
abbrev S512x1024 : Shape := ⟨2, ![512, 1024]⟩
abbrev S512x2048 : Shape := ⟨2, ![512, 2048]⟩
abbrev S32x2048x16x64 : Shape := ⟨4, ![32, 2048, 16, 64]⟩

abbrev nBuf : Space → Nat
  | .hbm => 14
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .bf16⟩
  | .hbm, ⟨5, _⟩ => ⟨S65536x1024, .f32⟩
  | .hbm, ⟨6, _⟩ => ⟨S65536x1024, .f32⟩
  | .hbm, ⟨7, _⟩ => ⟨S65536x1024, .f32⟩
  | .hbm, ⟨8, _⟩ => ⟨S65536x1024, .bf16⟩
  | .hbm, ⟨9, _⟩ => ⟨S65536x1024, .bf16⟩
  | .hbm, ⟨10, _⟩ => ⟨S32x2048x16x64, .f32⟩
  | .hbm, ⟨11, _⟩ => ⟨S32x2048x16x64, .f32⟩
  | .hbm, ⟨12, _⟩ => ⟨S32x2048x1024, .bf16⟩
  | .hbm, ⟨13, _⟩ => ⟨S32x2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefKeysValuesIdeal.lean ====
abbrev S32x2048x1024 : Shape := ⟨3, ![32, 2048, 1024]⟩
abbrev S1024x1024 : Shape := ⟨2, ![1024, 1024]⟩
abbrev S32x2048x16x64 : Shape := ⟨4, ![32, 2048, 16, 64]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S1024x1024, .f32⟩
  | .hbm, ⟨3, _⟩ => ⟨S32x2048x1024, .f32⟩
  | .hbm, ⟨4, _⟩ => ⟨S32x2048x1024, .f32⟩
  | .hbm, ⟨5, _⟩ => ⟨S32x2048x16x64, .f32⟩
  | .hbm, ⟨6, _⟩ => ⟨S32x2048x16x64, .f32⟩
  | .hbm, ⟨7, _⟩ => ⟨S32x2048x1024, .bf16⟩
  | .hbm, ⟨8, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Queries.lean ====
abbrev S32x2048x1024 : Shape := ⟨3, ![32, 2048, 1024]⟩
abbrev S1024x1024 : Shape := ⟨2, ![1024, 1024]⟩
abbrev S65536x1024 : Shape := ⟨2, ![65536, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S65536x1024, .f32⟩
  | .hbm, ⟨3, _⟩ => ⟨S1024x1024, .bf16⟩
  | .hbm, ⟨4, _⟩ => ⟨S65536x1024, .bf16⟩
  | .hbm, ⟨5, _⟩ => ⟨S32x2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QueriesIdeal.lean ====
abbrev S32x2048x1024 : Shape := ⟨3, ![32, 2048, 1024]⟩
abbrev S1024x1024 : Shape := ⟨2, ![1024, 1024]⟩
abbrev S65536x1024 : Shape := ⟨2, ![65536, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S65536x1024, .f32⟩
  | .hbm, ⟨3, _⟩ => ⟨S1024x1024, .bf16⟩
  | .hbm, ⟨4, _⟩ => ⟨S65536x1024, .bf16⟩
  | .hbm, ⟨5, _⟩ => ⟨S32x2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefQueriesIdeal.lean ====
abbrev S32x2048x1024 : Shape := ⟨3, ![32, 2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S32x2048x1024, .f32⟩
  | .hbm, ⟨3, _⟩ => ⟨S_, .f32⟩
  | .hbm, ⟨4, _⟩ => ⟨S32x2048x1024, .f32⟩
  | .hbm, ⟨5, _⟩ => ⟨S32x2048x1024, .f32⟩
  | .hbm, ⟨6, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjectOut.lean ====
abbrev S32x2048x1024 : Shape := ⟨3, ![32, 2048, 1024]⟩
abbrev S1024x1024 : Shape := ⟨2, ![1024, 1024]⟩
abbrev S1024 : Shape := ⟨1, ![1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S65536x1024, .f32⟩
  | .hbm, ⟨6, _⟩ => ⟨S65536x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S65536x1024, .f32⟩
  | .hbm, ⟨11, _⟩ => ⟨S32x2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjectOutIdeal.lean ====
abbrev S32x2048x1024 : Shape := ⟨3, ![32, 2048, 1024]⟩
abbrev S1024x1024 : Shape := ⟨2, ![1024, 1024]⟩
abbrev S1024 : Shape := ⟨1, ![1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S65536x1024, .f32⟩
  | .hbm, ⟨6, _⟩ => ⟨S65536x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S65536x1024, .f32⟩
  | .hbm, ⟨11, _⟩ => ⟨S32x2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefProjectOutIdeal.lean ====
abbrev S32x2048x1024 : Shape := ⟨3, ![32, 2048, 1024]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32x2048x1024, .f32⟩
  | .hbm, ⟨7, _⟩ => ⟨S32x2048x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S_, .f32⟩
  | .hbm, ⟨21, _⟩ => ⟨S32x2048, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S32x2048x1024, .f32⟩
  | .hbm, ⟨27, _⟩ => ⟨S32x2048x1024, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S32x2048x1, .f32⟩
  | .hbm, ⟨32, _⟩ => ⟨S32x2048x1024, .f32⟩
  | .hbm, ⟨33, _⟩ => ⟨S32x2048x1024, .f32⟩
  | .hbm, ⟨34, _⟩ => ⟨S1x1x1024, .f32⟩
  | .hbm, ⟨35, _⟩ => ⟨S32x2048x1024, .f32⟩
  | .hbm, ⟨36, _⟩ => ⟨S32x2048x1024, .f32⟩
  | .hbm, ⟨37, _⟩ => ⟨S1x1x1024, .f32⟩
  | .hbm, ⟨38, _⟩ => ⟨S32x2048x1024, .f32⟩
  | .hbm, ⟨39, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Sample.lean ====
abbrev S32x16x16x64 : Shape := ⟨4, ![32, 16, 16, 64]⟩
abbrev S32x1024x16x64 : Shape := ⟨4, ![32, 1024, 16, 64]⟩
abbrev S32x16x1024 : Shape := ⟨3, ![32, 16, 1024]⟩
abbrev S_ : Shape := ⟨0, ![]⟩
abbrev S32x1024x1024 : Shape := ⟨3, ![32, 1024, 1024]⟩
abbrev S32x1040x1024 : Shape := ⟨3, ![32, 1040, 1024]⟩
abbrev S512x512 : Shape := ⟨2, ![512, 512]⟩
abbrev S1x16x1024 : Shape := ⟨3, ![1, 16, 1024]⟩
abbrev S1x1040x1024 : Shape := ⟨3, ![1, 1040, 1024]⟩
abbrev S1x16x256 : Shape := ⟨3, ![1, 16, 256]⟩
abbrev S16x256 : Shape := ⟨2, ![16, 256]⟩
abbrev S1x256 : Shape := ⟨2, ![1, 256]⟩
abbrev S16x1 : Shape := ⟨2, ![16, 1]⟩
abbrev S1x512x256 : Shape := ⟨3, ![1, 512, 256]⟩
abbrev S512x256 : Shape := ⟨2, ![512, 256]⟩
abbrev S1x512 : Shape := ⟨2, ![1, 512]⟩
abbrev S16x512 : Shape := ⟨2, ![16, 512]⟩
abbrev S16 : Shape := ⟨1, ![16]⟩
abbrev S1x16x1 : Shape := ⟨3, ![1, 16, 1]⟩
abbrev S1 : Shape := ⟨1, ![1]⟩
abbrev S1x1x1 : Shape := ⟨3, ![1, 1, 1]⟩

abbrev nBuf : Space → Nat
  | .hbm => 25
  | .vmem => 9
  | .smem => 0
  | _ => 0

abbrev bufTy : (tb : Table) → Fin (tcTables nBuf tb) → BufTy
  | .hbm, ⟨0, _⟩ => ⟨S32x16x16x64, .f32⟩
  | .hbm, ⟨1, _⟩ => ⟨S32x1024x16x64, .f32⟩
  | .hbm, ⟨2, _⟩ => ⟨S32x1024x16x64, .f32⟩
  | .hbm, ⟨3, _⟩ => ⟨S32x16x16x64, .f32⟩
  | .hbm, ⟨4, _⟩ => ⟨S32x16x16x64, .f32⟩
  | .hbm, ⟨5, _⟩ => ⟨S32x16x1024, .f32⟩
  | .hbm, ⟨6, _⟩ => ⟨S_, .f32⟩
  | .hbm, ⟨7, _⟩ => ⟨S32x16x1024, .f32⟩
  | .hbm, ⟨8, _⟩ => ⟨S32x16x1024, .f32⟩
  | .hbm, ⟨9, _⟩ => ⟨S32x16x1024, .bf16⟩
  | .hbm, ⟨10, _⟩ => ⟨S32x16x1024, .f32⟩
  | .hbm, ⟨11, _⟩ => ⟨S32x16x1024, .bf16⟩
  | .hbm, ⟨12, _⟩ => ⟨S32x16x1024, .f32⟩
  | .hbm, ⟨13, _⟩ => ⟨S32x16x1024, .bf16⟩
  | .hbm, ⟨14, _⟩ => ⟨S32x1024x1024, .f32⟩
  | .hbm, ⟨15, _⟩ => ⟨S32x1024x1024, .bf16⟩
  | .hbm, ⟨16, _⟩ => ⟨S32x1040x1024, .bf16⟩
  | .hbm, ⟨17, _⟩ => ⟨S32x1024x1024, .f32⟩
  | .hbm, ⟨18, _⟩ => ⟨S32x1024x1024, .bf16⟩
  | .hbm, ⟨19, _⟩ => ⟨S32x1040x1024, .bf16⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .bf16⟩
  | .hbm, ⟨24, _⟩ => ⟨S32x16x1024, .bf16⟩
  | .local _ .vmem, ⟨0, _⟩ => ⟨S1x16x1024, .bf16⟩
  | .local _ .vmem, ⟨1, _⟩ => ⟨S1x16x1024, .bf16⟩
  | .local _ .vmem, ⟨2, _⟩ => ⟨S1x1040x1024, .bf16⟩
  | .local _ .vmem, ⟨3, _⟩ => ⟨S1x1040x1024, .bf16⟩
  | .local _ .vmem, ⟨4, _⟩ => ⟨S1x1040x1024, .bf16⟩
  | .local _ .vmem, ⟨5, _⟩ => ⟨S1x1040x1024, .bf16⟩
  | .local _ .vmem, ⟨6, _⟩ => ⟨S512x512, .bf16⟩
  | .local _ .vmem, ⟨7, _⟩ => ⟨S1x16x1024, .bf16⟩
  | .local _ .vmem, ⟨8, _⟩ => ⟨S1x16x1024, .bf16⟩
  | _, _ => ⟨S32x16x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def k0_mult1 (i : grid0.Coords) (arg7 : BitVec 32) : BitVec 32 :=
  let c1024_i32 : BitVec 32 := 1024#32
  let arg1 : BitVec 32 := BitVec.ofNat 32 (i 1).val
  let c16_i32 : BitVec 32 := 16#32
  let v48 : BitVec 32 := Scalar.muli arg1 c16_i32
  let v49 : BitVec 32 := Scalar.addi c1024_i32 v48
  let c16_i32_8 : BitVec 32 := 16#32
  let v50 : BitVec 32 := Scalar.addi v49 c16_i32_8
  let c512_i32_135 : BitVec 32 := 512#32
  let v380 : BitVec 32 := Scalar.muli arg7 c512_i32_135
  let v381 : BitVec 32 := Scalar.subi v50 v380
  let c512_i32_136 : BitVec 32 := 512#32
  let v382 : BitVec 32 := Scalar.subi v381 c512_i32_136
  let c0_i32_137 : BitVec 32 := 0#32
  let v383 : BitVec 32 := Scalar.maxsi v382 c0_i32_137
  v383

def k0_off1 (i : grid0.Coords) (arg7 : BitVec 32) : Fin 3 → Nat :=
  let c0_138 : Index := 0#32
  let c1024_i32 : BitVec 32 := 1024#32
  let arg1 : BitVec 32 := BitVec.ofNat 32 (i 1).val
  let c16_i32 : BitVec 32 := 16#32
  let v48 : BitVec 32 := Scalar.muli arg1 c16_i32
  let v49 : BitVec 32 := Scalar.addi c1024_i32 v48
  let c16_i32_8 : BitVec 32 := 16#32
  let v50 : BitVec 32 := Scalar.addi v49 c16_i32_8
  let c512_i32_135 : BitVec 32 := 512#32
  let v380 : BitVec 32 := Scalar.muli arg7 c512_i32_135
  let v381 : BitVec 32 := Scalar.subi v50 v380
  let c512_i32_136 : BitVec 32 := 512#32
  let v382 : BitVec 32 := Scalar.subi v381 c512_i32_136
  let c0_i32_137 : BitVec 32 := 0#32
  let v383 : BitVec 32 := Scalar.maxsi v382 c0_i32_137
  let v384 : BitVec 32 := v383
  let v385 : Index := Scalar.indexCast v384
  let c0_139 : Index := 0#32
  ![0, v385.toNat, 0]

def k0_chk1 (i : grid0.Coords) (arg7 : BitVec 32) : Prop :=
  (16 ∣ (k0_mult1 i arg7).toNat) ∧
  (∀ a, (k0_off1 i arg7) a + S1x512x256.size a ≤ S1x1040x1024.size a)
theorem k0_mult1_dvd : ∀ (i : grid0.Coords) (arg7 : BitVec 32) (k0_hw1 : k0_chk1 i arg7), 16 ∣ (k0_mult1 i arg7).toNat := fun i arg7 k0_hw1 => k0_hw1.1
theorem k0_off1_inb : ∀ (i : grid0.Coords) (arg7 : BitVec 32) (k0_hw1 : k0_chk1 i arg7), ∀ a, (k0_off1 i arg7) a + S1x512x256.size a ≤ S1x1040x1024.size a := fun i arg7 k0_hw1 => k0_hw1.2

def k0_mult2 (i : grid0.Coords) (arg7 : BitVec 32) : BitVec 32 :=
  let c1024_i32_42 : BitVec 32 := 1024#32
  let arg1 : BitVec 32 := BitVec.ofNat 32 (i 1).val
  let c16_i32_41 : BitVec 32 := 16#32
  let v143 : BitVec 32 := Scalar.muli arg1 c16_i32_41
  let v144 : BitVec 32 := Scalar.addi c1024_i32_42 v143
  let c16_i32_43 : BitVec 32 := 16#32
  let v145 : BitVec 32 := Scalar.addi v144 c16_i32_43
  let c512_i32_135 : BitVec 32 := 512#32
  let v380 : BitVec 32 := Scalar.muli arg7 c512_i32_135
  let v381 : BitVec 32 := Scalar.subi v145 v380
  let c512_i32_136 : BitVec 32 := 512#32
  let v382 : BitVec 32 := Scalar.subi v381 c512_i32_136
  let c0_i32_137 : BitVec 32 := 0#32
  let v383 : BitVec 32 := Scalar.maxsi v382 c0_i32_137
  v383

def k0_off2 (i : grid0.Coords) (arg7 : BitVec 32) : Fin 3 → Nat :=
  let c0_138 : Index := 0#32
  let c1024_i32_42 : BitVec 32 := 1024#32
  let arg1 : BitVec 32 := BitVec.ofNat 32 (i 1).val
  let c16_i32_41 : BitVec 32 := 16#32
  let v143 : BitVec 32 := Scalar.muli arg1 c16_i32_41
  let v144 : BitVec 32 := Scalar.addi c1024_i32_42 v143
  let c16_i32_43 : BitVec 32 := 16#32
  let v145 : BitVec 32 := Scalar.addi v144 c16_i32_43
  let c512_i32_135 : BitVec 32 := 512#32
  let v380 : BitVec 32 := Scalar.muli arg7 c512_i32_135
  let v381 : BitVec 32 := Scalar.subi v145 v380
  let c512_i32_136 : BitVec 32 := 512#32
  let v382 : BitVec 32 := Scalar.subi v381 c512_i32_136
  let c0_i32_137 : BitVec 32 := 0#32
  let v383 : BitVec 32 := Scalar.maxsi v382 c0_i32_137
  let v384 : BitVec 32 := v383
  let v385 : Index := Scalar.indexCast v384
  let c256_139 : Index := 256#32
  ![0, v385.toNat, 256]

def k0_chk2 (i : grid0.Coords) (arg7 : BitVec 32) : Prop :=
  (16 ∣ (k0_mult2 i arg7).toNat) ∧
  (∀ a, (k0_off2 i arg7) a + S1x512x256.size a ≤ S1x1040x1024.size a)
theorem k0_mult2_dvd : ∀ (i : grid0.Coords) (arg7 : BitVec 32) (k0_hw2 : k0_chk2 i arg7), 16 ∣ (k0_mult2 i arg7).toNat := fun i arg7 k0_hw2 => k0_hw2.1
theorem k0_off2_inb : ∀ (i : grid0.Coords) (arg7 : BitVec 32) (k0_hw2 : k0_chk2 i arg7), ∀ a, (k0_off2 i arg7) a + S1x512x256.size a ≤ S1x1040x1024.size a := fun i arg7 k0_hw2 => k0_hw2.2

def k0_mult3 (i : grid0.Coords) (arg7 : BitVec 32) : BitVec 32 :=
  let c1024_i32_78 : BitVec 32 := 1024#32
  let arg1 : BitVec 32 := BitVec.ofNat 32 (i 1).val
  let c16_i32_77 : BitVec 32 := 16#32
  let v238 : BitVec 32 := Scalar.muli arg1 c16_i32_77
  let v239 : BitVec 32 := Scalar.addi c1024_i32_78 v238
  let c16_i32_79 : BitVec 32 := 16#32
  let v240 : BitVec 32 := Scalar.addi v239 c16_i32_79
  let c512_i32_135 : BitVec 32 := 512#32
  let v380 : BitVec 32 := Scalar.muli arg7 c512_i32_135
  let v381 : BitVec 32 := Scalar.subi v240 v380
  let c512_i32_136 : BitVec 32 := 512#32
  let v382 : BitVec 32 := Scalar.subi v381 c512_i32_136
  let c0_i32_137 : BitVec 32 := 0#32
  let v383 : BitVec 32 := Scalar.maxsi v382 c0_i32_137
  v383

def k0_off3 (i : grid0.Coords) (arg7 : BitVec 32) : Fin 3 → Nat :=
  let c0_138 : Index := 0#32
  let c1024_i32_78 : BitVec 32 := 1024#32
  let arg1 : BitVec 32 := BitVec.ofNat 32 (i 1).val
  let c16_i32_77 : BitVec 32 := 16#32
  let v238 : BitVec 32 := Scalar.muli arg1 c16_i32_77
  let v239 : BitVec 32 := Scalar.addi c1024_i32_78 v238
  let c16_i32_79 : BitVec 32 := 16#32
  let v240 : BitVec 32 := Scalar.addi v239 c16_i32_79
  let c512_i32_135 : BitVec 32 := 512#32
  let v380 : BitVec 32 := Scalar.muli arg7 c512_i32_135
  let v381 : BitVec 32 := Scalar.subi v240 v380
  let c512_i32_136 : BitVec 32 := 512#32
  let v382 : BitVec 32 := Scalar.subi v381 c512_i32_136
  let c0_i32_137 : BitVec 32 := 0#32
  let v383 : BitVec 32 := Scalar.maxsi v382 c0_i32_137
  let v384 : BitVec 32 := v383
  let v385 : Index := Scalar.indexCast v384
  let c512_139 : Index := 512#32
  ![0, v385.toNat, 512]

def k0_chk3 (i : grid0.Coords) (arg7 : BitVec 32) : Prop :=
  (16 ∣ (k0_mult3 i arg7).toNat) ∧
  (∀ a, (k0_off3 i arg7) a + S1x512x256.size a ≤ S1x1040x1024.size a)
theorem k0_mult3_dvd : ∀ (i : grid0.Coords) (arg7 : BitVec 32) (k0_hw3 : k0_chk3 i arg7), 16 ∣ (k0_mult3 i arg7).toNat := fun i arg7 k0_hw3 => k0_hw3.1
theorem k0_off3_inb : ∀ (i : grid0.Coords) (arg7 : BitVec 32) (k0_hw3 : k0_chk3 i arg7), ∀ a, (k0_off3 i arg7) a + S1x512x256.size a ≤ S1x1040x1024.size a := fun i arg7 k0_hw3 => k0_hw3.2

def k0_mult4 (i : grid0.Coords) (arg7 : BitVec 32) : BitVec 32 :=
  let c1024_i32_114 : BitVec 32 := 1024#32
  let arg1 : BitVec 32 := BitVec.ofNat 32 (i 1).val
  let c16_i32_113 : BitVec 32 := 16#32
  let v333 : BitVec 32 := Scalar.muli arg1 c16_i32_113
  let v334 : BitVec 32 := Scalar.addi c1024_i32_114 v333
  let c16_i32_115 : BitVec 32 := 16#32
  let v335 : BitVec 32 := Scalar.addi v334 c16_i32_115
  let c512_i32_135 : BitVec 32 := 512#32
  let v380 : BitVec 32 := Scalar.muli arg7 c512_i32_135
  let v381 : BitVec 32 := Scalar.subi v335 v380
  let c512_i32_136 : BitVec 32 := 512#32
  let v382 : BitVec 32 := Scalar.subi v381 c512_i32_136
  let c0_i32_137 : BitVec 32 := 0#32
  let v383 : BitVec 32 := Scalar.maxsi v382 c0_i32_137
  v383

def k0_off4 (i : grid0.Coords) (arg7 : BitVec 32) : Fin 3 → Nat :=
  let c0_138 : Index := 0#32
  let c1024_i32_114 : BitVec 32 := 1024#32
  let arg1 : BitVec 32 := BitVec.ofNat 32 (i 1).val
  let c16_i32_113 : BitVec 32 := 16#32
  let v333 : BitVec 32 := Scalar.muli arg1 c16_i32_113
  let v334 : BitVec 32 := Scalar.addi c1024_i32_114 v333
  let c16_i32_115 : BitVec 32 := 16#32
  let v335 : BitVec 32 := Scalar.addi v334 c16_i32_115
  let c512_i32_135 : BitVec 32 := 512#32
  let v380 : BitVec 32 := Scalar.muli arg7 c512_i32_135
  let v381 : BitVec 32 := Scalar.subi v335 v380
  let c512_i32_136 : BitVec 32 := 512#32
  let v382 : BitVec 32 := Scalar.subi v381 c512_i32_136
  let c0_i32_137 : BitVec 32 := 0#32
  let v383 : BitVec 32 := Scalar.maxsi v382 c0_i32_137
  let v384 : BitVec 32 := v383
  let v385 : Index := Scalar.indexCast v384
  let c768_139 : Index := 768#32
  ![0, v385.toNat, 768]

def k0_chk4 (i : grid0.Coords) (arg7 : BitVec 32) : Prop :=
  (16 ∣ (k0_mult4 i arg7).toNat) ∧
  (∀ a, (k0_off4 i arg7) a + S1x512x256.size a ≤ S1x1040x1024.size a)
theorem k0_mult4_dvd : ∀ (i : grid0.Coords) (arg7 : BitVec 32) (k0_hw4 : k0_chk4 i arg7), 16 ∣ (k0_mult4 i arg7).toNat := fun i arg7 k0_hw4 => k0_hw4.1
theorem k0_off4_inb : ∀ (i : grid0.Coords) (arg7 : BitVec 32) (k0_hw4 : k0_chk4 i arg7), ∀ a, (k0_off4 i arg7) a + S1x512x256.size a ≤ S1x1040x1024.size a := fun i arg7 k0_hw4 => k0_hw4.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1040x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SampleIdeal.lean ====
variable {F : FTy → Type} [FloatOps F] [Named F]
def κ : String → Option EReal := fun
  | "underflow" => some ⊥
  | _ => none
-- ==== RefSampleIdeal.lean ====
abbrev S32x16x16x64 : Shape := ⟨4, ![32, 16, 16, 64]⟩
abbrev S32x1024x16x64 : Shape := ⟨4, ![32, 1024, 16, 64]⟩
abbrev S32x1040x16x64 : Shape := ⟨4, ![32, 1040, 16, 64]⟩
abbrev S32x16x16x1040 : Shape := ⟨4, ![32, 16, 16, 1040]⟩
abbrev S_ : Shape := ⟨0, ![]⟩
abbrev S16 : Shape := ⟨1, ![16]⟩
abbrev S1040 : Shape := ⟨1, ![1040]⟩
abbrev S1x1040 : Shape := ⟨2, ![1, 1040]⟩
abbrev S16x1 : Shape := ⟨2, ![16, 1]⟩
abbrev S16x1040 : Shape := ⟨2, ![16, 1040]⟩
abbrev S32x16x64x16 : Shape := ⟨4, ![32, 16, 64, 16]⟩
abbrev S32x16x1024 : Shape := ⟨3, ![32, 16, 1024]⟩

abbrev nBuf : Space → Nat
  | .hbm => 74
  | .vmem => 0
  | .smem => 0
  | _ => 0

abbrev bufTy : (tb : Table) → Fin (tcTables nBuf tb) → BufTy
  | .hbm, ⟨0, _⟩ => ⟨S32x16x16x64, .f32⟩
  | .hbm, ⟨1, _⟩ => ⟨S32x1024x16x64, .f32⟩
  | .hbm, ⟨2, _⟩ => ⟨S32x1024x16x64, .f32⟩
  | .hbm, ⟨3, _⟩ => ⟨S32x16x16x64, .f32⟩
  | .hbm, ⟨4, _⟩ => ⟨S32x16x16x64, .f32⟩
  | .hbm, ⟨5, _⟩ => ⟨S32x1040x16x64, .f32⟩
  | .hbm, ⟨6, _⟩ => ⟨S32x1040x16x64, .f32⟩
  | .hbm, ⟨7, _⟩ => ⟨S32x16x16x1040, .f32⟩
  | .hbm, ⟨8, _⟩ => ⟨S_, .f32⟩
  | .hbm, ⟨9, _⟩ => ⟨S32x16x16x1040, .f32⟩
  | .hbm, ⟨10, _⟩ => ⟨S32x16x16x1040, .f32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S1040, .i32⟩
  | .hbm, ⟨16, _⟩ => ⟨S1x1040, .i32⟩
  | .hbm, ⟨17, _⟩ => ⟨S16x1, .i32⟩
  | .hbm, ⟨18, _⟩ => ⟨S16x1040, .i32⟩
  | .hbm, ⟨19, _⟩ => ⟨S16x1040, .i32⟩
  | .hbm, ⟨20, _⟩ => ⟨S16x1040, .i1⟩
  | .hbm, ⟨21, _⟩ => ⟨S32x16x16x1040, .f32⟩
  | .hbm, ⟨22, _⟩ => ⟨S32x16x16x1040, .f32⟩
  | .hbm, ⟨23, _⟩ => ⟨S_, .f32⟩
  | .hbm, ⟨24, _⟩ => ⟨S32x16x16x1040, .f32⟩
  | .hbm, ⟨25, _⟩ => ⟨S32x16x16x1040, .f32⟩
  | .hbm, ⟨26, _⟩ => ⟨S32x16x16x1040, .f32⟩
  | .hbm, ⟨27, _⟩ => ⟨S32x16x16x1040, .f32⟩
  | .hbm, ⟨28, _⟩ => ⟨S32x16x16x1040, .i1⟩
  | .hbm, ⟨29, _⟩ => ⟨S32x16x16x1040, .f32⟩
  | .hbm, ⟨30, _⟩ => ⟨S32x16x16x1040, .f32⟩
  | .hbm, ⟨31, _⟩ => ⟨S32x16x16x1040, .f32⟩
  | .hbm, ⟨32, _⟩ => ⟨S32x16x16x1040, .f32⟩
  | .hbm, ⟨33, _⟩ => ⟨S32x16x16x1040, .f32⟩
  | .hbm, ⟨34, _⟩ => ⟨S32x16x16x1040, .f32⟩
  | .hbm, ⟨35, _⟩ => ⟨S32x16x16x1040, .f32⟩
  | .hbm, ⟨36, _⟩ => ⟨S32x16x16x1040, .f32⟩
  | .hbm, ⟨37, _⟩ => ⟨S32x16x16x1040, .f32⟩
  | .hbm, ⟨38, _⟩ => ⟨S_, .f32⟩
  | .hbm, ⟨39, _⟩ => ⟨S_, .f32⟩
  | .hbm, ⟨40, _⟩ => ⟨S32x16x16x1040, .i1⟩
  | .hbm, ⟨41, _⟩ => ⟨S32x16x16x1040, .f32⟩
  | .hbm, ⟨42, _⟩ => ⟨S32x16x16x1040, .f32⟩
  | .hbm, ⟨43, _⟩ => ⟨S_, .f32⟩
  | .hbm, ⟨44, _⟩ => ⟨S_, .f32⟩
  | .hbm, ⟨45, _⟩ => ⟨S32x16x16x1040, .f32⟩
  | .hbm, ⟨46, _⟩ => ⟨S32x16x16x1040, .f32⟩
  | .hbm, ⟨47, _⟩ => ⟨S32x16x16x1040, .f32⟩
  | .hbm, ⟨48, _⟩ => ⟨S_, .f32⟩
  | .hbm, ⟨49, _⟩ => ⟨S32x16x16x1040, .f32⟩
  | .hbm, ⟨50, _⟩ => ⟨S32x16x16x1040, .f32⟩
  | .hbm, ⟨51, _⟩ => ⟨S32x16x16x1040, .f32⟩
  | .hbm, ⟨52, _⟩ => ⟨S32x16x16x1040, .f32⟩
  | .hbm, ⟨53, _⟩ => ⟨S32x16x16x1040, .i1⟩
  | .hbm, ⟨54, _⟩ => ⟨S32x16x16x1040, .f32⟩
  | .hbm, ⟨55, _⟩ => ⟨S32x16x16x1040, .f32⟩
  | .hbm, ⟨56, _⟩ => ⟨S32x16x16x1040, .f32⟩
  | .hbm, ⟨57, _⟩ => ⟨S32x16x16x1040, .f32⟩
  | .hbm, ⟨58, _⟩ => ⟨S32x16x16x1040, .f32⟩
  | .hbm, ⟨59, _⟩ => ⟨S32x16x16x1040, .f32⟩
  | .hbm, ⟨60, _⟩ => ⟨S32x16x16x1040, .f32⟩
  | .hbm, ⟨61, _⟩ => ⟨S32x16x16x1040, .f32⟩
  | .hbm, ⟨62, _⟩ => ⟨S32x16x16x1040, .f32⟩
  | .hbm, ⟨63, _⟩ => ⟨S32x16x16x1040, .f32⟩
  | .hbm, ⟨64, _⟩ => ⟨S32x16x16x1040, .f32⟩
  | .hbm, ⟨65, _⟩ => ⟨S_, .f32⟩
  | .hbm, ⟨66, _⟩ => ⟨S_, .f32⟩
  | .hbm, ⟨67, _⟩ => ⟨S32x16x16x1040, .i1⟩
  | .hbm, ⟨68, _⟩ => ⟨S32x16x16x1040, .f32⟩
  | .hbm, ⟨69, _⟩ => ⟨S32x16x16x1040, .f32⟩
  | .hbm, ⟨70, _⟩ => ⟨S32x16x64x16, .f32⟩
  | .hbm, ⟨71, _⟩ => ⟨S32x16x16x64, .f32⟩
  | .hbm, ⟨72, _⟩ => ⟨S32x16x1024, .f32⟩
  | .hbm, ⟨73, _⟩ => ⟨S32x16x1024, .bf16⟩
  | _, _ => ⟨S32x16x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v15 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v16 : Ref sig .tc := ⟨.hbm, 42, rfl⟩
abbrev main_call2_cst : Ref sig .tc := ⟨.hbm, 43, rfl⟩
abbrev main_call2_v0 : Ref sig .tc := ⟨.hbm, 44, rfl⟩
abbrev main_v17 : Ref sig .tc := ⟨.hbm, 45, rfl⟩
abbrev main_v18 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩

abbrev nD : Nat := 1
abbrev τ : Topo := Topo.v7x

variable {F : FTy → Type} [FloatOps F]
-- ==== SampleKeysValues.lean ====
abbrev S32x16x1024 : Shape := ⟨3, ![32, 16, 1024]⟩
abbrev S1024x1024 : Shape := ⟨2, ![1024, 1024]⟩
abbrev S1024x2048 : Shape := ⟨2, ![1024, 2048]⟩
abbrev S512x1024 : Shape := ⟨2, ![512, 1024]⟩
abbrev S512x2048 : Shape := ⟨2, ![512, 2048]⟩
abbrev S32x16x16x64 : Shape := ⟨4, ![32, 16, 16, 64]⟩

abbrev nBuf : Space → Nat
  | .hbm => 14
  | .vmem => 6
  | .smem => 0
  | _ => 0

abbrev bufTy : (tb : Table) → Fin (tcTables nBuf tb) → BufTy
  | .hbm, ⟨0, _⟩ => ⟨S32x16x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .bf16⟩
  | .hbm, ⟨9, _⟩ => ⟨S512x1024, .bf16⟩
  | .hbm, ⟨10, _⟩ => ⟨S32x16x16x64, .f32⟩
  | .hbm, ⟨11, _⟩ => ⟨S32x16x16x64, .f32⟩
  | .hbm, ⟨12, _⟩ => ⟨S32x16x1024, .bf16⟩
  | .hbm, ⟨13, _⟩ => ⟨S32x16x1024, .bf16⟩
  | .local _ .vmem, ⟨0, _⟩ => ⟨S512x1024, .f32⟩
  | .local _ .vmem, ⟨1, _⟩ => ⟨S1024x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== RefSampleKeysValuesIdeal.lean ====
abbrev S32x16x1024 : Shape := ⟨3, ![32, 16, 1024]⟩
abbrev S1024x1024 : Shape := ⟨2, ![1024, 1024]⟩
abbrev S32x16x16x64 : Shape := ⟨4, ![32, 16, 16, 64]⟩

abbrev nBuf : Space → Nat
  | .hbm => 9
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S1024x1024, .f32⟩
  | .hbm, ⟨2, _⟩ => ⟨S1024x1024, .f32⟩
  | .hbm, ⟨3, _⟩ => ⟨S32x16x1024, .f32⟩
  | .hbm, ⟨4, _⟩ => ⟨S32x16x1024, .f32⟩
  | .hbm, ⟨5, _⟩ => ⟨S32x16x16x64, .f32⟩
  | .hbm, ⟨6, _⟩ => ⟨S32x16x16x64, .f32⟩
  | .hbm, ⟨7, _⟩ => ⟨S32x16x1024, .bf16⟩
  | .hbm, ⟨8, _⟩ => ⟨S32x16x1024, .bf16⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SampleQueries.lean ====
abbrev S32x16x1024 : Shape := ⟨3, ![32, 16, 1024]⟩
abbrev S1024x1024 : Shape := ⟨2, ![1024, 1024]⟩
abbrev S512x1024 : Shape := ⟨2, ![512, 1024]⟩

abbrev nBuf : Space → Nat
  | .hbm => 6
  | .vmem => 3
  | .smem => 0
  | _ => 0

abbrev bufTy : (tb : Table) → Fin (tcTables nBuf tb) → BufTy
  | .hbm, ⟨0, _⟩ => ⟨S32x16x1024, .f32⟩
  | .hbm, ⟨1, _⟩ => ⟨S1024x1024, .f32⟩
  | .hbm, ⟨2, _⟩ => ⟨S512x1024, .f32⟩
  | .hbm, ⟨3, _⟩ => ⟨S1024x1024, .bf16⟩
  | .hbm, ⟨4, _⟩ => ⟨S512x1024, .bf16⟩
  | .hbm, ⟨5, _⟩ => ⟨S32x16x1024, .bf16⟩
  | .local _ .vmem, ⟨0, _⟩ => ⟨S512x1024, .f32⟩
  | .local _ .vmem, ⟨1, _⟩ => ⟨S1024x1024, .bf16⟩
  | .local _ .vmem, ⟨2, _⟩ => ⟨S512x1024, .bf16⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RefSampleQueriesIdeal.lean ====
abbrev S32x16x1024 : Shape := ⟨3, ![32, 16, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S1024x1024, .f32⟩
  | .hbm, ⟨2, _⟩ => ⟨S32x16x1024, .f32⟩
  | .hbm, ⟨3, _⟩ => ⟨S_, .f32⟩
  | .hbm, ⟨4, _⟩ => ⟨S32x16x1024, .f32⟩
  | .hbm, ⟨5, _⟩ => ⟨S32x16x1024, .f32⟩
  | .hbm, ⟨6, _⟩ => ⟨S32x16x1024, .bf16⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SampleProjectOut.lean ====
abbrev S32x16x1024 : Shape := ⟨3, ![32, 16, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 12
  | .vmem => 6
  | .smem => 0
  | _ => 0

abbrev bufTy : (tb : Table) → Fin (tcTables nBuf tb) → BufTy
  | .hbm, ⟨0, _⟩ => ⟨S32x16x1024, .bf16⟩
  | .hbm, ⟨1, _⟩ => ⟨S32x16x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S512x1024, .f32⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S512x1024, .f32⟩
  | .hbm, ⟨11, _⟩ => ⟨S32x16x1024, .f32⟩
  | .local _ .vmem, ⟨0, _⟩ => ⟨S512x1024, .bf16⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | _, _ => ⟨S32x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== RefSampleProjectOutIdeal.lean ====
abbrev S32x16x1024 : Shape := ⟨3, ![32, 16, 1024]⟩
abbrev S1024x1024 : Shape := ⟨2, ![1024, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x16x1024, .bf16⟩
  | .hbm, ⟨1, _⟩ => ⟨S32x16x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32x16x1024, .f32⟩
  | .hbm, ⟨7, _⟩ => ⟨S32x16x1024, .f32⟩
  | .hbm, ⟨8, _⟩ => ⟨S32x16x1024, .f32⟩
  | .hbm, ⟨9, _⟩ => ⟨S32x16x1024, .f32⟩
  | .hbm, ⟨10, _⟩ => ⟨S32x16x1024, .f32⟩
  | .hbm, ⟨11, _⟩ => ⟨S_, .f32⟩
  | .hbm, ⟨12, _⟩ => ⟨S32x16, .f32⟩
  | .hbm, ⟨13, _⟩ => ⟨S32x16x1, .f32⟩
  | .hbm, ⟨14, _⟩ => ⟨S_, .f32⟩
  | .hbm, ⟨15, _⟩ => ⟨S32x16x1, .f32⟩
  | .hbm, ⟨16, _⟩ => ⟨S32x16x1, .f32⟩
  | .hbm, ⟨17, _⟩ => ⟨S32x16x1024, .f32⟩
  | .hbm, ⟨18, _⟩ => ⟨S32x16x1024, .f32⟩
  | .hbm, ⟨19, _⟩ => ⟨S32x16x1024, .f32⟩
  | .hbm, ⟨20, _⟩ => ⟨S_, .f32⟩
  | .hbm, ⟨21, _⟩ => ⟨S32x16, .f32⟩
  | .hbm, ⟨22, _⟩ => ⟨S32x16x1, .f32⟩
  | .hbm, ⟨23, _⟩ => ⟨S_, .f32⟩
  | .hbm, ⟨24, _⟩ => ⟨S32x16x1, .f32⟩
  | .hbm, ⟨25, _⟩ => ⟨S32x16x1, .f32⟩
  | .hbm, ⟨26, _⟩ => ⟨S32x16x1024, .f32⟩
  | .hbm, ⟨27, _⟩ => ⟨S32x16x1024, .f32⟩
  | .hbm, ⟨28, _⟩ => ⟨S_, .f32⟩
  | .hbm, ⟨29, _⟩ => ⟨S32x16x1, .f32⟩
  | .hbm, ⟨30, _⟩ => ⟨S32x16x1, .f32⟩
  | .hbm, ⟨31, _⟩ => ⟨S32x16x1, .f32⟩
  | .hbm, ⟨32, _⟩ => ⟨S32x16x1024, .f32⟩
  | .hbm, ⟨33, _⟩ => ⟨S32x16x1024, .f32⟩
  | .hbm, ⟨34, _⟩ => ⟨S1x1x1024, .f32⟩
  | .hbm, ⟨35, _⟩ => ⟨S32x16x1024, .f32⟩
  | .hbm, ⟨36, _⟩ => ⟨S32x16x1024, .f32⟩
  | .hbm, ⟨37, _⟩ => ⟨S1x1x1024, .f32⟩
  | .hbm, ⟨38, _⟩ => ⟨S32x16x1024, .f32⟩
  | .hbm, ⟨39, _⟩ => ⟨S32x16x1024, .f32⟩
  | _, _ => ⟨S32x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== SampleConv.lean ====
abbrev S32x16x1024 : Shape := ⟨3, ![32, 16, 1024]⟩
abbrev S32x2x1024 : Shape := ⟨3, ![32, 2, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S1x16x1024 : Shape := ⟨3, ![1, 16, 1024]⟩
abbrev S1x2x1024 : Shape := ⟨3, ![1, 2, 1024]⟩
abbrev S8x1024 : Shape := ⟨2, ![8, 1024]⟩
abbrev S16x1024 : Shape := ⟨2, ![16, 1024]⟩
abbrev S16x3072 : Shape := ⟨2, ![16, 3072]⟩
abbrev S2x1024 : Shape := ⟨2, ![2, 1024]⟩
abbrev S16 : Shape := ⟨1, ![16]⟩
abbrev S16x1 : Shape := ⟨2, ![16, 1]⟩

abbrev nBuf : Space → Nat
  | .hbm => 13
  | .vmem => 14
  | .smem => 0
  | _ => 0

abbrev bufTy : (tb : Table) → Fin (tcTables nBuf tb) → BufTy
  | .hbm, ⟨0, _⟩ => ⟨S32x16x1024, .f32⟩
  | .hbm, ⟨1, _⟩ => ⟨S32x2x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x3072, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S32x16x1024, .f32⟩
  | .hbm, ⟨12, _⟩ => ⟨S32x2x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x2x1024, .f32⟩
  | .local _ .vmem, ⟨3, _⟩ => ⟨S1x2x1024, .f32⟩
  | .local _ .vmem, ⟨4, _⟩ => ⟨S1024x3072, .bf16⟩
  | .local _ .vmem, ⟨5, _⟩ => ⟨S3x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x16x1024, .f32⟩
  | .local _ .vmem, ⟨10, _⟩ => ⟨S1x16x1024, .f32⟩
  | .local _ .vmem, ⟨11, _⟩ => ⟨S1x2x1024, .f32⟩
  | .local _ .vmem, ⟨12, _⟩ => ⟨S1x2x1024, .f32⟩
  | .local _ .vmem, ⟨13, _⟩ => ⟨S8x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_34 : BitVec 32 := 0#32
  let v83 : BitVec 1 := Scalar.cmpi .eq arg1 c0_i32_34
  let v84 : BitVec 32 := Scalar.extui v83
  let c0_i32_35 : BitVec 32 := 0#32
  let v85 : BitVec 1 := Scalar.cmpi .ne v84 c0_i32_35
  v85

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefSampleConvIdeal.lean ====
abbrev S32x16x1024 : Shape := ⟨3, ![32, 16, 1024]⟩
abbrev S32x2x1024 : Shape := ⟨3, ![32, 2, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S32x16x3072 : Shape := ⟨3, ![32, 16, 3072]⟩
abbrev S32x18x1024 : Shape := ⟨3, ![32, 18, 1024]⟩
abbrev S1x1024 : Shape := ⟨2, ![1, 1024]⟩
abbrev S1x1x1024 : Shape := ⟨3, ![1, 1, 1024]⟩
abbrev S_ : Shape := ⟨0, ![]⟩
abbrev S32x16 : Shape := ⟨2, ![32, 16]⟩
abbrev S32x16x1 : Shape := ⟨3, ![32, 16, 1]⟩

abbrev nBuf : Space → Nat
  | .hbm => 69
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x2x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S32x16x3072, .f32⟩
  | .hbm, ⟨8, _⟩ => ⟨S32x16x1024, .f32⟩
  | .hbm, ⟨9, _⟩ => ⟨S32x16x1024, .f32⟩
  | .hbm, ⟨10, _⟩ => ⟨S32x16x1024, .f32⟩
  | .hbm, ⟨11, _⟩ => ⟨S32x16x1024, .f32⟩
  | .hbm, ⟨12, _⟩ => ⟨S32x18x1024, .f32⟩
  | .hbm, ⟨13, _⟩ => ⟨S1x1024, .f32⟩
  | .hbm, ⟨14, _⟩ => ⟨S1024, .f32⟩
  | .hbm, ⟨15, _⟩ => ⟨S32x16x1024, .f32⟩
  | .hbm, ⟨16, _⟩ => ⟨S1x1x1024, .f32⟩
  | .hbm, ⟨17, _⟩ => ⟨S32x16x1024, .f32⟩
  | .hbm, ⟨18, _⟩ => ⟨S32x16x1024, .f32⟩
  | .hbm, ⟨19, _⟩ => ⟨S1x1024, .f32⟩
  | .hbm, ⟨20, _⟩ => ⟨S1024, .f32⟩
  | .hbm, ⟨21, _⟩ => ⟨S32x16x1024, .f32⟩
  | .hbm, ⟨22, _⟩ => ⟨S1x1x1024, .f32⟩
  | .hbm, ⟨23, _⟩ => ⟨S32x16x1024, .f32⟩
  | .hbm, ⟨24, _⟩ => ⟨S32x16x1024, .f32⟩
  | .hbm, ⟨25, _⟩ => ⟨S32x16x1024, .f32⟩
  | .hbm, ⟨26, _⟩ => ⟨S1x1024, .f32⟩
  | .hbm, ⟨27, _⟩ => ⟨S1024, .f32⟩
  | .hbm, ⟨28, _⟩ => ⟨S32x16x1024, .f32⟩
  | .hbm, ⟨29, _⟩ => ⟨S1x1x1024, .f32⟩
  | .hbm, ⟨30, _⟩ => ⟨S32x16x1024, .f32⟩
  | .hbm, ⟨31, _⟩ => ⟨S32x16x1024, .f32⟩
  | .hbm, ⟨32, _⟩ => ⟨S32x16x1024, .f32⟩
  | .hbm, ⟨33, _⟩ => ⟨S32x16x1024, .f32⟩
  | .hbm, ⟨34, _⟩ => ⟨S32x16x1024, .f32⟩
  | .hbm, ⟨35, _⟩ => ⟨S_, .f32⟩
  | .hbm, ⟨36, _⟩ => ⟨S32x16x1024, .f32⟩
  | .hbm, ⟨37, _⟩ => ⟨S32x16x1024, .f32⟩
  | .hbm, ⟨38, _⟩ => ⟨S32x16x1024, .f32⟩
  | .hbm, ⟨39, _⟩ => ⟨S_, .f32⟩
  | .hbm, ⟨40, _⟩ => ⟨S32x16, .f32⟩
  | .hbm, ⟨41, _⟩ => ⟨S32x16x1, .f32⟩
  | .hbm, ⟨42, _⟩ => ⟨S_, .f32⟩
  | .hbm, ⟨43, _⟩ => ⟨S32x16x1, .f32⟩
  | .hbm, ⟨44, _⟩ => ⟨S32x16x1, .f32⟩
  | .hbm, ⟨45, _⟩ => ⟨S32x16x1024, .f32⟩
  | .hbm, ⟨46, _⟩ => ⟨S32x16x1024, .f32⟩
  | .hbm, ⟨47, _⟩ => ⟨S32x16x1024, .f32⟩
  | .hbm, ⟨48, _⟩ => ⟨S_, .f32⟩
  | .hbm, ⟨49, _⟩ => ⟨S32x16, .f32⟩
  | .hbm, ⟨50, _⟩ => ⟨S32x16x1, .f32⟩
  | .hbm, ⟨51, _⟩ => ⟨S_, .f32⟩
  | .hbm, ⟨52, _⟩ => ⟨S32x16x1, .f32⟩
  | .hbm, ⟨53, _⟩ => ⟨S32x16x1, .f32⟩
  | .hbm, ⟨54, _⟩ => ⟨S32x16x1024, .f32⟩
  | .hbm, ⟨55, _⟩ => ⟨S32x16x1024, .f32⟩
  | .hbm, ⟨56, _⟩ => ⟨S_, .f32⟩
  | .hbm, ⟨57, _⟩ => ⟨S32x16x1, .f32⟩
  | .hbm, ⟨58, _⟩ => ⟨S32x16x1, .f32⟩
  | .hbm, ⟨59, _⟩ => ⟨S32x16x1, .f32⟩
  | .hbm, ⟨60, _⟩ => ⟨S32x16x1024, .f32⟩
  | .hbm, ⟨61, _⟩ => ⟨S32x16x1024, .f32⟩
  | .hbm, ⟨62, _⟩ => ⟨S1x1x1024, .f32⟩
  | .hbm, ⟨63, _⟩ => ⟨S32x16x1024, .f32⟩
  | .hbm, ⟨64, _⟩ => ⟨S32x16x1024, .f32⟩
  | .hbm, ⟨65, _⟩ => ⟨S1x1x1024, .f32⟩
  | .hbm, ⟨66, _⟩ => ⟨S32x16x1024, .f32⟩
  | .hbm, ⟨67, _⟩ => ⟨S32x16x1024, .f32⟩
  | .hbm, ⟨68, _⟩ => ⟨S32x2x1024, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Proof.KernelIdeal.Trip.lean ====
/-
  One trip of the attention kernel's loop, as a pure function of what the loop carries, and the loop as that function
  iterated. Four loops run in a grid point, one for each group of four heads; they differ in the lanes of the key and
  value blocks they load and in nothing else, so one function serves all four.
-/
module

public import proofs.«01_k».proof.Proof.Gen.KernelIdeal.Skeleton
public import proofs.«01_k».proof.Proof.Gen.KernelIdeal
public import Idealize.ShloMosaic.Lib.Pipeline.FrameBody

@[expose] public section

noncomputable section

namespace Cert.KernelIdeal.Attn

open Cert.KernelIdeal Cert.KernelIdeal.Gen
open Idealize.ShloMosaic Idealize.SL.Sem

variable {F : FTy → Type} [FloatOps F] [Named F]

/-- What the loop carries: the trip's number, whether a weight can still differ from zero, then for each of the four
    heads its weighted sum of values so far and its running sum of the logarithms of the rejected share. -/
abbrev Carried (F : FTy → Type) : Type :=
  BitVec 32 × BitVec 32 × FVec F S256x256 .f32 × FVec F S256x1 .f32 × FVec F S256x256 .f32 × FVec F S256x1 .f32
    × FVec F S256x256 .f32 × FVec F S256x1 .f32 × FVec F S256x256 .f32 × FVec F S256x1 .f32

/-- One past the last query position of the grid point's tile. -/
def qEnd (i : grid0.Coords) : BitVec 32 :=
  Scalar.addi (Scalar.addi 0#32 (Scalar.muli (BitVec.ofNat 32 (i 1).val) 256#32)) 256#32

/-- The number of key blocks of the grid point: `qEnd / 512` rounded up, spelt as the kernel's rounding division is. -/
def nBlocks (i : grid0.Coords) : BitVec 32 :=
  let x : BitVec 32 := Scalar.subi (Scalar.addi (qEnd i) 512#32) 1#32
  let sx : BitVec 32 := Scalar.subi (Scalar.extui (Scalar.cmpi .sgt x 0#32)) (Scalar.extui (Scalar.cmpi .slt x 0#32))
  let sd : BitVec 32 := Scalar.subi (Scalar.extui (Scalar.cmpi .sgt 512#32 0#32)) (Scalar.extui (Scalar.cmpi .slt 512#32 0#32))
  let up : BitVec 1 := Scalar.andi (Scalar.cmpi .ne sx sd) (Scalar.cmpi .ne (Scalar.remsi x 512#32) 0#32)
  Scalar.select up (Scalar.subi (Scalar.divsi x 512#32) 1#32) (Scalar.divsi x 512#32)

/-- The loop's condition: blocks remain, and the last trip left a weight that can differ from zero. -/
def more (i : grid0.Coords) (j live : BitVec 32) : BitVec 1 :=
  Scalar.andi (Scalar.cmpi .slt j (nBlocks i)) (Scalar.cmpi .sgt live 0#32)

/-- Which keys of the trip's block are before the query and not yet seen. -/
def seen (i : grid0.Coords) (qpos : IVec S256x1 32) (j : BitVec 32) : IVec S256x512 1 := k0_pay67 qpos j (qEnd i)

/-- A head's weighted sum after a trip: its queries `q`, the block's keys `kb` and values `vb`, the strict triangle `T`. -/
def accNext (q : FVec F S256x256 .bf16) (kb vb : Vec F S1x512x256 .bf16) (T : Vec F S512x512 .bf16) (mask : IVec S256x512 1)
    (acc : FVec F S256x256 .f32) (run : FVec F S256x1 .f32) : FVec F S256x256 .f32 :=
  k0_pay77 q acc run (k0_pay65 kb) (k0_pay66 vb) mask T

/-- A head's running sum after a trip. -/
def runNext (q : FVec F S256x256 .bf16) (kb : Vec F S1x512x256 .bf16) (mask : IVec S256x512 1) (run : FVec F S256x1 .f32) :
    FVec F S256x1 .f32 :=
  k0_pay78 q run (k0_pay65 kb) mask

/-- The largest running sum of the four heads' rows. -/
def topRun (r0 r1 r2 r3 : FVec F S256x1 .f32) : F .f32 :=
  extractAt ![0, 0, 0] (shapeCast S1x1x1 (multiReduction .maximumf [1, 2] S1
    (shapeCast S1x256x1 (maximumf (maximumf (maximumf r0 r1) r2) r3) shapeCasts_S256x1_S1x256x1) 0xFF800000#32
    reduces_S1x256x1_S1 (.inl rfl) rfl) shapeCasts_S1_S1x1x1) inpos_S1x1x1_p0_0_0

/-- Whether a running sum is above the bound under which every further weight is zero. -/
def alive (r0 r1 r2 r3 : FVec F S256x1 .f32) : BitVec 32 :=
  Scalar.extui (Scalar.cmpf .ogt (topRun r0 r1 r2 r3) (Named.named κ "underflow" 0xC2D00000#32 : F .f32))

/-- One trip, from the blocks it loads. -/
def tripOf (i : grid0.Coords) (qpos : IVec S256x1 32) (q0 q1 q2 q3 : FVec F S256x256 .bf16) (T : Vec F S512x512 .bf16)
    (kb vb : Vec F S1x512x256 .bf16) (s : Carried F) : Carried F :=
  match s with
  | (j, _, a0, r0, a1, r1, a2, r2, a3, r3) =>
    let mask := seen i qpos j
    let r0' := runNext q0 kb mask r0
    let r1' := runNext q1 kb mask r1
    let r2' := runNext q2 kb mask r2
    let r3' := runNext q3 kb mask r3
    (Scalar.addi j 1#32, alive r0' r1' r2' r3', accNext q0 kb vb T mask a0 r0, r0', accNext q1 kb vb T mask a1 r1, r1',
      accNext q2 kb vb T mask a2 r2, r2', accNext q3 kb vb T mask a3 r3, r3')

/-- One trip, the blocks being functions of the trip's number. -/
def trip (i : grid0.Coords) (qpos : IVec S256x1 32) (q0 q1 q2 q3 : FVec F S256x256 .bf16) (T : Vec F S512x512 .bf16)
    (kb vb : BitVec 32 → Vec F S1x512x256 .bf16) (s : Carried F) : Carried F :=
  tripOf i qpos q0 q1 q2 q3 T (kb s.1) (vb s.1) s

/-- The loop with at most `n` trips to go. -/
def loop (i : grid0.Coords) (qpos : IVec S256x1 32) (q0 q1 q2 q3 : FVec F S256x256 .bf16) (T : Vec F S512x512 .bf16)
    (kb vb : BitVec 32 → Vec F S1x512x256 .bf16) : ℕ → Carried F → Carried F
  | 0, s => s
  | n + 1, s => if more i s.1 s.2.1 = 1#1 then loop i qpos q0 q1 q2 q3 T kb vb n (trip i qpos q0 q1 q2 q3 T kb vb s) else s

/-- What the loop starts from. -/
def start : Carried F :=
  (0#32, 1#32, k0_pay62, k0_pay63, k0_pay62, k0_pay63, k0_pay62, k0_pay63, k0_pay62, k0_pay63)

/-! ### The block a trip loads, for each group of heads -/

/-- The key or value block of trip `j` in group 1's lanes; zeros for a trip that loads nothing. -/
def blk1 (i : grid0.Coords) (x : Vec F S1x2048x1024 .bf16) (j : BitVec 32) : Vec F S1x512x256 .bf16 :=
  if h : k0_chk1 i j then View.ld x (Rect.unit (s := S1x2048x1024) (k0_off1 i j) S1x512x256.size (k0_off1_inb i j h))
  else constant S1x512x256 .bf16 0#16

/-- The key or value block of trip `j` in group 2's lanes; zeros for a trip that loads nothing. -/
def blk2 (i : grid0.Coords) (x : Vec F S1x2048x1024 .bf16) (j : BitVec 32) : Vec F S1x512x256 .bf16 :=
  if h : k0_chk2 i j then View.ld x (Rect.unit (s := S1x2048x1024) (k0_off2 i j) S1x512x256.size (k0_off2_inb i j h))
  else constant S1x512x256 .bf16 0#16

/-- The key or value block of trip `j` in group 3's lanes; zeros for a trip that loads nothing. -/
def blk3 (i : grid0.Coords) (x : Vec F S1x2048x1024 .bf16) (j : BitVec 32) : Vec F S1x512x256 .bf16 :=
  if h : k0_chk3 i j then View.ld x (Rect.unit (s := S1x2048x1024) (k0_off3 i j) S1x512x256.size (k0_off3_inb i j h))
  else constant S1x512x256 .bf16 0#16

/-- The key or value block of trip `j` in group 4's lanes; zeros for a trip that loads nothing. -/
def blk4 (i : grid0.Coords) (x : Vec F S1x2048x1024 .bf16) (j : BitVec 32) : Vec F S1x512x256 .bf16 :=
  if h : k0_chk4 i j then View.ld x (Rect.unit (s := S1x2048x1024) (k0_off4 i j) S1x512x256.size (k0_off4_inb i j h))
  else constant S1x512x256 .bf16 0#16

/-! ### The bounds -/

/-- The trip's number with `n` of four trips still possible. -/
def jAt (n : ℕ) : BitVec 32 := BitVec.ofNat 32 (4 - n)

theorem jAt_succ {n : ℕ} (h : n + 1 ≤ 4) : Scalar.addi (jAt (n + 1)) 1#32 = jAt n := by
  unfold jAt; rcases n with _ | _ | _ | _ | n <;> first | decide | omega

/-- A property of the second grid coordinate, checked at its eight values. -/
theorem forall_tile {p : Fin 8 → Prop} (h : ∀ a, p a) (i : grid0.Coords) : p (i 1) := h _

/-- No grid point has more than four key blocks. -/
theorem nBlocks_le (i : grid0.Coords) : Scalar.cmpi .slt (jAt 0) (nBlocks i) = 0#1 := by
  unfold nBlocks qEnd
  exact forall_tile (p := fun a => Scalar.cmpi .slt (jAt 0) (let x : BitVec 32 := Scalar.subi (Scalar.addi (Scalar.addi (Scalar.addi 0#32 (Scalar.muli (BitVec.ofNat 32 a.val) 256#32)) 256#32) 512#32) 1#32
    let sx : BitVec 32 := Scalar.subi (Scalar.extui (Scalar.cmpi .sgt x 0#32)) (Scalar.extui (Scalar.cmpi .slt x 0#32))
    let sd : BitVec 32 := Scalar.subi (Scalar.extui (Scalar.cmpi .sgt 512#32 0#32)) (Scalar.extui (Scalar.cmpi .slt 512#32 0#32))
    let up : BitVec 1 := Scalar.andi (Scalar.cmpi .ne sx sd) (Scalar.cmpi .ne (Scalar.remsi x 512#32) 0#32)
    Scalar.select up (Scalar.subi (Scalar.divsi x 512#32) 1#32) (Scalar.divsi x 512#32)) = 0#1) (by decide) i

theorem not_more_last (i : grid0.Coords) (live : BitVec 32) : ¬ more i (jAt 0) live = 1#1 := by
  unfold more
  rw [nBlocks_le]
  generalize Scalar.cmpi .sgt live 0#32 = b
  revert b; decide

/-- Group 1's block of each of the four trips is inside the array. -/
theorem chk1 {n : ℕ} (h : n + 1 ≤ 4) (i : grid0.Coords) : k0_chk1 i (jAt (n + 1)) := by
  unfold k0_chk1 k0_off1 k0_mult1
  generalize i 1 = a
  revert a
  rcases n with _ | _ | _ | _ | n <;> first | decide | omega

/-- Group 2's block of each of the four trips is inside the array. -/
theorem chk2 {n : ℕ} (h : n + 1 ≤ 4) (i : grid0.Coords) : k0_chk2 i (jAt (n + 1)) := by
  unfold k0_chk2 k0_off2 k0_mult2
  generalize i 1 = a
  revert a
  rcases n with _ | _ | _ | _ | n <;> first | decide | omega

/-- Group 3's block of each of the four trips is inside the array. -/
theorem chk3 {n : ℕ} (h : n + 1 ≤ 4) (i : grid0.Coords) : k0_chk3 i (jAt (n + 1)) := by
  unfold k0_chk3 k0_off3 k0_mult3
  generalize i 1 = a
  revert a
  rcases n with _ | _ | _ | _ | n <;> first | decide | omega

/-- Group 4's block of each of the four trips is inside the array. -/
theorem chk4 {n : ℕ} (h : n + 1 ≤ 4) (i : grid0.Coords) : k0_chk4 i (jAt (n + 1)) := by
  unfold k0_chk4 k0_off4 k0_mult4
  generalize i 1 = a
  revert a
  rcases n with _ | _ | _ | _ | n <;> first | decide | omega

/-! ### What a trip carries on, as the four loops spell it head by head -/

section
variable (i : grid0.Coords) (qpos : IVec S256x1 32) (j : BitVec 32) (q : FVec F S256x256 .bf16) (kb vb : Vec F S1x512x256 .bf16)
  (T : Vec F S512x512 .bf16) (m : IVec S256x512 1) (a : FVec F S256x256 .f32) (r r0 r1 r2 : FVec F S256x1 .f32) (w : FVec F S256x512 .f32)
theorem seen_1 : k0_pay67 qpos j (qEnd i) = seen i qpos j := rfl
theorem acc0_1 : k0_pay72 a (k0_pay66 vb) (k0_pay71 qpos q j r (qEnd i) kb T) = accNext q kb vb T (seen i qpos j) a r := rfl
theorem run0_1 : k0_pay73 r (k0_pay70 qpos q j (qEnd i) kb) = runNext q kb (seen i qpos j) r := rfl
theorem acc1_1 : k0_pay77 q a r (k0_pay65 kb) (k0_pay66 vb) m T = accNext q kb vb T m a r := rfl
theorem run1_1 : k0_pay78 q r (k0_pay65 kb) m = runNext q kb m r := rfl
theorem acc2_1 : k0_pay84 a r (k0_pay66 vb) m (k0_pay79 q (k0_pay65 kb)) (k0_pay80 q (k0_pay65 kb)) (k0_pay81 q (k0_pay65 kb))
    (Scalar.ofBits .f32 0x3F800000#32) T = accNext q kb vb T m a r := rfl
theorem run2_1 : k0_pay85 r m (k0_pay79 q (k0_pay65 kb)) (k0_pay80 q (k0_pay65 kb)) (k0_pay81 q (k0_pay65 kb)) (Scalar.ofBits .f32 0x3F800000#32)
    = runNext q kb m r := rfl
theorem acc3_1 : k0_pay2 a (k0_pay66 vb) m (k0_pay89 q r (k0_pay65 kb) m T) = accNext q kb vb T m a r := rfl
theorem run3_1 : k0_pay3 r (k0_pay88 q (k0_pay65 kb) m) = runNext q kb m r := rfl
theorem top_1 : k0_pay4 r r0 r1 r2 w = topRun r0 r1 r2 (k0_pay3 r w) := rfl
end

section
variable (i : grid0.Coords) (qpos : IVec S256x1 32) (j : BitVec 32) (q : FVec F S256x256 .bf16) (kb vb : Vec F S1x512x256 .bf16)
  (T : Vec F S512x512 .bf16) (m : IVec S256x512 1) (a : FVec F S256x256 .f32) (r r0 r1 r2 : FVec F S256x1 .f32) (w : FVec F S256x512 .f32)
theorem seen_2 : k0_pay92 qpos j (qEnd i) = seen i qpos j := rfl
theorem acc0_2 : k0_pay97 a (k0_pay91 vb) (k0_pay96 qpos q j r (qEnd i) kb T) = accNext q kb vb T (seen i qpos j) a r := rfl
theorem run0_2 : k0_pay98 r (k0_pay95 qpos q j (qEnd i) kb) = runNext q kb (seen i qpos j) r := rfl
theorem acc1_2 : k0_pay102 q a r (k0_pay90 kb) (k0_pay91 vb) m T = accNext q kb vb T m a r := rfl
theorem run1_2 : k0_pay103 q r (k0_pay90 kb) m = runNext q kb m r := rfl
theorem acc2_2 : k0_pay109 a r (k0_pay91 vb) m (k0_pay104 q (k0_pay90 kb)) (k0_pay105 q (k0_pay90 kb)) (k0_pay106 q (k0_pay90 kb))
    (Scalar.ofBits .f32 0x3F800000#32) T = accNext q kb vb T m a r := rfl
theorem run2_2 : k0_pay110 r m (k0_pay104 q (k0_pay90 kb)) (k0_pay105 q (k0_pay90 kb)) (k0_pay106 q (k0_pay90 kb)) (Scalar.ofBits .f32 0x3F800000#32)
    = runNext q kb m r := rfl
theorem acc3_2 : k0_pay5 a (k0_pay91 vb) m (k0_pay114 q r (k0_pay90 kb) m T) = accNext q kb vb T m a r := rfl
theorem run3_2 : k0_pay6 r (k0_pay113 q (k0_pay90 kb) m) = runNext q kb m r := rfl
theorem top_2 : k0_pay7 r r0 r1 r2 w = topRun r0 r1 r2 (k0_pay6 r w) := rfl
end

section
variable (i : grid0.Coords) (qpos : IVec S256x1 32) (j : BitVec 32) (q : FVec F S256x256 .bf16) (kb vb : Vec F S1x512x256 .bf16)
  (T : Vec F S512x512 .bf16) (m : IVec S256x512 1) (a : FVec F S256x256 .f32) (r r0 r1 r2 : FVec F S256x1 .f32) (w : FVec F S256x512 .f32)
theorem seen_3 : k0_pay117 qpos j (qEnd i) = seen i qpos j := rfl
theorem acc0_3 : k0_pay122 a (k0_pay116 vb) (k0_pay121 qpos q j r (qEnd i) kb T) = accNext q kb vb T (seen i qpos j) a r := rfl
theorem run0_3 : k0_pay123 r (k0_pay120 qpos q j (qEnd i) kb) = runNext q kb (seen i qpos j) r := rfl
theorem acc1_3 : k0_pay127 q a r (k0_pay115 kb) (k0_pay116 vb) m T = accNext q kb vb T m a r := rfl
theorem run1_3 : k0_pay128 q r (k0_pay115 kb) m = runNext q kb m r := rfl
theorem acc2_3 : k0_pay134 a r (k0_pay116 vb) m (k0_pay129 q (k0_pay115 kb)) (k0_pay130 q (k0_pay115 kb)) (k0_pay131 q (k0_pay115 kb))
    (Scalar.ofBits .f32 0x3F800000#32) T = accNext q kb vb T m a r := rfl
theorem run2_3 : k0_pay135 r m (k0_pay129 q (k0_pay115 kb)) (k0_pay130 q (k0_pay115 kb)) (k0_pay131 q (k0_pay115 kb)) (Scalar.ofBits .f32 0x3F800000#32)
    = runNext q kb m r := rfl
theorem acc3_3 : k0_pay8 a (k0_pay116 vb) m (k0_pay139 q r (k0_pay115 kb) m T) = accNext q kb vb T m a r := rfl
theorem run3_3 : k0_pay9 r (k0_pay138 q (k0_pay115 kb) m) = runNext q kb m r := rfl
theorem top_3 : k0_pay10 r r0 r1 r2 w = topRun r0 r1 r2 (k0_pay9 r w) := rfl
end

section
variable (i : grid0.Coords) (qpos : IVec S256x1 32) (j : BitVec 32) (q : FVec F S256x256 .bf16) (kb vb : Vec F S1x512x256 .bf16)
  (T : Vec F S512x512 .bf16) (m : IVec S256x512 1) (a : FVec F S256x256 .f32) (r r0 r1 r2 : FVec F S256x1 .f32) (w : FVec F S256x512 .f32)
theorem seen_4 : k0_pay142 qpos j (qEnd i) = seen i qpos j := rfl
theorem acc0_4 : k0_pay147 a (k0_pay141 vb) (k0_pay146 qpos q j r (qEnd i) kb T) = accNext q kb vb T (seen i qpos j) a r := rfl
theorem run0_4 : k0_pay148 r (k0_pay145 qpos q j (qEnd i) kb) = runNext q kb (seen i qpos j) r := rfl
theorem acc1_4 : k0_pay152 q a r (k0_pay140 kb) (k0_pay141 vb) m T = accNext q kb vb T m a r := rfl
theorem run1_4 : k0_pay153 q r (k0_pay140 kb) m = runNext q kb m r := rfl
theorem acc2_4 : k0_pay159 a r (k0_pay141 vb) m (k0_pay154 q (k0_pay140 kb)) (k0_pay155 q (k0_pay140 kb)) (k0_pay156 q (k0_pay140 kb))
    (Scalar.ofBits .f32 0x3F800000#32) T = accNext q kb vb T m a r := rfl
theorem run2_4 : k0_pay160 r m (k0_pay154 q (k0_pay140 kb)) (k0_pay155 q (k0_pay140 kb)) (k0_pay156 q (k0_pay140 kb)) (Scalar.ofBits .f32 0x3F800000#32)
    = runNext q kb m r := rfl
theorem acc3_4 : k0_pay11 a (k0_pay141 vb) m (k0_pay164 q r (k0_pay140 kb) m T) = accNext q kb vb T m a r := rfl
theorem run3_4 : k0_pay12 r (k0_pay163 q (k0_pay140 kb) m) = runNext q kb m r := rfl
theorem top_4 : k0_pay13 r r0 r1 r2 w = topRun r0 r1 r2 (k0_pay12 r w) := rfl
end

end Cert.KernelIdeal.Attn

end
-- ==== Proof.Stick.Sums.lean ====
/-
  Stick-breaking attention over the real numbers, and the sums it is made of. A query at position `p` looks at the keys
  before it, the nearest first: key `k` takes the share `σ(ζ k)` of what the keys between `k` and `p` have left. A block
  of keys is a window of consecutive positions of which those before a bound count.
-/
module

public import Mathlib.Algebra.BigOperators.Intervals
public import Idealize.ShloMosaic.Lib.Pointwise

@[expose] public section

noncomputable section

namespace Stick

/-- The logarithm of the share a key takes, from its score. -/
def logSig (z : ℝ) : ℝ := min z 0 - Real.log (1 + Real.exp (-|z|))

/-- The logarithm of the share a key leaves. -/
def logNot (z : ℝ) : ℝ := logSig z - z

/-- The logarithm of what the keys from `a` on leave to the keys before `a`, for the query at `p`. -/
def left (ζ : ℕ → ℝ) (a p : ℕ) : ℝ := ∑ k ∈ Finset.Ico a p, logNot (ζ k)

/-- The weight of key `k` for the query at `p`. -/
def weight (ζ : ℕ → ℝ) (p k : ℕ) : ℝ := Real.exp (logSig (ζ k) + left ζ (k + 1) p)

/-- The weighted sum of the values of the keys from `a` on. -/
def attend (ζ : ℕ → ℝ) (v : ℕ → EReal) (a p : ℕ) : EReal := ∑ k ∈ Finset.Ico a p, (weight ζ p k : EReal) * v k

theorem left_empty (ζ : ℕ → ℝ) {a p : ℕ} (h : p ≤ a) : left ζ a p = 0 := by simp [left, Finset.Ico_eq_empty_of_le h]

theorem attend_empty (ζ : ℕ → ℝ) (v : ℕ → EReal) {a p : ℕ} (h : p ≤ a) : attend ζ v a p = 0 := by
  simp [attend, Finset.Ico_eq_empty_of_le h]

/-- A window of `n` consecutive positions from `s`, those before `t` counting, is the interval from `s` to `t`. -/
theorem sum_window {M : Type*} [AddCommMonoid M] (n s t : ℕ) (h : t ≤ s + n) (f : ℕ → M) :
    ∑ r : Fin n, (if s + r.val < t then f (s + r.val) else 0) = ∑ k ∈ Finset.Ico s t, f k := by
  rw [Fin.sum_univ_eq_sum_range (fun r => if s + r < t then f (s + r) else 0) n, Finset.sum_ite, Finset.sum_const_zero, add_zero]
  rw [Finset.sum_Ico_eq_sum_range]
  refine Finset.sum_congr ?_ fun _ _ => rfl
  ext r; simp only [Finset.mem_filter, Finset.mem_range]; omega

/-- The later keys of a window: those past its column `c`. -/
theorem sum_window_after {M : Type*} [AddCommMonoid M] (n s t c : ℕ) (h : t ≤ s + n) (f : ℕ → M) :
    ∑ r : Fin n, (if c < r.val then (if s + r.val < t then f (s + r.val) else 0) else 0) = ∑ k ∈ Finset.Ico (s + c + 1) t, f k := by
  have := sum_window n s t h (fun k => if s + c < k then f k else 0)
  calc _ = ∑ r : Fin n, (if s + r.val < t then (if s + c < s + r.val then f (s + r.val) else 0) else 0) := by
        refine Finset.sum_congr rfl fun r _ => ?_
        by_cases h1 : c < r.val <;> by_cases h2 : s + r.val < t <;> simp [h1, h2]
    _ = _ := by
        rw [this, Finset.sum_ite, Finset.sum_const_zero, add_zero]
        refine Finset.sum_congr ?_ fun _ _ => rfl
        ext k; simp only [Finset.mem_filter, Finset.mem_Ico]; omega

/-- What the keys of a block `[s, hi)` and those past it leave, together. -/
theorem left_block (ζ : ℕ → ℝ) {s hi p : ℕ} (h : s ≤ hi) :
    left ζ hi p + ∑ k ∈ Finset.Ico s (min p hi), logNot (ζ k) = left ζ s p := by
  unfold left
  rcases le_total p hi with hp | hp
  · rw [min_eq_left hp, Finset.Ico_eq_empty_of_le hp, Finset.sum_empty, zero_add]
  · rw [min_eq_right hp, add_comm, Finset.sum_Ico_consecutive _ h hp]

/-- The weighted sum over the block and past it. -/
theorem attend_block (ζ : ℕ → ℝ) (v : ℕ → EReal) {s hi p : ℕ} (h : s ≤ hi) :
    attend ζ v hi p + ∑ k ∈ Finset.Ico s (min p hi), (weight ζ p k : EReal) * v k = attend ζ v s p := by
  unfold attend
  rcases le_total p hi with hp | hp
  · rw [min_eq_left hp, Finset.Ico_eq_empty_of_le hp, Finset.sum_empty, zero_add]
  · rw [min_eq_right hp, add_comm, Finset.sum_Ico_consecutive _ h hp]

/-- The block's weight from what the block itself leaves past the key and what was left before it. -/
theorem weight_block (ζ : ℕ → ℝ) {k hi p : ℕ} (h : k < min p hi) :
    Real.exp (logSig (ζ k) + (∑ k' ∈ Finset.Ico (k + 1) (min p hi), logNot (ζ k') + left ζ hi p)) = weight ζ p k := by
  unfold weight; rw [add_comm (∑ k' ∈ _, _), left_block ζ (by omega)]

/-- The softplus spelling of the share taken. -/
theorem logSig_softplus (z : ℝ) : -(max (-z) 0 + Real.log (1 + Real.exp (-|z|))) = logSig z := by
  unfold logSig
  rcases le_total z 0 with h | h
  · rw [min_eq_left h, max_eq_left (by linarith)]; ring
  · rw [min_eq_right h, max_eq_right (by linarith)]; ring

/-- The softplus spelling of the share left. -/
theorem logNot_softplus (z : ℝ) : -(max z 0 + Real.log (1 + Real.exp (-|z|))) = logNot z := by
  unfold logNot logSig
  rcases le_total z 0 with h | h
  · rw [min_eq_left h, max_eq_right h]; ring
  · rw [min_eq_right h, max_eq_left h]; ring

end Stick

end
-- ==== Proof.Stick.Reals.lean ====
/-
  Extended reals that are real numbers, and small words: what both the kernel's and the reference's values are read with.
-/
module

public import Idealize.ShloMosaic.Lib.Pointwise

@[expose] public section

noncomputable section

namespace Stick

open Idealize.ShloMosaic

theorem abs_coe (z : ℝ) : (FloatOps.absf (F := Ideal) (φ := .f32) (z : EReal) : EReal) = ((|z| : ℝ) : EReal) := by
  show ((max (z : EReal) (-(z : EReal))) : EReal) = _
  rw [← EReal.coe_neg, abs_eq_max_neg]; exact (EReal.coe_strictMono.monotone.map_max).symm

theorem min_coe (a b : ℝ) : (min (a : EReal) (b : EReal)) = ((min a b : ℝ) : EReal) :=
  (EReal.coe_strictMono.monotone.map_min).symm

theorem max_coe (a b : ℝ) : (max (a : EReal) (b : EReal)) = ((max a b : ℝ) : EReal) :=
  (EReal.coe_strictMono.monotone.map_max).symm

theorem coe_ite (p : Prop) [Decidable p] (a : ℝ) : (((if p then a else 0 : ℝ)) : EReal) = if p then (a : EReal) else 0 := by
  split <;> simp

theorem coe_sum {ι : Type} (s : Finset ι) (f : ι → ℝ) : (((∑ i ∈ s, f i : ℝ)) : EReal) = ∑ i ∈ s, (f i : EReal) := by
  classical
  induction s using Finset.induction_on with
  | empty => simp
  | insert a s h ih => rw [Finset.sum_insert h, Finset.sum_insert h, EReal.coe_add, ih]

theorem slt_small {a b : ℕ} (ha : a < 2 ^ 31) (hb : b < 2 ^ 31) : (BitVec.ofNat 32 a).slt (BitVec.ofNat 32 b) = decide (a < b) := by
  have e : ∀ n : ℕ, n < 2 ^ 31 → (BitVec.ofNat 32 n).toInt = (n : ℤ) := by
    intro n hn; rw [BitVec.toInt_ofNat']; norm_num [Int.bmod]; omega
  rw [BitVec.slt_eq_decide, e a ha, e b hb]
  simp

end Stick

end
-- ==== Proof.KernelIdeal.TripValue.lean ====
/-
  One trip of the attention kernel's loop over the extended reals, element by element: where the scores of a block are
  real numbers, a head's running sum gains what the block's keys leave and its weighted sum gains the block's weighted
  values.
-/
module

public import proofs.«01_k».proof.Proof.KernelIdeal.Trip
public import proofs.«01_k».proof.Proof.Stick.Sums
public import proofs.«01_k».proof.Proof.Stick.Reals

@[expose] public section

set_option maxRecDepth 16384

noncomputable section

namespace Cert.KernelIdeal.Attn

open Cert.KernelIdeal Cert.KernelIdeal.Gen
open Idealize.ShloMosaic
open Stick (abs_coe min_coe max_coe coe_ite coe_sum)

/-- Over the extended reals the bound of the running sums is `-∞`. -/
theorem underflow_eq : (Named.named κ "underflow" 0xC2D00000#32 : Ideal .f32) = (⊥ : EReal) :=
  IdealRules.named_const.ideal_named_scalar _ _ _ _ rfl

/-- The kernel's spelling of the share taken. -/
theorem logSig_coe (z : ℝ) :
    min (z : EReal) 0 - Ideal.log (1 + Ideal.exp (0 - (FloatOps.absf (F := Ideal) (φ := .f32) (z : EReal) : EReal)))
      = ((Stick.logSig z : ℝ) : EReal) := by
  have hpos : ¬ (1 + Real.exp (-|z|)) ≤ 0 := not_le.mpr (by positivity)
  rw [abs_coe, zero_sub, ← EReal.coe_neg, Ideal.exp_coe, ← EReal.coe_one, ← EReal.coe_add, Ideal.log_coe, if_neg hpos,
    ← EReal.coe_zero, min_coe, ← EReal.coe_sub]
  rfl

section
variable {q : FVec Ideal S256x256 .bf16} {kb vb : FVec Ideal S1x512x256 .bf16} {T : FVec Ideal S512x512 .bf16}
  {mask : IVec S256x512 1} {acc : FVec Ideal S256x256 .f32} {run : FVec Ideal S256x1 .f32} {r : Fin 256} {ζ : ℕ → ℝ} {s top : ℕ}

/-- The scores of a query row against a block of keys at positions from `s` on. -/
abbrev Scores (q : FVec Ideal S256x256 .bf16) (kb : FVec Ideal S1x512x256 .bf16) (r : Fin 256) (s : ℕ) (ζ : ℕ → ℝ) : Prop :=
  ∀ c : Fin 512, (∑ l : Fin 256, q (ix2 r l) * kb (ix3 0 c l)) = ((ζ (s + c.val) : ℝ) : EReal)

/-- The keys of the block that a query row looks at. -/
abbrev Looks (mask : IVec S256x512 1) (r : Fin 256) (s top : ℕ) : Prop :=
  ∀ c : Fin 512, mask (ix2 r c) = 1 ↔ s + c.val < top

theorem taken_at (hz : Scores q kb r s ζ) (c : Fin 512) :
    k0_pay75 q (k0_pay65 kb) (ix2 r c) = ((Stick.logSig (ζ (s + c.val)) : ℝ) : EReal) := by
  pointwise [k0_pay75, k0_pay74, k0_pay65]
  rw [hz c]; exact logSig_coe _

theorem left_at (hz : Scores q kb r s ζ) (hm : Looks mask r s top) (c : Fin 512) :
    k0_pay76 q (k0_pay65 kb) mask (ix2 r c)
      = ((if s + c.val < top then Stick.logNot (ζ (s + c.val)) else 0 : ℝ) : EReal) := by
  have h74 : k0_pay74 q (k0_pay65 kb) (ix2 r c) = ((ζ (s + c.val) : ℝ) : EReal) := by
    pointwise [k0_pay74, k0_pay65]
    exact hz c
  have h : k0_pay76 q (k0_pay65 kb) mask (ix2 r c)
      = Scalar.select (mask (ix2 r c)) ((k0_pay75 q (k0_pay65 kb) (ix2 r c) : EReal) - k0_pay74 q (k0_pay65 kb) (ix2 r c)) 0 := by
    pointwise [k0_pay76]
  rw [h, taken_at hz, h74, ← EReal.coe_sub]
  unfold Scalar.select
  by_cases hc : s + c.val < top
  · rw [if_pos ((hm c).2 hc), if_pos hc]; rfl
  · rw [if_neg (fun e => hc ((hm c).1 e)), if_neg hc]; rfl

/-- A head's running sum gains what the block's keys leave. -/
theorem runNext_at (hz : Scores q kb r s ζ) (hm : Looks mask r s top) (ht : top ≤ s + 512) {ρ : ℝ}
    (hr : run (ix2 r 0) = (ρ : EReal)) :
    runNext q kb mask run (ix2 r 0) = ((ρ + ∑ k ∈ Finset.Ico s top, Stick.logNot (ζ k) : ℝ) : EReal) := by
  have h : runNext q kb mask run (ix2 r 0) = run (ix2 r 0) + ∑ c : Fin 512, k0_pay76 q (k0_pay65 kb) mask (ix2 r c) := by
    pointwise [runNext, k0_pay78]
  rw [h, hr, Finset.sum_congr rfl (fun c _ => left_at hz hm c), ← coe_sum, ← EReal.coe_add,
    Stick.sum_window 512 s top ht (fun k => Stick.logNot (ζ k))]

/-- What the block's keys past column `c` leave, as the product with the strict triangle. -/
theorem suffix_at (hz : Scores q kb r s ζ) (hm : Looks mask r s top) (ht : top ≤ s + 512)
    (hT : ∀ a b : Fin 512, T (ix2 a b) = if b.val < a.val then (1 : EReal) else 0) (c : Fin 512) :
    (∑ a : Fin 512, k0_pay76 q (k0_pay65 kb) mask (ix2 r a) * T (ix2 a c) : EReal)
      = ((∑ k ∈ Finset.Ico (s + c.val + 1) top, Stick.logNot (ζ k) : ℝ) : EReal) := by
  rw [← Stick.sum_window_after 512 s top c.val ht (fun k => Stick.logNot (ζ k)), coe_sum]
  refine Finset.sum_congr rfl fun a _ => ?_
  rw [left_at hz hm a, hT a c]
  by_cases h : c.val < a.val
  · rw [if_pos h, if_pos h, mul_one]
  · rw [if_neg h, if_neg h, mul_zero, EReal.coe_zero]

/-- A head's weighted sum gains the block's weighted values. -/
theorem accNext_at {hi p : ℕ} (hz : Scores q kb r s ζ) (hm : Looks mask r s (min p hi)) (ht : hi ≤ s + 512)
    (hT : ∀ a b : Fin 512, T (ix2 a b) = if b.val < a.val then (1 : EReal) else 0)
    (hr : run (ix2 r 0) = ((Stick.left ζ hi p : ℝ) : EReal)) (l : Fin 256) (v : ℕ → EReal)
    (hv : ∀ c : Fin 512, vb (ix3 0 c l) = v (s + c.val)) :
    accNext q kb vb T mask acc run (ix2 r l)
      = acc (ix2 r l) + ∑ k ∈ Finset.Ico s (min p hi), (Stick.weight ζ p k : EReal) * v k := by
  have h : accNext q kb vb T mask acc run (ix2 r l) = acc (ix2 r l) + ∑ c : Fin 512, Scalar.select (mask (ix2 r c))
      (Ideal.exp (k0_pay75 q (k0_pay65 kb) (ix2 r c)
        + (∑ a : Fin 512, k0_pay76 q (k0_pay65 kb) mask (ix2 r a) * T (ix2 a c) + run (ix2 r 0)))) 0 * vb (ix3 0 c l) := by
    pointwise [accNext, k0_pay77, k0_pay66]
  have ht' : min p hi ≤ s + 512 := le_trans (min_le_right _ _) ht
  rw [h, ← Stick.sum_window 512 s (min p hi) ht' (fun k => (Stick.weight ζ p k : EReal) * v k)]
  congr 1
  refine Finset.sum_congr rfl fun c _ => ?_
  rw [taken_at hz, suffix_at hz hm ht' hT, hr, hv, ← EReal.coe_add, ← EReal.coe_add, Ideal.exp_coe]
  unfold Scalar.select
  by_cases hc : s + c.val < min p hi
  · rw [if_pos ((hm c).2 hc), if_pos hc, Stick.weight_block ζ hc]
  · rw [if_neg (fun e => hc ((hm c).1 e)), if_neg hc, zero_mul]

end

/-- A running sum that is a real number is above the bound, so that the loop goes on. -/
theorem alive_of_real (r0 r1 r2 r3 : FVec Ideal S256x1 .f32) (ρ : ℝ) (h : r0 (ix2 0 0) = (ρ : EReal)) :
    alive r0 r1 r2 r3 = 1#32 := by
  have hb : (⊥ : EReal) < topRun r0 r1 r2 r3 := by
    pointwise [topRun]
    rw [Finset.lt_fold_max]
    refine Or.inr ⟨(0, 0), Finset.mem_univ _, ?_⟩
    simp only [lt_max_iff]
    left; left; left
    rw [h]; exact EReal.bot_lt_coe ρ
  unfold alive
  rw [underflow_eq]
  show Scalar.extui (BitVec.ofBool (decide ((⊥ : EReal) < topRun r0 r1 r2 r3))) = 1#32
  rw [decide_eq_true hb]
  rfl

end Cert.KernelIdeal.Attn

end
-- ==== Proof.KernelIdeal.Loop.lean ====
/-
  The kernel's loops, run: each loop's label, called on what the loop reads and carries, returns the loop's pure function
  of it and leaves the keys', the values' and the triangle's buffers as they were. By induction on the trips that can
  still come: the body's own call, at one trip fewer, is answered by the induction hypothesis.
-/
module

public import proofs.«01_k».proof.Proof.KernelIdeal.Trip
public import Idealize.ShloMosaic.Lib.Pipeline.Sound
public import Idealize.ShloMosaic.Lib.Pipeline.Frame
public import Idealize.ShloMosaic.Lib.Ring
public import Idealize.ShloMosaic.Lib.Tactic
public import Idealize.ShloMosaic.Lib.WordCmp

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F] [Named F]

local notation "𝕄" => MT nD τ sig Unit (Elt F) ℕ (UR sig nD τ) ℕ

/-- The kernel's variants: the trips that can still come. -/
abbrev 𝒱₀ : Variants := Variants.nat

/-- What a loop reads from memory: the keys, the values and the triangle. -/
def reads (c : Dev nD) (arg3 arg4 : Memref sig .tc .vmem S1x2048x1024 .bf16) (arg5 : Memref sig .tc .vmem S512x512 .bf16)
    (x1 x2 : Vec F S1x2048x1024 .bf16) (x3 : Vec F S512x512 .bf16) : sProp 𝕄 :=
  iprop(owns (c : Thread nD τ) arg3 fullShare x1 ∗ owns (c : Thread nD τ) arg4 fullShare x2 ∗ owns (c : Thread nD τ) arg5 fullShare x3)

/-- What a loop's label does: given what the loop reads, it returns `r` and gives it back. -/
def spec (c : Dev nD) (arg3 arg4 : Memref sig .tc .vmem S1x2048x1024 .bf16) (arg5 : Memref sig .tc .vmem S512x512 .bf16)
    (x1 x2 : Vec F S1x2048x1024 .bf16) (x3 : Vec F S512x512 .bf16) (r : Carried F) : sWPT 𝕄 (Carried F) := do
  consume (reads c arg3 arg4 arg5 x1 x2 x3)
  produce (reads c arg3 arg4 arg5 x1 x2 x3)
  pure r

theorem spec_apply (c : Dev nD) (arg3 arg4 : Memref sig .tc .vmem S1x2048x1024 .bf16) (arg5 : Memref sig .tc .vmem S512x512 .bf16)
    (x1 x2 : Vec F S1x2048x1024 .bf16) (x3 : Vec F S512x512 .bf16) (r : Carried F) (K : Carried F → sProp 𝕄) :
    spec c arg3 arg4 arg5 x1 x2 x3 r K
      = iprop(reads c arg3 arg4 arg5 x1 x2 x3 ∗ (reads c arg3 arg4 arg5 x1 x2 x3 -∗ K r)) := rfl

set_option maxHeartbeats 400000 in
/-- Loop 1, entered with `n` trips possible. -/
theorem loop1_le (c : Dev nD) (E : Set ℕ) (i : grid0.Coords) (arg3 : Memref sig .tc .vmem S1x2048x1024 .bf16) (harg3 : arg3.IsWhole)
    (arg4 : Memref sig .tc .vmem S1x2048x1024 .bf16) (harg4 : arg4.IsWhole) (arg5 : Memref sig .tc .vmem S512x512 .bf16) (harg5 : arg5.IsWhole)
    (x1 x2 : Vec F S1x2048x1024 .bf16) (x3 : Vec F S512x512 .bf16)
    (qpos : IVec S256x1 32) (q0 q1 q2 q3 : FVec F S256x256 .bf16) :
    ∀ n, n ≤ 4 → ∀ (live : BitVec 32) (a0 : FVec F S256x256 .f32) (r0 : FVec F S256x1 .f32) (a1 : FVec F S256x256 .f32) (r1 : FVec F S256x1 .f32)
        (a2 : FVec F S256x256 .f32) (r2 : FVec F S256x1 .f32) (a3 : FVec F S256x256 .f32) (r3 : FVec F S256x1 .f32) K,
      spec c arg3 arg4 arg5 x1 x2 x3 (loop i qpos q0 q1 q2 q3 (View.ld x3 (Rect.unit (s := S512x512) ![0, 0] S512x512.size inb_S512x512_S512x512_0_0)) (blk1 i x1) (blk1 i x2) n (jAt n, live, a0, r0, a1, r1, a2, r2, a3, r3)) K
        ⊢ wp frame (wpE (defs₀ (F := F)) 𝒱₀ (c : Thread nD τ) (some n)) E
            (defs₀ (F := F) .tc 1 ⟨i, arg3, harg3, arg4, harg4, qpos, q0, arg5, harg5, q1, q2, q3, jAt n, live, a0, r0, a1, r1, a2, r2, a3, r3⟩) K := by
  intro n
  induction n with
  | zero =>
    intro _ live a0 r0 a1 r1 a2 r2 a3 r3 K
    rw [spec_apply]
    show _ ⊢ wp frame (wpE (defs₀ (F := F)) 𝒱₀ (c : Thread nD τ) (some 0)) E
      (cc0_while1 i arg3 harg3 arg4 harg4 qpos q0 arg5 harg5 q1 q2 q3 (jAt 0) live a0 r0 a1 r1 a2 r2 a3 r3) K
    simp only [cc0_while1_eq_skeleton]; unfold cc0_while1_skel
    dsimp only
    split
    · next h => exact absurd h (not_more_last i live)
    · iintro ⟨H, Hk⟩
      simp only [Prog.pure_eq_ret]
      rw [wp_ret]; imodintro
      simp only [loop]
      iapply Hk
      iexact H
  | succ n ih =>
    intro hn live a0 r0 a1 r1 a2 r2 a3 r3 K
    rw [spec_apply]
    show _ ⊢ wp frame (wpE (defs₀ (F := F)) 𝒱₀ (c : Thread nD τ) (some (n + 1))) E
      (cc0_while1 i arg3 harg3 arg4 harg4 qpos q0 arg5 harg5 q1 q2 q3 (jAt (n + 1)) live a0 r0 a1 r1 a2 r2 a3 r3) K
    simp only [cc0_while1_eq_skeleton]; unfold cc0_while1_skel
    dsimp only
    split
    · next h =>
      have hm : more i (jAt (n + 1)) live = 1#1 := h
      have hc := chk1 hn i
      have hkb : ∀ x : Vec F S1x2048x1024 .bf16, blk1 i x (jAt (n + 1))
          = View.ld x (Rect.unit (s := S1x2048x1024) (k0_off1 i (jAt (n + 1))) S1x512x256.size (k0_off1_inb i (jAt (n + 1)) hc)) := fun x => by
        unfold blk1; rw [dif_pos hc]
      rw [loop, if_pos hm]
      unfold trip
      simp only [hkb]
      simp only [k0_part10_eq_skeleton, k0_part10_skel, k0_part11_eq_skeleton, k0_part11_skel, k0_part12_eq_skeleton, k0_part12_skel]
      unfold reads owns
      iintro ⟨⟨⟨%f1, %hf1, H1⟩, ⟨%f2, %hf2, H2⟩, ⟨%f3, %hf3, H3⟩⟩, Hk⟩
      subst hf1 hf2 hf3
      sl_exec
      rw [jAt_succ hn]
      set s' := tripOf i qpos q0 q1 q2 q3 (View.ld (arg5.view.read (Elt F) f3) (Rect.unit (s := S512x512) ![0, 0] S512x512.size inb_S512x512_S512x512_0_0))
        (View.ld (arg3.view.read (Elt F) f1) (Rect.unit (s := S1x2048x1024) (k0_off1 i (jAt (n + 1))) S1x512x256.size (k0_off1_inb i (jAt (n + 1)) hc)))
        (View.ld (arg4.view.read (Elt F) f2) (Rect.unit (s := S1x2048x1024) (k0_off1 i (jAt (n + 1))) S1x512x256.size (k0_off1_inb i (jAt (n + 1)) hc)))
        (jAt (n + 1), live, a0, r0, a1, r1, a2, r2, a3, r3) with hs'
      have hj : s' = (jAt n, s'.2.1, s'.2.2.1, s'.2.2.2.1, s'.2.2.2.2.1, s'.2.2.2.2.2.1, s'.2.2.2.2.2.2.1, s'.2.2.2.2.2.2.2.1,
          s'.2.2.2.2.2.2.2.2.1, s'.2.2.2.2.2.2.2.2.2) := by
        rw [← jAt_succ hn]; rfl
      dsimp only
      rw [show Scalar.addi (Scalar.addi (0#32) (Scalar.muli (BitVec.ofNat 32 (i 1).val) 256#32)) 256#32 = qEnd i from rfl]
      simp only [seen_1, acc0_1, run0_1, acc1_1, run1_1, acc2_1, run2_1, acc3_1, run3_1, top_1]
      iapply (wp_call_spec 𝒱₀ (c : Thread nD τ) (some (n + 1)) E (spec c arg3 arg4 arg5 (arg3.view.read (Elt F) f1) (arg4.view.read (Elt F) f2) (arg5.view.read (Elt F) f3) _) n
        (fun u hu => by cases hu; exact Nat.lt_succ_self n)
        (ih (Nat.le_of_succ_le hn) s'.2.1 s'.2.2.1 s'.2.2.2.1 s'.2.2.2.2.1 s'.2.2.2.2.2.1 s'.2.2.2.2.2.2.1 s'.2.2.2.2.2.2.2.1
          s'.2.2.2.2.2.2.2.2.1 s'.2.2.2.2.2.2.2.2.2))
      rw [spec_apply]
      isplitl [H1 H2 H3]
      · unfold reads owns
        isplitl [H1]
        · iexists f1; isplitr; · ipureintro; rfl
          iexact H1
        isplitl [H2]
        · iexists f2; isplitr; · ipureintro; rfl
          iexact H2
        iexists f3; isplitr; · ipureintro; rfl
        iexact H3
      iintro H
      rw [wp_ret]; imodintro
      rw [← hj]
      iapply Hk
      unfold reads owns
      iexact H
    · next h =>
      have hm : ¬ more i (jAt (n + 1)) live = 1#1 := h
      iintro ⟨H, Hk⟩
      simp only [Prog.pure_eq_ret]
      rw [wp_ret]; imodintro
      simp only [loop, if_neg hm]
      iapply Hk
      iexact H

set_option maxHeartbeats 400000 in
/-- Loop 2, entered with `n` trips possible. -/
theorem loop2_le (c : Dev nD) (E : Set ℕ) (i : grid0.Coords) (arg3 : Memref sig .tc .vmem S1x2048x1024 .bf16) (harg3 : arg3.IsWhole)
    (arg4 : Memref sig .tc .vmem S1x2048x1024 .bf16) (harg4 : arg4.IsWhole) (arg5 : Memref sig .tc .vmem S512x512 .bf16) (harg5 : arg5.IsWhole)
    (x1 x2 : Vec F S1x2048x1024 .bf16) (x3 : Vec F S512x512 .bf16)
    (qpos : IVec S256x1 32) (q0 q1 q2 q3 : FVec F S256x256 .bf16) :
    ∀ n, n ≤ 4 → ∀ (live : BitVec 32) (a0 : FVec F S256x256 .f32) (r0 : FVec F S256x1 .f32) (a1 : FVec F S256x256 .f32) (r1 : FVec F S256x1 .f32)
        (a2 : FVec F S256x256 .f32) (r2 : FVec F S256x1 .f32) (a3 : FVec F S256x256 .f32) (r3 : FVec F S256x1 .f32) K,
      spec c arg3 arg4 arg5 x1 x2 x3 (loop i qpos q0 q1 q2 q3 (View.ld x3 (Rect.unit (s := S512x512) ![0, 0] S512x512.size inb_S512x512_S512x512_0_0)) (blk2 i x1) (blk2 i x2) n (jAt n, live, a0, r0, a1, r1, a2, r2, a3, r3)) K
        ⊢ wp frame (wpE (defs₀ (F := F)) 𝒱₀ (c : Thread nD τ) (some n)) E
            (defs₀ (F := F) .tc 2 ⟨i, arg3, harg3, arg4, harg4, qpos, q0, arg5, harg5, q1, q2, q3, jAt n, live, a0, r0, a1, r1, a2, r2, a3, r3⟩) K := by
  intro n
  induction n with
  | zero =>
    intro _ live a0 r0 a1 r1 a2 r2 a3 r3 K
    rw [spec_apply]
    show _ ⊢ wp frame (wpE (defs₀ (F := F)) 𝒱₀ (c : Thread nD τ) (some 0)) E
      (cc0_while2 i arg3 harg3 arg4 harg4 qpos q0 arg5 harg5 q1 q2 q3 (jAt 0) live a0 r0 a1 r1 a2 r2 a3 r3) K
    simp only [cc0_while2_eq_skeleton]; unfold cc0_while2_skel
    dsimp only
    split
    · next h => exact absurd h (not_more_last i live)
    · iintro ⟨H, Hk⟩
      simp only [Prog.pure_eq_ret]
      rw [wp_ret]; imodintro
      simp only [loop]
      iapply Hk
      iexact H
  | succ n ih =>
    intro hn live a0 r0 a1 r1 a2 r2 a3 r3 K
    rw [spec_apply]
    show _ ⊢ wp frame (wpE (defs₀ (F := F)) 𝒱₀ (c : Thread nD τ) (some (n + 1))) E
      (cc0_while2 i arg3 harg3 arg4 harg4 qpos q0 arg5 harg5 q1 q2 q3 (jAt (n + 1)) live a0 r0 a1 r1 a2 r2 a3 r3) K
    simp only [cc0_while2_eq_skeleton]; unfold cc0_while2_skel
    dsimp only
    split
    · next h =>
      have hm : more i (jAt (n + 1)) live = 1#1 := h
      have hc := chk2 hn i
      have hkb : ∀ x : Vec F S1x2048x1024 .bf16, blk2 i x (jAt (n + 1))
          = View.ld x (Rect.unit (s := S1x2048x1024) (k0_off2 i (jAt (n + 1))) S1x512x256.size (k0_off2_inb i (jAt (n + 1)) hc)) := fun x => by
        unfold blk2; rw [dif_pos hc]
      rw [loop, if_pos hm]
      unfold trip
      simp only [hkb]
      simp only [k0_part13_eq_skeleton, k0_part13_skel, k0_part14_eq_skeleton, k0_part14_skel, k0_part15_eq_skeleton, k0_part15_skel]
      unfold reads owns
      iintro ⟨⟨⟨%f1, %hf1, H1⟩, ⟨%f2, %hf2, H2⟩, ⟨%f3, %hf3, H3⟩⟩, Hk⟩
      subst hf1 hf2 hf3
      sl_exec
      rw [jAt_succ hn]
      set s' := tripOf i qpos q0 q1 q2 q3 (View.ld (arg5.view.read (Elt F) f3) (Rect.unit (s := S512x512) ![0, 0] S512x512.size inb_S512x512_S512x512_0_0))
        (View.ld (arg3.view.read (Elt F) f1) (Rect.unit (s := S1x2048x1024) (k0_off2 i (jAt (n + 1))) S1x512x256.size (k0_off2_inb i (jAt (n + 1)) hc)))
        (View.ld (arg4.view.read (Elt F) f2) (Rect.unit (s := S1x2048x1024) (k0_off2 i (jAt (n + 1))) S1x512x256.size (k0_off2_inb i (jAt (n + 1)) hc)))
        (jAt (n + 1), live, a0, r0, a1, r1, a2, r2, a3, r3) with hs'
      have hj : s' = (jAt n, s'.2.1, s'.2.2.1, s'.2.2.2.1, s'.2.2.2.2.1, s'.2.2.2.2.2.1, s'.2.2.2.2.2.2.1, s'.2.2.2.2.2.2.2.1,
          s'.2.2.2.2.2.2.2.2.1, s'.2.2.2.2.2.2.2.2.2) := by
        rw [← jAt_succ hn]; rfl
      dsimp only
      rw [show Scalar.addi (Scalar.addi (0#32) (Scalar.muli (BitVec.ofNat 32 (i 1).val) 256#32)) 256#32 = qEnd i from rfl]
      simp only [seen_2, acc0_2, run0_2, acc1_2, run1_2, acc2_2, run2_2, acc3_2, run3_2, top_2]
      iapply (wp_call_spec 𝒱₀ (c : Thread nD τ) (some (n + 1)) E (spec c arg3 arg4 arg5 (arg3.view.read (Elt F) f1) (arg4.view.read (Elt F) f2) (arg5.view.read (Elt F) f3) _) n
        (fun u hu => by cases hu; exact Nat.lt_succ_self n)
        (ih (Nat.le_of_succ_le hn) s'.2.1 s'.2.2.1 s'.2.2.2.1 s'.2.2.2.2.1 s'.2.2.2.2.2.1 s'.2.2.2.2.2.2.1 s'.2.2.2.2.2.2.2.1
          s'.2.2.2.2.2.2.2.2.1 s'.2.2.2.2.2.2.2.2.2))
      rw [spec_apply]
      isplitl [H1 H2 H3]
      · unfold reads owns
        isplitl [H1]
        · iexists f1; isplitr; · ipureintro; rfl
          iexact H1
        isplitl [H2]
        · iexists f2; isplitr; · ipureintro; rfl
          iexact H2
        iexists f3; isplitr; · ipureintro; rfl
        iexact H3
      iintro H
      rw [wp_ret]; imodintro
      rw [← hj]
      iapply Hk
      unfold reads owns
      iexact H
    · next h =>
      have hm : ¬ more i (jAt (n + 1)) live = 1#1 := h
      iintro ⟨H, Hk⟩
      simp only [Prog.pure_eq_ret]
      rw [wp_ret]; imodintro
      simp only [loop, if_neg hm]
      iapply Hk
      iexact H

set_option maxHeartbeats 400000 in
/-- Loop 3, entered with `n` trips possible. -/
theorem loop3_le (c : Dev nD) (E : Set ℕ) (i : grid0.Coords) (arg3 : Memref sig .tc .vmem S1x2048x1024 .bf16) (harg3 : arg3.IsWhole)
    (arg4 : Memref sig .tc .vmem S1x2048x1024 .bf16) (harg4 : arg4.IsWhole) (arg5 : Memref sig .tc .vmem S512x512 .bf16) (harg5 : arg5.IsWhole)
    (x1 x2 : Vec F S1x2048x1024 .bf16) (x3 : Vec F S512x512 .bf16)
    (qpos : IVec S256x1 32) (q0 q1 q2 q3 : FVec F S256x256 .bf16) :
    ∀ n, n ≤ 4 → ∀ (live : BitVec 32) (a0 : FVec F S256x256 .f32) (r0 : FVec F S256x1 .f32) (a1 : FVec F S256x256 .f32) (r1 : FVec F S256x1 .f32)
        (a2 : FVec F S256x256 .f32) (r2 : FVec F S256x1 .f32) (a3 : FVec F S256x256 .f32) (r3 : FVec F S256x1 .f32) K,
      spec c arg3 arg4 arg5 x1 x2 x3 (loop i qpos q0 q1 q2 q3 (View.ld x3 (Rect.unit (s := S512x512) ![0, 0] S512x512.size inb_S512x512_S512x512_0_0)) (blk3 i x1) (blk3 i x2) n (jAt n, live, a0, r0, a1, r1, a2, r2, a3, r3)) K
        ⊢ wp frame (wpE (defs₀ (F := F)) 𝒱₀ (c : Thread nD τ) (some n)) E
            (defs₀ (F := F) .tc 3 ⟨i, arg3, harg3, arg4, harg4, qpos, q0, arg5, harg5, q1, q2, q3, jAt n, live, a0, r0, a1, r1, a2, r2, a3, r3⟩) K := by
  intro n
  induction n with
  | zero =>
    intro _ live a0 r0 a1 r1 a2 r2 a3 r3 K
    rw [spec_apply]
    show _ ⊢ wp frame (wpE (defs₀ (F := F)) 𝒱₀ (c : Thread nD τ) (some 0)) E
      (cc0_while3 i arg3 harg3 arg4 harg4 qpos q0 arg5 harg5 q1 q2 q3 (jAt 0) live a0 r0 a1 r1 a2 r2 a3 r3) K
    simp only [cc0_while3_eq_skeleton]; unfold cc0_while3_skel
    dsimp only
    split
    · next h => exact absurd h (not_more_last i live)
    · iintro ⟨H, Hk⟩
      simp only [Prog.pure_eq_ret]
      rw [wp_ret]; imodintro
      simp only [loop]
      iapply Hk
      iexact H
  | succ n ih =>
    intro hn live a0 r0 a1 r1 a2 r2 a3 r3 K
    rw [spec_apply]
    show _ ⊢ wp frame (wpE (defs₀ (F := F)) 𝒱₀ (c : Thread nD τ) (some (n + 1))) E
      (cc0_while3 i arg3 harg3 arg4 harg4 qpos q0 arg5 harg5 q1 q2 q3 (jAt (n + 1)) live a0 r0 a1 r1 a2 r2 a3 r3) K
    simp only [cc0_while3_eq_skeleton]; unfold cc0_while3_skel
    dsimp only
    split
    · next h =>
      have hm : more i (jAt (n + 1)) live = 1#1 := h
      have hc := chk3 hn i
      have hkb : ∀ x : Vec F S1x2048x1024 .bf16, blk3 i x (jAt (n + 1))
          = View.ld x (Rect.unit (s := S1x2048x1024) (k0_off3 i (jAt (n + 1))) S1x512x256.size (k0_off3_inb i (jAt (n + 1)) hc)) := fun x => by
        unfold blk3; rw [dif_pos hc]
      rw [loop, if_pos hm]
      unfold trip
      simp only [hkb]
      simp only [k0_part16_eq_skeleton, k0_part16_skel, k0_part17_eq_skeleton, k0_part17_skel, k0_part18_eq_skeleton, k0_part18_skel]
      unfold reads owns
      iintro ⟨⟨⟨%f1, %hf1, H1⟩, ⟨%f2, %hf2, H2⟩, ⟨%f3, %hf3, H3⟩⟩, Hk⟩
      subst hf1 hf2 hf3
      sl_exec
      rw [jAt_succ hn]
      set s' := tripOf i qpos q0 q1 q2 q3 (View.ld (arg5.view.read (Elt F) f3) (Rect.unit (s := S512x512) ![0, 0] S512x512.size inb_S512x512_S512x512_0_0))
        (View.ld (arg3.view.read (Elt F) f1) (Rect.unit (s := S1x2048x1024) (k0_off3 i (jAt (n + 1))) S1x512x256.size (k0_off3_inb i (jAt (n + 1)) hc)))
        (View.ld (arg4.view.read (Elt F) f2) (Rect.unit (s := S1x2048x1024) (k0_off3 i (jAt (n + 1))) S1x512x256.size (k0_off3_inb i (jAt (n + 1)) hc)))
        (jAt (n + 1), live, a0, r0, a1, r1, a2, r2, a3, r3) with hs'
      have hj : s' = (jAt n, s'.2.1, s'.2.2.1, s'.2.2.2.1, s'.2.2.2.2.1, s'.2.2.2.2.2.1, s'.2.2.2.2.2.2.1, s'.2.2.2.2.2.2.2.1,
          s'.2.2.2.2.2.2.2.2.1, s'.2.2.2.2.2.2.2.2.2) := by
        rw [← jAt_succ hn]; rfl
      dsimp only
      rw [show Scalar.addi (Scalar.addi (0#32) (Scalar.muli (BitVec.ofNat 32 (i 1).val) 256#32)) 256#32 = qEnd i from rfl]
      simp only [seen_3, acc0_3, run0_3, acc1_3, run1_3, acc2_3, run2_3, acc3_3, run3_3, top_3]
      iapply (wp_call_spec 𝒱₀ (c : Thread nD τ) (some (n + 1)) E (spec c arg3 arg4 arg5 (arg3.view.read (Elt F) f1) (arg4.view.read (Elt F) f2) (arg5.view.read (Elt F) f3) _) n
        (fun u hu => by cases hu; exact Nat.lt_succ_self n)
        (ih (Nat.le_of_succ_le hn) s'.2.1 s'.2.2.1 s'.2.2.2.1 s'.2.2.2.2.1 s'.2.2.2.2.2.1 s'.2.2.2.2.2.2.1 s'.2.2.2.2.2.2.2.1
          s'.2.2.2.2.2.2.2.2.1 s'.2.2.2.2.2.2.2.2.2))
      rw [spec_apply]
      isplitl [H1 H2 H3]
      · unfold reads owns
        isplitl [H1]
        · iexists f1; isplitr; · ipureintro; rfl
          iexact H1
        isplitl [H2]
        · iexists f2; isplitr; · ipureintro; rfl
          iexact H2
        iexists f3; isplitr; · ipureintro; rfl
        iexact H3
      iintro H
      rw [wp_ret]; imodintro
      rw [← hj]
      iapply Hk
      unfold reads owns
      iexact H
    · next h =>
      have hm : ¬ more i (jAt (n + 1)) live = 1#1 := h
      iintro ⟨H, Hk⟩
      simp only [Prog.pure_eq_ret]
      rw [wp_ret]; imodintro
      simp only [loop, if_neg hm]
      iapply Hk
      iexact H

set_option maxHeartbeats 400000 in
/-- Loop 4, entered with `n` trips possible. -/
theorem loop4_le (c : Dev nD) (E : Set ℕ) (i : grid0.Coords) (arg3 : Memref sig .tc .vmem S1x2048x1024 .bf16) (harg3 : arg3.IsWhole)
    (arg4 : Memref sig .tc .vmem S1x2048x1024 .bf16) (harg4 : arg4.IsWhole) (arg5 : Memref sig .tc .vmem S512x512 .bf16) (harg5 : arg5.IsWhole)
    (x1 x2 : Vec F S1x2048x1024 .bf16) (x3 : Vec F S512x512 .bf16)
    (qpos : IVec S256x1 32) (q0 q1 q2 q3 : FVec F S256x256 .bf16) :
    ∀ n, n ≤ 4 → ∀ (live : BitVec 32) (a0 : FVec F S256x256 .f32) (r0 : FVec F S256x1 .f32) (a1 : FVec F S256x256 .f32) (r1 : FVec F S256x1 .f32)
        (a2 : FVec F S256x256 .f32) (r2 : FVec F S256x1 .f32) (a3 : FVec F S256x256 .f32) (r3 : FVec F S256x1 .f32) K,
      spec c arg3 arg4 arg5 x1 x2 x3 (loop i qpos q0 q1 q2 q3 (View.ld x3 (Rect.unit (s := S512x512) ![0, 0] S512x512.size inb_S512x512_S512x512_0_0)) (blk4 i x1) (blk4 i x2) n (jAt n, live, a0, r0, a1, r1, a2, r2, a3, r3)) K
        ⊢ wp frame (wpE (defs₀ (F := F)) 𝒱₀ (c : Thread nD τ) (some n)) E
            (defs₀ (F := F) .tc 4 ⟨i, arg3, harg3, arg4, harg4, qpos, q0, arg5, harg5, q1, q2, q3, jAt n, live, a0, r0, a1, r1, a2, r2, a3, r3⟩) K := by
  intro n
  induction n with
  | zero =>
    intro _ live a0 r0 a1 r1 a2 r2 a3 r3 K
    rw [spec_apply]
    show _ ⊢ wp frame (wpE (defs₀ (F := F)) 𝒱₀ (c : Thread nD τ) (some 0)) E
      (cc0_while4 i arg3 harg3 arg4 harg4 qpos q0 arg5 harg5 q1 q2 q3 (jAt 0) live a0 r0 a1 r1 a2 r2 a3 r3) K
    simp only [cc0_while4_eq_skeleton]; unfold cc0_while4_skel
    dsimp only
    split
    · next h => exact absurd h (not_more_last i live)
    · iintro ⟨H, Hk⟩
      simp only [Prog.pure_eq_ret]
      rw [wp_ret]; imodintro
      simp only [loop]
      iapply Hk
      iexact H
  | succ n ih =>
    intro hn live a0 r0 a1 r1 a2 r2 a3 r3 K
    rw [spec_apply]
    show _ ⊢ wp frame (wpE (defs₀ (F := F)) 𝒱₀ (c : Thread nD τ) (some (n + 1))) E
      (cc0_while4 i arg3 harg3 arg4 harg4 qpos q0 arg5 harg5 q1 q2 q3 (jAt (n + 1)) live a0 r0 a1 r1 a2 r2 a3 r3) K
    simp only [cc0_while4_eq_skeleton]; unfold cc0_while4_skel
    dsimp only
    split
    · next h =>
      have hm : more i (jAt (n + 1)) live = 1#1 := h
      have hc := chk4 hn i
      have hkb : ∀ x : Vec F S1x2048x1024 .bf16, blk4 i x (jAt (n + 1))
          = View.ld x (Rect.unit (s := S1x2048x1024) (k0_off4 i (jAt (n + 1))) S1x512x256.size (k0_off4_inb i (jAt (n + 1)) hc)) := fun x => by
        unfold blk4; rw [dif_pos hc]
      rw [loop, if_pos hm]
      unfold trip
      simp only [hkb]
      simp only [k0_part19_eq_skeleton, k0_part19_skel, k0_part20_eq_skeleton, k0_part20_skel, k0_part21_eq_skeleton, k0_part21_skel]
      unfold reads owns
      iintro ⟨⟨⟨%f1, %hf1, H1⟩, ⟨%f2, %hf2, H2⟩, ⟨%f3, %hf3, H3⟩⟩, Hk⟩
      subst hf1 hf2 hf3
      sl_exec
      rw [jAt_succ hn]
      set s' := tripOf i qpos q0 q1 q2 q3 (View.ld (arg5.view.read (Elt F) f3) (Rect.unit (s := S512x512) ![0, 0] S512x512.size inb_S512x512_S512x512_0_0))
        (View.ld (arg3.view.read (Elt F) f1) (Rect.unit (s := S1x2048x1024) (k0_off4 i (jAt (n + 1))) S1x512x256.size (k0_off4_inb i (jAt (n + 1)) hc)))
        (View.ld (arg4.view.read (Elt F) f2) (Rect.unit (s := S1x2048x1024) (k0_off4 i (jAt (n + 1))) S1x512x256.size (k0_off4_inb i (jAt (n + 1)) hc)))
        (jAt (n + 1), live, a0, r0, a1, r1, a2, r2, a3, r3) with hs'
      have hj : s' = (jAt n, s'.2.1, s'.2.2.1, s'.2.2.2.1, s'.2.2.2.2.1, s'.2.2.2.2.2.1, s'.2.2.2.2.2.2.1, s'.2.2.2.2.2.2.2.1,
          s'.2.2.2.2.2.2.2.2.1, s'.2.2.2.2.2.2.2.2.2) := by
        rw [← jAt_succ hn]; rfl
      dsimp only
      rw [show Scalar.addi (Scalar.addi (0#32) (Scalar.muli (BitVec.ofNat 32 (i 1).val) 256#32)) 256#32 = qEnd i from rfl]
      simp only [seen_4, acc0_4, run0_4, acc1_4, run1_4, acc2_4, run2_4, acc3_4, run3_4, top_4]
      iapply (wp_call_spec 𝒱₀ (c : Thread nD τ) (some (n + 1)) E (spec c arg3 arg4 arg5 (arg3.view.read (Elt F) f1) (arg4.view.read (Elt F) f2) (arg5.view.read (Elt F) f3) _) n
        (fun u hu => by cases hu; exact Nat.lt_succ_self n)
        (ih (Nat.le_of_succ_le hn) s'.2.1 s'.2.2.1 s'.2.2.2.1 s'.2.2.2.2.1 s'.2.2.2.2.2.1 s'.2.2.2.2.2.2.1 s'.2.2.2.2.2.2.2.1
          s'.2.2.2.2.2.2.2.2.1 s'.2.2.2.2.2.2.2.2.2))
      rw [spec_apply]
      isplitl [H1 H2 H3]
      · unfold reads owns
        isplitl [H1]
        · iexists f1; isplitr; · ipureintro; rfl
          iexact H1
        isplitl [H2]
        · iexists f2; isplitr; · ipureintro; rfl
          iexact H2
        iexists f3; isplitr; · ipureintro; rfl
        iexact H3
      iintro H
      rw [wp_ret]; imodintro
      rw [← hj]
      iapply Hk
      unfold reads owns
      iexact H
    · next h =>
      have hm : ¬ more i (jAt (n + 1)) live = 1#1 := h
      iintro ⟨H, Hk⟩
      simp only [Prog.pure_eq_ret]
      rw [wp_ret]; imodintro
      simp only [loop, if_neg hm]
      iapply Hk
      iexact H

end Cert.KernelIdeal.Attn

end
-- ==== Proof.KernelIdeal.Body.lean ====
/-
  The attention kernel's body at one grid point: what it leaves in the output block, as a function of the query tile, the
  batch's keys and values and the triangle, and the triple that says so. Each of the four groups of heads loads its lanes
  of the query tile, runs its loop from nothing and stores its four heads' sums side by side.
-/
module

public import proofs.«01_k».proof.Proof.KernelIdeal.Loop

@[expose] public section

-- the stores' rectangles are looked at once per lane
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### What one group computes -/

/-- The positions of the tile's queries. -/
def qposOf (i : grid0.Coords) : IVec S256x1 32 := k0_pay21 (BitVec.ofNat 32 (i 1).val)

/-- A group's queries with every lane outside head `h` set to zero. -/
def headQ (h : Fin 4) (x : Vec F S1x256x256 .bf16) : FVec F S256x256 .bf16 :=
  match h with
  | 0 => k0_pay17 x
  | 1 => k0_pay18 x
  | 2 => k0_pay19 x
  | 3 => k0_pay20 (k0_pay14 x) k0_pay15 (k0_pay16 (F := F)) 3#32

/-- Each head's lanes of its own sum, side by side. -/
def merge (a0 a1 a2 a3 : FVec F S256x256 .f32) : Vec F S1x256x256 .bf16 := k0_pay37 k0_pay28 a0 a1 a2 a3

/-- A group's loop, from nothing. -/
def sums (i : grid0.Coords) (x : Vec F S1x256x256 .bf16) (T : Vec F S512x512 .bf16) (kb vb : BitVec 32 → Vec F S1x512x256 .bf16) : Carried F :=
  loop i (qposOf i) (headQ 0 x) (headQ 1 x) (headQ 2 x) (headQ 3 x) T kb vb 4
    (jAt 4, 1#32, k0_pay62, k0_pay63, k0_pay62, k0_pay63, k0_pay62, k0_pay63, k0_pay62, k0_pay63)

/-- What a group stores. -/
def group (i : grid0.Coords) (x : Vec F S1x256x256 .bf16) (T : Vec F S512x512 .bf16) (kb vb : BitVec 32 → Vec F S1x512x256 .bf16) :
    Vec F S1x256x256 .bf16 :=
  merge (sums i x T kb vb).2.2.1 (sums i x T kb vb).2.2.2.2.1 (sums i x T kb vb).2.2.2.2.2.2.1 (sums i x T kb vb).2.2.2.2.2.2.2.2.1

/-! ### The groups' own spellings -/

section
variable (a : BitVec 32) (v : Vec F S1x256x256 .bf16) (a0 a1 a2 a3 : FVec F S256x256 .f32)
theorem q0_1 : k0_pay17 v = headQ 0 v := rfl
theorem q1_1 : k0_pay18 v = headQ 1 v := rfl
theorem q2_1 : k0_pay19 v = headQ 2 v := rfl
theorem q3_1 : k0_pay20 (k0_pay14 v) k0_pay15 (k0_pay16 (F := F)) 3#32 = headQ 3 v := rfl
theorem q0_2 : k0_pay30 v = headQ 0 v := rfl
theorem q1_2 : k0_pay31 (k0_pay27 v) k0_pay28 (k0_pay29 (F := F)) = headQ 1 v := rfl
theorem q2_2 : k0_pay32 (k0_pay27 v) k0_pay28 (k0_pay29 (F := F)) = headQ 2 v := rfl
theorem q3_2 : k0_pay33 (k0_pay27 v) k0_pay28 (k0_pay29 (F := F)) = headQ 3 v := rfl
theorem q0_3 : k0_pay44 (k0_pay38 v) k0_pay39 k0_pay40 k0_pay41 = headQ 0 v := rfl
theorem q1_3 : k0_pay45 (k0_pay38 v) k0_pay39 k0_pay40 k0_pay41 = headQ 1 v := rfl
theorem q2_3 : k0_pay46 (k0_pay38 v) k0_pay39 k0_pay40 k0_pay41 = headQ 2 v := rfl
theorem q3_3 : k0_pay47 (k0_pay38 v) k0_pay39 k0_pay40 k0_pay41 = headQ 3 v := rfl
theorem q0_4 : k0_pay57 (k0_pay52 v) (iota .tc S1x256 32 [1] iota_S1x256_d1_w32) 64#32 k0_pay53 k0_pay54 0#32 = headQ 0 v := rfl
theorem q1_4 : k0_pay58 (k0_pay52 v) (iota .tc S1x256 32 [1] iota_S1x256_d1_w32) 64#32 k0_pay53 k0_pay54 0#32 = headQ 1 v := rfl
theorem q2_4 : k0_pay59 (k0_pay52 v) (iota .tc S1x256 32 [1] iota_S1x256_d1_w32) 64#32 k0_pay53 k0_pay54 0#32 = headQ 2 v := rfl
theorem q3_4 : k0_pay60 (k0_pay52 v) (iota .tc S1x256 32 [1] iota_S1x256_d1_w32) 64#32 k0_pay53 k0_pay54 0#32 = headQ 3 v := rfl
theorem qp_2 : k0_pay34 a = k0_pay21 a := rfl
theorem qp_3 : k0_pay48 a = k0_pay21 a := rfl
theorem qp_4 : k0_pay61 a = k0_pay21 a := rfl
theorem z_1 : k0_pay22 (F := F) = k0_pay62 := rfl
theorem z_2 : k0_pay35 (F := F) = k0_pay62 := rfl
theorem z_3 : k0_pay49 (F := F) = k0_pay62 := rfl
theorem y_1 : k0_pay23 (F := F) = k0_pay63 := rfl
theorem y_2 : k0_pay36 (F := F) = k0_pay63 := rfl
theorem y_3 : k0_pay50 (F := F) = k0_pay63 := rfl
theorem m_1 : k0_pay26 k0_pay15 a2 a3 (k0_pay24 k0_pay15 a0 a1) (k0_pay25 k0_pay15) = merge a0 a1 a2 a3 := rfl
theorem m_2 : k0_pay37 k0_pay28 a0 a1 a2 a3 = merge a0 a1 a2 a3 := rfl
theorem m_3 : k0_pay51 (k0_pay42 k0_pay39 k0_pay40 k0_pay41) a0 a1 a2 a3 = merge a0 a1 a2 a3 := rfl
theorem m_4 : k0_pay1 (k0_pay64 (k0_pay55 (iota .tc S1x256 32 [1] iota_S1x256_d1_w32) 64#32 k0_pay53 k0_pay54 0#32) a0 a1 a2 a3)
    = merge a0 a1 a2 a3 := rfl
end

/-! ### What the body leaves -/

abbrev lane1 : Rect S1x256x1024 := Rect.unit (s := S1x256x1024) ![0, 0, 0] S1x256x256.size inb_S1x256x1024_S1x256x256_0_0_0
abbrev lane2 : Rect S1x256x1024 := Rect.unit (s := S1x256x1024) ![0, 0, 256] S1x256x256.size inb_S1x256x1024_S1x256x256_0_0_256
abbrev lane3 : Rect S1x256x1024 := Rect.unit (s := S1x256x1024) ![0, 0, 512] S1x256x256.size inb_S1x256x1024_S1x256x256_0_0_512
abbrev lane4 : Rect S1x256x1024 := Rect.unit (s := S1x256x1024) ![0, 0, 768] S1x256x256.size inb_S1x256x1024_S1x256x256_0_0_768
/-- The triangle, all of it. -/
abbrev tri (x3 : Vec F S512x512 .bf16) : Vec F S512x512 .bf16 :=
  View.ld x3 (Rect.unit (s := S512x512) ![0, 0] S512x512.size inb_S512x512_S512x512_0_0)

/-- The output block after the body: the four groups' stores. -/
def outBlock (i : grid0.Coords) (x0 : Vec F S1x256x1024 .bf16) (x1 x2 : Vec F S1x2048x1024 .bf16) (x3 : Vec F S512x512 .bf16) : Vec F S1x256x1024 .bf16 :=
  View.canon [⟨lane4, group i (View.ld x0 lane4) (tri x3) (blk4 i x1) (blk4 i x2)⟩,
    ⟨lane3, group i (View.ld x0 lane3) (tri x3) (blk3 i x1) (blk3 i x2)⟩,
    ⟨lane2, group i (View.ld x0 lane2) (tri x3) (blk2 i x1) (blk2 i x2)⟩,
    ⟨lane1, group i (View.ld x0 lane1) (tri x3) (blk1 i x1) (blk1 i x2)⟩]

/-- The four groups' lanes are all of the block. -/
theorem lanes_cover (p0 p1 p2 p3 : Vec F S1x256x256 .bf16) (y : S1x256x1024.Idx) :
    ∃ pc ∈ ([⟨lane4, p0⟩, ⟨lane3, p1⟩, ⟨lane2, p2⟩, ⟨lane1, p3⟩] : List (View.Piece (Elt F) S1x256x1024 .bf16)), y ∈ pc.1.set :=
  View.cover_of_tiled [⟨lane4, p0⟩, ⟨lane3, p1⟩, ⟨lane2, p2⟩, ⟨lane1, p3⟩] S1x256x256.size (by rfl) y

set_option maxHeartbeats 1000000 in
/-- The body's triple. -/
theorem sound_kernel (c : Dev nD) (E : Set ℕ) (i : grid0.Coords) (arg2 : Memref sig .tc .vmem S1x256x1024 .bf16) (harg2 : arg2.IsWhole)
    (arg3 : Memref sig .tc .vmem S1x2048x1024 .bf16) (harg3 : arg3.IsWhole) (arg4 : Memref sig .tc .vmem S1x2048x1024 .bf16) (harg4 : arg4.IsWhole)
    (arg5 : Memref sig .tc .vmem S512x512 .bf16) (harg5 : arg5.IsWhole) (arg6 : Memref sig .tc .vmem S1x256x1024 .bf16) (harg6 : arg6.IsWhole)
    (x0 : Vec F S1x256x1024 .bf16) (x1 x2 : Vec F S1x2048x1024 .bf16) (x3 : Vec F S512x512 .bf16) (K : PUnit → sProp 𝕄) :
    iprop(owns (c : Thread nD τ) arg2 fullShare x0 ∗ reads c arg3 arg4 arg5 x1 x2 x3 ∗ (∃ d, owns (c : Thread nD τ) arg6 fullShare d)
        ∗ (iprop(owns (c : Thread nD τ) arg2 fullShare x0 ∗ reads c arg3 arg4 arg5 x1 x2 x3
            ∗ owns (c : Thread nD τ) arg6 fullShare (outBlock i x0 x1 x2 x3)) -∗ K ⟨⟩))
      ⊢ wp frame (wpE (defs₀ (F := F)) 𝒱₀ c none) E (cc0_sb_attention i arg2 harg2 arg3 harg3 arg4 harg4 arg5 harg5 arg6 harg6) K := by
  simp only [cc0_sb_attention_eq_skeleton]; unfold cc0_sb_attention_skel
  simp only [k0_part9_eq_skeleton, k0_part9_skel, k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%f0, %hf0, H0⟩, HR, ⟨%d4, %f4, -, H4⟩, Hk⟩
  subst hf0
  sl_exec
  iapply (wp_call_spec 𝒱₀ (c : Thread nD τ) none E (spec c arg3 arg4 arg5 x1 x2 x3 _) 4 (fun u hu => by cases hu)
    (loop1_le c E i arg3 harg3 arg4 harg4 arg5 harg5 x1 x2 x3 (qposOf i) (headQ 0 (View.ld (arg2.view.read (Elt F) f0) lane1))
      (headQ 1 (View.ld (arg2.view.read (Elt F) f0) lane1)) (headQ 2 (View.ld (arg2.view.read (Elt F) f0) lane1))
      (headQ 3 (View.ld (arg2.view.read (Elt F) f0) lane1)) 4 le_rfl 1#32 k0_pay62 k0_pay63 k0_pay62 k0_pay63 k0_pay62 k0_pay63 k0_pay62 k0_pay63))
  rw [spec_apply]
  isplitl [HR]; · iexact HR
  iintro HR
  rcases hs1 : loop _ _ _ _ _ _ _ _ _ 4 _ with ⟨j1, l1, a10, r10, a11, r11, a12, r12, a13, r13⟩
  have hg1 : group i (View.ld (arg2.view.read (Elt F) f0) lane1) (tri x3) (blk1 i x1) (blk1 i x2) = merge a10 a11 a12 a13 := by
    unfold group; rw [show sums i (View.ld (arg2.view.read (Elt F) f0) lane1) (tri x3) (blk1 i x1) (blk1 i x2) = _ from hs1]
  clear hs1
  dsimp only
  sl_exec
  iapply (wp_call_spec 𝒱₀ (c : Thread nD τ) none E (spec c arg3 arg4 arg5 x1 x2 x3 _) 4 (fun u hu => by cases hu)
    (loop2_le c E i arg3 harg3 arg4 harg4 arg5 harg5 x1 x2 x3 (qposOf i) (headQ 0 (View.ld (arg2.view.read (Elt F) f0) lane2))
      (headQ 1 (View.ld (arg2.view.read (Elt F) f0) lane2)) (headQ 2 (View.ld (arg2.view.read (Elt F) f0) lane2))
      (headQ 3 (View.ld (arg2.view.read (Elt F) f0) lane2)) 4 le_rfl 1#32 k0_pay62 k0_pay63 k0_pay62 k0_pay63 k0_pay62 k0_pay63 k0_pay62 k0_pay63))
  rw [spec_apply]
  isplitl [HR]; · iexact HR
  iintro HR
  rcases hs2 : loop _ _ _ _ _ _ _ _ _ 4 _ with ⟨j2, l2, a20, r20, a21, r21, a22, r22, a23, r23⟩
  have hg2 : group i (View.ld (arg2.view.read (Elt F) f0) lane2) (tri x3) (blk2 i x1) (blk2 i x2) = merge a20 a21 a22 a23 := by
    unfold group; rw [show sums i (View.ld (arg2.view.read (Elt F) f0) lane2) (tri x3) (blk2 i x1) (blk2 i x2) = _ from hs2]
  clear hs2
  dsimp only
  sl_exec
  iapply (wp_call_spec 𝒱₀ (c : Thread nD τ) none E (spec c arg3 arg4 arg5 x1 x2 x3 _) 4 (fun u hu => by cases hu)
    (loop3_le c E i arg3 harg3 arg4 harg4 arg5 harg5 x1 x2 x3 (qposOf i) (headQ 0 (View.ld (arg2.view.read (Elt F) f0) lane3))
      (headQ 1 (View.ld (arg2.view.read (Elt F) f0) lane3)) (headQ 2 (View.ld (arg2.view.read (Elt F) f0) lane3))
      (headQ 3 (View.ld (arg2.view.read (Elt F) f0) lane3)) 4 le_rfl 1#32 k0_pay62 k0_pay63 k0_pay62 k0_pay63 k0_pay62 k0_pay63 k0_pay62 k0_pay63))
  rw [spec_apply]
  isplitl [HR]; · iexact HR
  iintro HR
  rcases hs3 : loop _ _ _ _ _ _ _ _ _ 4 _ with ⟨j3, l3, a30, r30, a31, r31, a32, r32, a33, r33⟩
  have hg3 : group i (View.ld (arg2.view.read (Elt F) f0) lane3) (tri x3) (blk3 i x1) (blk3 i x2) = merge a30 a31 a32 a33 := by
    unfold group; rw [show sums i (View.ld (arg2.view.read (Elt F) f0) lane3) (tri x3) (blk3 i x1) (blk3 i x2) = _ from hs3]
  clear hs3
  dsimp only
  sl_exec
  iapply (wp_call_spec 𝒱₀ (c : Thread nD τ) none E (spec c arg3 arg4 arg5 x1 x2 x3 _) 4 (fun u hu => by cases hu)
    (loop4_le c E i arg3 harg3 arg4 harg4 arg5 harg5 x1 x2 x3 (qposOf i) (headQ 0 (View.ld (arg2.view.read (Elt F) f0) lane4))
      (headQ 1 (View.ld (arg2.view.read (Elt F) f0) lane4)) (headQ 2 (View.ld (arg2.view.read (Elt F) f0) lane4))
      (headQ 3 (View.ld (arg2.view.read (Elt F) f0) lane4)) 4 le_rfl 1#32 k0_pay62 k0_pay63 k0_pay62 k0_pay63 k0_pay62 k0_pay63 k0_pay62 k0_pay63))
  rw [spec_apply]
  isplitl [HR]; · iexact HR
  iintro HR
  rcases hs4 : loop _ _ _ _ _ _ _ _ _ 4 _ with ⟨j4, l4, a40, r40, a41, r41, a42, r42, a43, r43⟩
  have hg4 : group i (View.ld (arg2.view.read (Elt F) f0) lane4) (tri x3) (blk4 i x1) (blk4 i x2) = merge a40 a41 a42 a43 := by
    unfold group; rw [show sums i (View.ld (arg2.view.read (Elt F) f0) lane4) (tri x3) (blk4 i x1) (blk4 i x2) = _ from hs4]
  clear hs4
  dsimp only
  sl_exec
  sl_step
  iapply Hk
  unfold outBlock
  rw [hg1, hg2, hg3, hg4]
  isplitl [H0]
  · iexists f0; isplitr; · ipureintro; rfl
    iexact H0
  isplitl [HR]; · iexact HR
  iexists _; isplitr
  swap; · iexact H4
  ipureintro
  exact View.read_writes_eq_canon _ _ _ (lanes_cover _ _ _ _)

end Cert.KernelIdeal.Attn

end
-- ==== Proof.KernelIdeal.Positions.lean ====
/-
  The positions of the attention kernel: which keys a trip's block holds, which of them a query looks at, when the loop
  goes on, and which lanes of a group belong to which head.
-/
module

public import proofs.«01_k».proof.Proof.KernelIdeal.TripValue
public import proofs.«01_k».proof.Proof.KernelIdeal.Body

@[expose] public section

set_option maxRecDepth 16384

noncomputable section

namespace Cert.KernelIdeal.Attn

open Cert.KernelIdeal Cert.KernelIdeal.Gen
open Stick (slt_small)
open Idealize.ShloMosaic

/-! ### Keys -/

/-- One past the last key of trip `t`'s block, in the tile `a`; zero when no key is left. Where trip `t`'s block starts is
    `hi a (t + 1)`. -/
def hi (a t : ℕ) : ℕ := 256 * a + 256 - 512 * t

theorem hi_step (a t : ℕ) : hi a (t + 1) ≤ hi a t ∧ hi a t ≤ hi a (t + 1) + 512 := by unfold hi; omega

/-- The words of trip `t`, as numbers. -/
theorem words_tile : ∀ a : Fin 8, ∀ t : Fin 4, 0 < hi a.val t.val →
    Scalar.subi (Scalar.addi (Scalar.addi 0#32 (Scalar.muli (BitVec.ofNat 32 a.val) 256#32)) 256#32) (Scalar.muli (BitVec.ofNat 32 t.val) 512#32)
        = BitVec.ofNat 32 (hi a.val t.val)
      ∧ Scalar.maxsi (Scalar.subi (Scalar.subi (Scalar.addi (Scalar.addi 0#32 (Scalar.muli (BitVec.ofNat 32 a.val) 256#32)) 256#32)
          (Scalar.muli (BitVec.ofNat 32 t.val) 512#32)) 512#32) 0#32 = BitVec.ofNat 32 (hi a.val (t.val + 1)) := by
  decide

theorem start_tile : ∀ a : Fin 8, Scalar.addi 0#32 (Scalar.muli (BitVec.ofNat 32 a.val) 256#32) = BitVec.ofNat 32 (256 * a.val) := by
  decide

/-- A query at row `r` of the tile looks at the keys of trip `t`'s block that are before it. -/
theorem seen_at (i : grid0.Coords) (t : ℕ) (ht : t < 4) (h : 0 < hi (i 1).val t) (r : Fin 256) :
    Looks (seen i (qposOf i) (BitVec.ofNat 32 t)) r (hi (i 1).val (t + 1)) (min (256 * (i 1).val + r.val) (hi (i 1).val t)) := by
  intro c
  have ha : (i 1).val < 8 := (i 1).isLt
  obtain ⟨w1, w2⟩ := forall_tile (p := fun a => ∀ t : Fin 4, 0 < hi a.val t.val → _ ∧ _) words_tile i ⟨t, ht⟩ h
  have w3 := forall_tile (p := fun a => _ = _) start_tile i
  have e : seen i (qposOf i) (BitVec.ofNat 32 t) (ix2 r c)
      = BitVec.ofBool ((BitVec.ofNat 32 (hi (i 1).val (t + 1)) + BitVec.ofNat 32 c.val).slt
        (if (BitVec.ofNat 32 (256 * (i 1).val) + BitVec.ofNat 32 r.val).slt (BitVec.ofNat 32 (hi (i 1).val t))
          then BitVec.ofNat 32 (256 * (i 1).val) + BitVec.ofNat 32 r.val else BitVec.ofNat 32 (hi (i 1).val t))) := by
    pointwise [seen, qposOf, k0_pay67, k0_pay21]
    unfold qEnd
    rw [w2, w1, w3]
    rfl
  have hr := r.isLt
  have hc := c.isLt
  have hh : ∀ t, hi (i 1).val t ≤ 2048 := by intro t; unfold hi; omega
  have h1 := hh t
  have h2 := hh (t + 1)
  rw [e, ← BitVec.ofNat_add, ← BitVec.ofNat_add, slt_small (by omega) (by omega)]
  by_cases hq : 256 * (i 1).val + r.val < hi (i 1).val t
  · rw [if_pos (by simpa using hq), slt_small (by omega) (by omega), min_eq_left hq.le]
    by_cases hk : hi (i 1).val (t + 1) + c.val < 256 * (i 1).val + r.val <;> simp [hk]
  · rw [if_neg (by simpa using hq), slt_small (by omega) (by omega), min_eq_right (by omega)]
    by_cases hk : hi (i 1).val (t + 1) + c.val < hi (i 1).val t <;> simp [hk]

/-- The loop goes on while keys are left. -/
theorem more_iff (i : grid0.Coords) (t : ℕ) (ht : t ≤ 4) : more i (BitVec.ofNat 32 t) 1#32 = 1#1 ↔ 0 < hi (i 1).val t := by
  have := forall_tile (p := fun a => ∀ t : Fin 5, Scalar.andi (Scalar.cmpi .slt (BitVec.ofNat 32 t.val) (let x : BitVec 32 := Scalar.subi (Scalar.addi (Scalar.addi (Scalar.addi 0#32 (Scalar.muli (BitVec.ofNat 32 a.val) 256#32)) 256#32) 512#32) 1#32
    let sx : BitVec 32 := Scalar.subi (Scalar.extui (Scalar.cmpi .sgt x 0#32)) (Scalar.extui (Scalar.cmpi .slt x 0#32))
    let sd : BitVec 32 := Scalar.subi (Scalar.extui (Scalar.cmpi .sgt 512#32 0#32)) (Scalar.extui (Scalar.cmpi .slt 512#32 0#32))
    let up : BitVec 1 := Scalar.andi (Scalar.cmpi .ne sx sd) (Scalar.cmpi .ne (Scalar.remsi x 512#32) 0#32)
    Scalar.select up (Scalar.subi (Scalar.divsi x 512#32) 1#32) (Scalar.divsi x 512#32))) (Scalar.cmpi .sgt 1#32 0#32) = 1#1
      ↔ 0 < hi a.val t.val) (by decide) i ⟨t, by omega⟩
  exact this

/-! ### The blocks the trips load -/

theorem at_trip {t : ℕ} (ht : t < 4) : BitVec.ofNat 32 t = jAt (3 - t + 1) := by
  unfold jAt; congr 1; omega

/-- A key of a block is one of the batch's keys. -/
theorem key_lt (i : grid0.Coords) (t : ℕ) (c : Fin 512) : hi (i 1).val (t + 1) + c.val < 2048 := by
  have h : (i 1).val < 8 := (i 1).isLt
  have := c.isLt
  unfold hi; omega

/-- A window of keys and lanes read at an index. -/
theorem window_at (off : Fin 3 → ℕ) (s o : ℕ) (ho : off = ![0, s, o]) (inb : ∀ a, off a + S1x512x256.size a ≤ S1x2048x1024.size a)
    (x : Vec Ideal S1x2048x1024 .bf16) (c : Fin 512) (l : Fin 256) (hs : s + c.val < 2048) (hl : o + l.val < 1024) :
    View.ld x (Rect.unit (s := S1x2048x1024) off S1x512x256.size inb) (ix3 0 c l) = x (ix3 0 ⟨s + c.val, hs⟩ ⟨o + l.val, hl⟩) := by
  subst ho
  refine congrArg x (funext fun a => Fin.ext ?_)
  fin_cases a
  · rfl
  · show s + 1 * c.val = s + c.val; rw [one_mul]
  · show o + 1 * l.val = o + l.val; rw [one_mul]

/-- The row a trip's block starts at, as the program spells it. -/
theorem row_word (i : grid0.Coords) (t : ℕ) (ht : t < 4) (h : 0 < hi (i 1).val t) :
    (Scalar.maxsi (Scalar.subi (Scalar.subi (Scalar.addi (Scalar.addi 0#32 (Scalar.muli (BitVec.ofNat 32 (i 1).val) 256#32)) 256#32)
      (Scalar.muli (BitVec.ofNat 32 t) 512#32)) 512#32) 0#32).toNat = hi (i 1).val (t + 1) := by
  obtain ⟨_, w2⟩ := forall_tile (p := fun a => ∀ t : Fin 4, 0 < hi a.val t.val → _ ∧ _) words_tile i ⟨t, ht⟩ h
  rw [w2, BitVec.toNat_ofNat, Nat.mod_eq_of_lt (by have : (i 1).val < 8 := (i 1).isLt; unfold hi; omega)]

/-- Group 1's block of trip `t`. -/
theorem blk1_at (i : grid0.Coords) (t : ℕ) (ht : t < 4) (h : 0 < hi (i 1).val t) (x : Vec Ideal S1x2048x1024 .bf16) (c : Fin 512) (l : Fin 256) :
    blk1 (F := Ideal) i x (BitVec.ofNat 32 t) (ix3 0 c l)
      = x (ix3 0 ⟨hi (i 1).val (t + 1) + c.val, key_lt i t c⟩ ⟨0 + l.val, by omega⟩) := by
  have hc : k0_chk1 i (BitVec.ofNat 32 t) := by rw [at_trip ht]; exact chk1 (by omega) i
  have ho : k0_off1 i (BitVec.ofNat 32 t) = ![0, hi (i 1).val (t + 1), 0] := by
    rw [← row_word i t ht h]; rfl
  unfold blk1
  rw [dif_pos hc]
  exact window_at _ _ _ ho _ x c l _ _

/-- Group 2's block of trip `t`. -/
theorem blk2_at (i : grid0.Coords) (t : ℕ) (ht : t < 4) (h : 0 < hi (i 1).val t) (x : Vec Ideal S1x2048x1024 .bf16) (c : Fin 512) (l : Fin 256) :
    blk2 (F := Ideal) i x (BitVec.ofNat 32 t) (ix3 0 c l)
      = x (ix3 0 ⟨hi (i 1).val (t + 1) + c.val, key_lt i t c⟩ ⟨256 + l.val, by omega⟩) := by
  have hc : k0_chk2 i (BitVec.ofNat 32 t) := by rw [at_trip ht]; exact chk2 (by omega) i
  have ho : k0_off2 i (BitVec.ofNat 32 t) = ![0, hi (i 1).val (t + 1), 256] := by
    rw [← row_word i t ht h]; rfl
  unfold blk2
  rw [dif_pos hc]
  exact window_at _ _ _ ho _ x c l _ _

/-- Group 3's block of trip `t`. -/
theorem blk3_at (i : grid0.Coords) (t : ℕ) (ht : t < 4) (h : 0 < hi (i 1).val t) (x : Vec Ideal S1x2048x1024 .bf16) (c : Fin 512) (l : Fin 256) :
    blk3 (F := Ideal) i x (BitVec.ofNat 32 t) (ix3 0 c l)
      = x (ix3 0 ⟨hi (i 1).val (t + 1) + c.val, key_lt i t c⟩ ⟨512 + l.val, by omega⟩) := by
  have hc : k0_chk3 i (BitVec.ofNat 32 t) := by rw [at_trip ht]; exact chk3 (by omega) i
  have ho : k0_off3 i (BitVec.ofNat 32 t) = ![0, hi (i 1).val (t + 1), 512] := by
    rw [← row_word i t ht h]; rfl
  unfold blk3
  rw [dif_pos hc]
  exact window_at _ _ _ ho _ x c l _ _

/-- Group 4's block of trip `t`. -/
theorem blk4_at (i : grid0.Coords) (t : ℕ) (ht : t < 4) (h : 0 < hi (i 1).val t) (x : Vec Ideal S1x2048x1024 .bf16) (c : Fin 512) (l : Fin 256) :
    blk4 (F := Ideal) i x (BitVec.ofNat 32 t) (ix3 0 c l)
      = x (ix3 0 ⟨hi (i 1).val (t + 1) + c.val, key_lt i t c⟩ ⟨768 + l.val, by omega⟩) := by
  have hc : k0_chk4 i (BitVec.ofNat 32 t) := by rw [at_trip ht]; exact chk4 (by omega) i
  have ho : k0_off4 i (BitVec.ofNat 32 t) = ![0, hi (i 1).val (t + 1), 768] := by
    rw [← row_word i t ht h]; rfl
  unfold blk4
  rw [dif_pos hc]
  exact window_at _ _ _ ho _ x c l _ _

/-! ### The lanes of a head -/

/-- The head a lane of a group belongs to. -/
theorem head_of_lane : ∀ l : Fin 256, k0_pay28 (ix2 0 l) = BitVec.ofNat 32 (l.val / 64) := by
  intro l
  pointwise [k0_pay28]
  revert l
  decide

theorem lane_eq (l : Fin 256) (h : Fin 4) : BitVec.ofNat 32 (l.val / 64) = BitVec.ofNat 32 h.val ↔ l.val / 64 = h.val := by
  have := l.isLt
  have := h.isLt
  constructor
  · intro e
    have := congrArg BitVec.toNat e
    simp only [BitVec.toNat_ofNat] at this
    omega
  · intro e; rw [e]

theorem headQ_at (x : FVec Ideal S1x256x256 .bf16) (h : Fin 4) (r l : Fin 256) :
    headQ (F := Ideal) h x (ix2 r l) = if l.val / 64 = h.val then x (ix3 0 r l) else 0 := by
  have e : headQ (F := Ideal) h x (ix2 r l)
      = Scalar.select (IntOp.cmpi .eq (k0_pay28 (ix2 0 l)) (BitVec.ofNat 32 h.val)) (x (ix3 0 r l)) (0 : EReal) := by
    fin_cases h
    · show k0_pay17 (F := Ideal) x (ix2 r l) = _
      pointwise [k0_pay17, k0_pay14, k0_pay16]; rfl
    · show k0_pay18 (F := Ideal) x (ix2 r l) = _
      pointwise [k0_pay18, k0_pay14, k0_pay16]; rfl
    · show k0_pay19 (F := Ideal) x (ix2 r l) = _
      pointwise [k0_pay19, k0_pay14, k0_pay16]; rfl
    · show k0_pay20 (k0_pay14 (F := Ideal) x) k0_pay15 (k0_pay16 (F := Ideal)) 3#32 (ix2 r l) = _
      pointwise [k0_pay20, k0_pay14, k0_pay16]; rfl
  rw [e, head_of_lane]
  show (if BitVec.ofBool (BitVec.ofNat 32 (l.val / 64) == BitVec.ofNat 32 h.val) = 1 then _ else _) = _
  by_cases hl : l.val / 64 = h.val
  · rw [if_pos hl, hl]; simp
  · have hb : (BitVec.ofNat 32 (l.val / 64) == BitVec.ofNat 32 h.val) = false := by
      simpa using fun e => hl ((lane_eq l h).1 e)
    rw [if_neg hl, hb]; rfl

/-- Side by side, each lane is its own head's. -/
theorem merge_at (a : Fin 4 → FVec Ideal S256x256 .f32) (h : Fin 4) (r l : Fin 256) (hl : l.val / 64 = h.val) :
    merge (F := Ideal) (a 0) (a 1) (a 2) (a 3) (ix3 0 r l) = a h (ix2 r l) := by
  pointwise [merge, k0_pay37]
  rw [head_of_lane, hl]
  fin_cases h <;> rfl

end Cert.KernelIdeal.Attn

end
-- ==== Proof.KernelIdeal.LoopValue.lean ====
/-
  The loop of one group of heads over the extended reals: each trip moves the boundary down by a block of keys, and the
  loop ends when no key is left, so that every query has then met all the keys before it. With real scores the running
  sums stay real numbers, so that the loop never ends early.
-/
module

public import proofs.«01_k».proof.Proof.KernelIdeal.Positions

@[expose] public section

set_option maxRecDepth 16384

noncomputable section

namespace Cert.KernelIdeal.Attn

open Cert.KernelIdeal Cert.KernelIdeal.Gen
open Idealize.ShloMosaic
open Stick (abs_coe min_coe max_coe coe_ite coe_sum slt_small)

/-- The heads' weighted sums among what the loop carries. -/
def accOf (s : Carried Ideal) (h : Fin 4) : FVec Ideal S256x256 .f32 :=
  match h with
  | 0 => s.2.2.1
  | 1 => s.2.2.2.2.1
  | 2 => s.2.2.2.2.2.2.1
  | 3 => s.2.2.2.2.2.2.2.2.1

/-- The heads' running sums among what the loop carries. -/
def runOf (s : Carried Ideal) (h : Fin 4) : FVec Ideal S256x1 .f32 :=
  match h with
  | 0 => s.2.2.2.1
  | 1 => s.2.2.2.2.2.1
  | 2 => s.2.2.2.2.2.2.2.1
  | 3 => s.2.2.2.2.2.2.2.2.2

section
variable (i : grid0.Coords) (x : Vec Ideal S1x256x256 .bf16) (T : Vec Ideal S512x512 .bf16)
  (kb vb : BitVec 32 → Vec Ideal S1x512x256 .bf16) (ζ : Fin 4 → Fin 256 → ℕ → ℝ) (v : Fin 256 → ℕ → EReal)

/-- The group's loop. -/
abbrev groupLoop (n : ℕ) (s : Carried Ideal) : Carried Ideal :=
  loop i (qposOf i) (headQ 0 x) (headQ 1 x) (headQ 2 x) (headQ 3 x) T kb vb n s

/-- The group's trip. -/
abbrev groupTrip (s : Carried Ideal) : Carried Ideal :=
  trip i (qposOf i) (headQ 0 x) (headQ 1 x) (headQ 2 x) (headQ 3 x) T kb vb s

theorem trip_acc (s : Carried Ideal) (h : Fin 4) : accOf (groupTrip i x T kb vb s) h
    = accNext (headQ h x) (kb s.1) (vb s.1) T (seen i (qposOf i) s.1) (accOf s h) (runOf s h) := by
  fin_cases h <;> rfl

theorem trip_run (s : Carried Ideal) (h : Fin 4) : runOf (groupTrip i x T kb vb s) h
    = runNext (headQ h x) (kb s.1) (seen i (qposOf i) s.1) (runOf s h) := by
  fin_cases h <;> rfl

theorem trip_live (s : Carried Ideal) : (groupTrip i x T kb vb s).2.1
    = alive (runOf (groupTrip i x T kb vb s) 0) (runOf (groupTrip i x T kb vb s) 1) (runOf (groupTrip i x T kb vb s) 2)
        (runOf (groupTrip i x T kb vb s) 3) := rfl

theorem trip_number (s : Carried Ideal) : (groupTrip i x T kb vb s).1 = Scalar.addi s.1 1#32 := rfl

/-- A query's position. -/
abbrev pos (r : Fin 256) : ℕ := 256 * (i 1).val + r.val

/-- What the loop carries before trip `t`: what the keys from the boundary on leave, and their weighted values. -/
structure Inv (t : ℕ) (s : Carried Ideal) : Prop where
  number : s.1 = BitVec.ofNat 32 t
  live : s.2.1 = 1#32
  run : ∀ h r, runOf s h (ix2 r 0) = ((Stick.left (ζ h r) (hi (i 1).val t) (pos i r) : ℝ) : EReal)
  acc : ∀ h r l, accOf s h (ix2 r l) = Stick.attend (ζ h r) (v l) (hi (i 1).val t) (pos i r)

/-- The blocks the trips load hold the scores `ζ` and the values `v`. -/
structure Blocks : Prop where
  scores : ∀ t, t < 4 → 0 < hi (i 1).val t → ∀ h r, Scores (headQ h x) (kb (BitVec.ofNat 32 t)) r (hi (i 1).val (t + 1)) (ζ h r)
  values : ∀ t, t < 4 → 0 < hi (i 1).val t → ∀ (c : Fin 512) (l : Fin 256), vb (BitVec.ofNat 32 t) (ix3 0 c l) = v l (hi (i 1).val (t + 1) + c.val)
  triangle : ∀ a b : Fin 512, T (ix2 a b) = if b.val < a.val then (1 : EReal) else 0

variable {i x T kb vb ζ v}

/-- A trip keeps it. -/
theorem Inv.step (B : Blocks i x T kb vb ζ v) {t : ℕ} (ht : t < 4) (h0 : 0 < hi (i 1).val t) {s : Carried Ideal}
    (I : Inv i ζ v t s) : Inv i ζ v (t + 1) (groupTrip i x T kb vb s) := by
  obtain ⟨s1, s2⟩ := hi_step (i 1).val t
  have hrun : ∀ h r, runOf (groupTrip i x T kb vb s) h (ix2 r 0)
      = ((Stick.left (ζ h r) (hi (i 1).val (t + 1)) (pos i r) : ℝ) : EReal) := by
    intro h r
    rw [trip_run, I.number, runNext_at (B.scores t ht h0 h r) (seen_at i t ht h0 r) (le_trans (min_le_right _ _) s2) (I.run h r),
      Stick.left_block _ s1]
  refine ⟨?_, ?_, hrun, fun h r l => ?_⟩
  · rw [trip_number, I.number]; exact (BitVec.ofNat_add t 1).symm
  · rw [trip_live]; exact alive_of_real _ _ _ _ _ (hrun 0 0)
  · rw [trip_acc, I.number, accNext_at (B.scores t ht h0 h r) (seen_at i t ht h0 r) s2 B.triangle (I.run h r) l (v l)
      (fun c => B.values t ht h0 c l), I.acc h r l, Stick.attend_block _ _ s1]

/-- When the loop is over every query has met all the keys before it. -/
theorem loop_value (B : Blocks i x T kb vb ζ v) : ∀ (n t : ℕ) (s : Carried Ideal), t + n = 4 → Inv i ζ v t s →
    ∀ h r l, accOf (groupLoop i x T kb vb n s) h (ix2 r l) = Stick.attend (ζ h r) (v l) 0 (pos i r) := by
  intro n
  induction n with
  | zero =>
    intro t s ht I h r l
    have h8 : (i 1).val < 8 := (i 1).isLt
    have e : hi (i 1).val t = 0 := by unfold hi; omega
    have := I.acc h r l
    rw [e] at this
    exact this
  | succ n ih =>
    intro t s ht I h r l
    have hm : more i s.1 s.2.1 = 1#1 ↔ 0 < hi (i 1).val t := by rw [I.number, I.live]; exact more_iff i t (by omega)
    by_cases h0 : 0 < hi (i 1).val t
    · have e : groupLoop i x T kb vb (n + 1) s = groupLoop i x T kb vb n (groupTrip i x T kb vb s) := by
        show (if more i s.1 s.2.1 = 1#1 then _ else _) = _
        rw [if_pos (hm.2 h0)]
      rw [e]
      exact ih (t + 1) _ (by omega) (I.step B (by omega) h0) h r l
    · have e : groupLoop i x T kb vb (n + 1) s = s := by
        show (if more i s.1 s.2.1 = 1#1 then _ else _) = _
        rw [if_neg (fun e => h0 (hm.1 e))]
      rw [e, I.acc h r l]
      have : hi (i 1).val t = 0 := by omega
      rw [this]

/-- Before the first trip. -/
theorem inv_start : Inv i ζ v 0 (jAt 4, 1#32, k0_pay62, k0_pay63, k0_pay62, k0_pay63, k0_pay62, k0_pay63, k0_pay62, k0_pay63) := by
  have z1 : ∀ r : Fin 256, (k0_pay63 (F := Ideal)) (ix2 r 0) = (0 : EReal) := by intro r; pointwise [k0_pay63]
  have z2 : ∀ r l : Fin 256, (k0_pay62 (F := Ideal)) (ix2 r l) = (0 : EReal) := by intro r l; pointwise [k0_pay62]
  have hp : ∀ r : Fin 256, pos i r ≤ hi (i 1).val 0 := by intro r; have := r.isLt; unfold pos hi; omega
  refine ⟨rfl, rfl, fun h r => ?_, fun h r l => ?_⟩
  · rw [Stick.left_empty _ (hp r), EReal.coe_zero]; fin_cases h <;> exact z1 r
  · rw [Stick.attend_empty _ _ (hp r)]; fin_cases h <;> exact z2 r l

/-- What a group stores: each lane its head's stick-breaking sum over all the keys before the query. -/
theorem group_at (B : Blocks i x T kb vb ζ v) (h : Fin 4) (r l : Fin 256) (hl : l.val / 64 = h.val) :
    group i x T kb vb (ix3 0 r l) = Stick.attend (ζ h r) (v l) 0 (pos i r) := by
  have e := merge_at (accOf (sums i x T kb vb)) h r l hl
  exact e.trans (loop_value B 4 0 _ rfl inv_start h r l)

end

end Cert.KernelIdeal.Attn

end
-- ==== Proof.Stick.Attention.lean ====
/-
  The layer's attention over the extended reals, stated once for the kernel and the reference: arrays of heads read at a
  lane, the score of a key for a query, and the stick-breaking sum of the values.
-/
module

public import proofs.«01_k».proof.Proof.Stick.Sums
public import Idealize.ShloMosaic.Lib.IdealHost

@[expose] public section

noncomputable section

namespace Stick

open Idealize.ShloMosaic

/-- Batch, position, head, entry. -/
abbrev Heads : Shape := ⟨4, ![32, 2048, 16, 64]⟩

/-- An array of heads read at a lane: lane `64·H + d` is head `H`'s entry `d`. -/
def entry {α : Type} (A : Heads.Idx → α) (b : Fin 32) (k L : ℕ) : α :=
  A (ix4 b ⟨k % 2048, Nat.mod_lt _ (by decide)⟩ ⟨L / 64 % 16, Nat.mod_lt _ (by decide)⟩ ⟨L % 64, Nat.mod_lt _ (by decide)⟩)

/-- The score of key `k` for the query at `p`, in the head whose lanes start at `o`. -/
def score (Q K : Heads.Idx → ℝ) (b : Fin 32) (o p k : ℕ) : ℝ :=
  (∑ d : Fin 64, entry Q b p (o + d.val) * entry K b k (o + d.val)) * (1 / 8)

/-- The attention of the query at `p`, at lane `L`. -/
def attention (Q K : Heads.Idx → ℝ) (V : Heads.Idx → EReal) (b : Fin 32) (p L : ℕ) : EReal :=
  attend (score Q K b (64 * (L / 64)) p) (fun k => entry V b k L) 0 p

/-- Head `h`'s entry `d` is lane `64·h + d`. -/
theorem entry_head {α : Type} (A : Heads.Idx → α) (b : Fin 32) (k : Fin 2048) (h : Fin 16) (d : Fin 64) :
    entry A b k.val (64 * h.val + d.val) = A (ix4 b k h d) := by
  have hk := k.isLt; have hh := h.isLt; have hd := d.isLt
  unfold entry
  refine congrArg A ?_
  congr 1 <;> exact Fin.ext (by dsimp only; omega)

/-- An array of heads flattened to lanes, read at a lane. -/
theorem entry_lane {α : Type} (A : Heads.Idx → α) (b : Fin 32) (k : Fin 2048) (L : Fin 1024) (h1 : L.val / 64 < 16) (h2 : L.val % 64 < 64) :
    A (ix4 b k ⟨L.val / 64, h1⟩ ⟨L.val % 64, h2⟩) = entry A b k.val L.val := by
  have hk := k.isLt
  unfold entry
  refine congrArg A ?_
  congr 1 <;> exact Fin.ext (by dsimp only; omega)

/-- The score's scale. -/
theorem eighth : Ideal.ofBits .f32 0x3E000000#32 = (((1 : ℝ) / 8 : ℝ) : EReal) := by
  simp [Ideal.ofBits, Ideal.ieee, -EReal.coe_mul]; norm_num

/-- An extended real whose magnitude is below infinity is a real number. -/
theorem real_of_abs_lt {x : EReal} (h : max x (-x) < ⊤) : ∃ r : ℝ, x = r := by
  induction x with
  | bot => simp at h
  | coe r => exact ⟨r, rfl⟩
  | top => simp at h

end Stick

end
-- ==== Proof.KernelIdeal.Block.lean ====
/-
  The output block of a grid point over the extended reals: from the tile's queries, the batch's keys and values and the
  triangle, every lane is the stick-breaking sum of its own head.
-/
module

public import proofs.«01_k».proof.Proof.KernelIdeal.LoopValue
public import proofs.«01_k».proof.Proof.Stick.Attention
public import Idealize.ShloMosaic.Lib.FinSumWindow
public import Idealize.ShloMosaic.Lib.Pipeline.ValueKit

@[expose] public section

set_option maxRecDepth 16384

noncomputable section

namespace Cert.KernelIdeal.Attn

open Cert.KernelIdeal Cert.KernelIdeal.Gen
open Idealize.ShloMosaic
open Stick (abs_coe min_coe max_coe coe_ite coe_sum slt_small)
open Stick (entry score attention)

/-! ### A head's product over its group's lanes -/

/-- The lanes outside head `h` being zero, the product over a group's lanes is head `h`'s scaled product. -/
theorem head_product (f g : ℕ → ℝ) (G h : Fin 4) :
    (∑ l : Fin 256, (if l.val / 64 = h.val then ((f (256 * G.val + l.val) * (1 / 8) : ℝ) : EReal) else 0) * ((g (256 * G.val + l.val) : ℝ) : EReal))
      = (((∑ d : Fin 64, f (256 * G.val + 64 * h.val + d.val) * g (256 * G.val + 64 * h.val + d.val)) * (1 / 8) : ℝ) : EReal) := by
  have hh := h.isLt
  rw [FinSumWindow.sum_window (64 * h.val) (W := 64) (by omega) _ (by
    intro l hl
    rw [if_neg (by omega), zero_mul]), Finset.sum_mul, coe_sum]
  refine Finset.sum_congr rfl fun d _ => ?_
  have hd := d.isLt
  rw [if_pos (by show (64 * h.val + d.val) / 64 = h.val; omega), ← EReal.coe_mul]
  refine congrArg _ ?_
  show f (256 * G.val + (64 * h.val + d.val)) * (1 / 8) * g (256 * G.val + (64 * h.val + d.val)) = _
  rw [← Nat.add_assoc]; ring

/-! ### What a tile's blocks hold -/

/-- The blocks of batch `b` and tile `a`: the scaled queries, the keys, the values and the strict triangle. -/
structure Tile (Q K : S32x2048x16x64.Idx → ℝ) (V : S32x2048x16x64.Idx → EReal) (b : Fin 32) (a : ℕ)
    (x0 : Vec Ideal S1x256x1024 .bf16) (x1 x2 : Vec Ideal S1x2048x1024 .bf16) (x3 : Vec Ideal S512x512 .bf16) : Prop where
  queries : ∀ (r : Fin 256) (L : Fin 1024), x0 (ix3 0 r L) = ((entry Q b (256 * a + r.val) L.val * (1 / 8) : ℝ) : EReal)
  keys : ∀ (k : Fin 2048) (L : Fin 1024), x1 (ix3 0 k L) = ((entry K b k.val L.val : ℝ) : EReal)
  values : ∀ (k : Fin 2048) (L : Fin 1024), x2 (ix3 0 k L) = entry V b k.val L.val
  triangle : ∀ s t : Fin 512, x3 (ix2 s t) = if t.val < s.val then (1 : EReal) else 0

section
variable {Q K : S32x2048x16x64.Idx → ℝ} {V : S32x2048x16x64.Idx → EReal} {b : Fin 32} {i : grid0.Coords}
  {x0 : Vec Ideal S1x256x1024 .bf16} {x1 x2 : Vec Ideal S1x2048x1024 .bf16} {x3 : Vec Ideal S512x512 .bf16}

/-- A group's lanes of the query tile. -/
theorem lanes_at (o : ℕ) (inb : ∀ a, (![0, 0, o] : Fin 3 → ℕ) a + S1x256x256.size a ≤ S1x256x1024.size a)
    (x : Vec Ideal S1x256x1024 .bf16) (r l : Fin 256) (hl : o + l.val < 1024) :
    View.ld x (Rect.unit (s := S1x256x1024) ![0, 0, o] S1x256x256.size inb) (ix3 0 r l) = x (ix3 0 r ⟨o + l.val, hl⟩) := by
  refine congrArg x (funext fun a => Fin.ext ?_)
  fin_cases a
  · rfl
  · show 0 + 1 * r.val = r.val; omega
  · show o + 1 * l.val = o + l.val; omega

theorem tri_at (x : Vec Ideal S512x512 .bf16) (s t : Fin 512) : tri (F := Ideal) x (ix2 s t) = x (ix2 s t) := by
  refine congrArg x (funext fun a => Fin.ext ?_)
  fin_cases a
  · show 0 + 1 * s.val = s.val; omega
  · show 0 + 1 * t.val = t.val; omega

/-- A group's blocks hold its heads' scores and its lanes' values. -/
theorem group_blocks (G : Fin 4) (X : Tile Q K V b (i 1).val x0 x1 x2 x3) (x : Vec Ideal S1x256x256 .bf16) (kb vb : BitVec 32 → Vec Ideal S1x512x256 .bf16)
    (hx : ∀ r l : Fin 256, x (ix3 0 r l) = x0 (ix3 0 r ⟨256 * G.val + l.val, by omega⟩))
    (hk : ∀ t, t < 4 → 0 < hi (i 1).val t → ∀ (c : Fin 512) (l : Fin 256), kb (BitVec.ofNat 32 t) (ix3 0 c l)
      = x1 (ix3 0 ⟨hi (i 1).val (t + 1) + c.val, key_lt i t c⟩ ⟨256 * G.val + l.val, by omega⟩))
    (hv : ∀ t, t < 4 → 0 < hi (i 1).val t → ∀ (c : Fin 512) (l : Fin 256), vb (BitVec.ofNat 32 t) (ix3 0 c l)
      = x2 (ix3 0 ⟨hi (i 1).val (t + 1) + c.val, key_lt i t c⟩ ⟨256 * G.val + l.val, by omega⟩)) :
    Blocks i x (tri x3) kb vb (fun h r k => score Q K b (256 * G.val + 64 * h.val) (pos i r) k)
      (fun l k => entry V b k (256 * G.val + l.val)) where
  scores t ht h0 h r c := by
    dsimp only
    unfold score
    rw [← head_product (entry Q b (pos i r)) (entry K b (hi (i 1).val (t + 1) + c.val)) G h]
    refine Finset.sum_congr rfl fun l _ => ?_
    rw [headQ_at, hx, X.queries, hk t ht h0, X.keys]
  values t ht h0 c l := by rw [hv t ht h0, X.values]
  triangle s t := by rw [tri_at, X.triangle]

/-- So each lane of a group is its head's attention. -/
theorem group_attention (G : Fin 4) (x : Vec Ideal S1x256x256 .bf16) (kb vb : BitVec 32 → Vec Ideal S1x512x256 .bf16)
    (B : Blocks i x (tri x3) kb vb (fun h r k => score Q K b (256 * G.val + 64 * h.val) (pos i r) k)
      (fun l k => entry V b k (256 * G.val + l.val))) (r l : Fin 256) :
    group i x (tri x3) kb vb (ix3 0 r l) = attention Q K V b (pos i r) (256 * G.val + l.val) := by
  have hl := l.isLt
  rw [group_at B ⟨l.val / 64, by omega⟩ r l rfl]
  unfold attention
  rw [show 64 * ((256 * G.val + l.val) / 64) = 256 * G.val + 64 * (l.val / 64) from by omega]

/-- The output block, at a row and a lane. -/
theorem outBlock_at (X : Tile Q K V b (i 1).val x0 x1 x2 x3) (y : S1x256x1024.Idx) :
    outBlock i x0 x1 x2 x3 y = attention Q K V b (256 * (i 1).val + (y 1).val) (y 2).val := by
  have g1 := fun r l => group_attention (Q := Q) (K := K) (V := V) (b := b) (0 : Fin 4) _ _ _ (group_blocks 0 X (View.ld x0 lane1) (blk1 i x1) (blk1 i x2)
    (fun r l => by rw [lanes_at]; rfl) (fun t ht h0 c l => by rw [blk1_at i t ht h0]; rfl) (fun t ht h0 c l => by rw [blk1_at i t ht h0]; rfl)) r l
  have g2 := fun r l => group_attention (Q := Q) (K := K) (V := V) (b := b) (1 : Fin 4) _ _ _ (group_blocks 1 X (View.ld x0 lane2) (blk2 i x1) (blk2 i x2)
    (fun r l => by rw [lanes_at]; rfl) (fun t ht h0 c l => by rw [blk2_at i t ht h0]; rfl) (fun t ht h0 c l => by rw [blk2_at i t ht h0]; rfl)) r l
  have g3 := fun r l => group_attention (Q := Q) (K := K) (V := V) (b := b) (2 : Fin 4) _ _ _ (group_blocks 2 X (View.ld x0 lane3) (blk3 i x1) (blk3 i x2)
    (fun r l => by rw [lanes_at]; rfl) (fun t ht h0 c l => by rw [blk3_at i t ht h0]; rfl) (fun t ht h0 c l => by rw [blk3_at i t ht h0]; rfl)) r l
  have g4 := fun r l => group_attention (Q := Q) (K := K) (V := V) (b := b) (3 : Fin 4) _ _ _ (group_blocks 3 X (View.ld x0 lane4) (blk4 i x1) (blk4 i x2)
    (fun r l => by rw [lanes_at]; rfl) (fun t ht h0 c l => by rw [blk4_at i t ht h0]; rfl) (fun t ht h0 c l => by rw [blk4_at i t ht h0]; rfl)) r l
  unfold outBlock
  have key : ∀ (p : Vec Ideal S1x256x256 .bf16) (G : Fin 4) (x : S1x256x256.Idx),
      (∀ r l : Fin 256, p (ix3 0 r l) = attention Q K V b (pos i r) (256 * G.val + l.val)) →
      (y 1).val = (x 1).val → (y 2).val = 256 * G.val + (x 2).val →
      p x = attention Q K V b (256 * (i 1).val + (y 1).val) (y 2).val := by
    intro p G x hp h1 h2
    have ex : x = ix3 0 (x 1) (x 2) := by
      funext a; fin_cases a
      · exact Subsingleton.elim (α := Fin 1) _ _
      · rfl
      · rfl
    rw [ex]
    refine (hp (x 1) (x 2)).trans ?_
    rw [h2, h1]
  canon_tiles x h
  case piece0 => exact key _ 3 x g4 h1 h2
  case piece1 => exact key _ 2 x g3 h1 h2
  case piece2 => exact key _ 1 x g2 h1 h2
  case piece3 => exact key _ 0 x g1 h1 (by rw [h2]; simp)

end

end Cert.KernelIdeal.Attn

end
-- ==== Proof.KernelIdeal.Run.lean ====
/-
  The attention kernel's launch: the host operations up to the grid, each window's block at a grid point, the proof data
  the pipeline is run with, and the run. Every grid point is the body's triple (Body.lean) at that point's blocks; the run
  leaves the three arguments as launched, every counter at zero, and the output array at what the points stored.
-/
module

public import proofs.«01_k».proof.Proof.KernelIdeal.Body
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### Up to the grid -/

/-- A core's buffers once the host operations before the grid have run. -/
abbrev atGrid (c : Dev nD) (b : Ref sig .tc) : Buf (Elt F) ((c : Thread nD τ).loc b) := StableHlo.after hostOps0 (fun b => m (c, b)) b

theorem hostOps_fresh : (hostOps0 : List (HloOp τ sig (Elt F))).Forall fun op => op.fresh = ∅ := by
  simp only [List.Forall]; repeat' constructor

set_option maxHeartbeats 800000 in
/-- The host operations, then the grid. -/
theorem hmain (v : Variants) : Pipeline.HMain (Ix := Unit) (Name := ℕ) (U := UR sig nD τ) (Lvl := ℕ) cfgs 0 defs₀ v m (main (F := F)) (atGrid m) :=
  Pipeline.hmain_prefix cfgs 0 defs₀ v m main hostOps0 hostOps0_sub hostOps_fresh main_chain

/-- No host operation writes argument 0. -/
theorem atGrid_arg0 (c : Dev nD) : atGrid m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-- No host operation writes argument 1. -/
theorem atGrid_arg1 (c : Dev nD) : atGrid m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-- No host operation writes argument 2. -/
theorem atGrid_arg2 (c : Dev nD) : atGrid m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-! ### The windows' blocks -/

/-- Window `w`'s block at point `t`. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (atGrid m c (Pipeline.arrRef spec0 w))

/-! ### The proof data -/

/-- At each point the four inputs' buffers keep their blocks and the output's holds the body's block. -/
def dats (_ : Fin 1) (c : Dev nD) : Dat τ (Elt F) Unit ℕ (UR sig nD τ) ℕ (cfg0 (F := F)) c where
  A w := atGrid m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outBlock (grid0.coords t) (blockAt m c 0 t) (blockAt m c 1 t) (blockAt m c 2 t) (blockAt m c 3 t)
  Φ _ := Pipeline.ΦA spec0 c
  q _ := fullShare
  owed _ := 0

theorem A_eq (c : Dev nD) (w : Fin (cfg0 (F := F)).W) : (dats m 0 c).A w = atGrid m c (Pipeline.arrRef spec0 w) := by
  dsimp only [dats]

theorem after_4 (c : Dev nD) (t : Fin (cfg0 (F := F)).N) : (dats m 0 c).after 4 t
    = outBlock (grid0.coords t) (blockAt m c 0 t) (blockAt m c 1 t) (blockAt m c 2 t) (blockAt m c 3 t) := by dsimp only [dats]; rfl

theorem after_0 (c : Dev nD) (t : Fin (cfg0 (F := F)).N) : (dats m 0 c).after 0 t = blockAt m c 0 t := by dsimp only [dats]; rfl

/-- Input 0's buffer holds its block at every point, fetched there or kept from the point before. -/
theorem before_0 (c : Dev nD) (t : Fin (cfg0 (F := F)).N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)

theorem after_1 (c : Dev nD) (t : Fin (cfg0 (F := F)).N) : (dats m 0 c).after 1 t = blockAt m c 1 t := by dsimp only [dats]; rfl

/-- Input 1's buffer holds its block at every point, fetched there or kept from the point before. -/
theorem before_1 (c : Dev nD) (t : Fin (cfg0 (F := F)).N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)

theorem after_2 (c : Dev nD) (t : Fin (cfg0 (F := F)).N) : (dats m 0 c).after 2 t = blockAt m c 2 t := by dsimp only [dats]; rfl

/-- Input 2's buffer holds its block at every point, fetched there or kept from the point before. -/
theorem before_2 (c : Dev nD) (t : Fin (cfg0 (F := F)).N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)

theorem after_3 (c : Dev nD) (t : Fin (cfg0 (F := F)).N) : (dats m 0 c).after 3 t = blockAt m c 3 t := by dsimp only [dats]; rfl

/-- Input 3's buffer holds its block at every point, fetched there or kept from the point before. -/
theorem before_3 (c : Dev nD) (t : Fin (cfg0 (F := F)).N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)

/-! ### The body at a point -/

/-- What the body is called with at point `t`, window by window, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body's triple at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (blockAt m c 0 t) (blockAt m c 1 t) (blockAt m c 2 t) (blockAt m c 3 t) _)
  isplitl [H0]; · iexact H0
  isplitl [H1 H2 H3]
  · unfold reads
    isplitl [H1]; · iexact H1
    isplitl [H2]; · iexact H2
    iexact H3
  isplitl [H4]; · iexists _; iexact H4
  unfold reads
  iintro ⟨H0, ⟨H1, H2, H3⟩, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

-- the run's implicit arguments are found by unifying its conclusion with this one
set_option backward.isDefEq.respectTransparency.types false in
set_option maxHeartbeats 800000 in
/-- The whole run: what the pipeline leaves, and every counter at zero. -/
theorem run_all : θ_run defs (onTc (τ := τ) (main (F := F))) (s₀ m ρ)
    (fun r => (Pipeline.FramePost cfgs (dats m) 0 (atGrid m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := atGrid m) (hmain := hmain m 𝒱₀) (hA := A_eq m) (hΦ := fun _ _ => rfl)

/-- The arguments end as launched. -/
theorem kept (r : _) (h : Pipeline.FramePost cfgs (dats m) 0 (atGrid m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (show ∀ w : Fin 5, (spec0 w).arr.view.ref ≠ main_arg0 by decide))).trans (atGrid_arg0 m c),
    ((h c).2 main_arg1 (Pipeline.mem_restRefs_of main_arg1 (by decide) (show ∀ w : Fin 5, (spec0 w).arr.view.ref ≠ main_arg1 by decide))).trans (atGrid_arg1 m c),
    ((h c).2 main_arg2 (Pipeline.mem_restRefs_of main_arg2 (by decide) (show ∀ w : Fin 5, (spec0 w).arr.view.ref ≠ main_arg2 by decide))).trans (atGrid_arg2 m c)⟩

/-- The output array at the end is what the grid's points left of it, and the arguments end as launched. -/
theorem run_out : θ_run defs (onTc (τ := τ) (main (F := F))) ⟨m, fun _ => 0, ρ⟩
    (fun r => ∀ c : Dev nD, r.2.mem ((c.tc : Thread nD τ).loc main_v12) = (dats m 0 c).arrAt 4 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 4, kept m r h.1 c⟩) (run_all m ρ)

/-- The frame: the arguments end as launched and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept m r h.1 c, h.2⟩) (run_all m ρ)

end Cert.KernelIdeal.Attn

end
-- ==== Proof.KernelIdeal.Array.lean ====
/-
  The output array of the launch over the extended reals: the host operations' arrays at an index, each grid point's
  blocks as a batch's tile, and the attention the points' blocks make up together.
-/
module

public import proofs.«01_k».proof.Proof.KernelIdeal.Block
public import proofs.«01_k».proof.Proof.KernelIdeal.Run

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.Pipeline (Dat Cfg Window)
open Stick (entry score attention slt_small)

variable (m : (ℓ : Loc nD τ sig) → Buf (Elt Ideal) ℓ) (c : Dev nD)

/-- The queries, the keys and the values as launched. -/
abbrev argQ : Stick.Heads.Idx → EReal := m ((c : Thread nD τ).loc main_arg0)
abbrev argK : Stick.Heads.Idx → EReal := m ((c : Thread nD τ).loc main_arg1)
abbrev argV : Stick.Heads.Idx → EReal := m ((c : Thread nD τ).loc main_arg2)

/-! ### The host operations' arrays -/

/-- The scaled queries. -/
theorem queries_at (b : Fin 32) (s : Fin 2048) (L : Fin 1024) :
    (atGrid m c main_v3 : Vec Ideal S32x2048x1024 .bf16) (ix3 b s L)
      = entry (argQ m c) b s.val L.val * (((1 : ℝ) / 8 : ℝ) : EReal) := by
  unfold atGrid
  entry_read
  pointwise
  rw [Stick.eighth]
  exact congrArg (· * _) (Stick.entry_lane (argQ m c) b s L _ _)

/-- The keys. -/
theorem keys_at (b : Fin 32) (s : Fin 2048) (L : Fin 1024) :
    (atGrid m c main_v5 : Vec Ideal S32x2048x1024 .bf16) (ix3 b s L) = entry (argK m c) b s.val L.val := by
  unfold atGrid
  entry_read
  pointwise
  exact Stick.entry_lane (argK m c) b s L _ _

/-- The values. -/
theorem values_at (b : Fin 32) (s : Fin 2048) (L : Fin 1024) :
    (atGrid m c main_v7 : Vec Ideal S32x2048x1024 .bf16) (ix3 b s L) = entry (argV m c) b s.val L.val := by
  unfold atGrid
  entry_read
  pointwise
  exact Stick.entry_lane (argV m c) b s L _ _

/-- The strict triangle. -/
theorem triangle_at (s t : Fin 512) :
    (atGrid m c main_v11 : Vec Ideal S512x512 .bf16) (ix2 s t) = if t.val < s.val then (1 : EReal) else 0 := by
  unfold atGrid
  entry_read
  pointwise
  have hs := s.isLt; have ht := t.isLt
  have e : (BitVec.ofNat 32 t.val).slt (BitVec.ofNat 32 s.val) = decide (t.val < s.val) := by
    rw [slt_small (by omega) (by omega)]
  show (((BitVec.ofBool ((BitVec.ofNat 32 t.val).slt (BitVec.ofNat 32 s.val))).toNat : ℝ) : EReal) = _
  rw [e]
  by_cases h : t.val < s.val <;> simp [h]

/-! ### The windows -/

theorem index0 : ∀ t : Fin (cfg0 (F := Ideal)).N, win0_0.index t = ![(grid0.coords t 0).val, (grid0.coords t 1).val, 0] :=
  (by decide +kernel : ∀ t : Fin grid0.N, _)
theorem index1 : ∀ t : Fin (cfg0 (F := Ideal)).N, win0_1.index t = ![(grid0.coords t 0).val, 0, 0] :=
  (by decide +kernel : ∀ t : Fin grid0.N, _)
theorem index2 : ∀ t : Fin (cfg0 (F := Ideal)).N, win0_2.index t = ![(grid0.coords t 0).val, 0, 0] :=
  (by decide +kernel : ∀ t : Fin grid0.N, _)
theorem index3 : ∀ t : Fin (cfg0 (F := Ideal)).N, win0_3.index t = ![0, 0] :=
  (by decide +kernel : ∀ t : Fin grid0.N, _)
theorem index4 : ∀ t : Fin (cfg0 (F := Ideal)).N, win0_4.index t = ![(grid0.coords t 0).val, (grid0.coords t 1).val, 0] :=
  (by decide +kernel : ∀ t : Fin grid0.N, _)

theorem row_lt (i : grid0.Coords) (r : Fin 256) : 256 * (i 1).val + r.val < 2048 := by
  have h : (i 1).val < 8 := (i 1).isLt
  have := r.isLt; omega

/-- Each point's blocks are its batch's and its tile's. -/
theorem tile (Q K : Stick.Heads.Idx → ℝ) (hQ : ∀ j, argQ m c j = Q j)
    (hK : ∀ j, argK m c j = K j) (t : Fin (cfg0 (F := Ideal)).N) :
    Tile Q K (argV m c) ⟨(grid0.coords t 0).val, (grid0.coords t 0).isLt⟩ (grid0.coords t 1).val
      (blockAt m c 0 t) (blockAt m c 1 t) (blockAt m c 2 t) (blockAt m c 3 t) where
  queries r L := by
    have e : (win0_0.blk t).view.emb (ix3 0 r L : S1x256x1024.Idx)
        = (ix3 ⟨(grid0.coords t 0).val, (grid0.coords t 0).isLt⟩ ⟨256 * (grid0.coords t 1).val + r.val, row_lt _ r⟩ L : S32x2048x1024.Idx) := by
      blk_ext [index0 t]
    unfold blockAt
    blk_simp
    refine (congrArg (atGrid m c main_v3) e).trans ((queries_at m c _ _ L).trans ?_)
    rw [show argQ m c = fun j => (Q j : EReal) from funext hQ, EReal.coe_mul]
    rfl
  keys k L := by
    have e : (win0_1.blk t).view.emb (ix3 0 k L : S1x2048x1024.Idx)
        = (ix3 ⟨(grid0.coords t 0).val, (grid0.coords t 0).isLt⟩ k L : S32x2048x1024.Idx) := by
      blk_ext [index1 t]
    unfold blockAt
    blk_simp
    refine (congrArg (atGrid m c main_v5) e).trans ((keys_at m c _ _ L).trans ?_)
    rw [show argK m c = fun j => (K j : EReal) from funext hK]
    rfl
  values k L := by
    have e : (win0_2.blk t).view.emb (ix3 0 k L : S1x2048x1024.Idx)
        = (ix3 ⟨(grid0.coords t 0).val, (grid0.coords t 0).isLt⟩ k L : S32x2048x1024.Idx) := by
      blk_ext [index2 t]
    unfold blockAt
    blk_simp
    exact (congrArg (atGrid m c main_v7) e).trans (values_at m c _ _ L)
  triangle s u := by
    have e : (win0_3.blk t).view.emb (ix2 s u : S512x512.Idx) = (ix2 s u : S512x512.Idx) := by
      blk_ext [index3 t]
    unfold blockAt
    blk_simp
    exact (congrArg (atGrid m c main_v11) e).trans (triangle_at m c s u)

/-- The output array: the attention. -/
theorem output (Q K : Stick.Heads.Idx → ℝ) (hQ : ∀ j, argQ m c j = Q j)
    (hK : ∀ j, argK m c j = K j) :
    (dats m 0 c).arrAt 4 (cfg0 (F := Ideal)).N
      = fun y : S32x2048x1024.Idx => attention Q K (argV m c) (y 0) (y 1).val (y 2).val := by
  refine (dats m 0 c).arrAt_eq_of_covers 4 _ (by decide +kernel) fun t _ y => ?_
  blk_simp
  rw [after_4, outBlock_at (tile m c Q K hQ hK t), index4]
  have e : (win0_4.blk t).view.emb y 0 = (⟨(grid0.coords t 0).val, (grid0.coords t 0).isLt⟩ : Fin 32) := by
    refine Fin.ext ?_
    blk_simp
    rw [index4]
    rfl
  rw [e]
  refine congr_arg₂ (attention Q K (argV m c) _) ?_ ?_
  · show 256 * (grid0.coords t 1).val + (y 1).val = (grid0.coords t 1).val * 256 + (y 1).val
    omega
  · show (y 2).val = 0 * 1024 + (y 2).val
    omega

end Cert.KernelIdeal.Attn

end
-- ==== Proof.Stick.Suffix.lean ====
/-
  The reference's running sum from the right: a window of the whole last axis, padded past its end, is the sum of the
  entries from the one read on.
-/
module

public import proofs.«01_k».proof.Proof.Stick.Sums

@[expose] public section

noncomputable section

namespace Stick

open Idealize.ShloMosaic

/-- A left fold of additions is the sum. -/
theorem foldl_add (n : ℕ) (g : Fin n → EReal) (v : EReal) :
    (List.finRange n).foldl (fun r i => r + g i) v = v + ∑ i, g i := by
  have key : ∀ (l : List (Fin n)) (v : EReal), l.foldl (fun r i => r + g i) v = v + (l.map g).sum := by
    intro l
    induction l with
    | nil => intro v; simp
    | cons a l ih => intro v; simp [ih, add_assoc]
  rw [key, Fin.sum_univ_def]

/-- The window's positions are the last axis's. -/
def lastAxis (N : ℕ) : (⟨4, ![1, 1, 1, N]⟩ : Shape).Idx ≃ Fin N where
  toFun i := i 3
  invFun r := ix4 0 0 0 r
  left_inv i := by
    funext a; fin_cases a
    · exact Subsingleton.elim (α := Fin 1) _ _
    · exact Subsingleton.elim (α := Fin 1) _ _
    · exact Subsingleton.elim (α := Fin 1) _ _
    · rfl
  right_inv r := rfl

/-- The window's entry at a position: the operand's where the position is inside, zero past its end. -/
theorem window_entry {A B C N : ℕ} (x : (⟨4, ![A, B, C, N]⟩ : Shape).Idx → EReal) (a : Fin A) (b : Fin B) (c : Fin C) (j : Fin N)
    (e : (⟨4, ![1, 1, 1, N]⟩ : Shape).Idx)
    {_ : Decidable (∀ i : Fin 4, (![0, 0, 0, 0] : Fin 4 → ℕ) i ≤ (ix4 a b c j i).val * (![1, 1, 1, 1] : Fin 4 → ℕ) i + (e i).val
          ∧ (ix4 a b c j i).val * (![1, 1, 1, 1] : Fin 4 → ℕ) i + (e i).val - (![0, 0, 0, 0] : Fin 4 → ℕ) i < (![A, B, C, N] : Fin 4 → ℕ) i)} :
    (if hr : j.val + (e 3).val < N then x (ix4 a b c ⟨j.val + (e 3).val, hr⟩) else 0)
      = if hin : ∀ i : Fin 4, (![0, 0, 0, 0] : Fin 4 → ℕ) i ≤ (ix4 a b c j i).val * (![1, 1, 1, 1] : Fin 4 → ℕ) i + (e i).val
          ∧ (ix4 a b c j i).val * (![1, 1, 1, 1] : Fin 4 → ℕ) i + (e i).val - (![0, 0, 0, 0] : Fin 4 → ℕ) i < (![A, B, C, N] : Fin 4 → ℕ) i
        then x (fun i => ⟨(ix4 a b c j i).val * (![1, 1, 1, 1] : Fin 4 → ℕ) i + (e i).val - (![0, 0, 0, 0] : Fin 4 → ℕ) i, (hin i).2⟩) else 0 := by
  have ha := a.isLt; have hb := b.isLt; have hc := c.isLt
  have w0 : (e 0).val = 0 := Nat.lt_one_iff.mp (e 0).isLt
  have w1 : (e 1).val = 0 := Nat.lt_one_iff.mp (e 1).isLt
  have w2 : (e 2).val = 0 := Nat.lt_one_iff.mp (e 2).isLt
  by_cases hr : j.val + (e 3).val < N
  · rw [dif_pos hr, dif_pos]
    · refine congrArg x (funext fun i => Fin.ext ?_)
      fin_cases i
      · show a.val = a.val * 1 + (e 0).val - 0; omega
      · show b.val = b.val * 1 + (e 1).val - 0; omega
      · show c.val = c.val * 1 + (e 2).val - 0; omega
      · show j.val + (e 3).val = j.val * 1 + (e 3).val - 0; omega
    · intro i
      refine ⟨by fin_cases i <;> exact Nat.zero_le _, ?_⟩
      fin_cases i
      · show a.val * 1 + (e 0).val - 0 < A; omega
      · show b.val * 1 + (e 1).val - 0 < B; omega
      · show c.val * 1 + (e 2).val - 0 < C; omega
      · show j.val * 1 + (e 3).val - 0 < N; omega
  · rw [dif_neg hr, dif_neg]
    intro hin
    have h3 : j.val * 1 + (e 3).val - 0 < N := (hin 3).2
    omega

/-- The window sum at an index: the entries from it on. -/
theorem suffix_sum {A B C N M : ℕ} (hM : M + 1 = N) {u : Shape} (x : FVec Ideal ⟨4, ![A, B, C, N]⟩ .f32) (init : u.Idx → EReal)
    (h : (⟨4, ![A, B, C, N]⟩ : Shape).ReduceWindows (![1, 1, 1, N] : Fin 4 → ℕ) ![1, 1, 1, 1] ![0, 0, 0, 0] ![0, 0, 0, M] ⟨4, ![A, B, C, N]⟩)
    (hu : 0 < u.numel) (h0 : init (Shape.Idx.first hu) = 0) (a : Fin A) (b : Fin B) (c : Fin C) (j : Fin N) :
    Host.reduceWindowAdd (F := Ideal) (φ := .f32) ![1, 1, 1, N] ![1, 1, 1, 1] ![0, 0, 0, 0] ![0, 0, 0, M] x init h hu (ix4 a b c j)
      = ∑ r : Fin N, if hr : j.val + r.val < N then x (ix4 a b c ⟨j.val + r.val, hr⟩) else 0 := by
  unfold Host.reduceWindowAdd
  rw [Ideal.hostReduceWindowAdd_def, h0]
  unfold Ideal.hostReduceWindowAdd Host.reduceWindow
  refine (foldl_add _ _ _).trans ?_
  rw [zero_add]
  refine (Equiv.sum_comp ((⟨4, ![1, 1, 1, N]⟩ : Shape).rowMajor.symm.trans (lastAxis N)) _).symm.trans ?_ |>.symm
  refine Finset.sum_congr rfl fun n _ => ?_
  exact window_entry x a b c j ((⟨4, ![1, 1, 1, N]⟩ : Shape).rowMajor.symm n)

end Stick

end
-- ==== Proof.ReferenceIdeal.Value.lean ====
/-
  What the reference computes over the extended reals: its score, its two logarithms, its running sum from the right and
  its weights, each at an index; its result is the attention.
-/
module

public import proofs.«01_k».proof.Proof.Stick.Attention
public import proofs.«01_k».proof.Proof.Stick.Suffix
public import proofs.«01_k».proof.Proof.Stick.Reals
public import proofs.«01_k».proof.Proof.Gen.ReferenceIdeal.Run

@[expose] public section

set_option maxRecDepth 16384

noncomputable section

namespace Cert.ReferenceIdeal.Attn

open Cert.ReferenceIdeal Cert.ReferenceIdeal.Gen
open Idealize.ShloMosaic
open Stick (entry score attention abs_coe max_coe coe_ite coe_sum slt_small)

/-! ### The reference's operations, by name -/

/-- An array of scores. -/
abbrev Scores : Type := FVec Ideal S32x16x2048x2048 .f32

/-- One number everywhere. -/
abbrev all (w : BitVec 32) : Scores := broadcastInDim S32x16x2048x2048 ![] bcast_S_S32x16x2048x2048 (constant (F := Ideal) S_ .f32 w)

/-- The scaled scores. -/
def scores (q k : FVec Ideal S32x2048x16x64 .f32) : Scores :=
  mulf (Host.dotGeneral dot_S32x2048x16x64_S32x2048x16x64_S32x16x2048x2048_3_3_1_1_02_02 none q k) (all 0x3E000000#32)

/-- `log(1 + exp x)` as it is spelt. -/
def softplus (x : Scores) : Scores :=
  select (cmpf .une (subf x (all 0x00000000#32)) (subf x (all 0x00000000#32))) (addf x (all 0x00000000#32))
    (addf (maximumf x (all 0x00000000#32)) (Host.log1p (Host.exp (Host.negf (Host.absf (subf x (all 0x00000000#32)))))))

/-- The keys before the query. -/
def before : IVec S32x16x2048x2048 1 :=
  broadcastInDim S32x16x2048x2048 ![2, 3] bcast_S2048x2048_S32x16x2048x2048_2_3 (cmpi .slt
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

/-- The logarithm of what each key leaves, zero at the keys not before the query. -/
def logNots (z : Scores) : Scores := select before (Host.negf (softplus (Host.negf (Host.negf z)))) (all 0x00000000#32)

/-- The sum from each key on. -/
def running (x : Scores) : Scores :=
  Host.reduceWindowAdd ![1, 1, 1, 2048] ![1, 1, 1, 1] ![0, 0, 0, 0] ![0, 0, 0, 2047] x
    (broadcastInDim S_ ![] bcast_S_S_ (constant (F := Ideal) S_ .f32 0x00000000#32))
    reduceWindows_S32x16x2048x2048_S32x16x2048x2048_w1s1p0_0_w1s1p0_0_w1s1p0_0_w2048s1p0_2047 h_S_

/-- The weights. -/
def weights (z : Scores) : Scores :=
  select before (Host.exp (addf (Host.negf (softplus (Host.negf z))) (subf (running (logNots z)) (logNots z)))) (all 0x00000000#32)

/-- The result, the heads side by side. -/
def result (v : FVec Ideal S32x2048x16x64 .f32) (a : Scores) : FVec Ideal S32x2048x1024 .bf16 :=
  truncf .bf16 (shapeCast _ (transpose S32x2048x16x64 [0, 3, 1, 2]
    (Host.dotGeneral dot_S32x2048x16x64_S32x16x2048x2048_S32x16x64x2048_1_3_3_2_02_01 none v a)
    transposes_S32x16x64x2048_S32x2048x16x64_0_3_1_2) shapeCasts_S32x2048x16x64_S32x2048x1024) bitsLt_bf16_f32

/-- The run's result is these operations'. -/
theorem result_eq (m : (ℓ : Loc nD τ sig) → Buf (Elt Ideal) ℓ) (c : Dev nD) :
    Value.res_main_v22 m c = result (m ((c.tc : Thread nD τ).loc main_arg2))
      (weights (scores (m ((c.tc : Thread nD τ).loc main_arg0)) (m ((c.tc : Thread nD τ).loc main_arg1)))) := rfl

/-! ### Each at an index -/

theorem scores_at (q k : FVec Ideal S32x2048x16x64 .f32) (Q K : Stick.Heads.Idx → ℝ) (hq : ∀ j, q j = (Q j : EReal)) (hk : ∀ j, k j = (K j : EReal))
    (b : Fin 32) (h : Fin 16) (p j : Fin 2048) :
    scores q k (ix4 b h p j) = ((score Q K b (64 * h.val) p.val j.val : ℝ) : EReal) := by
  unfold scores
  pointwise
  rw [Stick.eighth]
  unfold score
  rw [EReal.coe_mul, coe_sum]
  refine congrArg (· * _) (Finset.sum_congr rfl fun d _ => ?_)
  rw [Stick.entry_head, Stick.entry_head, EReal.coe_mul, hq, hk]

theorem softplus_at (x : Scores) (i : S32x16x2048x2048.Idx) (r : ℝ) (hx : x i = (r : EReal)) :
    softplus x i = ((max r 0 + Real.log (1 + Real.exp (-|r|)) : ℝ) : EReal) := by
  unfold softplus
  pointwise
  have hpos : ¬ (1 + Real.exp (-|r|)) ≤ 0 := not_le.mpr (by positivity)
  rw [if_neg (fun e => e rfl), hx, abs_coe, ← EReal.coe_neg, Ideal.exp_coe]
  unfold Ideal.log1p
  rw [← EReal.coe_one, ← EReal.coe_add, Ideal.log_coe, if_neg hpos, ← EReal.coe_zero, max_coe, ← EReal.coe_add]

theorem before_at (b : Fin 32) (h : Fin 16) (p j : Fin 2048) : before (ix4 b h p j) = BitVec.ofBool (decide (j.val < p.val)) := by
  unfold before
  pointwise
  have hp := p.isLt; have hj := j.isLt
  show BitVec.ofBool ((BitVec.ofNat 32 j.val).slt (BitVec.ofNat 32 p.val)) = _
  rw [slt_small (by omega) (by omega)]

theorem running_at (x : Scores) (b : Fin 32) (h : Fin 16) (p j : Fin 2048) :
    running x (ix4 b h p j) = ∑ r : Fin 2048, if hr : j.val + r.val < 2048 then x (ix4 b h p ⟨j.val + r.val, hr⟩) else 0 :=
  Stick.suffix_sum (by rfl) x _ _ _ (by pointwise) b h p j

section
variable {z : Scores} {b : Fin 32} {h : Fin 16} {p : Fin 2048} {ζ : ℕ → ℝ}

theorem logNots_at (hz : ∀ j : Fin 2048, z (ix4 b h p j) = ((ζ j.val : ℝ) : EReal)) (j : Fin 2048) :
    logNots z (ix4 b h p j) = ((if j.val < p.val then Stick.logNot (ζ j.val) else 0 : ℝ) : EReal) := by
  have hs := softplus_at (Host.negf (Host.negf z)) (ix4 b h p j) (ζ j.val) (by pointwise; rw [hz, neg_neg])
  unfold logNots
  pointwise
  rw [before_at, hs, ← EReal.coe_neg, Stick.logNot_softplus]
  by_cases hc : j.val < p.val <;> simp [hc, Scalar.select]

theorem running_logNots (hz : ∀ j : Fin 2048, z (ix4 b h p j) = ((ζ j.val : ℝ) : EReal)) (j : Fin 2048) :
    running (logNots z) (ix4 b h p j) = ((Stick.left ζ j.val p.val : ℝ) : EReal) := by
  have hp := p.isLt
  rw [running_at]
  unfold Stick.left
  rw [← Stick.sum_window 2048 j.val p.val (by omega) (fun k => Stick.logNot (ζ k)), coe_sum]
  refine Finset.sum_congr rfl fun r _ => ?_
  by_cases hr : j.val + r.val < 2048
  · rw [dif_pos hr, logNots_at hz]
  · rw [dif_neg hr, if_neg (by omega), EReal.coe_zero]

theorem weights_at (hz : ∀ j : Fin 2048, z (ix4 b h p j) = ((ζ j.val : ℝ) : EReal)) (j : Fin 2048) :
    weights z (ix4 b h p j) = if j.val < p.val then ((Stick.weight ζ p.val j.val : ℝ) : EReal) else 0 := by
  have hs := softplus_at (Host.negf z) (ix4 b h p j) (-ζ j.val) (by pointwise; rw [hz, EReal.coe_neg])
  unfold weights
  pointwise
  rw [before_at, hs, running_logNots hz, logNots_at hz, abs_neg, ← EReal.coe_neg, Stick.logSig_softplus, ← EReal.coe_sub, ← EReal.coe_add, Ideal.exp_coe]
  by_cases hc : j.val < p.val
  · have hl : Stick.left ζ j.val p.val = Stick.logNot (ζ j.val) + Stick.left ζ (j.val + 1) p.val := by
      unfold Stick.left; exact Finset.sum_eq_sum_Ico_succ_bot hc _
    rw [if_pos hc, hl]
    unfold Stick.weight
    simp [hc, Scalar.select]
  · simp [hc, Scalar.select]

end

theorem result_at (v : FVec Ideal S32x2048x16x64 .f32) (a : Scores) (b : Fin 32) (p : Fin 2048) (L : Fin 1024) :
    result v a (ix3 b p L) = ∑ k : Fin 2048, v (ix4 b k ⟨L.val / 64, by omega⟩ ⟨L.val % 64, by omega⟩) * a (ix4 b ⟨L.val / 64, by omega⟩ p k) := by
  unfold result
  pointwise

/-- The reference's result: the attention. -/
theorem output (q k v : FVec Ideal S32x2048x16x64 .f32) (Q K : Stick.Heads.Idx → ℝ) (hq : ∀ j, q j = (Q j : EReal)) (hk : ∀ j, k j = (K j : EReal)) :
    result v (weights (scores q k)) = fun y : S32x2048x1024.Idx => attention Q K v (y 0) (y 1).val (y 2).val := by
  funext y
  have hy : y = ix3 (y 0) (y 1) (y 2) := by
    funext a; fin_cases a <;> rfl
  have h2 : (y 2).val < 1024 := (y 2).isLt
  have h1 : (y 1).val < 2048 := (y 1).isLt
  refine (congrArg (result v (weights (scores q k))) hy).trans ((result_at v _ (y 0) (y 1) (y 2)).trans ?_)
  unfold attention Stick.attend
  rw [← Stick.sum_window 2048 0 (y 1).val (by omega)]
  refine Finset.sum_congr rfl fun j _ => ?_
  rw [weights_at (scores_at q k Q K hq hk (y 0) ⟨(y 2).val / 64, by omega⟩ (y 1))]
  simp only [Nat.zero_add]
  by_cases hc : j.val < (y 1).val
  · rw [if_pos hc, if_pos hc, mul_comm]
    exact congrArg _ (Stick.entry_lane v (y 0) j (y 2) _ _)
  · rw [if_neg hc, if_neg hc, mul_zero]

end Cert.ReferenceIdeal.Attn

end
-- ==== Proof.Finite.lean ====
/-
  The precondition read back: where it holds, every query and every key is a real number.
-/
module

public import proofs.«01_k».proof.Pre_finite
public import proofs.«01_k».proof.Proof.Gen.Pre_finite
public import proofs.«01_k».proof.Proof.Stick.Attention
public import Idealize.ShloMosaic.Lib.ReduceAll

@[expose] public section

set_option maxRecDepth 16384

noncomputable section

namespace Cert.Finite

open Idealize.ShloMosaic

/-- A number whose magnitude compares below infinity is real. -/
theorem real_of_olt {x : EReal} (e : FloatOps.cmpf (F := Ideal) (φ := .f32) .olt (FloatOps.hostAbsf (F := Ideal) (φ := .f32) x) (Ideal.ofBits .f32 0x7F800000#32) = 1#1) :
    ∃ r : ℝ, x = r := by
  refine Stick.real_of_abs_lt ?_
  have hi : Ideal.ofBits .f32 0x7F800000#32 = (⊤ : EReal) := by simp [Ideal.ofBits, Ideal.ieee]
  rw [hi] at e
  by_contra hc
  have : FloatOps.cmpf (F := Ideal) (φ := .f32) .olt (max x (-x)) (⊤ : EReal) = 0#1 := by
    show BitVec.ofBool (decide (max x (-x) < ⊤)) = 0#1
    rw [decide_eq_false hc]; rfl
  rw [show FloatOps.hostAbsf (F := Ideal) (φ := .f32) x = max x (-x) from rfl, this] at e
  exact absurd e (by decide)

instance : Subsingleton (Cert.Pre_finite.S_).Idx := ⟨fun a b => funext fun i => i.elim0⟩

theorem reals (q k v : FVec Ideal Stick.Heads .f32) (h : Cert.Pre_finite.fn (F := Ideal) q k v = fun _ => 1#1) :
    (∃ Q : Stick.Heads.Idx → ℝ, ∀ j, q j = (Q j : EReal)) ∧ (∃ K : Stick.Heads.Idx → ℝ, ∀ j, k j = (K j : EReal)) := by
  have e := congrFun h (fun i => i.elim0)
  unfold Cert.Pre_finite.fn at e
  obtain ⟨e0, e1⟩ := IntOp.andi_eq_one.1 e
  have r0 : ∀ j, ∃ r : ℝ, q j = (r : EReal) := fun j => real_of_olt (Host.reduce_andi_all _ _ _ _ _ e0 j)
  have r1 : ∀ j, ∃ r : ℝ, k j = (r : EReal) := fun j => real_of_olt (Host.reduce_andi_all _ _ _ _ _ e1 j)
  exact ⟨⟨fun j => (r0 j).choose, fun j => (r0 j).choose_spec⟩, ⟨fun j => (r1 j).choose, fun j => (r1 j).choose_spec⟩⟩

end Cert.Finite

end
-- ==== Proof.ConvIdeal.Body.lean ====
/-
  The convolution layer's body at one grid point: what it leaves in the output block, in the carried rows and in the
  state block, as functions of the blocks and of the two rows carried in, and the triple that says so. The scratch's first
  two rows carry the last two gated rows from one tile to the next; the first tile of a batch row takes them from the
  convolution's previous state instead, and the last tile writes them out as the new state.
-/
module

public import proofs.«01_k».proof.Proof.Gen.ConvIdeal.Frame
public import proofs.«01_k».proof.Proof.Gen.ConvIdeal.Skeleton
public import Idealize.ShloMosaic.Lib.Tactic
public import Idealize.ShloMosaic.Lib.VecWindow

@[expose] public section

set_option maxRecDepth 16384

noncomputable section

namespace Cert.ConvIdeal.Layer

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- No count runs beside the labels. -/
abbrev 𝒱₀ : Variants := Variants.nat

local notation "𝕄" => MT nD τ sig Unit (Elt F) ℕ (UR sig nD τ) ℕ

/-! ### What the body computes -/

/-- The scratch's two carried rows, -/
abbrev two : Rect S8x1024 := Rect.unit (s := S8x1024) ![0, 0] S2x1024.size inb_S8x1024_S2x1024_0_0
/-- the first of them, -/
abbrev fst : Rect S8x1024 := Rect.unit (s := S8x1024) ![0, 0] S1x1024.size inb_S8x1024_S1x1024_0_0
/-- and the second. -/
abbrev snd : Rect S8x1024 := Rect.unit (s := S8x1024) ![1, 0] S1x1024.size inb_S8x1024_S1x1024_1_0

/-- The tile is the first of its batch row, as the body computes it. -/
def atFirst (i : grid0.Coords) : BitVec 1 :=
  Scalar.cmpi .ne (Scalar.extui (Scalar.cmpi .eq (BitVec.ofNat 32 (i 1).val) 0#32) : BitVec 32) 0#32

/-- The taps' rows of the depthwise weights. -/
abbrev tap0 (w : Vec F S3x1024 .f32) : Vec F S1x1024 .f32 := View.ld w (Rect.unit (s := S3x1024) ![0, 0] S1x1024.size inb_S3x1024_S1x1024_0_0)
abbrev tap1 (w : Vec F S3x1024 .f32) : Vec F S1x1024 .f32 := View.ld w (Rect.unit (s := S3x1024) ![1, 0] S1x1024.size inb_S3x1024_S1x1024_1_0)
abbrev tap2 (w : Vec F S3x1024 .f32) : Vec F S1x1024 .f32 := View.ld w (Rect.unit (s := S3x1024) ![2, 0] S1x1024.size inb_S3x1024_S1x1024_2_0)

/-- Row `k` of the two carried. -/
def rowOf (k : Fin 2) (z : Vec F S2x1024 .f32) : Vec F S1x1024 .f32 := fun y => z fun | 0 => k | 1 => y 1

/-- A block, all of it, as the body loads it. -/
abbrev allX (x : Vec F S1x512x1024 .f32) : Vec F S1x512x1024 .f32 :=
  View.ld x (Rect.unit (s := S1x512x1024) ![0, 0, 0] S1x512x1024.size inb_S1x512x1024_S1x512x1024_0_0_0)
abbrev allPrev (x : Vec F S1x2x1024 .f32) : Vec F S1x2x1024 .f32 :=
  View.ld x (Rect.unit (s := S1x2x1024) ![0, 0, 0] S1x2x1024.size inb_S1x2x1024_S1x2x1024_0_0_0)
abbrev allIn (x : Vec F S1024x3072 .bf16) : Vec F S1024x3072 .bf16 :=
  View.ld x (Rect.unit (s := S1024x3072) ![0, 0] S1024x3072.size inb_S1024x3072_S1024x3072_0_0)
abbrev allOut (x : Vec F S1024x1024 .bf16) : Vec F S1024x1024 .bf16 :=
  View.ld x (Rect.unit (s := S1024x1024) ![0, 0] S1024x1024.size inb_S1024x1024_S1024x1024_0_0)
abbrev allRow (x : Vec F S1x1024 .f32) : Vec F S1x1024 .f32 :=
  View.ld x (Rect.unit (s := S1x1024) ![0, 0] S1x1024.size inb_S1x1024_S1x1024_0_0)

/-- The output block, from the blocks and the carried rows `p`, `q`. -/
def outRows (x : Vec F S1x512x1024 .f32) (win : Vec F S1024x3072 .bf16) (wdw : Vec F S3x1024 .f32) (wout : Vec F S1024x1024 .bf16)
    (g b p q : Vec F S1x1024 .f32) : Vec F S1x512x1024 .f32 :=
  k0_pay1 (k0_pay11 (allRow b)) (k0_pay12 (k0_pay3 (allX x)) (k0_pay5 (allX x) (allIn win)) (k0_pay6 (allX x) (allIn win))
    (k0_pay8 (allX x) (allIn win) q) (k0_pay9 (allX x) (allIn win) p q (tap0 wdw)) (tap1 wdw) (tap2 wdw) (allOut wout) (allRow g))

/-- The output block, from the blocks and the two rows `z` carried in. -/
def outBlock (x : Vec F S1x512x1024 .f32) (win : Vec F S1024x3072 .bf16) (wdw : Vec F S3x1024 .f32) (wout : Vec F S1024x1024 .bf16)
    (g b : Vec F S1x1024 .f32) (z : Vec F S2x1024 .f32) : Vec F S1x512x1024 .f32 :=
  outRows x win wdw wout g b (rowOf 0 z) (rowOf 1 z)

/-- The two rows the first tile of a batch row starts from. -/
def carryStart (prev : Vec F S1x2x1024 .f32) : Vec F S2x1024 .f32 := k0_pay7 (allPrev prev)

/-- The two rows carried out. -/
def carryOut (x : Vec F S1x512x1024 .f32) (win : Vec F S1024x3072 .bf16) : Vec F S2x1024 .f32 := k0_pay10 (k0_pay6 (allX x) (allIn win))

/-- The state block, written by the last tile of a batch row. -/
def stateBlock (x : Vec F S1x512x1024 .f32) (win : Vec F S1024x3072 .bf16) : Vec F S1x2x1024 .f32 := k0_pay2 (k0_pay6 (allX x) (allIn win))

/-! ### The carried rows in the scratch -/

/-- The first carried row, read from the scratch, -/
theorem ld_fst (s : Vec F S8x1024 .f32) : View.ld s fst = rowOf 0 (View.ld s two) := by
  funext y
  show s _ = s _
  congr 1; funext a; apply Fin.ext; fin_cases a
  · have h0 : (y 0).val < 1 := (y 0).isLt
    show 0 + 1 * (y 0).val = 0 + 1 * 0; omega
  · rfl

/-- and the second. -/
theorem ld_snd (s : Vec F S8x1024 .f32) : View.ld s snd = rowOf 1 (View.ld s two) := by
  funext y
  show s _ = s _
  congr 1; funext a; apply Fin.ext; fin_cases a
  · have h0 : (y 0).val < 1 := (y 0).isLt
    show 1 + 1 * (y 0).val = 0 + 1 * 1; omega
  · rfl

/-- The two rows, read after they were stored. -/
theorem ld_two (v : View sig .tc .vmem S8x1024 .f32) (f : v.ty.Contents (Elt F)) (w : Vec F S2x1024 .f32) (L : List (View.Piece (Elt F) S8x1024 .f32)) :
    View.ld (v.read (Elt F) (v.writes (Elt F) f (⟨two, w⟩ :: L))) two = w := by
  funext y
  exact View.read_writes_cons_emb v f two w L y

/-- Each of the two rows, read after both were stored. -/
theorem cov_fst (v : View sig .tc .vmem S8x1024 .f32) (w : Vec F S2x1024 .f32) (L : List (View.Piece (Elt F) S8x1024 .f32)) :
    v.readCov (⟨two, w⟩ :: L) fst.toLoadRect = rowOf 0 w := by
  unfold View.readCov
  exact (ld_fst _).trans (congrArg (rowOf 0) (ld_two v v.junk w L))

theorem cov_snd (v : View sig .tc .vmem S8x1024 .f32) (w : Vec F S2x1024 .f32) (L : List (View.Piece (Elt F) S8x1024 .f32)) :
    v.readCov (⟨two, w⟩ :: L) snd.toLoadRect = rowOf 1 w := by
  unfold View.readCov
  exact (ld_snd _).trans (congrArg (rowOf 1) (ld_two v v.junk w L))

/-! ### The triple -/

set_option maxHeartbeats 1000000 in
/-- The body's triple at the first tile of a batch row: the carried rows are the previous state. -/
theorem sound_first (c : Dev nD) (E : Set ℕ) (i : grid0.Coords)
    (arg2 : Memref sig .tc .vmem S1x512x1024 .f32) (harg2 : arg2.IsWhole) (arg3 : Memref sig .tc .vmem S1x2x1024 .f32) (harg3 : arg3.IsWhole)
    (arg4 : Memref sig .tc .vmem S1024x3072 .bf16) (harg4 : arg4.IsWhole) (arg5 : Memref sig .tc .vmem S3x1024 .f32) (harg5 : arg5.IsWhole)
    (arg6 : Memref sig .tc .vmem S1024x1024 .bf16) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x512x1024 .f32) (harg9 : arg9.IsWhole)
    (arg10 : Memref sig .tc .vmem S1x2x1024 .f32) (harg10 : arg10.IsWhole) (arg11 : Memref sig .tc .vmem S8x1024 .f32) (harg11 : arg11.IsWhole)
    (x : Vec F S1x512x1024 .f32) (prev : Vec F S1x2x1024 .f32) (win : Vec F S1024x3072 .bf16) (wdw : Vec F S3x1024 .f32)
    (wout : Vec F S1024x1024 .bf16) (g b : Vec F S1x1024 .f32) (st : Vec F S1x2x1024 .f32) (s : Vec F S8x1024 .f32)
    (h1 : atFirst i = 1#1) (K : PUnit → sProp 𝕄) :
    iprop(owns (c : Thread nD τ) arg2 fullShare x ∗ owns (c : Thread nD τ) arg3 fullShare prev ∗ owns (c : Thread nD τ) arg4 fullShare win
        ∗ owns (c : Thread nD τ) arg5 fullShare wdw ∗ owns (c : Thread nD τ) arg6 fullShare wout ∗ owns (c : Thread nD τ) arg7 fullShare g
        ∗ owns (c : Thread nD τ) arg8 fullShare b ∗ (∃ d, owns (c : Thread nD τ) arg9 fullShare d) ∗ owns (c : Thread nD τ) arg10 fullShare st
        ∗ owns (c : Thread nD τ) arg11 fullShare s
        ∗ (iprop(owns (c : Thread nD τ) arg2 fullShare x ∗ owns (c : Thread nD τ) arg3 fullShare prev ∗ owns (c : Thread nD τ) arg4 fullShare win
            ∗ owns (c : Thread nD τ) arg5 fullShare wdw ∗ owns (c : Thread nD τ) arg6 fullShare wout ∗ owns (c : Thread nD τ) arg7 fullShare g
            ∗ owns (c : Thread nD τ) arg8 fullShare b ∗ owns (c : Thread nD τ) arg9 fullShare (outBlock x win wdw wout g b (carryStart prev))
            ∗ owns (c : Thread nD τ) arg10 fullShare (if k0_cond2 i = 1#1 then stateBlock x win else st)
            ∗ (∃ s', ⌜View.ld s' two = carryOut x win⌝ ∗ owns (c : Thread nD τ) arg11 fullShare s')) -∗ K ⟨⟩))
      ⊢ wp frame (wpE (defs₀ (F := F)) 𝒱₀ c none) E (cc0_conv_mixer i arg2 harg2 arg3 harg3 arg4 harg4 arg5 harg5 arg6 harg6 arg7 harg7 arg8 harg8 arg9 harg9 arg10 harg10 arg11 harg11) K := by
  simp only [cc0_conv_mixer_eq_skeleton]; unfold cc0_conv_mixer_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf2 hf3 hf4 hf5 hf6 hf7 hf8 hf10 hf11
  unfold atFirst at h1
  by_cases h2 : k0_cond2 i = 1#1
  all_goals
    sl_exec
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]
    · iexists _; isplitr
      swap; · iexact H9
      ipureintro
      refine (View.read_writes_full _ _ _ _ _).trans ?_
      refine (show _ = outRows (arg2.view.read (Elt F) f2) (arg4.view.read (Elt F) f4) (arg5.view.read (Elt F) f5) (arg6.view.read (Elt F) f6)
        (arg7.view.read (Elt F) f7) (arg8.view.read (Elt F) f8)
        (arg11.view.readCov [⟨two, carryStart (arg3.view.read (Elt F) f3)⟩] fst.toLoadRect)
        (arg11.view.readCov [⟨two, carryStart (arg3.view.read (Elt F) f3)⟩] snd.toLoadRect) from rfl).trans ?_
      rw [cov_fst, cov_snd]; rfl
    isplitl [H10]
    · first | rw [if_pos h2] | rw [if_neg h2]
      iexists _; isplitr
      swap; · iexact H10
      ipureintro
      first
        | exact View.read_writes_full _ _ _ _ _
        | rfl
    iexists _; isplitr
    swap
    · iexists _; isplitr
      swap; · iexact H11
      ipureintro; rfl
    ipureintro
    exact ld_two _ _ _ _

set_option maxHeartbeats 1000000 in
/-- The body's triple at a later tile: the carried rows are what the scratch holds. -/
theorem sound_later (c : Dev nD) (E : Set ℕ) (i : grid0.Coords)
    (arg2 : Memref sig .tc .vmem S1x512x1024 .f32) (harg2 : arg2.IsWhole) (arg3 : Memref sig .tc .vmem S1x2x1024 .f32) (harg3 : arg3.IsWhole)
    (arg4 : Memref sig .tc .vmem S1024x3072 .bf16) (harg4 : arg4.IsWhole) (arg5 : Memref sig .tc .vmem S3x1024 .f32) (harg5 : arg5.IsWhole)
    (arg6 : Memref sig .tc .vmem S1024x1024 .bf16) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x512x1024 .f32) (harg9 : arg9.IsWhole)
    (arg10 : Memref sig .tc .vmem S1x2x1024 .f32) (harg10 : arg10.IsWhole) (arg11 : Memref sig .tc .vmem S8x1024 .f32) (harg11 : arg11.IsWhole)
    (x : Vec F S1x512x1024 .f32) (prev : Vec F S1x2x1024 .f32) (win : Vec F S1024x3072 .bf16) (wdw : Vec F S3x1024 .f32)
    (wout : Vec F S1024x1024 .bf16) (g b : Vec F S1x1024 .f32) (st : Vec F S1x2x1024 .f32) (s : Vec F S8x1024 .f32)
    (h1 : ¬ atFirst i = 1#1) (K : PUnit → sProp 𝕄) :
    iprop(owns (c : Thread nD τ) arg2 fullShare x ∗ owns (c : Thread nD τ) arg3 fullShare prev ∗ owns (c : Thread nD τ) arg4 fullShare win
        ∗ owns (c : Thread nD τ) arg5 fullShare wdw ∗ owns (c : Thread nD τ) arg6 fullShare wout ∗ owns (c : Thread nD τ) arg7 fullShare g
        ∗ owns (c : Thread nD τ) arg8 fullShare b ∗ (∃ d, owns (c : Thread nD τ) arg9 fullShare d) ∗ owns (c : Thread nD τ) arg10 fullShare st
        ∗ owns (c : Thread nD τ) arg11 fullShare s
        ∗ (iprop(owns (c : Thread nD τ) arg2 fullShare x ∗ owns (c : Thread nD τ) arg3 fullShare prev ∗ owns (c : Thread nD τ) arg4 fullShare win
            ∗ owns (c : Thread nD τ) arg5 fullShare wdw ∗ owns (c : Thread nD τ) arg6 fullShare wout ∗ owns (c : Thread nD τ) arg7 fullShare g
            ∗ owns (c : Thread nD τ) arg8 fullShare b ∗ owns (c : Thread nD τ) arg9 fullShare (outBlock x win wdw wout g b (View.ld s two))
            ∗ owns (c : Thread nD τ) arg10 fullShare (if k0_cond2 i = 1#1 then stateBlock x win else st)
            ∗ (∃ s', ⌜View.ld s' two = carryOut x win⌝ ∗ owns (c : Thread nD τ) arg11 fullShare s')) -∗ K ⟨⟩))
      ⊢ wp frame (wpE (defs₀ (F := F)) 𝒱₀ c none) E (cc0_conv_mixer i arg2 harg2 arg3 harg3 arg4 harg4 arg5 harg5 arg6 harg6 arg7 harg7 arg8 harg8 arg9 harg9 arg10 harg10 arg11 harg11) K := by
  simp only [cc0_conv_mixer_eq_skeleton]; unfold cc0_conv_mixer_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf2 hf3 hf4 hf5 hf6 hf7 hf8 hf10 hf11
  unfold atFirst at h1
  by_cases h2 : k0_cond2 i = 1#1
  all_goals
    sl_exec
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]
    · iexists _; isplitr
      swap; · iexact H9
      ipureintro
      refine (View.read_writes_full _ _ _ _ _).trans ?_
      refine (show _ = outRows (arg2.view.read (Elt F) f2) (arg4.view.read (Elt F) f4) (arg5.view.read (Elt F) f5) (arg6.view.read (Elt F) f6)
        (arg7.view.read (Elt F) f7) (arg8.view.read (Elt F) f8)
        (View.ld (arg11.view.read (Elt F) f11) fst) (View.ld (arg11.view.read (Elt F) f11) snd) from rfl).trans ?_
      rw [ld_fst, ld_snd]; rfl
    isplitl [H10]
    · first | rw [if_pos h2] | rw [if_neg h2]
      iexists _; isplitr
      swap; · iexact H10
      ipureintro
      first
        | exact View.read_writes_full _ _ _ _ _
        | rfl
    iexists _; isplitr
    swap
    · iexists _; isplitr
      swap; · iexact H11
      ipureintro; rfl
    ipureintro
    exact ld_two _ _ _ _

end Cert.ConvIdeal.Layer

end
-- ==== Proof.ConvIdeal.Run.lean ====
/-
  The convolution layer's launch: the proof data the pipeline is run with, and the run. Every grid point is the body's
  triple (Body.lean) at that point's blocks; the scratch's first two rows are, after a point, that point's last two gated
  rows. The run leaves the arguments as launched, every counter at zero, and the two output arrays at what the points
  stored.
-/
module

public import proofs.«01_k».proof.Proof.ConvIdeal.Body
public import proofs.«01_k».proof.Proof.Gen.ConvIdeal.Points
public import Idealize.ShloMosaic.Lib.Claim

@[expose] public section

set_option maxRecDepth 16384

noncomputable section

namespace Cert.ConvIdeal.Layer

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Which tiles begin and end a batch row -/

theorem first_iff : ∀ t : Fin grid0.N, atFirst (grid0.coords t) = 1#1 ↔ t.val % 4 = 0 := by decide +kernel

theorem last_iff : ∀ t : Fin grid0.N, k0_cond2 (grid0.coords t) = 1#1 ↔ t.val % 4 = 3 := by decide +kernel

/-! ### The carried rows -/

/-- The two rows point `t` carries out. -/
def outOf (c : Dev nD) (t : Fin (cfg0).N) : Vec F S2x1024 .f32 := carryOut (iblk m c 0 t) (iblk m c 2 t)

/-- The point before. -/
def pred (t : Fin (cfg0).N) : Fin (cfg0).N := ⟨t.val - 1, by omega⟩

/-- The two rows point `t` starts from: the previous state at the first tile of a batch row, else what the point before
    carried out. -/
def carryIn (c : Dev nD) (t : Fin (cfg0).N) : Vec F S2x1024 .f32 :=
  if atFirst (grid0.coords t) = 1#1 then carryStart (iblk m c 1 t) else outOf m c (pred t)

/-- The scratch before point `k`: after a point, its first two rows are what the point carried out. -/
def scratchAt (c : Dev nD) (k : Fin ((cfg0).N + 1)) : sProp 𝕄 :=
  iprop((∃ s : Vec F S8x1024 .f32, ⌜∀ t : Fin (cfg0).N, t.val + 1 = k.val → View.ld s two = outOf m c t⌝
    ∗ owns (c : Thread nD τ) (Memref.whole cc0_scratch0) fullShare s) ∗ ∃ r, prngReg c r)

theorem scratch_in (c : Dev nD) : Pipeline.ΦA (Val := Elt F) spec0 c ⊢ scratchAt m c 0 := by
  unfold Pipeline.ΦA scratchAt
  rw [scopedRest0_eq]
  iintro ⟨⟨%f, Hf⟩, Hr⟩
  isplitl [Hf]
  · iexists f; isplitr
    · ipureintro; intro t h; exact absurd h (Nat.succ_ne_zero _)
    rw [owns_whole]; iexact Hf
  iexact Hr

theorem scratch_out (c : Dev nD) (k : Fin ((cfg0).N + 1)) : scratchAt m c k ⊢ Pipeline.ΦA (Val := Elt F) spec0 c := by
  unfold Pipeline.ΦA scratchAt
  simp only [scopedRest0_eq, owns_whole]
  iintro ⟨⟨%s, -, Hs⟩, Hr⟩
  isplitl [Hs]
  · iexists s; iexact Hs
  iexact Hr

/-! ### The proof data -/

/-- At each point the inputs' buffers keep their blocks, the layer's holds the body's block, and the state's what the last
    tile of the batch row leaves. -/
def dats (_ : Fin 1) (c : Dev nD) : Dat τ (Elt F) Unit ℕ (UR sig nD τ) ℕ (cfg0) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 2 t) (iblk m c 3 t) (iblk m c 4 t) (iblk m c 5 t) (iblk m c 6 t) (carryIn m c t)
    | ⟨8, _⟩ => stateBlock (iblk m c 0 t) (iblk m c 2 t)
  Φ k := scratchAt m c k
  q _ := fullShare
  owed _ := 0

theorem A_eq (c : Dev nD) (w : Fin (cfg0).W) : (dats m 0 c).A w = V m c (Pipeline.arrRef spec0 w) := by
  dsimp only [dats]

theorem after_0 (c : Dev nD) (t : Fin (cfg0).N) : (dats m 0 c).after 0 t = iblk m c 0 t := by dsimp only [dats]
theorem after_1 (c : Dev nD) (t : Fin (cfg0).N) : (dats m 0 c).after 1 t = iblk m c 1 t := by dsimp only [dats]
theorem after_2 (c : Dev nD) (t : Fin (cfg0).N) : (dats m 0 c).after 2 t = iblk m c 2 t := by dsimp only [dats]
theorem after_3 (c : Dev nD) (t : Fin (cfg0).N) : (dats m 0 c).after 3 t = iblk m c 3 t := by dsimp only [dats]
theorem after_4 (c : Dev nD) (t : Fin (cfg0).N) : (dats m 0 c).after 4 t = iblk m c 4 t := by dsimp only [dats]
theorem after_5 (c : Dev nD) (t : Fin (cfg0).N) : (dats m 0 c).after 5 t = iblk m c 5 t := by dsimp only [dats]
theorem after_6 (c : Dev nD) (t : Fin (cfg0).N) : (dats m 0 c).after 6 t = iblk m c 6 t := by dsimp only [dats]
theorem after_7 (c : Dev nD) (t : Fin (cfg0).N) : (dats m 0 c).after 7 t
    = outBlock (iblk m c 0 t) (iblk m c 2 t) (iblk m c 3 t) (iblk m c 4 t) (iblk m c 5 t) (iblk m c 6 t) (carryIn m c t) := by
  dsimp only [dats]
theorem after_8 (c : Dev nD) (t : Fin (cfg0).N) : (dats m 0 c).after 8 t = stateBlock (iblk m c 0 t) (iblk m c 2 t) := by
  dsimp only [dats]

theorem before_0 (c : Dev nD) (t : Fin (cfg0).N) (d) : (dats m 0 c).before 0 t d = iblk m c 0 t := before0_0_of m _ (A_eq m c 0) (after_0 m c) t d
theorem before_1 (c : Dev nD) (t : Fin (cfg0).N) (d) : (dats m 0 c).before 1 t d = iblk m c 1 t := before0_1_of m _ (A_eq m c 1) (after_1 m c) t d
theorem before_2 (c : Dev nD) (t : Fin (cfg0).N) (d) : (dats m 0 c).before 2 t d = iblk m c 2 t := before0_2_of m _ (A_eq m c 2) (after_2 m c) t d
theorem before_3 (c : Dev nD) (t : Fin (cfg0).N) (d) : (dats m 0 c).before 3 t d = iblk m c 3 t := before0_3_of m _ (A_eq m c 3) (after_3 m c) t d
theorem before_4 (c : Dev nD) (t : Fin (cfg0).N) (d) : (dats m 0 c).before 4 t d = iblk m c 4 t := before0_4_of m _ (A_eq m c 4) (after_4 m c) t d
theorem before_5 (c : Dev nD) (t : Fin (cfg0).N) (d) : (dats m 0 c).before 5 t d = iblk m c 5 t := before0_5_of m _ (A_eq m c 5) (after_5 m c) t d
theorem before_6 (c : Dev nD) (t : Fin (cfg0).N) (d) : (dats m 0 c).before 6 t d = iblk m c 6 t := before0_6_of m _ (A_eq m c 6) (after_6 m c) t d

/-! ### The body at a point -/

/-- What the body is called with at point `t`, window by window, -/
def bodyPre (c : Dev nD) (t : Fin (cfg0).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin (cfg0).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

/-- What the body leaves in the state's buffer is what the pipeline asks of it: the state where it is written back, and
    whatever was there before elsewhere. -/
theorem state_left (c : Dev nD) (t : Fin (cfg0).N) (d : _) :
    owns (c : Thread nD τ) (st0_8 t) fullShare
        (if k0_cond2 (grid0.coords t) = 1#1 then stateBlock (iblk m c 0 t) (iblk m c 2 t) else (dats m 0 c).before 8 t d)
      ⊢ ((dats m 0 c).leavesExact 8 t : sProp 𝕄) := by
  by_cases h : k0_cond2 (grid0.coords t) = 1#1
  · have hi : (cfg0).idle 8 ((cfg0).grid.coords t) = false := by
      show (!(k0_cond2 (grid0.coords t) == 1#1)) = false
      rw [h]; rfl
    rw [if_pos h]
    unfold Dat.leavesExact
    rw [hi, after_8]
  · have hi : (cfg0).idle 8 ((cfg0).grid.coords t) = true := by
      show (!(k0_cond2 (grid0.coords t) == 1#1)) = true
      rw [beq_false_of_ne h]; rfl
    have hf : ((cfg0).win 8).flush t = false := by
      rw [Bool.eq_false_iff]; intro hf
      exact h ((last_iff t).mpr ((flush0_8 t).mp hf))
    rw [if_neg h, Dat.leavesExact_idle _ _ _ hi hf]
    iintro H; iexists d; iexact H

/-- The body's triple at any point. -/
theorem sound_body (c : Dev nD) (t : Fin (cfg0).N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7,
    show (dats m 0 c).Φ t.castSucc = scratchAt m c t.castSucc from rfl, show (dats m 0 c).Φ t.succ = scratchAt m c t.succ from rfl]
  unfold scratchAt
  iintro ⟨⟨⟨%s, %hs, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h : atFirst (grid0.coords t) = 1#1
  on_goal 1 =>
    rw [show carryIn m c t = carryStart (iblk m c 1 t) from if_pos h]
    iapply (sound_first c Set.univ (grid0.coords t) _ _ _ _ _ _ _ _ _ _ _ _ _ _ _ _ _ _ _ _ (iblk m c 0 t) (iblk m c 1 t) (iblk m c 2 t)
      (iblk m c 3 t) (iblk m c 4 t) (iblk m c 5 t) (iblk m c 6 t) ((dats m 0 c).before 8 t d8) s h _)
  on_goal 2 =>
    rw [show carryIn m c t = View.ld s two from (if_neg h).trans (hs (pred t) (by
      have h' : ¬ t.val % 4 = 0 := fun e => h ((first_iff t).mpr e)
      show t.val - 1 + 1 = t.val
      omega)).symm]
    iapply (sound_later c Set.univ (grid0.coords t) _ _ _ _ _ _ _ _ _ _ _ _ _ _ _ _ _ _ _ _ (iblk m c 0 t) (iblk m c 1 t) (iblk m c 2 t)
      (iblk m c 3 t) (iblk m c 4 t) (iblk m c 5 t) (iblk m c 6 t) ((dats m 0 c).before 8 t d8) s h _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, ⟨%s', %hs', HS⟩⟩
    isplitl [HS Hr]
    · isplitl [HS]
      · iexists s'; isplitr
        · ipureintro; intro t' ht'
          have e : t' = t := Fin.ext (Nat.succ.inj ht')
          rw [e]; exact hs'
        iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (state_left m c t d8)
    iexact H8

theorem defs₀_row (t : Fin (cfg0).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

-- the run's implicit arguments are found by unifying its conclusion with this one
set_option backward.isDefEq.respectTransparency.types false in
set_option maxHeartbeats 800000 in
/-- The whole run: what the pipeline leaves, and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m)
    (hin := fun c => scratch_in m c) (hout := fun c => scratch_out m c (Fin.last _))

/-- The arguments end as launched. -/
theorem kept (r : _) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The frame: the arguments end as launched and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept m r h.1 c, h.2⟩) (run_all m ρ)

/-- The two output arrays at the end are what the grid's points left of them, and the arguments end as launched. -/
theorem run_out : θ_run defs (onTc (τ := τ) (main (F := F))) ⟨m, fun _ => 0, ρ⟩ (fun r => ∀ c : Dev nD,
      r.2.mem ((c.tc : Thread nD τ).loc main_v4_0) = (dats m 0 c).arrAt 7 cfg0.N
      ∧ r.2.mem ((c.tc : Thread nD τ).loc main_v4_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 7, (h.1 c).1 8, kept m r h.1 c⟩) (run_all m ρ)

end Cert.ConvIdeal.Layer

end
-- ==== Proof.Stick.Norm.lean ====
/-
  The layer norm of one row of a thousand and twenty-four numbers.
-/
module

public import Idealize.ShloMosaic.PureOps.Ideal

@[expose] public section

noncomputable section

namespace Stick

open Idealize.ShloMosaic

/-- A row's mean. -/
def mean (x : Fin 1024 → EReal) : EReal := Ideal.div (∑ k, x k) (Ideal.ofBits .f32 0x44800000#32)

/-- A row less its mean, over its deviation, scaled and shifted. -/
def norm (x g b : Fin 1024 → EReal) (l : Fin 1024) : EReal :=
  (x l - mean x) * Ideal.rsqrt (mean (fun k => (x k - mean x) * (x k - mean x)) + Ideal.ofBits .f32 0x3727C5AC#32) * g l + b l

/-- The residual's weight. -/
def alpha : EReal := Ideal.ofBits .f32 0x3FD744FD#32

end Stick

end
-- ==== Proof.Stick.Conv.lean ====
/-
  One position of the convolution layer over the extended reals, as a function of the position's row, the two gated rows
  before it and the weights: three projections of the row, the convolution of the gated rows over three positions, the
  output projection, the residual and the layer norm.
-/
module

public import proofs.«01_k».proof.Proof.Stick.Norm

@[expose] public section

noncomputable section

namespace Stick

/-- The output gate of a row: the first projection. -/
def gate (v : Fin 1024 → EReal) (w : Fin 1024 → Fin 3072 → EReal) (l : Fin 1024) : EReal :=
  ∑ k, v k * w k ⟨l.val, by omega⟩

/-- The gated row that is convolved: the second projection times the third. -/
def gated (v : Fin 1024 → EReal) (w : Fin 1024 → Fin 3072 → EReal) (l : Fin 1024) : EReal :=
  (∑ k, v k * w k ⟨1024 + l.val, by omega⟩) * ∑ k, v k * w k ⟨2048 + l.val, by omega⟩

/-- The residual plus the layer's output at a row, from the gated rows two before (`p`), one before (`q`) and there (`u`). -/
def layer (v : Fin 1024 → EReal) (w : Fin 1024 → Fin 3072 → EReal) (d : Fin 3 → Fin 1024 → EReal) (wo : Fin 1024 → Fin 1024 → EReal)
    (p q u : Fin 1024 → EReal) (k : Fin 1024) : EReal :=
  alpha * v k + ∑ j, gate v w j * (d 0 j * p j + d 1 j * q j + d 2 j * u j) * wo j k

end Stick

end
-- ==== Proof.ConvIdeal.Point.lean ====
/-
  One tile of the convolution layer over the extended reals: the body's output at an index is the layer norm of the
  layer's row, whose two rows before are the tile's own, or, at the tile's first two rows, those carried in.
-/
module

public import proofs.«01_k».proof.Proof.ConvIdeal.Body
public import proofs.«01_k».proof.Proof.Stick.Conv
public import Idealize.ShloMosaic.Lib.Pipeline.ValueKit

@[expose] public section

set_option maxRecDepth 16384

noncomputable section

namespace Cert.ConvIdeal.Layer

open Cert.ConvIdeal Cert.ConvIdeal.Gen
open Idealize.ShloMosaic
open Stick (alpha mean norm gate gated layer)

variable (x : Vec Ideal S1x512x1024 .f32) (win : Vec Ideal S1024x3072 .bf16)

/-! ### Loads of whole blocks -/

theorem allX_eq : allX x = x := by
  funext y; unfold allX; pointwise
  exact (congrArg (fun z : Fin 1 => x (ix3 z (y 1) (y 2))) (Subsingleton.elim (0 : Fin 1) (y 0 : Fin 1))).trans (congrArg x (ix3_eta y))

theorem allIn_eq : allIn win = win := by
  funext y; unfold allIn; pointwise

theorem allPrev_eq (prev : Vec Ideal S1x2x1024 .f32) : allPrev prev = prev := by
  funext y; unfold allPrev; pointwise
  exact (congrArg (fun z : Fin 1 => prev (ix3 z (y 1) (y 2))) (Subsingleton.elim (0 : Fin 1) (y 0 : Fin 1))).trans (congrArg prev (ix3_eta y))

theorem allOut_eq (w : Vec Ideal S1024x1024 .bf16) : allOut w = w := by
  funext y; unfold allOut; pointwise

theorem allRow_eq (g : Vec Ideal S1x1024 .f32) : allRow g = g := by
  funext y; unfold allRow; pointwise
  exact (congrArg (fun z : Fin 1 => g (ix2 z (y 1))) (Subsingleton.elim (0 : Fin 1) (y 0 : Fin 1))).trans (congrArg g (ix2_eta y))

theorem tap0_at (w : Vec Ideal S3x1024 .f32) (l : Fin 1024) : tap0 w (ix2 0 l) = w (ix2 0 l) := by
  unfold tap0; pointwise

theorem tap1_at (w : Vec Ideal S3x1024 .f32) (l : Fin 1024) : tap1 w (ix2 0 l) = w (ix2 1 l) := by
  unfold tap1; pointwise

theorem tap2_at (w : Vec Ideal S3x1024 .f32) (l : Fin 1024) : tap2 w (ix2 0 l) = w (ix2 2 l) := by
  unfold tap2; pointwise

/-! ### The projections and the gated rows -/

/-- A row of the tile. -/
abbrev rowX (r : Fin 512) : Fin 1024 → EReal := fun k => x (ix3 0 r k)

/-- The input weights, entry by entry. -/
abbrev entriesIn : Fin 1024 → Fin 3072 → EReal := fun k l => win (ix2 k l)

/-- The three projections, side by side. -/
theorem projected_at (r : Fin 512) (l : Fin 3072) : k0_pay4 x win (ix2 r l) = ∑ k, x (ix3 0 r k) * win (ix2 k l) := by
  pointwise [k0_pay4, k0_pay3]

theorem gate_at (r : Fin 512) (l : Fin 1024) : k0_pay5 x win (ix2 r l) = gate (rowX x r) (entriesIn win) l := by
  unfold k0_pay5
  pointwise
  exact projected_at x win r _

theorem gated_at (r : Fin 512) (l : Fin 1024) : k0_pay6 x win (ix2 r l) = gated (rowX x r) (entriesIn win) l := by
  unfold k0_pay6
  pointwise
  exact congr_arg₂ (· * ·) (projected_at x win r _) (projected_at x win r _)

/-- The gated row one before: the second carried row at the tile's first. -/
def oneBefore (q : Vec Ideal S1x1024 .f32) (r : Fin 512) : Fin 1024 → EReal := fun l =>
  if r.val = 0 then q (ix2 0 l) else gated (rowX x ⟨r.val - 1, by omega⟩) (entriesIn win) l

/-- The gated row two before: the carried rows at the tile's first two. -/
def twoBefore (p q : Vec Ideal S1x1024 .f32) (r : Fin 512) : Fin 1024 → EReal := fun l =>
  if r.val = 0 then p (ix2 0 l) else if r.val = 1 then q (ix2 0 l) else gated (rowX x ⟨r.val - 2, by omega⟩) (entriesIn win) l

/-- A choice by the row's number, as the body computes it. -/
theorem choose_row (r : Fin 512) (n : ℕ) (hn : n < 512) (a b : EReal) :
    Scalar.select (IntOp.cmpi CmpIPredicate.eq (BitVec.ofNat 32 r.val) (BitVec.ofNat 32 n)) a b = if r.val = n then a else b := by
  have hr := r.isLt
  have e : (BitVec.ofNat 32 r.val == BitVec.ofNat 32 n) = decide (r.val = n) := by
    rw [Bool.eq_iff_iff, beq_iff_eq, decide_eq_true_iff, ← BitVec.toNat_inj, BitVec.toNat_ofNat, BitVec.toNat_ofNat,
      Nat.mod_eq_of_lt (by omega), Nat.mod_eq_of_lt (by omega)]
  unfold IntOp.cmpi
  simp only [e]
  by_cases h : r.val = n
  · rw [if_pos h, decide_eq_true h]; rfl
  · rw [if_neg h, decide_eq_false h]; rfl

/-- A row that is not among the first two is the rotated vector's. -/
theorem rotated_at (n : ℕ) (r : Fin 512) (hn : n ≤ r.val) (l : Fin 1024) (h) :
    k0_pay6 x win (ix2 ⟨(r.val + 512 - n) % 512, h⟩ l) = gated (rowX x ⟨r.val - n, by omega⟩) (entriesIn win) l :=
  (congrArg (fun i => k0_pay6 x win (ix2 i l)) (Fin.ext (show (r.val + 512 - n) % 512 = r.val - n by omega))).trans (gated_at x win _ l)

theorem oneBefore_at (q : Vec Ideal S1x1024 .f32) (r : Fin 512) (l : Fin 1024) : k0_pay8 x win q (ix2 r l) = oneBefore x win q r l := by
  unfold k0_pay8 oneBefore
  pointwise
  refine (choose_row r 0 (by omega) _ _).trans ?_
  split
  · rfl
  · exact rotated_at x win 1 r (by omega) l _

theorem twoBefore_at (t0 p q : Vec Ideal S1x1024 .f32) (r : Fin 512) (l : Fin 1024) :
    k0_pay9 x win p q t0 (ix2 r l) = t0 (ix2 0 l) * twoBefore x win p q r l := by
  unfold k0_pay9 twoBefore
  pointwise
  refine congrArg (t0 (ix2 0 l) * ·) ((choose_row r 0 (by omega) _ _).trans ?_)
  split
  · rfl
  refine (choose_row r 1 (by omega) _ _).trans ?_
  split
  · rfl
  · exact rotated_at x win 2 r (by omega) l _

theorem tile (t0 t1 t2 : Vec Ideal S1x1024 .f32) (wout : Vec Ideal S1024x1024 .bf16) (g b p q : Vec Ideal S1x1024 .f32) (r : Fin 512) (l : Fin 1024) :
    k0_pay1 (k0_pay11 b) (k0_pay12 (k0_pay3 x) (k0_pay5 x win) (k0_pay6 x win) (k0_pay8 x win q) (k0_pay9 x win p q t0) t1 t2 wout g) (ix3 0 r l)
      = norm (layer (rowX x r) (entriesIn win) (fun | 0 => fun l => t0 (ix2 0 l) | 1 => fun l => t1 (ix2 0 l) | 2 => fun l => t2 (ix2 0 l)) (fun k l => wout (ix2 k l))
          (twoBefore x win p q r) (oneBefore x win q r) (gated (rowX x r) (entriesIn win))) (fun k => g (ix2 0 k)) (fun k => b (ix2 0 k)) l := by
  pointwise [k0_pay1, k0_pay11, k0_pay12, k0_pay3]
  simp only [gate_at, gated_at, oneBefore_at, twoBefore_at]
  rfl

/-- The body's output at an index. -/
theorem outRows_at (wdw : Vec Ideal S3x1024 .f32) (wout : Vec Ideal S1024x1024 .bf16) (g b p q : Vec Ideal S1x1024 .f32) (r : Fin 512) (l : Fin 1024) :
    outRows x win wdw wout g b p q (ix3 0 r l)
      = norm (layer (rowX x r) (entriesIn win) (fun j l => wdw (ix2 j l)) (fun k l => wout (ix2 k l)) (twoBefore x win p q r) (oneBefore x win q r)
          (gated (rowX x r) (entriesIn win))) (fun k => g (ix2 0 k)) (fun k => b (ix2 0 k)) l := by
  unfold outRows
  rw [allX_eq, allIn_eq, allOut_eq, allRow_eq, allRow_eq, tile]
  refine congrArg (fun d => norm (layer (rowX x r) (entriesIn win) d (fun k l => wout (ix2 k l)) (twoBefore x win p q r) (oneBefore x win q r)
    (gated (rowX x r) (entriesIn win))) (fun k => g (ix2 0 k)) (fun k => b (ix2 0 k)) l) (funext fun j => ?_)
  fin_cases j
  · exact funext (tap0_at wdw)
  · exact funext (tap1_at wdw)
  · exact funext (tap2_at wdw)

/-- The rows the first tile starts from. -/
theorem carryStart_at (prev : Vec Ideal S1x2x1024 .f32) (j : Fin 2) (l : Fin 1024) : carryStart prev (ix2 j l) = prev (ix3 0 j l) := by
  unfold carryStart
  rw [allPrev_eq]
  pointwise [k0_pay7]

/-- The rows carried out. -/
theorem carryOut_at (j : Fin 2) (l : Fin 1024) : carryOut x win (ix2 j l) = gated (rowX x ⟨510 + j.val, by omega⟩) (entriesIn win) l := by
  unfold carryOut
  rw [allX_eq, allIn_eq]
  pointwise [k0_pay10]
  exact gated_at x win _ l

/-- The state written out. -/
theorem stateBlock_at (j : Fin 2) (l : Fin 1024) : stateBlock x win (ix3 0 j l) = gated (rowX x ⟨510 + j.val, by omega⟩) (entriesIn win) l := by
  unfold stateBlock
  rw [allX_eq, allIn_eq]
  pointwise [k0_pay2]
  exact gated_at x win _ l

end Cert.ConvIdeal.Layer

end
-- ==== Proof.RefConvIdeal.Value.lean ====
/-
  The reference of the convolution layer over the extended reals, at an index.
-/
module

public import proofs.«01_k».proof.Proof.Stick.Conv
public import proofs.«01_k».proof.Proof.Gen.RefConvIdeal.Run
public import Idealize.ShloMosaic.Lib.Pipeline.ValueKit

@[expose] public section

set_option maxRecDepth 16384

noncomputable section

namespace Cert.RefConvIdeal.Layer

open Cert.RefConvIdeal Cert.RefConvIdeal.Gen
open Idealize.ShloMosaic Idealize.SL.Sem
open Stick (alpha mean norm gate gated layer)

/-! ### What the reference computes -/

/-- The three projections, side by side. -/
def projected (h : FVec Ideal S32x2048x1024 .f32) (w : FVec Ideal S1024x3072 .f32) : FVec Ideal S32x2048x3072 .f32 :=
  Host.dotGeneral dot_S32x2048x1024_S1024x3072_S32x2048x3072_2_0_01_1_n_n none h w

/-- The gated rows, behind the two of the previous state. -/
def padded (prev : FVec Ideal S32x2x1024 .f32) (p : FVec Ideal S32x2048x3072 .f32) : FVec Ideal S32x2050x1024 .f32 :=
  concatenate S32x2050x1024 1 [⟨S32x2x1024, prev⟩, ⟨S32x2048x1024, mulf (extractStridedSlice S32x2048x1024 ![0, 0, 1024] p slices_S32x2048x3072_S32x2048x1024_0_0_1024)
    (extractStridedSlice S32x2048x1024 ![0, 0, 2048] p slices_S32x2048x3072_S32x2048x1024_0_0_2048)⟩] concatenates_S32x2x1024_S32x2048x1024_S32x2050x1024_d1

/-- Each row's mean, along the row. -/
def means (x : FVec Ideal S32x2048x1024 .f32) : FVec Ideal S32x2048x1 .f32 :=
  Host.divf (broadcastInDim S32x2048x1 ![0, 1] bcast_S32x2048_S32x2048x1_0_1
    (Host.reduceAdd x (constant (F := Ideal) S_ .f32 0x00000000#32) reducesTo_S32x2048x1024_S32x2048_d2 h_S_))
    (broadcastInDim S32x2048x1 ![] bcast_S_S32x2048x1 (constant (F := Ideal) S_ .f32 0x44800000#32))

/-- Each row less its mean. -/
def centred (x : FVec Ideal S32x2048x1024 .f32) : FVec Ideal S32x2048x1024 .f32 :=
  subf x (broadcastInDim S32x2048x1024 ![0, 1, 2] bcast_S32x2048x1_S32x2048x1024_0_1_2 (means x))

/-- A vector along every row. -/
def along (g : FVec Ideal S1024 .f32) : FVec Ideal S32x2048x1024 .f32 :=
  broadcastInDim S32x2048x1024 ![0, 1, 2] bcast_S1x1x1024_S32x2048x1024_0_1_2 (broadcastInDim S1x1x1024 ![2] bcast_S1024_S1x1x1024_2 g)

/-- The layer norm of every row. -/
def normed (x : FVec Ideal S32x2048x1024 .f32) (g b : FVec Ideal S1024 .f32) : FVec Ideal S32x2048x1024 .f32 :=
  addf (mulf (mulf (centred x) (broadcastInDim S32x2048x1024 ![0, 1, 2] bcast_S32x2048x1_S32x2048x1024_0_1_2
    (Host.rsqrt (addf (means (mulf (centred x) (centred x)))
      (broadcastInDim S32x2048x1 ![] bcast_S_S32x2048x1 (constant (F := Ideal) S_ .f32 0x3727C5AC#32)))))) (along g)) (along b)

/-- A tap's weights along every row. -/
def taps (r : FVec Ideal S1x1024 .f32) : FVec Ideal S32x2048x1024 .f32 := along (shapeCast S1024 r shapeCasts_S1x1024_S1024)

/-- The convolution over three positions. -/
def convolved (d : FVec Ideal S3x1024 .f32) (u : FVec Ideal S32x2050x1024 .f32) : FVec Ideal S32x2048x1024 .f32 :=
  addf (addf (mulf (taps (extractStridedSlice S1x1024 ![0, 0] d slices_S3x1024_S1x1024_0_0)) (extractStridedSlice S32x2048x1024 ![0, 0, 0] u slices_S32x2050x1024_S32x2048x1024_0_0_0))
      (mulf (taps (extractStridedSlice S1x1024 ![1, 0] d slices_S3x1024_S1x1024_1_0)) (extractStridedSlice S32x2048x1024 ![0, 1, 0] u slices_S32x2050x1024_S32x2048x1024_0_1_0)))
    (mulf (taps (extractStridedSlice S1x1024 ![2, 0] d slices_S3x1024_S1x1024_2_0)) (extractStridedSlice S32x2048x1024 ![0, 2, 0] u slices_S32x2050x1024_S32x2048x1024_0_2_0))

/-- The residual stream plus the layer's output. -/
def mixed (h : FVec Ideal S32x2048x1024 .f32) (prev : FVec Ideal S32x2x1024 .f32) (w : FVec Ideal S1024x3072 .f32) (d : FVec Ideal S3x1024 .f32)
    (wo : FVec Ideal S1024x1024 .f32) : FVec Ideal S32x2048x1024 .f32 :=
  addf (mulf (broadcastInDim S32x2048x1024 ![] bcast_S_S32x2048x1024 (constant (F := Ideal) S_ .f32 0x3FD744FD#32)) h)
    (Host.dotGeneral dot_S32x2048x1024_S1024x1024_S32x2048x1024_2_0_01_1_n_n none
      (mulf (extractStridedSlice S32x2048x1024 ![0, 0, 0] (projected h w) slices_S32x2048x3072_S32x2048x1024_0_0_0) (convolved d (padded prev (projected h w)))) wo)

/-- What the reference returns: the normed rows, -/
def out (h : FVec Ideal S32x2048x1024 .f32) (prev : FVec Ideal S32x2x1024 .f32) (w : FVec Ideal S1024x3072 .f32) (d : FVec Ideal S3x1024 .f32)
    (wo : FVec Ideal S1024x1024 .f32) (g b : FVec Ideal S1024 .f32) : FVec Ideal S32x2048x1024 .f32 := normed (mixed h prev w d wo) g b

/-- and the new state, the last two gated rows. -/
def state (h : FVec Ideal S32x2048x1024 .f32) (prev : FVec Ideal S32x2x1024 .f32) (w : FVec Ideal S1024x3072 .f32) : FVec Ideal S32x2x1024 .f32 :=
  extractStridedSlice S32x2x1024 ![0, 2048, 0] (padded prev (projected h w)) slices_S32x2050x1024_S32x2x1024_0_2048_0

/-! ### The same, index by index -/

theorem means_at (x : FVec Ideal S32x2048x1024 .f32) (i : Fin 32) (s : Fin 2048) (z : Fin 1) :
    means x (ix3 i s z) = mean fun k => x (ix3 i s k) := by
  unfold means
  pointwise
  rfl

theorem centred_at (x : FVec Ideal S32x2048x1024 .f32) (i : Fin 32) (s : Fin 2048) (l : Fin 1024) :
    centred x (ix3 i s l) = x (ix3 i s l) - mean fun k => x (ix3 i s k) := by
  unfold centred
  pointwise
  exact congrArg _ (means_at x i s _)

theorem normed_at (x : FVec Ideal S32x2048x1024 .f32) (g b : FVec Ideal S1024 .f32) (i : Fin 32) (s : Fin 2048) (l : Fin 1024) :
    normed x g b (ix3 i s l) = norm (fun k => x (ix3 i s k)) (fun k => g (ix1 k)) (fun k => b (ix1 k)) l := by
  unfold normed along
  pointwise
  have hv : means (mulf (centred x) (centred x)) (ix3 i s 0)
      = mean fun k => (x (ix3 i s k) - mean fun k => x (ix3 i s k)) * (x (ix3 i s k) - mean fun k => x (ix3 i s k)) := by
    rw [means_at]
    refine congrArg mean (funext fun k => ?_)
    exact congr_arg₂ (· * ·) (centred_at x i s k) (centred_at x i s k)
  rw [hv, centred_at]
  rfl

/-- A row of the residual stream. -/
abbrev row (h : FVec Ideal S32x2048x1024 .f32) (i : Fin 32) (s : Fin 2048) : Fin 1024 → EReal := fun k => h (ix3 i s k)

/-- A weight matrix, entry by entry. -/
abbrev entries {m n : ℕ} (w : FVec Ideal ⟨2, ![m, n]⟩ .f32) : Fin m → Fin n → EReal := fun k l => w (ix2 k l)

theorem projected_at (h : FVec Ideal S32x2048x1024 .f32) (w : FVec Ideal S1024x3072 .f32) (i : Fin 32) (s : Fin 2048) (l : Fin 3072) :
    projected h w (ix3 i s l) = ∑ k, h (ix3 i s k) * w (ix2 k l) := by
  unfold projected
  pointwise

/-- Row `q` of the padded gated rows: the previous state's, then the gated rows from position 0 on. -/
def before (h : FVec Ideal S32x2048x1024 .f32) (prev : FVec Ideal S32x2x1024 .f32) (w : FVec Ideal S1024x3072 .f32) (i : Fin 32) (q : Fin 2050) : Fin 1024 → EReal := fun l =>
  if hq : q.val < 2 then prev (ix3 i ⟨q.val, hq⟩ l) else gated (row h i ⟨q.val - 2, by omega⟩) (entries w) l

theorem padded_at (h : FVec Ideal S32x2048x1024 .f32) (prev : FVec Ideal S32x2x1024 .f32) (w : FVec Ideal S1024x3072 .f32) (i : Fin 32) (q : Fin 2050) (l : Fin 1024) :
    padded prev (projected h w) (ix3 i q l) = before h prev w i q l := by
  unfold padded before
  pointwise
  split
  · rfl
  · rw [projected_at, projected_at]; rfl

theorem taps_at (r : FVec Ideal S1x1024 .f32) (i : Fin 32) (s : Fin 2048) (l : Fin 1024) : taps r (ix3 i s l) = r (ix2 0 l) := by
  unfold taps along
  pointwise

theorem convolved_at (h : FVec Ideal S32x2048x1024 .f32) (prev : FVec Ideal S32x2x1024 .f32) (w : FVec Ideal S1024x3072 .f32) (d : FVec Ideal S3x1024 .f32)
    (i : Fin 32) (s : Fin 2048) (l : Fin 1024) : convolved d (padded prev (projected h w)) (ix3 i s l)
      = d (ix2 0 l) * before h prev w i ⟨s.val, by omega⟩ l + d (ix2 1 l) * before h prev w i ⟨1 + s.val, by omega⟩ l
        + d (ix2 2 l) * before h prev w i ⟨2 + s.val, by omega⟩ l := by
  rw [← padded_at, ← padded_at, ← padded_at]
  unfold convolved
  pointwise [taps_at]

theorem mixed_at (h : FVec Ideal S32x2048x1024 .f32) (prev : FVec Ideal S32x2x1024 .f32) (w : FVec Ideal S1024x3072 .f32) (d : FVec Ideal S3x1024 .f32)
    (wo : FVec Ideal S1024x1024 .f32) (i : Fin 32) (s : Fin 2048) (l : Fin 1024) : mixed h prev w d wo (ix3 i s l)
      = layer (row h i s) (entries w) (entries d) (entries wo) (before h prev w i ⟨s.val, by omega⟩) (before h prev w i ⟨1 + s.val, by omega⟩)
          (before h prev w i ⟨2 + s.val, by omega⟩) l := by
  unfold mixed layer
  pointwise
  refine congrArg (alpha * h (ix3 i s l) + ·) (Finset.sum_congr rfl fun j _ => congrArg (· * wo (ix2 j l)) ?_)
  exact congr_arg₂ (· * ·) (projected_at h w i s _) (convolved_at h prev w d i s j)

theorem out_at (h : FVec Ideal S32x2048x1024 .f32) (prev : FVec Ideal S32x2x1024 .f32) (w : FVec Ideal S1024x3072 .f32) (d : FVec Ideal S3x1024 .f32)
    (wo : FVec Ideal S1024x1024 .f32) (g b : FVec Ideal S1024 .f32) (i : Fin 32) (s : Fin 2048) (l : Fin 1024) : out h prev w d wo g b (ix3 i s l)
      = norm (layer (row h i s) (entries w) (entries d) (entries wo) (before h prev w i ⟨s.val, by omega⟩) (before h prev w i ⟨1 + s.val, by omega⟩)
          (before h prev w i ⟨2 + s.val, by omega⟩)) (fun k => g (ix1 k)) (fun k => b (ix1 k)) l := by
  unfold out
  rw [normed_at]
  exact congrArg (fun f => norm f (fun k => g (ix1 k)) (fun k => b (ix1 k)) l) (funext fun k => mixed_at h prev w d wo i s k)

theorem state_at (h : FVec Ideal S32x2048x1024 .f32) (prev : FVec Ideal S32x2x1024 .f32) (w : FVec Ideal S1024x3072 .f32) (i : Fin 32) (r : Fin 2) (l : Fin 1024) :
    state h prev w (ix3 i r l) = gated (row h i ⟨2046 + r.val, by omega⟩) (entries w) l := by
  have e : state h prev w (ix3 i r l) = before h prev w i ⟨2048 + r.val, by omega⟩ l := by
    rw [← padded_at]; unfold state; pointwise
  rw [e]; unfold before
  rw [dif_neg (by show ¬ 2048 + r.val < 2; omega)]
  exact congrArg (fun q => gated (row h i q) (entries w) l) (Fin.ext (by show 2048 + r.val - 2 = 2046 + r.val; omega))

theorem out_eq (m : (ℓ : Loc nD τ sig) → Buf (Elt Ideal) ℓ) (c : Dev nD) : Value.res_out0 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Cert.RefConvIdeal.Layer

end
-- ==== Proof.ConvIdeal.Value.lean ====
/-
  The convolution layer over the extended reals: each tile's rows and the rows it carries on are the reference's at the
  tile's positions, so the arrays the tiles make up are the reference's two results.
-/
module

public import proofs.«01_k».proof.Proof.ConvIdeal.Run
public import proofs.«01_k».proof.Proof.ConvIdeal.Point
public import proofs.«01_k».proof.Proof.RefConvIdeal.Value

@[expose] public section

set_option maxRecDepth 16384

noncomputable section

namespace Cert.ConvIdeal.Layer

open Cert.ConvIdeal Cert.ConvIdeal.Gen
open Idealize.ShloMosaic Idealize.ShloMosaic.TcCoe Idealize.SL.Sem
open Idealize.ShloMosaic.Pipeline (Dat)
open Cert.RefConvIdeal.Layer (out out_at state state_at row entries before)
open Stick (norm gated layer)

variable (m : (ℓ : Loc nD τ sig) → Buf (Elt Ideal) ℓ)

abbrev argH (c : Dev nD) : FVec Ideal S32x2048x1024 .f32 := m ((c : Thread nD τ).loc main_arg0)
abbrev argP (c : Dev nD) : FVec Ideal S32x2x1024 .f32 := m ((c : Thread nD τ).loc main_arg1)
abbrev argW (c : Dev nD) : FVec Ideal S1024x3072 .f32 := m ((c : Thread nD τ).loc main_arg2)
abbrev argD (c : Dev nD) : FVec Ideal S3x1024 .f32 := m ((c : Thread nD τ).loc main_arg3)
abbrev argO (c : Dev nD) : FVec Ideal S1024x1024 .f32 := m ((c : Thread nD τ).loc main_arg4)
abbrev argG (c : Dev nD) : FVec Ideal S1024 .f32 := m ((c : Thread nD τ).loc main_arg5)
abbrev argB (c : Dev nD) : FVec Ideal S1024 .f32 := m ((c : Thread nD τ).loc main_arg6)

/-! ### The host operations' arrays -/

/-- The input weights. -/
theorem weightsIn_at (c : Dev nD) (k : Fin 1024) (l : Fin 3072) : (V m c main_v0 : Vec Ideal S1024x3072 .bf16) (ix2 k l) = argW m c (ix2 k l) := by
  unfold V; after_results
  pointwise

/-- The output weights. -/
theorem weightsOut_at (c : Dev nD) (k l : Fin 1024) : (V m c main_v1 : Vec Ideal S1024x1024 .bf16) (ix2 k l) = argO m c (ix2 k l) := by
  unfold V; after_results
  pointwise

/-- The norm's scales. -/
theorem scales_at (c : Dev nD) (z : Fin 1) (l : Fin 1024) : (V m c main_v2 : Vec Ideal S1x1024 .f32) (ix2 z l) = argG m c (ix1 l) := by
  unfold V; after_results
  pointwise

/-- The norm's shifts. -/
theorem shifts_at (c : Dev nD) (z : Fin 1) (l : Fin 1024) : (V m c main_v3 : Vec Ideal S1x1024 .f32) (ix2 z l) = argB m c (ix1 l) := by
  unfold V; after_results
  pointwise

/-! ### The windows -/

theorem index : ∀ t : Fin cfg0.N, win0_0.index t = ![t.val / 4, t.val % 4, 0] ∧ win0_1.index t = ![t.val / 4, 0, 0] ∧ win0_2.index t = ![0, 0]
    ∧ win0_3.index t = ![0, 0] ∧ win0_4.index t = ![0, 0] ∧ win0_5.index t = ![0, 0] ∧ win0_6.index t = ![0, 0]
    ∧ win0_7.index t = ![t.val / 4, t.val % 4, 0] ∧ win0_8.index t = ![t.val / 4, 0, 0] :=
  (by decide +kernel : ∀ t : Fin grid0.N, _)

/-- The batch row of a point, -/
abbrev batch (t : Fin cfg0.N) : Fin 32 := ⟨t.val / 4, by have h : t.val < 128 := t.isLt; omega⟩
/-- and the position of a tile's row in it. -/
abbrev place (t : Fin cfg0.N) (r : Fin 512) : Fin 2048 := ⟨t.val % 4 * 512 + r.val, by omega⟩

/-- A tile of the residual stream. -/
theorem block0 (c : Dev nD) (t : Fin cfg0.N) (r : Fin 512) (l : Fin 1024) : (iblk m c 0 t : Vec Ideal S1x512x1024 .f32) (ix3 0 r l)
    = argH m c (ix3 (batch t) (place t r) l) := by
  have e : (win0_0.blk t).view.emb (ix3 0 r l : S1x512x1024.Idx) = (ix3 (batch t) (place t r) l : S32x2048x1024.Idx) := by
    blk_ext [(index t).1]
  unfold iblk
  blk_simp
  exact (congrArg (V m c main_arg0) e).trans (congrFun (V_main_arg0 m c) _)

/-- The previous state's two rows of the batch row. -/
theorem block1 (c : Dev nD) (t : Fin cfg0.N) (j : Fin 2) (l : Fin 1024) : (iblk m c 1 t : Vec Ideal S1x2x1024 .f32) (ix3 0 j l)
    = argP m c (ix3 (batch t) j l) := by
  have e : (win0_1.blk t).view.emb (ix3 0 j l : S1x2x1024.Idx) = (ix3 (batch t) j l : S32x2x1024.Idx) := by
    blk_ext [(index t).2.1]
  unfold iblk
  blk_simp
  exact (congrArg (V m c main_arg1) e).trans (congrFun (V_main_arg1 m c) _)

/-- The input weights' block is the array. -/
theorem block2 (c : Dev nD) (t : Fin cfg0.N) (k : Fin 1024) (l : Fin 3072) : (iblk m c 2 t : Vec Ideal S1024x3072 .bf16) (ix2 k l)
    = argW m c (ix2 k l) := by
  have e : (win0_2.blk t).view.emb (ix2 k l : S1024x3072.Idx) = (ix2 k l : S1024x3072.Idx) := by
    blk_ext [(index t).2.2.1]
  unfold iblk
  blk_simp
  exact (congrArg (V m c main_v0) e).trans (weightsIn_at m c k l)

/-- The taps' block is the array. -/
theorem block3 (c : Dev nD) (t : Fin cfg0.N) (k : Fin 3) (l : Fin 1024) : (iblk m c 3 t : Vec Ideal S3x1024 .f32) (ix2 k l)
    = argD m c (ix2 k l) := by
  have e : (win0_3.blk t).view.emb (ix2 k l : S3x1024.Idx) = (ix2 k l : S3x1024.Idx) := by
    blk_ext [(index t).2.2.2.1]
  unfold iblk
  blk_simp
  exact (congrArg (V m c main_arg3) e).trans (congrFun (V_main_arg3 m c) _)

/-- The output weights' block is the array. -/
theorem block4 (c : Dev nD) (t : Fin cfg0.N) (k l : Fin 1024) : (iblk m c 4 t : Vec Ideal S1024x1024 .bf16) (ix2 k l)
    = argO m c (ix2 k l) := by
  have e : (win0_4.blk t).view.emb (ix2 k l : S1024x1024.Idx) = (ix2 k l : S1024x1024.Idx) := by
    blk_ext [(index t).2.2.2.2.1]
  unfold iblk
  blk_simp
  exact (congrArg (V m c main_v1) e).trans (weightsOut_at m c k l)

/-- The scales' block is the array. -/
theorem block5 (c : Dev nD) (t : Fin cfg0.N) (l : Fin 1024) : (iblk m c 5 t : Vec Ideal S1x1024 .f32) (ix2 0 l) = argG m c (ix1 l) := by
  have e : (win0_5.blk t).view.emb (ix2 0 l : S1x1024.Idx) = (ix2 0 l : S1x1024.Idx) := by
    blk_ext [(index t).2.2.2.2.2.1]
  unfold iblk
  blk_simp
  exact (congrArg (V m c main_v2) e).trans (scales_at m c 0 l)

/-- The shifts' block is the array. -/
theorem block6 (c : Dev nD) (t : Fin cfg0.N) (l : Fin 1024) : (iblk m c 6 t : Vec Ideal S1x1024 .f32) (ix2 0 l) = argB m c (ix1 l) := by
  have e : (win0_6.blk t).view.emb (ix2 0 l : S1x1024.Idx) = (ix2 0 l : S1x1024.Idx) := by
    blk_ext [(index t).2.2.2.2.2.2.1]
  unfold iblk
  blk_simp
  exact (congrArg (V m c main_v3) e).trans (shifts_at m c 0 l)

theorem place7 (t : Fin cfg0.N) (r : Fin 512) (l : Fin 1024) :
    (((cfg0.win 7).blk t).view.emb (ix3 0 r l : S1x512x1024.Idx) : S32x2048x1024.Idx) = ix3 (batch t) (place t r) l := by
  blk_ext [(index t).2.2.2.2.2.2.2.1]

theorem place8 (t : Fin cfg0.N) (j : Fin 2) (l : Fin 1024) :
    (((cfg0.win 8).blk t).view.emb (ix3 0 j l : S1x2x1024.Idx) : S32x2x1024.Idx) = ix3 (batch t) j l := by
  blk_ext [(index t).2.2.2.2.2.2.2.2]

/-! ### The rows of a point -/

/-- A tile's row, -/
theorem rowX_eq (c : Dev nD) (t : Fin cfg0.N) (r : Fin 512) : rowX (iblk m c 0 t) r = row (argH m c) (batch t) (place t r) :=
  funext fun k => block0 m c t r k

/-- the input weights, -/
theorem entriesIn_eq (c : Dev nD) (t : Fin cfg0.N) : entriesIn (iblk m c 2 t) = entries (argW m c) :=
  funext fun k => funext fun l => block2 m c t k l

/-- and the gated row. -/
theorem gated_eq (c : Dev nD) (t : Fin cfg0.N) (r : Fin 512) :
    gated (rowX (iblk m c 0 t) r) (entriesIn (iblk m c 2 t)) = gated (row (argH m c) (batch t) (place t r)) (entries (argW m c)) :=
  congr_arg₂ gated (rowX_eq m c t r) (entriesIn_eq m c t)

/-- The reference's padded gated rows. -/
abbrev ahead (c : Dev nD) (t : Fin cfg0.N) (q : Fin 2050) : Fin 1024 → EReal := before (argH m c) (argP m c) (argW m c) (batch t) q

/-- Past the first two they are the gated rows. -/
theorem ahead_gated (c : Dev nD) (t : Fin cfg0.N) (q : Fin 2050) (s : Fin 2048) (h : q.val = s.val + 2) :
    ahead m c t q = gated (row (argH m c) (batch t) s) (entries (argW m c)) := by
  funext l
  unfold ahead before
  rw [dif_neg (by omega)]
  exact congrArg (fun s => gated (row (argH m c) (batch t) s) (entries (argW m c)) l) (Fin.ext (by show q.val - 2 = s.val; omega))

/-- The rows a point starts from are the reference's two before the tile. -/
theorem carryIn_at (c : Dev nD) (t : Fin cfg0.N) (j : Fin 2) (l : Fin 1024) :
    carryIn m c t (ix2 j l) = ahead m c t ⟨t.val % 4 * 512 + j.val, by omega⟩ l := by
  unfold carryIn
  split
  · rename_i h
    have h0 : t.val % 4 = 0 := (first_iff t).mp h
    rw [carryStart_at]
    refine (block1 m c t j l).trans ?_
    unfold ahead before
    rw [dif_pos (by show t.val % 4 * 512 + j.val < 2; omega)]
    exact congrArg (fun q => argP m c (ix3 (batch t) q l)) (Fin.ext (by show j.val = t.val % 4 * 512 + j.val; omega))
  · rename_i h
    have h0 : ¬ t.val % 4 = 0 := fun e => h ((first_iff t).mpr e)
    unfold outOf
    rw [carryOut_at, gated_eq]
    have hb : batch (pred t) = batch t := Fin.ext (by show (t.val - 1) / 4 = t.val / 4; omega)
    rw [hb]
    refine (congrFun (ahead_gated m c t _ _ ?_) l).symm
    show t.val % 4 * 512 + j.val = (t.val - 1) % 4 * 512 + (510 + j.val) + 2
    omega

/-- The gated row one before a tile's row, -/
theorem one_eq (c : Dev nD) (t : Fin cfg0.N) (r : Fin 512) : oneBefore (iblk m c 0 t) (iblk m c 2 t) (rowOf 1 (carryIn m c t)) r
    = ahead m c t ⟨1 + (place t r).val, by omega⟩ := by
  funext l
  unfold oneBefore
  split
  · refine (congrArg (carryIn m c t) (ix2_eta _).symm).trans ((carryIn_at m c t 1 l).trans ?_)
    exact congrArg (fun q => ahead m c t q l) (Fin.ext (by show t.val % 4 * 512 + 1 = 1 + (t.val % 4 * 512 + r.val); omega))
  · rw [gated_eq]
    refine (congrFun (ahead_gated m c t _ _ ?_) l).symm
    show 1 + (t.val % 4 * 512 + r.val) = t.val % 4 * 512 + (r.val - 1) + 2
    omega

/-- and two before. -/
theorem two_eq (c : Dev nD) (t : Fin cfg0.N) (r : Fin 512) :
    twoBefore (iblk m c 0 t) (iblk m c 2 t) (rowOf 0 (carryIn m c t)) (rowOf 1 (carryIn m c t)) r = ahead m c t ⟨(place t r).val, by omega⟩ := by
  funext l
  unfold twoBefore
  split
  · refine (congrArg (carryIn m c t) (ix2_eta _).symm).trans ((carryIn_at m c t 0 l).trans ?_)
    exact congrArg (fun q => ahead m c t q l) (Fin.ext (by show t.val % 4 * 512 + 0 = t.val % 4 * 512 + r.val; omega))
  split
  · refine (congrArg (carryIn m c t) (ix2_eta _).symm).trans ((carryIn_at m c t 1 l).trans ?_)
    exact congrArg (fun q => ahead m c t q l) (Fin.ext (by show t.val % 4 * 512 + 1 = t.val % 4 * 512 + r.val; omega))
  · rw [gated_eq]
    refine (congrFun (ahead_gated m c t _ _ ?_) l).symm
    show t.val % 4 * 512 + r.val = t.val % 4 * 512 + (r.val - 2) + 2
    omega

/-! ### The results -/

/-- A tile's output is the reference's there. -/
theorem point (c : Dev nD) (t : Fin cfg0.N) (r : Fin 512) (l : Fin 1024) :
    outBlock (iblk m c 0 t) (iblk m c 2 t) (iblk m c 3 t) (iblk m c 4 t) (iblk m c 5 t) (iblk m c 6 t) (carryIn m c t) (ix3 0 r l)
      = out (argH m c) (argP m c) (argW m c) (argD m c) (argO m c) (argG m c) (argB m c) (ix3 (batch t) (place t r) l) := by
  refine (outRows_at _ _ _ _ _ _ _ _ r l).trans ?_
  rw [out_at, two_eq, one_eq, gated_eq, rowX_eq, entriesIn_eq]
  have hu := ahead_gated m c t ⟨2 + (place t r).val, by omega⟩ (place t r) (Nat.add_comm _ _)
  rw [← hu]
  have hd : (fun (j : Fin 3) (l : Fin 1024) => (iblk m c 3 t : Vec Ideal S3x1024 .f32) (ix2 j l)) = entries (argD m c) :=
    funext fun j => funext fun l => block3 m c t j l
  have ho : (fun (k l : Fin 1024) => (iblk m c 4 t : Vec Ideal S1024x1024 .bf16) (ix2 k l)) = entries (argO m c) :=
    funext fun k => funext fun l => block4 m c t k l
  have hg : (fun k : Fin 1024 => (iblk m c 5 t : Vec Ideal S1x1024 .f32) (ix2 0 k)) = fun k => argG m c (ix1 k) := funext fun k => block5 m c t k
  have hb : (fun k : Fin 1024 => (iblk m c 6 t : Vec Ideal S1x1024 .f32) (ix2 0 k)) = fun k => argB m c (ix1 k) := funext fun k => block6 m c t k
  exact congr (congr (congr (congrArg norm (congr (congr (congr (congr (congrArg (layer _ _) hd) ho) rfl) rfl) rfl)) hg) hb) rfl

/-- An index of a block of one batch row. -/
theorem alone {a b : ℕ} (y : (⟨3, ![1, a, b]⟩ : Shape).Idx) : ∃ (r : Fin a) (l : Fin b), y = ix3 0 r l :=
  ⟨y 1, y 2, ((congrArg (fun z : Fin 1 => ix3 z (y 1) (y 2)) (Subsingleton.elim (0 : Fin 1) (y 0 : Fin 1))).trans (ix3_eta y)).symm⟩

/-- The output array. -/
theorem array7 (c : Dev nD) : (dats m 0 c).arrAt 7 cfg0.N = out (argH m c) (argP m c) (argW m c) (argD m c) (argO m c) (argG m c) (argB m c) := by
  refine (dats m 0 c).arrAt_eq_of_covers 7 _ (by decide +kernel) fun t _ y => ?_
  obtain ⟨r, l, rfl⟩ := alone (a := 512) (b := 1024) y
  blk_simp
  rw [after_7]
  exact (point m c t r l).trans (congrArg _ (place7 t r l).symm)

/-- The state of a batch row, written by its last tile, is the reference's. -/
theorem array8 (c : Dev nD) : (dats m 0 c).arrAt 8 cfg0.N = state (argH m c) (argP m c) (argW m c) := by
  refine (dats m 0 c).arrAt_eq_of_covers 8 _ (by decide +kernel) fun t ht y => ?_
  have h3 : t.val % 4 = 3 := (flush0_8 t).mp ht
  obtain ⟨j, l, rfl⟩ := alone (a := 2) (b := 1024) y
  blk_simp
  rw [after_8]
  refine (stateBlock_at _ _ j l).trans (Eq.trans ?_ (congrArg (state (argH m c) (argP m c) (argW m c)) (place8 t j l).symm))
  rw [state_at, gated_eq]
  exact congrArg (fun s => gated (row (argH m c) (batch t) s) (entries (argW m c)) l)
    (Fin.ext (by show t.val % 4 * 512 + (510 + j.val) = 2046 + j.val; omega))

/-- The run: both results are the reference's, and the arguments are unchanged. -/
theorem run (g : Dev nD → PrngReg) : θ_run defs (onTc (τ := τ) (main (F := Ideal))) ⟨m, fun _ => 0, g⟩ (fun r => ∀ c : Dev nD,
      r.2.mem ((c.tc : Thread nD τ).loc main_v4_0) = out (argH m c) (argP m c) (argW m c) (argD m c) (argO m c) (argG m c) (argB m c)
      ∧ r.2.mem ((c.tc : Thread nD τ).loc main_v4_1) = state (argH m c) (argP m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (array7 m c), (h c).2.1.trans (array8 m c), (h c).2.2⟩) (run_out m g)

end Cert.ConvIdeal.Layer

end
-- ==== Proof.ConvLayer.lean ====
/-
  The certificate of the convolution layer: the frames of its three programs and the equation. No operation is rewritten,
  so the idealization is the kernel's own text.
-/
module

public import proofs.«01_k».proof.Defs
public import proofs.«01_k».proof.Proof.Conv.Run
public import proofs.«01_k».proof.Proof.ConvIdeal.Value
public import proofs.«01_k».proof.Proof.Gen.RefConvIdeal.Run
public import Idealize.ShloMosaic.Lib.Quiescent
public import Idealize.ShloMosaic.Adequacy
public import Idealize.ShloMosaic.Init

@[expose] public section

set_option maxRecDepth 16384

noncomputable section

namespace Cert.ConvLayer

open Idealize.ShloMosaic Idealize.SL.Sem

theorem frame : Cert.quiescent_Conv := fun m ρ _ => Cert.Conv.Layer.frame_run m ρ

theorem frameIdeal : Cert.quiescent_ConvIdeal := fun m ρ _ => Cert.ConvIdeal.Layer.frame_run m ρ

/-- The reference is host code and declares no semaphore. -/
theorem frameRef : Cert.quiescent_RefConvIdeal := fun m ρ _ =>
  (θ_run Cert.RefConvIdeal.defs _ _).mono (fun r h => ⟨fun c => (h c).2.2, sem_eq_zero_of_no_sems (by decide) r.2⟩)
    (Cert.RefConvIdeal.Value.run (F := Ideal) m ρ)

theorem preserves : Cert.preserves_Conv_ConvIdeal := trivial

/-- Both runs end with the normed rows and the new state. -/
theorem equation : Cert.algebraic_ConvIdeal_RefConvIdeal := by
  intro m g m' g' _ hargs
  refine ⟨_, _, Cert.ConvIdeal.Layer.run m g, ?_⟩
  refine (θ_run Cert.RefConvIdeal.defs _ _).mono (fun r h c => ⟨(h c).1.trans ?_, (h c).2.1.trans ?_, (h c).2.2⟩)
    (Cert.RefConvIdeal.Value.run (F := Ideal) m' g')
  all_goals obtain ⟨h0, h1, h2, h3, h4, h5, h6⟩ := hargs c
  · refine (Cert.RefConvIdeal.Layer.out_eq m' c).trans ?_
    exact congr (congr (congr (congr (congr (congr (congrArg Cert.RefConvIdeal.Layer.out h0) h1) h2) h3) h4) h5) h6
  · change Cert.RefConvIdeal.Layer.state _ _ _ = Cert.RefConvIdeal.Layer.state _ _ _
    exact congr (congr (congrArg Cert.RefConvIdeal.Layer.state h0) h1) h2

end Cert.ConvLayer

end
-- ==== Proof.KeysValuesIdeal.Value.lean ====
/-
  The shared keys and values over the extended reals: each grid point's rows times the two weight matrices side by side,
  and the four arrays the rows make up: the two products and their narrowed copies.
-/
module

public import proofs.«01_k».proof.Proof.Gen.KeysValuesIdeal.Frame
public import proofs.«01_k».proof.Proof.Gen.RefKeysValuesIdeal
public import Idealize.ShloMosaic.Lib.Pipeline.ValueKit
public import Idealize.ShloMosaic.Lib.Claim

@[expose] public section

set_option maxRecDepth 16384

noncomputable section

namespace Cert.KeysValuesIdeal.Proj

open Cert.KeysValuesIdeal Cert.KeysValuesIdeal.Gen
open Idealize.ShloMosaic Idealize.ShloMosaic.TcCoe Idealize.SL.Sem
open Idealize.ShloMosaic.Pipeline (Dat)

variable (m : (ℓ : Loc nD τ sig) → Buf (Elt Ideal) ℓ)

/-- The hidden states and the two weight matrices as launched. -/
abbrev argH (c : Dev nD) : FVec Ideal S32x2048x1024 .f32 := m ((c : Thread nD τ).loc main_arg0)
abbrev argK (c : Dev nD) : FVec Ideal S1024x1024 .f32 := m ((c : Thread nD τ).loc main_arg1)
abbrev argV (c : Dev nD) : FVec Ideal S1024x1024 .f32 := m ((c : Thread nD τ).loc main_arg2)

/-- The reference's product. -/
abbrev product (h : FVec Ideal S32x2048x1024 .f32) (w : FVec Ideal S1024x1024 .f32) : FVec Ideal S32x2048x1024 .f32 :=
  Host.dotGeneral Cert.RefKeysValuesIdeal.dot_S32x2048x1024_S1024x1024_S32x2048x1024_2_0_01_1_n_n none h w

/-- An array with batch and position as one row. -/
abbrev rows (p : FVec Ideal S32x2048x1024 .f32) : FVec Ideal S65536x1024 .f32 :=
  fun y => p (ix3 ⟨(y 0).val / 2048, by have : (y 0).val < 65536 := (y 0).isLt; omega⟩ ⟨(y 0).val % 2048, by omega⟩ (y 1))

/-! ### The host operations' arrays -/

theorem rows_at (c : Dev nD) (r : Fin 65536) (l : Fin 1024) : (V m c main_v2 : Vec Ideal S65536x1024 .f32) (ix2 r l)
    = argH m c (ix3 ⟨r.val / 2048, by omega⟩ ⟨r.val % 2048, by omega⟩ l) := by
  unfold V V0; rw [show ([hostOps0].flatten : List (HloOp τ sig (Elt Ideal))) = hostOps0 from rfl]; after_results
  pointwise

theorem weights_at (c : Dev nD) (k : Fin 1024) (l : Fin 2048) : (V m c main_v1 : Vec Ideal S1024x2048 .bf16) (ix2 k l)
    = if h : l.val < 1024 then argK m c (ix2 k ⟨l.val, h⟩) else argV m c (ix2 k ⟨l.val - 1024, by omega⟩) := by
  unfold V V0; rw [show ([hostOps0].flatten : List (HloOp τ sig (Elt Ideal))) = hostOps0 from rfl]; after_results
  pointwise

/-! ### The windows -/

theorem index : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

theorem row_lt (t : Fin cfg0.N) (r : Fin 512) : t.val * 512 + r.val < 65536 := by
  have h : t.val < 128 := t.isLt
  have := r.isLt; omega

/-- A block's rows are the array's. -/
theorem block0 (c : Dev nD) (t : Fin cfg0.N) (r : Fin 512) (l : Fin 1024) : (iblk m c 0 t : Vec Ideal S512x1024 .f32) (ix2 r l)
    = (V m c main_v2 : Vec Ideal S65536x1024 .f32) (ix2 ⟨t.val * 512 + r.val, row_lt t r⟩ l) := by
  have e : (win0_0.blk t).view.emb (ix2 r l : S512x1024.Idx) = (ix2 ⟨t.val * 512 + r.val, row_lt t r⟩ l : S65536x1024.Idx) := by
    blk_ext [(index t).1]
  unfold iblk
  blk_simp
  exact congrArg (V m c main_v2) e

/-- The weights' block is the array. -/
theorem block1 (c : Dev nD) (t : Fin cfg0.N) (k : Fin 1024) (l : Fin 2048) : (iblk m c 1 t : Vec Ideal S1024x2048 .bf16) (ix2 k l)
    = (V m c main_v1 : Vec Ideal S1024x2048 .bf16) (ix2 k l) := by
  have e : (win0_1.blk t).view.emb (ix2 k l : S1024x2048.Idx) = (ix2 k l : S1024x2048.Idx) := by
    blk_ext [(index t).2.1]
  unfold iblk
  blk_simp
  exact congrArg (V m c main_v1) e

theorem place2 (t : Fin cfg0.N) (y : S512x1024.Idx) :
    (((cfg0.win 2).blk t).view.emb y : S65536x1024.Idx) = ix2 ⟨t.val * 512 + (y 0).val, row_lt t (y 0)⟩ (y 1) := by
  blk_ext [(index t).2.2.1]
theorem place3 (t : Fin cfg0.N) (y : S512x1024.Idx) :
    (((cfg0.win 3).blk t).view.emb y : S65536x1024.Idx) = ix2 ⟨t.val * 512 + (y 0).val, row_lt t (y 0)⟩ (y 1) := by
  blk_ext [(index t).2.2.2.1]
theorem place4 (t : Fin cfg0.N) (y : S512x1024.Idx) :
    (((cfg0.win 4).blk t).view.emb y : S65536x1024.Idx) = ix2 ⟨t.val * 512 + (y 0).val, row_lt t (y 0)⟩ (y 1) := by
  blk_ext [(index t).2.2.2.2.1]
theorem place5 (t : Fin cfg0.N) (y : S512x1024.Idx) :
    (((cfg0.win 5).blk t).view.emb y : S65536x1024.Idx) = ix2 ⟨t.val * 512 + (y 0).val, row_lt t (y 0)⟩ (y 1) := by
  blk_ext [(index t).2.2.2.2.2]

/-! ### One point's blocks -/

theorem point2 (c : Dev nD) (t : Fin cfg0.N) (y : S512x1024.Idx) : k0_pay2 (iblk m c 0 t) (iblk m c 1 t) y
    = rows (product (argH m c) (argK m c)) (ix2 ⟨t.val * 512 + (y 0).val, row_lt t (y 0)⟩ (y 1)) := by
  have h1 : (y 1).val < 1024 := (y 1).isLt
  pointwise [k0_pay2, k0_pay1, rows, product]
  refine Finset.sum_congr rfl fun k _ => congr_arg₂ (· * ·) ((block0 m c t (y 0) k).trans (rows_at m c _ _)) ((block1 m c t k _).trans ((weights_at m c _ _).trans ?_))
  exact dif_pos h1

theorem point3 (c : Dev nD) (t : Fin cfg0.N) (y : S512x1024.Idx) : k0_pay3 (iblk m c 0 t) (iblk m c 1 t) y
    = rows (product (argH m c) (argV m c)) (ix2 ⟨t.val * 512 + (y 0).val, row_lt t (y 0)⟩ (y 1)) := by
  have h1 : (y 1).val < 1024 := (y 1).isLt
  pointwise [k0_pay3, k0_pay1, rows, product]
  refine Finset.sum_congr rfl fun k _ => congr_arg₂ (· * ·) ((block0 m c t (y 0) k).trans (rows_at m c _ _)) ((block1 m c t k _).trans ((weights_at m c _ _).trans ?_))
  exact (dif_neg (show ¬ 1024 + (y 1).val < 1024 by omega)).trans (congrArg (fun l => argV m c (ix2 k l)) (Fin.ext (show 1024 + (y 1).val - 1024 = (y 1).val by omega)))

theorem array2 (c : Dev nD) : (dats m 0 c).arrAt 2 cfg0.N = rows (product (argH m c) (argK m c)) := by
  refine (dats m 0 c).arrAt_eq_of_covers 2 _ (by decide +kernel) fun t _ y => ?_
  blk_simp
  rw [after0_2]; frame_out
  exact (point2 m c t y).trans (congrArg _ (place2 t y).symm)

theorem array3 (c : Dev nD) : (dats m 0 c).arrAt 3 cfg0.N = rows (product (argH m c) (argV m c)) := by
  refine (dats m 0 c).arrAt_eq_of_covers 3 _ (by decide +kernel) fun t _ y => ?_
  blk_simp
  rw [after0_3]; frame_out
  exact (point3 m c t y).trans (congrArg _ (place3 t y).symm)

theorem array4 (c : Dev nD) : (dats m 0 c).arrAt 4 cfg0.N = rows (product (argH m c) (argK m c)) := by
  refine (dats m 0 c).arrAt_eq_of_covers 4 _ (by decide +kernel) fun t _ y => ?_
  blk_simp
  rw [after0_4]; frame_out
  exact (point2 m c t y).trans (congrArg _ (place4 t y).symm)

theorem array5 (c : Dev nD) : (dats m 0 c).arrAt 5 cfg0.N = rows (product (argH m c) (argV m c)) := by
  refine (dats m 0 c).arrAt_eq_of_covers 5 _ (by decide +kernel) fun t _ y => ?_
  blk_simp
  rw [after0_5]; frame_out
  exact (point3 m c t y).trans (congrArg _ (place5 t y).symm)

/-! ### The results -/

/-- Batch and position apart, and the heads apart. -/
theorem heads (p : FVec Ideal S32x2048x1024 .f32) :
    shapeCast S32x2048x16x64 (rows p) shapeCasts_S65536x1024_S32x2048x16x64
      = shapeCast S32x2048x16x64 p Cert.RefKeysValuesIdeal.Gen.shapeCasts_S32x2048x1024_S32x2048x16x64 := by
  funext y
  have h1 : (y 1).val < 2048 := (y 1).isLt
  have h2 : (y 2).val < 16 := (y 2).isLt
  have h3 : (y 3).val < 64 := (y 3).isLt
  pointwise
  refine congr_arg₂ (fun a b => p (ix3 a b _)) (Fin.ext ?_) (Fin.ext ?_)
  · show ((y 0).val * 2048 + (y 1).val) / 2048 = (y 0).val; omega
  · show ((y 0).val * 2048 + (y 1).val) % 2048 = (y 1).val; omega

/-- Batch and position apart. -/
theorem apart (p : FVec Ideal S32x2048x1024 .f32) : shapeCast S32x2048x1024 (rows p) shapeCasts_S65536x1024_S32x2048x1024 = p := by
  funext y
  have h1 : (y 1).val < 2048 := (y 1).isLt
  pointwise
  refine (congr_arg₂ (fun a b => p (ix3 a b (y 2))) (Fin.ext ?_) (Fin.ext ?_)).trans (congrArg p (ix3_eta y))
  · show ((y 0).val * 2048 + (y 1).val) / 2048 = (y 0).val; omega
  · show ((y 0).val * 2048 + (y 1).val) % 2048 = (y 1).val; omega

/-- No two windows share an array. -/
theorem arrays_inj : Function.Injective (Pipeline.arrRef (cfgs 0).spec) := by
  intro a b h
  revert a b
  decide

/-- The run: each result is the reference's, and the arguments are unchanged. -/
theorem run (g : Dev nD → PrngReg) : θ_run defs (onTc (τ := τ) (main (F := Ideal))) ⟨m, fun _ => 0, g⟩ (fun r => ∀ c : Dev nD,
      r.2.mem ((c.tc : Thread nD τ).loc main_v4) = shapeCast S32x2048x16x64 (product (argH m c) (argK m c)) Cert.RefKeysValuesIdeal.Gen.shapeCasts_S32x2048x1024_S32x2048x16x64
      ∧ r.2.mem ((c.tc : Thread nD τ).loc main_v5) = shapeCast S32x2048x16x64 (product (argH m c) (argV m c)) Cert.RefKeysValuesIdeal.Gen.shapeCasts_S32x2048x1024_S32x2048x16x64
      ∧ r.2.mem ((c.tc : Thread nD τ).loc main_v6) = truncf .bf16 (product (argH m c) (argK m c)) Cert.RefKeysValuesIdeal.Gen.bitsLt_bf16_f32
      ∧ r.2.mem ((c.tc : Thread nD τ).loc main_v7) = truncf .bf16 (product (argH m c) (argV m c)) Cert.RefKeysValuesIdeal.Gen.bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m g & unchanged m g
  all_goals unfold Pipeline.afterTail₀
  all_goals rw [show ([hostOps1].flatten : List (HloOp τ sig (Elt Ideal))) = hostOps1 from rfl]
  all_goals after_results
  · exact (congrArg (fun a => shapeCast S32x2048x16x64 a shapeCasts_S65536x1024_S32x2048x16x64)
      ((Pipeline.withArrays_arr _ arrays_inj c _ _ 2).trans (array2 m c))).trans (heads _)
  · exact (congrArg (fun a => shapeCast S32x2048x16x64 a shapeCasts_S65536x1024_S32x2048x16x64)
      ((Pipeline.withArrays_arr _ arrays_inj c _ _ 3).trans (array3 m c))).trans (heads _)
  · exact (congrArg (fun a => shapeCast S32x2048x1024 a shapeCasts_S65536x1024_S32x2048x1024)
      ((Pipeline.withArrays_arr _ arrays_inj c _ _ 4).trans (array4 m c))).trans (apart _)
  · exact (congrArg (fun a => shapeCast S32x2048x1024 a shapeCasts_S65536x1024_S32x2048x1024)
      ((Pipeline.withArrays_arr _ arrays_inj c _ _ 5).trans (array5 m c))).trans (apart _)

end Cert.KeysValuesIdeal.Proj

end
-- ==== Proof.QueriesIdeal.Value.lean ====
/-
  The query projection over the extended reals: each grid point's rows times the weights, scaled, and the array the
  rows make up, is the reference's product read with batch and position as one row.
-/
module

public import proofs.«01_k».proof.Proof.Gen.QueriesIdeal.Frame
public import proofs.«01_k».proof.Proof.Gen.RefQueriesIdeal
public import Idealize.ShloMosaic.Lib.Pipeline.ValueKit
public import Idealize.ShloMosaic.Lib.Claim

@[expose] public section

set_option maxRecDepth 16384

noncomputable section

namespace Cert.QueriesIdeal.Proj

open Cert.QueriesIdeal Cert.QueriesIdeal.Gen
open Idealize.ShloMosaic Idealize.ShloMosaic.TcCoe Idealize.SL.Sem
open Idealize.ShloMosaic.Pipeline (Dat)

variable (m : (ℓ : Loc nD τ sig) → Buf (Elt Ideal) ℓ)

/-- The reference's scaled product. -/
abbrev product (h : FVec Ideal S32x2048x1024 .f32) (w : FVec Ideal S1024x1024 .f32) : FVec Ideal S32x2048x1024 .bf16 :=
  truncf .bf16 (mulf (Host.dotGeneral Cert.RefQueriesIdeal.dot_S32x2048x1024_S1024x1024_S32x2048x1024_2_0_01_1_n_n none h w)
    (broadcastInDim S32x2048x1024 ![] Cert.RefQueriesIdeal.Gen.bcast_S_S32x2048x1024 (constant Cert.RefQueriesIdeal.S_ .f32 0x3E000000#32)))
    Cert.RefQueriesIdeal.Gen.bitsLt_bf16_f32

/-- The same with batch and position as one row. -/
abbrev rows (h : FVec Ideal S32x2048x1024 .f32) (w : FVec Ideal S1024x1024 .f32) : FVec Ideal S65536x1024 .bf16 :=
  fun y => product h w (ix3 ⟨(y 0).val / 2048, by have : (y 0).val < 65536 := (y 0).isLt; omega⟩ ⟨(y 0).val % 2048, by omega⟩ (y 1))

theorem index : ∀ t : Fin cfg0.N, win0_0.index t = ![t.val, 0] ∧ win0_1.index t = ![0, 0] ∧ win0_2.index t = ![t.val, 0] :=
  (by decide +kernel : ∀ t : Fin grid0.N, _)

/-- The hidden states with batch and position as one row. -/
theorem rows_at (c : Dev nD) (r : Fin 65536) (l : Fin 1024) : (V m c main_v0 : Vec Ideal S65536x1024 .f32) (ix2 r l)
    = (m ((c : Thread nD τ).loc main_arg0) : Vec Ideal S32x2048x1024 .f32) (ix3 ⟨r.val / 2048, by omega⟩ ⟨r.val % 2048, by omega⟩ l) := by
  unfold V V0; rw [show ([hostOps0].flatten : List (HloOp τ sig (Elt Ideal))) = hostOps0 from rfl]; after_results
  pointwise

theorem weights_at (c : Dev nD) (k l : Fin 1024) : (V m c main_v1 : Vec Ideal S1024x1024 .bf16) (ix2 k l)
    = (m ((c : Thread nD τ).loc main_arg1) : Vec Ideal S1024x1024 .f32) (ix2 k l) := by
  unfold V V0; rw [show ([hostOps0].flatten : List (HloOp τ sig (Elt Ideal))) = hostOps0 from rfl]; after_results
  pointwise

theorem row_lt (t : Fin cfg0.N) (r : Fin 512) : t.val * 512 + r.val < 65536 := by
  have h : t.val < 128 := t.isLt
  have := r.isLt; omega

/-- A block's rows are the array's. -/
theorem block0 (c : Dev nD) (t : Fin cfg0.N) (r : Fin 512) (l : Fin 1024) : (iblk m c 0 t : Vec Ideal S512x1024 .f32) (ix2 r l)
    = (V m c main_v0 : Vec Ideal S65536x1024 .f32) (ix2 ⟨t.val * 512 + r.val, row_lt t r⟩ l) := by
  have e : (win0_0.blk t).view.emb (ix2 r l : S512x1024.Idx) = (ix2 ⟨t.val * 512 + r.val, row_lt t r⟩ l : S65536x1024.Idx) := by
    blk_ext [(index t).1]
  unfold iblk
  blk_simp
  exact congrArg (V m c main_v0) e

/-- The weights' block is the array. -/
theorem block1 (c : Dev nD) (t : Fin cfg0.N) (k l : Fin 1024) : (iblk m c 1 t : Vec Ideal S1024x1024 .bf16) (ix2 k l)
    = (V m c main_v1 : Vec Ideal S1024x1024 .bf16) (ix2 k l) := by
  have e : (win0_1.blk t).view.emb (ix2 k l : S1024x1024.Idx) = (ix2 k l : S1024x1024.Idx) := by
    blk_ext [(index t).2.1]
  unfold iblk
  blk_simp
  exact congrArg (V m c main_v1) e

theorem place (t : Fin cfg0.N) (y : S512x1024.Idx) :
    (((cfg0.win 2).blk t).view.emb y : S65536x1024.Idx) = ix2 ⟨t.val * 512 + (y 0).val, row_lt t (y 0)⟩ (y 1) := by
  blk_ext [(index t).2.2]

/-- One point's stored block. -/
theorem point (c : Dev nD) (t : Fin cfg0.N) (y : S512x1024.Idx) : k0_pay1 (iblk m c 0 t) (iblk m c 1 t) y
    = rows (m ((c : Thread nD τ).loc main_arg0)) (m ((c : Thread nD τ).loc main_arg1)) (((cfg0.win 2).blk t).view.emb y) := by
  rw [place]
  pointwise [k0_pay1, rows, product]
  refine congrArg (· * _) (Finset.sum_congr rfl fun k _ => ?_)
  exact congr_arg₂ (· * ·) ((block0 m c t (y 0) k).trans (rows_at m c _ _)) ((block1 m c t k (y 1)).trans (weights_at m c _ _))

/-- The launch's array. -/
theorem array (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The result: the array with batch and position apart. -/
theorem result (h : FVec Ideal S32x2048x1024 .f32) (w : FVec Ideal S1024x1024 .f32) :
    shapeCast S32x2048x1024 (rows h w) shapeCasts_S65536x1024_S32x2048x1024 = product h w := by
  funext y
  have h1 : (y 1).val < 2048 := (y 1).isLt
  pointwise
  refine congrArg (· * _) (Finset.sum_congr rfl fun k _ => congrArg (fun i => h i * _) ?_)
  refine congr_arg₂ (fun a b => ix3 a b k) (Fin.ext ?_) (Fin.ext ?_)
  · show ((y 0).val * 2048 + (y 1).val) / 2048 = (y 0).val
    omega
  · show ((y 0).val * 2048 + (y 1).val) % 2048 = (y 1).val
    omega

/-- No two windows share an array. -/
theorem arrays_inj : Function.Injective (Pipeline.arrRef (cfgs 0).spec) := by
  intro a b h
  revert a b
  decide

/-- The run: the result is the reference's product, and the arguments are unchanged. -/
theorem run (g : Dev nD → PrngReg) : θ_run defs (onTc (τ := τ) (main (F := Ideal))) ⟨m, fun _ => 0, g⟩ (fun r => ∀ c : Dev nD,
      r.2.mem ((c.tc : Thread nD τ).loc main_v3) = product (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g & unchanged m g
  unfold Pipeline.afterTail₀
  rw [show ([hostOps1].flatten : List (HloOp τ sig (Elt Ideal))) = hostOps1 from rfl]
  after_results
  exact (congrArg (fun a => shapeCast S32x2048x1024 a shapeCasts_S65536x1024_S32x2048x1024)
    ((Pipeline.withArrays_arr _ arrays_inj c _ _ 2).trans (array m c))).trans (result _ _)

end Cert.QueriesIdeal.Proj

end
-- ==== Proof.RefProjectOutIdeal.Value.lean ====
/-
  The reference of the output projection over the extended reals, at an index.
-/
module

public import proofs.«01_k».proof.Proof.Stick.Norm
public import proofs.«01_k».proof.Proof.Gen.RefProjectOutIdeal.Run
public import Idealize.ShloMosaic.Lib.Pipeline.ValueKit

@[expose] public section

set_option maxRecDepth 16384

noncomputable section

namespace Cert.RefProjectOutIdeal.Proj

open Cert.RefProjectOutIdeal Cert.RefProjectOutIdeal.Gen
open Idealize.ShloMosaic Idealize.SL.Sem
open Stick (alpha mean norm)

/-- The residual stream plus the projection. -/
def mixed (o : FVec Ideal S32x2048x1024 .bf16) (h : FVec Ideal S32x2048x1024 .f32) (w : FVec Ideal S1024x1024 .f32) : FVec Ideal S32x2048x1024 .f32 :=
  addf (mulf (broadcastInDim S32x2048x1024 ![] bcast_S_S32x2048x1024 (constant (F := Ideal) S_ .f32 0x3FD744FD#32)) h)
    (Host.dotGeneral dot_S32x2048x1024_S1024x1024_S32x2048x1024_2_0_01_1_n_n none (extf .f32 o bitsLt_bf16_f32) w)

/-- Each row's mean, along the row. -/
def means (x : FVec Ideal S32x2048x1024 .f32) : FVec Ideal S32x2048x1 .f32 :=
  Host.divf (broadcastInDim S32x2048x1 ![0, 1] bcast_S32x2048_S32x2048x1_0_1
    (Host.reduceAdd x (constant (F := Ideal) S_ .f32 0x00000000#32) reducesTo_S32x2048x1024_S32x2048_d2 h_S_))
    (broadcastInDim S32x2048x1 ![] bcast_S_S32x2048x1 (constant (F := Ideal) S_ .f32 0x44800000#32))

/-- Each row less its mean. -/
def centred (x : FVec Ideal S32x2048x1024 .f32) : FVec Ideal S32x2048x1024 .f32 :=
  subf x (broadcastInDim S32x2048x1024 ![0, 1, 2] bcast_S32x2048x1_S32x2048x1024_0_1_2 (means x))

/-- A vector along every row. -/
def along (g : FVec Ideal S1024 .f32) : FVec Ideal S32x2048x1024 .f32 :=
  broadcastInDim S32x2048x1024 ![0, 1, 2] bcast_S1x1x1024_S32x2048x1024_0_1_2 (broadcastInDim S1x1x1024 ![2] bcast_S1024_S1x1x1024_2 g)

/-- The layer norm of every row. -/
def normed (x : FVec Ideal S32x2048x1024 .f32) (g b : FVec Ideal S1024 .f32) : FVec Ideal S32x2048x1024 .f32 :=
  addf (mulf (mulf (centred x) (broadcastInDim S32x2048x1024 ![0, 1, 2] bcast_S32x2048x1_S32x2048x1024_0_1_2
    (Host.rsqrt (addf (means (mulf (centred x) (centred x)))
      (broadcastInDim S32x2048x1 ![] bcast_S_S32x2048x1 (constant (F := Ideal) S_ .f32 0x3727C5AC#32)))))) (along g)) (along b)

theorem means_at (x : FVec Ideal S32x2048x1024 .f32) (i : Fin 32) (s : Fin 2048) (z : Fin 1) :
    means x (ix3 i s z) = mean fun k => x (ix3 i s k) := by
  unfold means
  pointwise
  rfl

theorem centred_at (x : FVec Ideal S32x2048x1024 .f32) (i : Fin 32) (s : Fin 2048) (l : Fin 1024) :
    centred x (ix3 i s l) = x (ix3 i s l) - mean fun k => x (ix3 i s k) := by
  unfold centred
  pointwise
  exact congrArg _ (means_at x i s _)

theorem normed_at (x : FVec Ideal S32x2048x1024 .f32) (g b : FVec Ideal S1024 .f32) (i : Fin 32) (s : Fin 2048) (l : Fin 1024) :
    normed x g b (ix3 i s l) = norm (fun k => x (ix3 i s k)) (fun k => g (ix1 k)) (fun k => b (ix1 k)) l := by
  unfold normed along
  pointwise
  have hv : means (mulf (centred x) (centred x)) (ix3 i s 0)
      = mean fun k => (x (ix3 i s k) - mean fun k => x (ix3 i s k)) * (x (ix3 i s k) - mean fun k => x (ix3 i s k)) := by
    rw [means_at]
    refine congrArg mean (funext fun k => ?_)
    exact congr_arg₂ (· * ·) (centred_at x i s k) (centred_at x i s k)
  rw [hv, centred_at]
  rfl

theorem mixed_at (o : FVec Ideal S32x2048x1024 .bf16) (h : FVec Ideal S32x2048x1024 .f32) (w : FVec Ideal S1024x1024 .f32)
    (i : Fin 32) (s : Fin 2048) (l : Fin 1024) :
    mixed o h w (ix3 i s l) = alpha * h (ix3 i s l) + ∑ k, o (ix3 i s k) * w (ix2 k l) := by
  unfold mixed
  pointwise
  rfl

/-- What the reference returns. -/
def out (o : FVec Ideal S32x2048x1024 .bf16) (h : FVec Ideal S32x2048x1024 .f32) (w : FVec Ideal S1024x1024 .f32) (g b : FVec Ideal S1024 .f32) :
    FVec Ideal S32x2048x1024 .f32 := normed (mixed o h w) g b

theorem out_at (o : FVec Ideal S32x2048x1024 .bf16) (h : FVec Ideal S32x2048x1024 .f32) (w : FVec Ideal S1024x1024 .f32) (g b : FVec Ideal S1024 .f32)
    (i : Fin 32) (s : Fin 2048) (l : Fin 1024) :
    out o h w g b (ix3 i s l) = norm (fun k => alpha * h (ix3 i s k) + ∑ j, o (ix3 i s j) * w (ix2 j k)) (fun k => g (ix1 k)) (fun k => b (ix1 k)) l := by
  unfold out
  rw [normed_at]
  exact congrArg (fun f => norm f (fun k => g (ix1 k)) (fun k => b (ix1 k)) l) (funext fun k => mixed_at o h w i s k)

end Cert.RefProjectOutIdeal.Proj

end
-- ==== Proof.ProjectOutIdeal.Value.lean ====
/-
  The output projection over the extended reals: each grid point's rows of the residual stream plus the projection,
  normed, and the array the rows make up, is the reference's result read with batch and position as one row.
-/
module

public import proofs.«01_k».proof.Proof.Gen.ProjectOutIdeal.Frame
public import proofs.«01_k».proof.Proof.RefProjectOutIdeal.Value
public import Idealize.ShloMosaic.Lib.Pipeline.ValueKit
public import Idealize.ShloMosaic.Lib.Claim

@[expose] public section

set_option maxRecDepth 16384

noncomputable section

namespace Cert.ProjectOutIdeal.Proj

open Cert.ProjectOutIdeal Cert.ProjectOutIdeal.Gen
open Idealize.ShloMosaic Idealize.ShloMosaic.TcCoe Idealize.SL.Sem
open Idealize.ShloMosaic.Pipeline (Dat)
open Cert.RefProjectOutIdeal.Proj (out out_at)
open Stick (alpha mean norm)

variable (m : (ℓ : Loc nD τ sig) → Buf (Elt Ideal) ℓ)

abbrev argO (c : Dev nD) : FVec Ideal S32x2048x1024 .bf16 := m ((c : Thread nD τ).loc main_arg0)
abbrev argH (c : Dev nD) : FVec Ideal S32x2048x1024 .f32 := m ((c : Thread nD τ).loc main_arg1)
abbrev argW (c : Dev nD) : FVec Ideal S1024x1024 .f32 := m ((c : Thread nD τ).loc main_arg2)
abbrev argG (c : Dev nD) : FVec Ideal S1024 .f32 := m ((c : Thread nD τ).loc main_arg3)
abbrev argB (c : Dev nD) : FVec Ideal S1024 .f32 := m ((c : Thread nD τ).loc main_arg4)

/-- An array with batch and position as one row. -/
abbrev rows (p : FVec Ideal S32x2048x1024 .f32) : FVec Ideal S65536x1024 .f32 :=
  fun y => p (ix3 ⟨(y 0).val / 2048, by have : (y 0).val < 65536 := (y 0).isLt; omega⟩ ⟨(y 0).val % 2048, by omega⟩ (y 1))

/-! ### The arrays as the region finds them -/

/-- The attention's rows. -/
theorem outputs_at (c : Dev nD) (r : Fin 65536) (l : Fin 1024) : (V m c main_v1 : Vec Ideal S65536x1024 .bf16) (ix2 r l) = argO m c (ix3 ⟨r.val / 2048, by omega⟩ ⟨r.val % 2048, by omega⟩ l) := by
  unfold V V0; rw [show ([hostOps0].flatten : List (HloOp τ sig (Elt Ideal))) = hostOps0 from rfl]; after_results
  pointwise

/-- The residual stream's rows. -/
theorem hidden_at (c : Dev nD) (r : Fin 65536) (l : Fin 1024) : (V m c main_v0 : Vec Ideal S65536x1024 .f32) (ix2 r l) = argH m c (ix3 ⟨r.val / 2048, by omega⟩ ⟨r.val % 2048, by omega⟩ l) := by
  unfold V V0; rw [show ([hostOps0].flatten : List (HloOp τ sig (Elt Ideal))) = hostOps0 from rfl]; after_results
  pointwise

/-- The weights. -/
theorem weights_at (c : Dev nD) (k l : Fin 1024) : (V m c main_v2 : Vec Ideal S1024x1024 .bf16) (ix2 k l) = argW m c (ix2 k l) := by
  unfold V V0; rw [show ([hostOps0].flatten : List (HloOp τ sig (Elt Ideal))) = hostOps0 from rfl]; after_results
  pointwise

/-- The norm's scales. -/
theorem scales_at (c : Dev nD) (z : Fin 1) (l : Fin 1024) : (V m c main_v3 : Vec Ideal S1x1024 .f32) (ix2 z l) = argG m c (ix1 l) := by
  unfold V V0; rw [show ([hostOps0].flatten : List (HloOp τ sig (Elt Ideal))) = hostOps0 from rfl]; after_results
  pointwise

/-- The norm's shifts. -/
theorem shifts_at (c : Dev nD) (z : Fin 1) (l : Fin 1024) : (V m c main_v4 : Vec Ideal S1x1024 .f32) (ix2 z l) = argB m c (ix1 l) := by
  unfold V V0; rw [show ([hostOps0].flatten : List (HloOp τ sig (Elt Ideal))) = hostOps0 from rfl]; after_results
  pointwise

/-! ### The windows -/

theorem index : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

theorem row_lt (t : Fin cfg0.N) (r : Fin 512) : t.val * 512 + r.val < 65536 := by
  have h : t.val < 128 := t.isLt
  have := r.isLt; omega

/-- A block of the attention's rows. -/
theorem block0 (c : Dev nD) (t : Fin cfg0.N) (r : Fin 512) (l : Fin 1024) : (iblk m c 0 t : Vec Ideal S512x1024 .bf16) (ix2 r l)
    = (V m c main_v1 : Vec Ideal S65536x1024 .bf16) (ix2 ⟨t.val * 512 + r.val, row_lt t r⟩ l) := by
  have e : (win0_0.blk t).view.emb (ix2 r l : S512x1024.Idx) = (ix2 ⟨t.val * 512 + r.val, row_lt t r⟩ l : S65536x1024.Idx) := by
    blk_ext [(index t).1]
  unfold iblk
  blk_simp
  exact congrArg (V m c main_v1) e

/-- A block of the residual stream's rows. -/
theorem block1 (c : Dev nD) (t : Fin cfg0.N) (r : Fin 512) (l : Fin 1024) : (iblk m c 1 t : Vec Ideal S512x1024 .f32) (ix2 r l)
    = (V m c main_v0 : Vec Ideal S65536x1024 .f32) (ix2 ⟨t.val * 512 + r.val, row_lt t r⟩ l) := by
  have e : (win0_1.blk t).view.emb (ix2 r l : S512x1024.Idx) = (ix2 ⟨t.val * 512 + r.val, row_lt t r⟩ l : S65536x1024.Idx) := by
    blk_ext [(index t).2.1]
  unfold iblk
  blk_simp
  exact congrArg (V m c main_v0) e

/-- The weights' block is the array. -/
theorem block2 (c : Dev nD) (t : Fin cfg0.N) (k l : Fin 1024) : (iblk m c 2 t : Vec Ideal S1024x1024 .bf16) (ix2 k l)
    = (V m c main_v2 : Vec Ideal S1024x1024 .bf16) (ix2 k l) := by
  have e : (win0_2.blk t).view.emb (ix2 k l : S1024x1024.Idx) = (ix2 k l : S1024x1024.Idx) := by
    blk_ext [(index t).2.2.1]
  unfold iblk
  blk_simp
  exact congrArg (V m c main_v2) e

/-- The scales' block is the array. -/
theorem block3 (c : Dev nD) (t : Fin cfg0.N) (z : Fin 1) (l : Fin 1024) : (iblk m c 3 t : Vec Ideal S1x1024 .f32) (ix2 z l)
    = (V m c main_v3 : Vec Ideal S1x1024 .f32) (ix2 z l) := by
  have e : (win0_3.blk t).view.emb (ix2 z l : S1x1024.Idx) = (ix2 z l : S1x1024.Idx) := by
    blk_ext [(index t).2.2.2.1]
  unfold iblk
  blk_simp
  exact congrArg (V m c main_v3) e

/-- The shifts' block is the array. -/
theorem block4 (c : Dev nD) (t : Fin cfg0.N) (z : Fin 1) (l : Fin 1024) : (iblk m c 4 t : Vec Ideal S1x1024 .f32) (ix2 z l)
    = (V m c main_v4 : Vec Ideal S1x1024 .f32) (ix2 z l) := by
  have e : (win0_4.blk t).view.emb (ix2 z l : S1x1024.Idx) = (ix2 z l : S1x1024.Idx) := by
    blk_ext [(index t).2.2.2.2.1]
  unfold iblk
  blk_simp
  exact congrArg (V m c main_v4) e

theorem place (t : Fin cfg0.N) (y : S512x1024.Idx) :
    (((cfg0.win 5).blk t).view.emb y : S65536x1024.Idx) = ix2 ⟨t.val * 512 + (y 0).val, row_lt t (y 0)⟩ (y 1) := by
  blk_ext [(index t).2.2.2.2.2]

/-! ### One point -/

/-- A block's row of the residual stream plus the projection. -/
abbrev mix (o : Vec Ideal S512x1024 .bf16) (w : Vec Ideal S1024x1024 .bf16) (h : Vec Ideal S512x1024 .f32) (r : Fin 512) (k : Fin 1024) : EReal :=
  alpha * h (ix2 r k) + ∑ j, o (ix2 r j) * w (ix2 j k)

/-- The body's result at an index. -/
theorem payload (o : Vec Ideal S512x1024 .bf16) (w : Vec Ideal S1024x1024 .bf16) (h : Vec Ideal S512x1024 .f32) (g b : Vec Ideal S1x1024 .f32)
    (r : Fin 512) (l : Fin 1024) : k0_pay1 o w h g b (ix2 r l)
      = norm (mix o w h r) (fun k => g (ix2 0 k)) (fun k => b (ix2 0 k)) l := by
  pointwise [k0_pay1]
  rfl

theorem point (c : Dev nD) (t : Fin cfg0.N) (r : Fin 512) (l : Fin 1024) :
    k0_pay1 (iblk m c 0 t) (iblk m c 2 t) (iblk m c 1 t) (iblk m c 3 t) (iblk m c 4 t) (ix2 r l)
      = rows (out (argO m c) (argH m c) (argW m c) (argG m c) (argB m c)) (ix2 ⟨t.val * 512 + r.val, row_lt t r⟩ l) := by
  refine (payload _ _ _ _ _ r l).trans ?_
  have hrow := row_lt t r
  refine Eq.trans ?_ (out_at (argO m c) (argH m c) (argW m c) (argG m c) (argB m c)
    ⟨(t.val * 512 + r.val) / 2048, by omega⟩ ⟨(t.val * 512 + r.val) % 2048, by omega⟩ l).symm
  have hx : mix (iblk m c 0 t) (iblk m c 2 t) (iblk m c 1 t) r
      = fun k => alpha * argH m c (ix3 ⟨(t.val * 512 + r.val) / 2048, by omega⟩ ⟨(t.val * 512 + r.val) % 2048, by omega⟩ k)
        + ∑ j : Fin 1024, argO m c (ix3 ⟨(t.val * 512 + r.val) / 2048, by omega⟩ ⟨(t.val * 512 + r.val) % 2048, by omega⟩ j) * argW m c (ix2 j k) :=
    funext fun k => congr_arg₂ (· + ·) (congrArg (alpha * ·) ((block1 m c t r k).trans (hidden_at m c _ _)))
      (Finset.sum_congr rfl fun j _ => congr_arg₂ (· * ·) ((block0 m c t r j).trans (outputs_at m c _ _)) ((block2 m c t j k).trans (weights_at m c _ _)))
  have hg : (fun k : Fin 1024 => (iblk m c 3 t : Vec Ideal S1x1024 .f32) (ix2 0 k)) = fun k => argG m c (ix1 k) :=
    funext fun k => (block3 m c t 0 k).trans (scales_at m c _ _)
  have hb : (fun k : Fin 1024 => (iblk m c 4 t : Vec Ideal S1x1024 .f32) (ix2 0 k)) = fun k => argB m c (ix1 k) :=
    funext fun k => (block4 m c t 0 k).trans (shifts_at m c _ _)
  exact congr (congr (congr (congrArg norm hx) hg) hb) rfl

theorem array (c : Dev nD) : (dats m 0 c).arrAt 5 cfg0.N = rows (out (argO m c) (argH m c) (argW m c) (argG m c) (argB m c)) := by
  refine (dats m 0 c).arrAt_eq_of_covers 5 _ (by decide +kernel) fun t _ y => ?_
  blk_simp
  rw [after0_5]; frame_out
  exact (congrArg (k0_pay1 (F := Ideal) _ _ _ _ _) (ix2_eta y).symm).trans ((point m c t (y 0) (y 1)).trans (congrArg _ (place t y).symm))

/-! ### The result -/

/-- Batch and position apart. -/
theorem apart (p : FVec Ideal S32x2048x1024 .f32) : shapeCast S32x2048x1024 (rows p) shapeCasts_S65536x1024_S32x2048x1024 = p := by
  funext y
  have h1 : (y 1).val < 2048 := (y 1).isLt
  pointwise
  refine (congr_arg₂ (fun a b => p (ix3 a b (y 2))) (Fin.ext ?_) (Fin.ext ?_)).trans (congrArg p (ix3_eta y))
  · show ((y 0).val * 2048 + (y 1).val) / 2048 = (y 0).val; omega
  · show ((y 0).val * 2048 + (y 1).val) % 2048 = (y 1).val; omega

/-- No two windows share an array. -/
theorem arrays_inj : Function.Injective (Pipeline.arrRef (cfgs 0).spec) := by
  intro a b h
  revert a b
  decide

/-- The run: the result is the reference's, and the arguments are unchanged. -/
theorem run (g : Dev nD → PrngReg) : θ_run defs (onTc (τ := τ) (main (F := Ideal))) ⟨m, fun _ => 0, g⟩ (fun r => ∀ c : Dev nD,
      r.2.mem ((c.tc : Thread nD τ).loc main_v6) = out (argO m c) (argH m c) (argW m c) (argG m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from run_main m g & unchanged m g
  unfold Pipeline.afterTail₀
  rw [show ([hostOps1].flatten : List (HloOp τ sig (Elt Ideal))) = hostOps1 from rfl]
  after_results
  exact (congrArg (fun a => shapeCast S32x2048x1024 a shapeCasts_S65536x1024_S32x2048x1024)
    ((Pipeline.withArrays_arr _ arrays_inj c _ _ 5).trans (array m c))).trans (apart _)

end Cert.ProjectOutIdeal.Proj

end
-- ==== Proof.Projections.lean ====
/-
  The certificates of the projections: keys and values, queries, and the output projection with its residual and norm.
  Of each, the frames of the three programs and the equation. No program is rewritten, so each idealization is its
  program's own text.
-/
module

public import proofs.«01_k».proof.Defs
public import proofs.«01_k».proof.Proof.Gen.KeysValues.Frame
public import proofs.«01_k».proof.Proof.KeysValuesIdeal.Value
public import proofs.«01_k».proof.Proof.Gen.RefKeysValuesIdeal.Run
public import proofs.«01_k».proof.Proof.Gen.Queries.Frame
public import proofs.«01_k».proof.Proof.QueriesIdeal.Value
public import proofs.«01_k».proof.Proof.Gen.RefQueriesIdeal.Run
public import proofs.«01_k».proof.Proof.Gen.ProjectOut.Frame
public import proofs.«01_k».proof.Proof.ProjectOutIdeal.Value
public import proofs.«01_k».proof.Proof.Gen.RefProjectOutIdeal.Run
public import Idealize.ShloMosaic.Lib.Quiescent
public import Idealize.ShloMosaic.Adequacy
public import Idealize.ShloMosaic.Init

@[expose] public section

noncomputable section

namespace Cert.Projections

open Idealize.ShloMosaic Idealize.SL.Sem

/-! ### The keys and values -/

theorem keysValues_frame : Cert.quiescent_KeysValues := fun m ρ _ => Cert.KeysValues.Gen.frame m ρ

theorem keysValues_frameIdeal : Cert.quiescent_KeysValuesIdeal := fun m ρ _ => Cert.KeysValuesIdeal.Gen.frame m ρ

/-- The reference is host code and declares no semaphore. -/
theorem keysValues_frameRef : Cert.quiescent_RefKeysValuesIdeal := fun m ρ _ =>
  (θ_run Cert.RefKeysValuesIdeal.defs _ _).mono (fun r h => ⟨fun c => (h c).2.2.2.2, sem_eq_zero_of_no_sems (by decide) r.2⟩)
    (Cert.RefKeysValuesIdeal.Value.run (F := Ideal) m ρ)

theorem keysValues_preserves : Cert.preserves_KeysValues_KeysValuesIdeal := trivial

/-- Both runs end with the two products, the heads apart, and their copies. -/
theorem keysValues_equation : Cert.algebraic_KeysValuesIdeal_RefKeysValuesIdeal := by
  intro m g m' g' _ hargs
  refine ⟨_, _, _, _, Cert.KeysValuesIdeal.Proj.run m g, ?_⟩
  refine (θ_run Cert.RefKeysValuesIdeal.defs _ _).mono (fun r h c => ?_) (Cert.RefKeysValuesIdeal.Value.run (F := Ideal) m' g')
  obtain ⟨h0, h1, h2⟩ := hargs c
  obtain ⟨r0, r1, r2, r3, rest⟩ := h c
  refine ⟨r0.trans ?_, r1.trans ?_, r2.trans ?_, r3.trans ?_, rest⟩
  · exact congrArg (fun p => shapeCast Cert.KeysValuesIdeal.S32x2048x16x64 p Cert.RefKeysValuesIdeal.Gen.shapeCasts_S32x2048x1024_S32x2048x16x64) (congr_arg₂ Cert.KeysValuesIdeal.Proj.product h0 h1)
  · exact congrArg (fun p => shapeCast Cert.KeysValuesIdeal.S32x2048x16x64 p Cert.RefKeysValuesIdeal.Gen.shapeCasts_S32x2048x1024_S32x2048x16x64) (congr_arg₂ Cert.KeysValuesIdeal.Proj.product h0 h2)
  · exact congrArg (fun p => truncf .bf16 p Cert.RefKeysValuesIdeal.Gen.bitsLt_bf16_f32) (congr_arg₂ Cert.KeysValuesIdeal.Proj.product h0 h1)
  · exact congrArg (fun p => truncf .bf16 p Cert.RefKeysValuesIdeal.Gen.bitsLt_bf16_f32) (congr_arg₂ Cert.KeysValuesIdeal.Proj.product h0 h2)

/-! ### The queries -/

theorem queries_frame : Cert.quiescent_Queries := fun m ρ _ => Cert.Queries.Gen.frame m ρ

theorem queries_frameIdeal : Cert.quiescent_QueriesIdeal := fun m ρ _ => Cert.QueriesIdeal.Gen.frame m ρ

/-- The reference is host code and declares no semaphore. -/
theorem queries_frameRef : Cert.quiescent_RefQueriesIdeal := fun m ρ _ =>
  (θ_run Cert.RefQueriesIdeal.defs _ _).mono (fun r h => ⟨fun c => (h c).2, sem_eq_zero_of_no_sems (by decide) r.2⟩)
    (Cert.RefQueriesIdeal.Value.run (F := Ideal) m ρ)

theorem queries_preserves : Cert.preserves_Queries_QueriesIdeal := trivial

/-- Both runs end with the scaled product. -/
theorem queries_equation : Cert.algebraic_QueriesIdeal_RefQueriesIdeal := by
  intro m g m' g' _ hargs
  refine ⟨_, Cert.QueriesIdeal.Proj.run m g, ?_⟩
  refine (θ_run Cert.RefQueriesIdeal.defs _ _).mono (fun r h c => ⟨(h c).1.trans ?_, (h c).2⟩) (Cert.RefQueriesIdeal.Value.run (F := Ideal) m' g')
  obtain ⟨h0, h1⟩ := hargs c
  exact congr_arg₂ Cert.QueriesIdeal.Proj.product h0 h1

/-! ### The output projection -/

theorem projectOut_frame : Cert.quiescent_ProjectOut := fun m ρ _ => Cert.ProjectOut.Gen.frame m ρ

theorem projectOut_frameIdeal : Cert.quiescent_ProjectOutIdeal := fun m ρ _ => Cert.ProjectOutIdeal.Gen.frame m ρ

/-- The reference is host code and declares no semaphore. -/
theorem projectOut_frameRef : Cert.quiescent_RefProjectOutIdeal := fun m ρ _ =>
  (θ_run Cert.RefProjectOutIdeal.defs _ _).mono (fun r h => ⟨fun c => (h c).2, sem_eq_zero_of_no_sems (by decide) r.2⟩)
    (Cert.RefProjectOutIdeal.Value.run (F := Ideal) m ρ)

theorem projectOut_preserves : Cert.preserves_ProjectOut_ProjectOutIdeal := trivial

/-- Both runs end with the normed rows. -/
theorem projectOut_equation : Cert.algebraic_ProjectOutIdeal_RefProjectOutIdeal := by
  intro m g m' g' _ hargs
  refine ⟨_, Cert.ProjectOutIdeal.Proj.run m g, ?_⟩
  refine (θ_run Cert.RefProjectOutIdeal.defs _ _).mono (fun r h c => ⟨(h c).1.trans ?_, (h c).2⟩) (Cert.RefProjectOutIdeal.Value.run (F := Ideal) m' g')
  obtain ⟨h0, h1, h2, h3, h4⟩ := hargs c
  change Cert.RefProjectOutIdeal.Proj.out _ _ _ _ _ = Cert.RefProjectOutIdeal.Proj.out _ _ _ _ _
  exact congr (congr (congr (congr (congrArg Cert.RefProjectOutIdeal.Proj.out h0) h1) h2) h3) h4

end Cert.Projections

end
-- ==== Proof.SampleIdeal.Trip.lean ====
/-
  One trip of the attention kernel's loop, as a pure function of what the loop carries, and the loop as that function
  iterated. Four loops run in a grid point, one for each group of four heads; they differ in the lanes of the key and
  value blocks they load and in nothing else, so one function serves all four.
-/
module

public import proofs.«01_k».proof.Proof.Gen.SampleIdeal.Skeleton
public import proofs.«01_k».proof.Proof.Gen.SampleIdeal
public import Idealize.ShloMosaic.Lib.Pipeline.FrameBody

@[expose] public section

noncomputable section

namespace Cert.SampleIdeal.Attn

open Cert.SampleIdeal Cert.SampleIdeal.Gen
open Idealize.ShloMosaic Idealize.SL.Sem

variable {F : FTy → Type} [FloatOps F] [Named F]

/-- What the loop carries: the trip's number, whether a weight can still differ from zero, then for each of the four
    heads its weighted sum of values so far and its running sum of the logarithms of the rejected share. -/
abbrev Carried (F : FTy → Type) : Type :=
  BitVec 32 × BitVec 32 × FVec F S16x256 .f32 × FVec F S16x1 .f32 × FVec F S16x256 .f32 × FVec F S16x1 .f32
    × FVec F S16x256 .f32 × FVec F S16x1 .f32 × FVec F S16x256 .f32 × FVec F S16x1 .f32

/-- One past the last query position of the grid point's tile. -/
def qEnd (i : grid0.Coords) : BitVec 32 :=
  Scalar.addi (Scalar.addi 1024#32 (Scalar.muli (BitVec.ofNat 32 (i 1).val) 16#32)) 16#32

/-- The number of key blocks of the grid point: `qEnd / 512` rounded up, spelt as the kernel's rounding division is. -/
def nBlocks (i : grid0.Coords) : BitVec 32 :=
  let x : BitVec 32 := Scalar.subi (Scalar.addi (qEnd i) 512#32) 1#32
  let sx : BitVec 32 := Scalar.subi (Scalar.extui (Scalar.cmpi .sgt x 0#32)) (Scalar.extui (Scalar.cmpi .slt x 0#32))
  let sd : BitVec 32 := Scalar.subi (Scalar.extui (Scalar.cmpi .sgt 512#32 0#32)) (Scalar.extui (Scalar.cmpi .slt 512#32 0#32))
  let up : BitVec 1 := Scalar.andi (Scalar.cmpi .ne sx sd) (Scalar.cmpi .ne (Scalar.remsi x 512#32) 0#32)
  Scalar.select up (Scalar.subi (Scalar.divsi x 512#32) 1#32) (Scalar.divsi x 512#32)

/-- The loop's condition: blocks remain, and the last trip left a weight that can differ from zero. -/
def more (i : grid0.Coords) (j live : BitVec 32) : BitVec 1 :=
  Scalar.andi (Scalar.cmpi .slt j (nBlocks i)) (Scalar.cmpi .sgt live 0#32)

/-- Which keys of the trip's block are before the query and not yet seen. -/
def seen (i : grid0.Coords) (qpos : IVec S16x1 32) (j : BitVec 32) : IVec S16x512 1 := k0_pay67 qpos j (qEnd i)

/-- A head's weighted sum after a trip: its queries `q`, the block's keys `kb` and values `vb`, the strict triangle `T`. -/
def accNext (q : FVec F S16x256 .bf16) (kb vb : Vec F S1x512x256 .bf16) (T : Vec F S512x512 .bf16) (mask : IVec S16x512 1)
    (acc : FVec F S16x256 .f32) (run : FVec F S16x1 .f32) : FVec F S16x256 .f32 :=
  k0_pay77 q acc run (k0_pay65 kb) (k0_pay66 vb) mask T

/-- A head's running sum after a trip. -/
def runNext (q : FVec F S16x256 .bf16) (kb : Vec F S1x512x256 .bf16) (mask : IVec S16x512 1) (run : FVec F S16x1 .f32) :
    FVec F S16x1 .f32 :=
  k0_pay78 q run (k0_pay65 kb) mask

/-- The largest running sum of the four heads' rows. -/
def topRun (r0 r1 r2 r3 : FVec F S16x1 .f32) : F .f32 :=
  extractAt ![0, 0, 0] (shapeCast S1x1x1 (multiReduction .maximumf [1, 2] S1
    (shapeCast S1x16x1 (maximumf (maximumf (maximumf r0 r1) r2) r3) shapeCasts_S16x1_S1x16x1) 0xFF800000#32
    reduces_S1x16x1_S1 (.inl rfl) rfl) shapeCasts_S1_S1x1x1) inpos_S1x1x1_p0_0_0

/-- Whether a running sum is above the bound under which every further weight is zero. -/
def alive (r0 r1 r2 r3 : FVec F S16x1 .f32) : BitVec 32 :=
  Scalar.extui (Scalar.cmpf .ogt (topRun r0 r1 r2 r3) (Named.named κ "underflow" 0xC2D00000#32 : F .f32))

/-- One trip, from the blocks it loads. -/
def tripOf (i : grid0.Coords) (qpos : IVec S16x1 32) (q0 q1 q2 q3 : FVec F S16x256 .bf16) (T : Vec F S512x512 .bf16)
    (kb vb : Vec F S1x512x256 .bf16) (s : Carried F) : Carried F :=
  match s with
  | (j, _, a0, r0, a1, r1, a2, r2, a3, r3) =>
    let mask := seen i qpos j
    let r0' := runNext q0 kb mask r0
    let r1' := runNext q1 kb mask r1
    let r2' := runNext q2 kb mask r2
    let r3' := runNext q3 kb mask r3
    (Scalar.addi j 1#32, alive r0' r1' r2' r3', accNext q0 kb vb T mask a0 r0, r0', accNext q1 kb vb T mask a1 r1, r1',
      accNext q2 kb vb T mask a2 r2, r2', accNext q3 kb vb T mask a3 r3, r3')

/-- One trip, the blocks being functions of the trip's number. -/
def trip (i : grid0.Coords) (qpos : IVec S16x1 32) (q0 q1 q2 q3 : FVec F S16x256 .bf16) (T : Vec F S512x512 .bf16)
    (kb vb : BitVec 32 → Vec F S1x512x256 .bf16) (s : Carried F) : Carried F :=
  tripOf i qpos q0 q1 q2 q3 T (kb s.1) (vb s.1) s

/-- The loop with at most `n` trips to go. -/
def loop (i : grid0.Coords) (qpos : IVec S16x1 32) (q0 q1 q2 q3 : FVec F S16x256 .bf16) (T : Vec F S512x512 .bf16)
    (kb vb : BitVec 32 → Vec F S1x512x256 .bf16) : ℕ → Carried F → Carried F
  | 0, s => s
  | n + 1, s => if more i s.1 s.2.1 = 1#1 then loop i qpos q0 q1 q2 q3 T kb vb n (trip i qpos q0 q1 q2 q3 T kb vb s) else s

/-- What the loop starts from. -/
def start : Carried F :=
  (0#32, 1#32, k0_pay62, k0_pay63, k0_pay62, k0_pay63, k0_pay62, k0_pay63, k0_pay62, k0_pay63)

/-! ### The block a trip loads, for each group of heads -/

/-- The key or value block of trip `j` in group 1's lanes; zeros for a trip that loads nothing. -/
def blk1 (i : grid0.Coords) (x : Vec F S1x1040x1024 .bf16) (j : BitVec 32) : Vec F S1x512x256 .bf16 :=
  if h : k0_chk1 i j then View.ld x (Rect.unit (s := S1x1040x1024) (k0_off1 i j) S1x512x256.size (k0_off1_inb i j h))
  else constant S1x512x256 .bf16 0#16

/-- The key or value block of trip `j` in group 2's lanes; zeros for a trip that loads nothing. -/
def blk2 (i : grid0.Coords) (x : Vec F S1x1040x1024 .bf16) (j : BitVec 32) : Vec F S1x512x256 .bf16 :=
  if h : k0_chk2 i j then View.ld x (Rect.unit (s := S1x1040x1024) (k0_off2 i j) S1x512x256.size (k0_off2_inb i j h))
  else constant S1x512x256 .bf16 0#16

/-- The key or value block of trip `j` in group 3's lanes; zeros for a trip that loads nothing. -/
def blk3 (i : grid0.Coords) (x : Vec F S1x1040x1024 .bf16) (j : BitVec 32) : Vec F S1x512x256 .bf16 :=
  if h : k0_chk3 i j then View.ld x (Rect.unit (s := S1x1040x1024) (k0_off3 i j) S1x512x256.size (k0_off3_inb i j h))
  else constant S1x512x256 .bf16 0#16

/-- The key or value block of trip `j` in group 4's lanes; zeros for a trip that loads nothing. -/
def blk4 (i : grid0.Coords) (x : Vec F S1x1040x1024 .bf16) (j : BitVec 32) : Vec F S1x512x256 .bf16 :=
  if h : k0_chk4 i j then View.ld x (Rect.unit (s := S1x1040x1024) (k0_off4 i j) S1x512x256.size (k0_off4_inb i j h))
  else constant S1x512x256 .bf16 0#16

/-! ### The bounds -/

/-- The trip's number with `n` of four trips still possible. -/
def jAt (n : ℕ) : BitVec 32 := BitVec.ofNat 32 (4 - n)

theorem jAt_succ {n : ℕ} (h : n + 1 ≤ 4) : Scalar.addi (jAt (n + 1)) 1#32 = jAt n := by
  unfold jAt; rcases n with _ | _ | _ | _ | n <;> first | decide | omega

/-- A property of the second grid coordinate, checked at its eight values. -/
theorem forall_tile {p : Fin 1 → Prop} (h : ∀ a, p a) (i : grid0.Coords) : p (i 1) := h _

/-- No grid point has more than four key blocks. -/
theorem nBlocks_le (i : grid0.Coords) : Scalar.cmpi .slt (jAt 0) (nBlocks i) = 0#1 := by
  unfold nBlocks qEnd
  exact forall_tile (p := fun a => Scalar.cmpi .slt (jAt 0) (let x : BitVec 32 := Scalar.subi (Scalar.addi (Scalar.addi (Scalar.addi 1024#32 (Scalar.muli (BitVec.ofNat 32 a.val) 16#32)) 16#32) 512#32) 1#32
    let sx : BitVec 32 := Scalar.subi (Scalar.extui (Scalar.cmpi .sgt x 0#32)) (Scalar.extui (Scalar.cmpi .slt x 0#32))
    let sd : BitVec 32 := Scalar.subi (Scalar.extui (Scalar.cmpi .sgt 512#32 0#32)) (Scalar.extui (Scalar.cmpi .slt 512#32 0#32))
    let up : BitVec 1 := Scalar.andi (Scalar.cmpi .ne sx sd) (Scalar.cmpi .ne (Scalar.remsi x 512#32) 0#32)
    Scalar.select up (Scalar.subi (Scalar.divsi x 512#32) 1#32) (Scalar.divsi x 512#32)) = 0#1) (by decide) i

theorem not_more_last (i : grid0.Coords) (live : BitVec 32) : ¬ more i (jAt 0) live = 1#1 := by
  unfold more
  rw [nBlocks_le]
  generalize Scalar.cmpi .sgt live 0#32 = b
  revert b; decide

/-- Group 1's block of each of the four trips is inside the array. -/
theorem chk1 {n : ℕ} (h : n + 1 ≤ 4) (i : grid0.Coords) : k0_chk1 i (jAt (n + 1)) := by
  unfold k0_chk1 k0_off1 k0_mult1
  generalize i 1 = a
  revert a
  rcases n with _ | _ | _ | _ | n <;> first | decide | omega

/-- Group 2's block of each of the four trips is inside the array. -/
theorem chk2 {n : ℕ} (h : n + 1 ≤ 4) (i : grid0.Coords) : k0_chk2 i (jAt (n + 1)) := by
  unfold k0_chk2 k0_off2 k0_mult2
  generalize i 1 = a
  revert a
  rcases n with _ | _ | _ | _ | n <;> first | decide | omega

/-- Group 3's block of each of the four trips is inside the array. -/
theorem chk3 {n : ℕ} (h : n + 1 ≤ 4) (i : grid0.Coords) : k0_chk3 i (jAt (n + 1)) := by
  unfold k0_chk3 k0_off3 k0_mult3
  generalize i 1 = a
  revert a
  rcases n with _ | _ | _ | _ | n <;> first | decide | omega

/-- Group 4's block of each of the four trips is inside the array. -/
theorem chk4 {n : ℕ} (h : n + 1 ≤ 4) (i : grid0.Coords) : k0_chk4 i (jAt (n + 1)) := by
  unfold k0_chk4 k0_off4 k0_mult4
  generalize i 1 = a
  revert a
  rcases n with _ | _ | _ | _ | n <;> first | decide | omega

/-! ### What a trip carries on, as the four loops spell it head by head -/

section
variable (i : grid0.Coords) (qpos : IVec S16x1 32) (j : BitVec 32) (q : FVec F S16x256 .bf16) (kb vb : Vec F S1x512x256 .bf16)
  (T : Vec F S512x512 .bf16) (m : IVec S16x512 1) (a : FVec F S16x256 .f32) (r r0 r1 r2 : FVec F S16x1 .f32) (w : FVec F S16x512 .f32)
theorem seen_1 : k0_pay67 qpos j (qEnd i) = seen i qpos j := rfl
theorem acc0_1 : k0_pay72 a (k0_pay66 vb) (k0_pay71 qpos q j r (qEnd i) kb T) = accNext q kb vb T (seen i qpos j) a r := rfl
theorem run0_1 : k0_pay73 r (k0_pay70 qpos q j (qEnd i) kb) = runNext q kb (seen i qpos j) r := rfl
theorem acc1_1 : k0_pay77 q a r (k0_pay65 kb) (k0_pay66 vb) m T = accNext q kb vb T m a r := rfl
theorem run1_1 : k0_pay78 q r (k0_pay65 kb) m = runNext q kb m r := rfl
theorem acc2_1 : k0_pay84 a r (k0_pay66 vb) m (k0_pay79 q (k0_pay65 kb)) (k0_pay80 q (k0_pay65 kb)) (k0_pay81 q (k0_pay65 kb))
    (Scalar.ofBits .f32 0x3F800000#32) T = accNext q kb vb T m a r := rfl
theorem run2_1 : k0_pay85 r m (k0_pay79 q (k0_pay65 kb)) (k0_pay80 q (k0_pay65 kb)) (k0_pay81 q (k0_pay65 kb)) (Scalar.ofBits .f32 0x3F800000#32)
    = runNext q kb m r := rfl
theorem acc3_1 : k0_pay2 a (k0_pay66 vb) m (k0_pay89 q r (k0_pay65 kb) m T) = accNext q kb vb T m a r := rfl
theorem run3_1 : k0_pay3 r (k0_pay88 q (k0_pay65 kb) m) = runNext q kb m r := rfl
theorem top_1 : k0_pay4 r r0 r1 r2 w = topRun r0 r1 r2 (k0_pay3 r w) := rfl
end

section
variable (i : grid0.Coords) (qpos : IVec S16x1 32) (j : BitVec 32) (q : FVec F S16x256 .bf16) (kb vb : Vec F S1x512x256 .bf16)
  (T : Vec F S512x512 .bf16) (m : IVec S16x512 1) (a : FVec F S16x256 .f32) (r r0 r1 r2 : FVec F S16x1 .f32) (w : FVec F S16x512 .f32)
theorem seen_2 : k0_pay92 qpos j (qEnd i) = seen i qpos j := rfl
theorem acc0_2 : k0_pay97 a (k0_pay91 vb) (k0_pay96 qpos q j r (qEnd i) kb T) = accNext q kb vb T (seen i qpos j) a r := rfl
theorem run0_2 : k0_pay98 r (k0_pay95 qpos q j (qEnd i) kb) = runNext q kb (seen i qpos j) r := rfl
theorem acc1_2 : k0_pay102 q a r (k0_pay90 kb) (k0_pay91 vb) m T = accNext q kb vb T m a r := rfl
theorem run1_2 : k0_pay103 q r (k0_pay90 kb) m = runNext q kb m r := rfl
theorem acc2_2 : k0_pay109 a r (k0_pay91 vb) m (k0_pay104 q (k0_pay90 kb)) (k0_pay105 q (k0_pay90 kb)) (k0_pay106 q (k0_pay90 kb))
    (Scalar.ofBits .f32 0x3F800000#32) T = accNext q kb vb T m a r := rfl
theorem run2_2 : k0_pay110 r m (k0_pay104 q (k0_pay90 kb)) (k0_pay105 q (k0_pay90 kb)) (k0_pay106 q (k0_pay90 kb)) (Scalar.ofBits .f32 0x3F800000#32)
    = runNext q kb m r := rfl
theorem acc3_2 : k0_pay5 a (k0_pay91 vb) m (k0_pay114 q r (k0_pay90 kb) m T) = accNext q kb vb T m a r := rfl
theorem run3_2 : k0_pay6 r (k0_pay113 q (k0_pay90 kb) m) = runNext q kb m r := rfl
theorem top_2 : k0_pay7 r r0 r1 r2 w = topRun r0 r1 r2 (k0_pay6 r w) := rfl
end

section
variable (i : grid0.Coords) (qpos : IVec S16x1 32) (j : BitVec 32) (q : FVec F S16x256 .bf16) (kb vb : Vec F S1x512x256 .bf16)
  (T : Vec F S512x512 .bf16) (m : IVec S16x512 1) (a : FVec F S16x256 .f32) (r r0 r1 r2 : FVec F S16x1 .f32) (w : FVec F S16x512 .f32)
theorem seen_3 : k0_pay117 qpos j (qEnd i) = seen i qpos j := rfl
theorem acc0_3 : k0_pay122 a (k0_pay116 vb) (k0_pay121 qpos q j r (qEnd i) kb T) = accNext q kb vb T (seen i qpos j) a r := rfl
theorem run0_3 : k0_pay123 r (k0_pay120 qpos q j (qEnd i) kb) = runNext q kb (seen i qpos j) r := rfl
theorem acc1_3 : k0_pay127 q a r (k0_pay115 kb) (k0_pay116 vb) m T = accNext q kb vb T m a r := rfl
theorem run1_3 : k0_pay128 q r (k0_pay115 kb) m = runNext q kb m r := rfl
theorem acc2_3 : k0_pay134 a r (k0_pay116 vb) m (k0_pay129 q (k0_pay115 kb)) (k0_pay130 q (k0_pay115 kb)) (k0_pay131 q (k0_pay115 kb))
    (Scalar.ofBits .f32 0x3F800000#32) T = accNext q kb vb T m a r := rfl
theorem run2_3 : k0_pay135 r m (k0_pay129 q (k0_pay115 kb)) (k0_pay130 q (k0_pay115 kb)) (k0_pay131 q (k0_pay115 kb)) (Scalar.ofBits .f32 0x3F800000#32)
    = runNext q kb m r := rfl
theorem acc3_3 : k0_pay8 a (k0_pay116 vb) m (k0_pay139 q r (k0_pay115 kb) m T) = accNext q kb vb T m a r := rfl
theorem run3_3 : k0_pay9 r (k0_pay138 q (k0_pay115 kb) m) = runNext q kb m r := rfl
theorem top_3 : k0_pay10 r r0 r1 r2 w = topRun r0 r1 r2 (k0_pay9 r w) := rfl
end

section
variable (i : grid0.Coords) (qpos : IVec S16x1 32) (j : BitVec 32) (q : FVec F S16x256 .bf16) (kb vb : Vec F S1x512x256 .bf16)
  (T : Vec F S512x512 .bf16) (m : IVec S16x512 1) (a : FVec F S16x256 .f32) (r r0 r1 r2 : FVec F S16x1 .f32) (w : FVec F S16x512 .f32)
theorem seen_4 : k0_pay142 qpos j (qEnd i) = seen i qpos j := rfl
theorem acc0_4 : k0_pay147 a (k0_pay141 vb) (k0_pay146 qpos q j r (qEnd i) kb T) = accNext q kb vb T (seen i qpos j) a r := rfl
theorem run0_4 : k0_pay148 r (k0_pay145 qpos q j (qEnd i) kb) = runNext q kb (seen i qpos j) r := rfl
theorem acc1_4 : k0_pay152 q a r (k0_pay140 kb) (k0_pay141 vb) m T = accNext q kb vb T m a r := rfl
theorem run1_4 : k0_pay153 q r (k0_pay140 kb) m = runNext q kb m r := rfl
theorem acc2_4 : k0_pay159 a r (k0_pay141 vb) m (k0_pay154 q (k0_pay140 kb)) (k0_pay155 q (k0_pay140 kb)) (k0_pay156 q (k0_pay140 kb))
    (Scalar.ofBits .f32 0x3F800000#32) T = accNext q kb vb T m a r := rfl
theorem run2_4 : k0_pay160 r m (k0_pay154 q (k0_pay140 kb)) (k0_pay155 q (k0_pay140 kb)) (k0_pay156 q (k0_pay140 kb)) (Scalar.ofBits .f32 0x3F800000#32)
    = runNext q kb m r := rfl
theorem acc3_4 : k0_pay11 a (k0_pay141 vb) m (k0_pay164 q r (k0_pay140 kb) m T) = accNext q kb vb T m a r := rfl
theorem run3_4 : k0_pay12 r (k0_pay163 q (k0_pay140 kb) m) = runNext q kb m r := rfl
theorem top_4 : k0_pay13 r r0 r1 r2 w = topRun r0 r1 r2 (k0_pay12 r w) := rfl
end

end Cert.SampleIdeal.Attn

end
-- ==== Proof.SampleIdeal.TripValue.lean ====
/-
  One trip of the attention kernel's loop over the extended reals, element by element: where the scores of a block are
  real numbers, a head's running sum gains what the block's keys leave and its weighted sum gains the block's weighted
  values.
-/
module

public import proofs.«01_k».proof.Proof.SampleIdeal.Trip
public import proofs.«01_k».proof.Proof.Stick.Sums
public import proofs.«01_k».proof.Proof.Stick.Reals

@[expose] public section

set_option maxRecDepth 16384

noncomputable section

namespace Cert.SampleIdeal.Attn

open Cert.SampleIdeal Cert.SampleIdeal.Gen
open Idealize.ShloMosaic
open Stick (abs_coe min_coe max_coe coe_ite coe_sum)

/-- Over the extended reals the bound of the running sums is `-∞`. -/
theorem underflow_eq : (Named.named κ "underflow" 0xC2D00000#32 : Ideal .f32) = (⊥ : EReal) :=
  IdealRules.named_const.ideal_named_scalar _ _ _ _ rfl

/-- The kernel's spelling of the share taken. -/
theorem logSig_coe (z : ℝ) :
    min (z : EReal) 0 - Ideal.log (1 + Ideal.exp (0 - (FloatOps.absf (F := Ideal) (φ := .f32) (z : EReal) : EReal)))
      = ((Stick.logSig z : ℝ) : EReal) := by
  have hpos : ¬ (1 + Real.exp (-|z|)) ≤ 0 := not_le.mpr (by positivity)
  rw [abs_coe, zero_sub, ← EReal.coe_neg, Ideal.exp_coe, ← EReal.coe_one, ← EReal.coe_add, Ideal.log_coe, if_neg hpos,
    ← EReal.coe_zero, min_coe, ← EReal.coe_sub]
  rfl

section
variable {q : FVec Ideal S16x256 .bf16} {kb vb : FVec Ideal S1x512x256 .bf16} {T : FVec Ideal S512x512 .bf16}
  {mask : IVec S16x512 1} {acc : FVec Ideal S16x256 .f32} {run : FVec Ideal S16x1 .f32} {r : Fin 16} {ζ : ℕ → ℝ} {s top : ℕ}

/-- The scores of a query row against a block of keys at positions from `s` on. -/
abbrev Scores (q : FVec Ideal S16x256 .bf16) (kb : FVec Ideal S1x512x256 .bf16) (r : Fin 16) (s : ℕ) (ζ : ℕ → ℝ) : Prop :=
  ∀ c : Fin 512, (∑ l : Fin 256, q (ix2 r l) * kb (ix3 0 c l)) = ((ζ (s + c.val) : ℝ) : EReal)

/-- The keys of the block that a query row looks at. -/
abbrev Looks (mask : IVec S16x512 1) (r : Fin 16) (s top : ℕ) : Prop :=
  ∀ c : Fin 512, mask (ix2 r c) = 1 ↔ s + c.val < top

theorem taken_at (hz : Scores q kb r s ζ) (c : Fin 512) :
    k0_pay75 q (k0_pay65 kb) (ix2 r c) = ((Stick.logSig (ζ (s + c.val)) : ℝ) : EReal) := by
  pointwise [k0_pay75, k0_pay74, k0_pay65]
  rw [hz c]; exact logSig_coe _

theorem left_at (hz : Scores q kb r s ζ) (hm : Looks mask r s top) (c : Fin 512) :
    k0_pay76 q (k0_pay65 kb) mask (ix2 r c)
      = ((if s + c.val < top then Stick.logNot (ζ (s + c.val)) else 0 : ℝ) : EReal) := by
  have h74 : k0_pay74 q (k0_pay65 kb) (ix2 r c) = ((ζ (s + c.val) : ℝ) : EReal) := by
    pointwise [k0_pay74, k0_pay65]
    exact hz c
  have h : k0_pay76 q (k0_pay65 kb) mask (ix2 r c)
      = Scalar.select (mask (ix2 r c)) ((k0_pay75 q (k0_pay65 kb) (ix2 r c) : EReal) - k0_pay74 q (k0_pay65 kb) (ix2 r c)) 0 := by
    pointwise [k0_pay76]
  rw [h, taken_at hz, h74, ← EReal.coe_sub]
  unfold Scalar.select
  by_cases hc : s + c.val < top
  · rw [if_pos ((hm c).2 hc), if_pos hc]; rfl
  · rw [if_neg (fun e => hc ((hm c).1 e)), if_neg hc]; rfl

/-- A head's running sum gains what the block's keys leave. -/
theorem runNext_at (hz : Scores q kb r s ζ) (hm : Looks mask r s top) (ht : top ≤ s + 512) {ρ : ℝ}
    (hr : run (ix2 r 0) = (ρ : EReal)) :
    runNext q kb mask run (ix2 r 0) = ((ρ + ∑ k ∈ Finset.Ico s top, Stick.logNot (ζ k) : ℝ) : EReal) := by
  have h : runNext q kb mask run (ix2 r 0) = run (ix2 r 0) + ∑ c : Fin 512, k0_pay76 q (k0_pay65 kb) mask (ix2 r c) := by
    pointwise [runNext, k0_pay78]
  rw [h, hr, Finset.sum_congr rfl (fun c _ => left_at hz hm c), ← coe_sum, ← EReal.coe_add,
    Stick.sum_window 512 s top ht (fun k => Stick.logNot (ζ k))]

/-- What the block's keys past column `c` leave, as the product with the strict triangle. -/
theorem suffix_at (hz : Scores q kb r s ζ) (hm : Looks mask r s top) (ht : top ≤ s + 512)
    (hT : ∀ a b : Fin 512, T (ix2 a b) = if b.val < a.val then (1 : EReal) else 0) (c : Fin 512) :
    (∑ a : Fin 512, k0_pay76 q (k0_pay65 kb) mask (ix2 r a) * T (ix2 a c) : EReal)
      = ((∑ k ∈ Finset.Ico (s + c.val + 1) top, Stick.logNot (ζ k) : ℝ) : EReal) := by
  rw [← Stick.sum_window_after 512 s top c.val ht (fun k => Stick.logNot (ζ k)), coe_sum]
  refine Finset.sum_congr rfl fun a _ => ?_
  rw [left_at hz hm a, hT a c]
  by_cases h : c.val < a.val
  · rw [if_pos h, if_pos h, mul_one]
  · rw [if_neg h, if_neg h, mul_zero, EReal.coe_zero]

/-- A head's weighted sum gains the block's weighted values. -/
theorem accNext_at {hi p : ℕ} (hz : Scores q kb r s ζ) (hm : Looks mask r s (min p hi)) (ht : hi ≤ s + 512)
    (hT : ∀ a b : Fin 512, T (ix2 a b) = if b.val < a.val then (1 : EReal) else 0)
    (hr : run (ix2 r 0) = ((Stick.left ζ hi p : ℝ) : EReal)) (l : Fin 256) (v : ℕ → EReal)
    (hv : ∀ c : Fin 512, vb (ix3 0 c l) = v (s + c.val)) :
    accNext q kb vb T mask acc run (ix2 r l)
      = acc (ix2 r l) + ∑ k ∈ Finset.Ico s (min p hi), (Stick.weight ζ p k : EReal) * v k := by
  have h : accNext q kb vb T mask acc run (ix2 r l) = acc (ix2 r l) + ∑ c : Fin 512, Scalar.select (mask (ix2 r c))
      (Ideal.exp (k0_pay75 q (k0_pay65 kb) (ix2 r c)
        + (∑ a : Fin 512, k0_pay76 q (k0_pay65 kb) mask (ix2 r a) * T (ix2 a c) + run (ix2 r 0)))) 0 * vb (ix3 0 c l) := by
    pointwise [accNext, k0_pay77, k0_pay66]
  have ht' : min p hi ≤ s + 512 := le_trans (min_le_right _ _) ht
  rw [h, ← Stick.sum_window 512 s (min p hi) ht' (fun k => (Stick.weight ζ p k : EReal) * v k)]
  congr 1
  refine Finset.sum_congr rfl fun c _ => ?_
  rw [taken_at hz, suffix_at hz hm ht' hT, hr, hv, ← EReal.coe_add, ← EReal.coe_add, Ideal.exp_coe]
  unfold Scalar.select
  by_cases hc : s + c.val < min p hi
  · rw [if_pos ((hm c).2 hc), if_pos hc, Stick.weight_block ζ hc]
  · rw [if_neg (fun e => hc ((hm c).1 e)), if_neg hc, zero_mul]

end

/-- A running sum that is a real number is above the bound, so that the loop goes on. -/
theorem alive_of_real (r0 r1 r2 r3 : FVec Ideal S16x1 .f32) (ρ : ℝ) (h : r0 (ix2 0 0) = (ρ : EReal)) :
    alive r0 r1 r2 r3 = 1#32 := by
  have hb : (⊥ : EReal) < topRun r0 r1 r2 r3 := by
    pointwise [topRun]
    rw [Finset.lt_fold_max]
    refine Or.inr ⟨(0, 0), Finset.mem_univ _, ?_⟩
    simp only [lt_max_iff]
    left; left; left
    rw [h]; exact EReal.bot_lt_coe ρ
  unfold alive
  rw [underflow_eq]
  show Scalar.extui (BitVec.ofBool (decide ((⊥ : EReal) < topRun r0 r1 r2 r3))) = 1#32
  rw [decide_eq_true hb]
  rfl

end Cert.SampleIdeal.Attn

end
-- ==== Proof.SampleIdeal.Loop.lean ====
/-
  The kernel's loops, run: each loop's label, called on what the loop reads and carries, returns the loop's pure function
  of it and leaves the keys', the values' and the triangle's buffers as they were. By induction on the trips that can
  still come: the body's own call, at one trip fewer, is answered by the induction hypothesis.
-/
module

public import proofs.«01_k».proof.Proof.SampleIdeal.Trip
public import Idealize.ShloMosaic.Lib.Pipeline.Sound
public import Idealize.ShloMosaic.Lib.Pipeline.Frame
public import Idealize.ShloMosaic.Lib.Ring
public import Idealize.ShloMosaic.Lib.Tactic
public import Idealize.ShloMosaic.Lib.WordCmp

@[expose] public section

noncomputable section

namespace Cert.SampleIdeal.Attn

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F] [Named F]

local notation "𝕄" => MT nD τ sig Unit (Elt F) ℕ (UR sig nD τ) ℕ

/-- The kernel's variants: the trips that can still come. -/
abbrev 𝒱₀ : Variants := Variants.nat

/-- What a loop reads from memory: the keys, the values and the triangle. -/
def reads (c : Dev nD) (arg3 arg4 : Memref sig .tc .vmem S1x1040x1024 .bf16) (arg5 : Memref sig .tc .vmem S512x512 .bf16)
    (x1 x2 : Vec F S1x1040x1024 .bf16) (x3 : Vec F S512x512 .bf16) : sProp 𝕄 :=
  iprop(owns (c : Thread nD τ) arg3 fullShare x1 ∗ owns (c : Thread nD τ) arg4 fullShare x2 ∗ owns (c : Thread nD τ) arg5 fullShare x3)

/-- What a loop's label does: given what the loop reads, it returns `r` and gives it back. -/
def spec (c : Dev nD) (arg3 arg4 : Memref sig .tc .vmem S1x1040x1024 .bf16) (arg5 : Memref sig .tc .vmem S512x512 .bf16)
    (x1 x2 : Vec F S1x1040x1024 .bf16) (x3 : Vec F S512x512 .bf16) (r : Carried F) : sWPT 𝕄 (Carried F) := do
  consume (reads c arg3 arg4 arg5 x1 x2 x3)
  produce (reads c arg3 arg4 arg5 x1 x2 x3)
  pure r

theorem spec_apply (c : Dev nD) (arg3 arg4 : Memref sig .tc .vmem S1x1040x1024 .bf16) (arg5 : Memref sig .tc .vmem S512x512 .bf16)
    (x1 x2 : Vec F S1x1040x1024 .bf16) (x3 : Vec F S512x512 .bf16) (r : Carried F) (K : Carried F → sProp 𝕄) :
    spec c arg3 arg4 arg5 x1 x2 x3 r K
      = iprop(reads c arg3 arg4 arg5 x1 x2 x3 ∗ (reads c arg3 arg4 arg5 x1 x2 x3 -∗ K r)) := rfl

set_option maxHeartbeats 400000 in
/-- Loop 1, entered with `n` trips possible. -/
theorem loop1_le (c : Dev nD) (E : Set ℕ) (i : grid0.Coords) (arg3 : Memref sig .tc .vmem S1x1040x1024 .bf16) (harg3 : arg3.IsWhole)
    (arg4 : Memref sig .tc .vmem S1x1040x1024 .bf16) (harg4 : arg4.IsWhole) (arg5 : Memref sig .tc .vmem S512x512 .bf16) (harg5 : arg5.IsWhole)
    (x1 x2 : Vec F S1x1040x1024 .bf16) (x3 : Vec F S512x512 .bf16)
    (qpos : IVec S16x1 32) (q0 q1 q2 q3 : FVec F S16x256 .bf16) :
    ∀ n, n ≤ 4 → ∀ (live : BitVec 32) (a0 : FVec F S16x256 .f32) (r0 : FVec F S16x1 .f32) (a1 : FVec F S16x256 .f32) (r1 : FVec F S16x1 .f32)
        (a2 : FVec F S16x256 .f32) (r2 : FVec F S16x1 .f32) (a3 : FVec F S16x256 .f32) (r3 : FVec F S16x1 .f32) K,
      spec c arg3 arg4 arg5 x1 x2 x3 (loop i qpos q0 q1 q2 q3 (View.ld x3 (Rect.unit (s := S512x512) ![0, 0] S512x512.size inb_S512x512_S512x512_0_0)) (blk1 i x1) (blk1 i x2) n (jAt n, live, a0, r0, a1, r1, a2, r2, a3, r3)) K
        ⊢ wp frame (wpE (defs₀ (F := F)) 𝒱₀ (c : Thread nD τ) (some n)) E
            (defs₀ (F := F) .tc 1 ⟨i, arg3, harg3, arg4, harg4, qpos, q0, arg5, harg5, q1, q2, q3, jAt n, live, a0, r0, a1, r1, a2, r2, a3, r3⟩) K := by
  intro n
  induction n with
  | zero =>
    intro _ live a0 r0 a1 r1 a2 r2 a3 r3 K
    rw [spec_apply]
    show _ ⊢ wp frame (wpE (defs₀ (F := F)) 𝒱₀ (c : Thread nD τ) (some 0)) E
      (cc0_while1 i arg3 harg3 arg4 harg4 qpos q0 arg5 harg5 q1 q2 q3 (jAt 0) live a0 r0 a1 r1 a2 r2 a3 r3) K
    simp only [cc0_while1_eq_skeleton]; unfold cc0_while1_skel
    dsimp only
    split
    · next h => exact absurd h (not_more_last i live)
    · iintro ⟨H, Hk⟩
      simp only [Prog.pure_eq_ret]
      rw [wp_ret]; imodintro
      simp only [loop]
      iapply Hk
      iexact H
  | succ n ih =>
    intro hn live a0 r0 a1 r1 a2 r2 a3 r3 K
    rw [spec_apply]
    show _ ⊢ wp frame (wpE (defs₀ (F := F)) 𝒱₀ (c : Thread nD τ) (some (n + 1))) E
      (cc0_while1 i arg3 harg3 arg4 harg4 qpos q0 arg5 harg5 q1 q2 q3 (jAt (n + 1)) live a0 r0 a1 r1 a2 r2 a3 r3) K
    simp only [cc0_while1_eq_skeleton]; unfold cc0_while1_skel
    dsimp only
    split
    · next h =>
      have hm : more i (jAt (n + 1)) live = 1#1 := h
      have hc := chk1 hn i
      have hkb : ∀ x : Vec F S1x1040x1024 .bf16, blk1 i x (jAt (n + 1))
          = View.ld x (Rect.unit (s := S1x1040x1024) (k0_off1 i (jAt (n + 1))) S1x512x256.size (k0_off1_inb i (jAt (n + 1)) hc)) := fun x => by
        unfold blk1; rw [dif_pos hc]
      rw [loop, if_pos hm]
      unfold trip
      simp only [hkb]
      simp only [k0_part10_eq_skeleton, k0_part10_skel, k0_part11_eq_skeleton, k0_part11_skel, k0_part12_eq_skeleton, k0_part12_skel]
      unfold reads owns
      iintro ⟨⟨⟨%f1, %hf1, H1⟩, ⟨%f2, %hf2, H2⟩, ⟨%f3, %hf3, H3⟩⟩, Hk⟩
      subst hf1 hf2 hf3
      sl_exec
      rw [jAt_succ hn]
      set s' := tripOf i qpos q0 q1 q2 q3 (View.ld (arg5.view.read (Elt F) f3) (Rect.unit (s := S512x512) ![0, 0] S512x512.size inb_S512x512_S512x512_0_0))
        (View.ld (arg3.view.read (Elt F) f1) (Rect.unit (s := S1x1040x1024) (k0_off1 i (jAt (n + 1))) S1x512x256.size (k0_off1_inb i (jAt (n + 1)) hc)))
        (View.ld (arg4.view.read (Elt F) f2) (Rect.unit (s := S1x1040x1024) (k0_off1 i (jAt (n + 1))) S1x512x256.size (k0_off1_inb i (jAt (n + 1)) hc)))
        (jAt (n + 1), live, a0, r0, a1, r1, a2, r2, a3, r3) with hs'
      have hj : s' = (jAt n, s'.2.1, s'.2.2.1, s'.2.2.2.1, s'.2.2.2.2.1, s'.2.2.2.2.2.1, s'.2.2.2.2.2.2.1, s'.2.2.2.2.2.2.2.1,
          s'.2.2.2.2.2.2.2.2.1, s'.2.2.2.2.2.2.2.2.2) := by
        rw [← jAt_succ hn]; rfl
      dsimp only
      rw [show Scalar.addi (Scalar.addi (1024#32) (Scalar.muli (BitVec.ofNat 32 (i 1).val) 16#32)) 16#32 = qEnd i from rfl]
      simp only [seen_1, acc0_1, run0_1, acc1_1, run1_1, acc2_1, run2_1, acc3_1, run3_1, top_1]
      iapply (wp_call_spec 𝒱₀ (c : Thread nD τ) (some (n + 1)) E (spec c arg3 arg4 arg5 (arg3.view.read (Elt F) f1) (arg4.view.read (Elt F) f2) (arg5.view.read (Elt F) f3) _) n
        (fun u hu => by cases hu; exact Nat.lt_succ_self n)
        (ih (Nat.le_of_succ_le hn) s'.2.1 s'.2.2.1 s'.2.2.2.1 s'.2.2.2.2.1 s'.2.2.2.2.2.1 s'.2.2.2.2.2.2.1 s'.2.2.2.2.2.2.2.1
          s'.2.2.2.2.2.2.2.2.1 s'.2.2.2.2.2.2.2.2.2))
      rw [spec_apply]
      isplitl [H1 H2 H3]
      · unfold reads owns
        isplitl [H1]
        · iexists f1; isplitr; · ipureintro; rfl
          iexact H1
        isplitl [H2]
        · iexists f2; isplitr; · ipureintro; rfl
          iexact H2
        iexists f3; isplitr; · ipureintro; rfl
        iexact H3
      iintro H
      rw [wp_ret]; imodintro
      rw [← hj]
      iapply Hk
      unfold reads owns
      iexact H
    · next h =>
      have hm : ¬ more i (jAt (n + 1)) live = 1#1 := h
      iintro ⟨H, Hk⟩
      simp only [Prog.pure_eq_ret]
      rw [wp_ret]; imodintro
      simp only [loop, if_neg hm]
      iapply Hk
      iexact H

set_option maxHeartbeats 400000 in
/-- Loop 2, entered with `n` trips possible. -/
theorem loop2_le (c : Dev nD) (E : Set ℕ) (i : grid0.Coords) (arg3 : Memref sig .tc .vmem S1x1040x1024 .bf16) (harg3 : arg3.IsWhole)
    (arg4 : Memref sig .tc .vmem S1x1040x1024 .bf16) (harg4 : arg4.IsWhole) (arg5 : Memref sig .tc .vmem S512x512 .bf16) (harg5 : arg5.IsWhole)
    (x1 x2 : Vec F S1x1040x1024 .bf16) (x3 : Vec F S512x512 .bf16)
    (qpos : IVec S16x1 32) (q0 q1 q2 q3 : FVec F S16x256 .bf16) :
    ∀ n, n ≤ 4 → ∀ (live : BitVec 32) (a0 : FVec F S16x256 .f32) (r0 : FVec F S16x1 .f32) (a1 : FVec F S16x256 .f32) (r1 : FVec F S16x1 .f32)
        (a2 : FVec F S16x256 .f32) (r2 : FVec F S16x1 .f32) (a3 : FVec F S16x256 .f32) (r3 : FVec F S16x1 .f32) K,
      spec c arg3 arg4 arg5 x1 x2 x3 (loop i qpos q0 q1 q2 q3 (View.ld x3 (Rect.unit (s := S512x512) ![0, 0] S512x512.size inb_S512x512_S512x512_0_0)) (blk2 i x1) (blk2 i x2) n (jAt n, live, a0, r0, a1, r1, a2, r2, a3, r3)) K
        ⊢ wp frame (wpE (defs₀ (F := F)) 𝒱₀ (c : Thread nD τ) (some n)) E
            (defs₀ (F := F) .tc 2 ⟨i, arg3, harg3, arg4, harg4, qpos, q0, arg5, harg5, q1, q2, q3, jAt n, live, a0, r0, a1, r1, a2, r2, a3, r3⟩) K := by
  intro n
  induction n with
  | zero =>
    intro _ live a0 r0 a1 r1 a2 r2 a3 r3 K
    rw [spec_apply]
    show _ ⊢ wp frame (wpE (defs₀ (F := F)) 𝒱₀ (c : Thread nD τ) (some 0)) E
      (cc0_while2 i arg3 harg3 arg4 harg4 qpos q0 arg5 harg5 q1 q2 q3 (jAt 0) live a0 r0 a1 r1 a2 r2 a3 r3) K
    simp only [cc0_while2_eq_skeleton]; unfold cc0_while2_skel
    dsimp only
    split
    · next h => exact absurd h (not_more_last i live)
    · iintro ⟨H, Hk⟩
      simp only [Prog.pure_eq_ret]
      rw [wp_ret]; imodintro
      simp only [loop]
      iapply Hk
      iexact H
  | succ n ih =>
    intro hn live a0 r0 a1 r1 a2 r2 a3 r3 K
    rw [spec_apply]
    show _ ⊢ wp frame (wpE (defs₀ (F := F)) 𝒱₀ (c : Thread nD τ) (some (n + 1))) E
      (cc0_while2 i arg3 harg3 arg4 harg4 qpos q0 arg5 harg5 q1 q2 q3 (jAt (n + 1)) live a0 r0 a1 r1 a2 r2 a3 r3) K
    simp only [cc0_while2_eq_skeleton]; unfold cc0_while2_skel
    dsimp only
    split
    · next h =>
      have hm : more i (jAt (n + 1)) live = 1#1 := h
      have hc := chk2 hn i
      have hkb : ∀ x : Vec F S1x1040x1024 .bf16, blk2 i x (jAt (n + 1))
          = View.ld x (Rect.unit (s := S1x1040x1024) (k0_off2 i (jAt (n + 1))) S1x512x256.size (k0_off2_inb i (jAt (n + 1)) hc)) := fun x => by
        unfold blk2; rw [dif_pos hc]
      rw [loop, if_pos hm]
      unfold trip
      simp only [hkb]
      simp only [k0_part13_eq_skeleton, k0_part13_skel, k0_part14_eq_skeleton, k0_part14_skel, k0_part15_eq_skeleton, k0_part15_skel]
      unfold reads owns
      iintro ⟨⟨⟨%f1, %hf1, H1⟩, ⟨%f2, %hf2, H2⟩, ⟨%f3, %hf3, H3⟩⟩, Hk⟩
      subst hf1 hf2 hf3
      sl_exec
      rw [jAt_succ hn]
      set s' := tripOf i qpos q0 q1 q2 q3 (View.ld (arg5.view.read (Elt F) f3) (Rect.unit (s := S512x512) ![0, 0] S512x512.size inb_S512x512_S512x512_0_0))
        (View.ld (arg3.view.read (Elt F) f1) (Rect.unit (s := S1x1040x1024) (k0_off2 i (jAt (n + 1))) S1x512x256.size (k0_off2_inb i (jAt (n + 1)) hc)))
        (View.ld (arg4.view.read (Elt F) f2) (Rect.unit (s := S1x1040x1024) (k0_off2 i (jAt (n + 1))) S1x512x256.size (k0_off2_inb i (jAt (n + 1)) hc)))
        (jAt (n + 1), live, a0, r0, a1, r1, a2, r2, a3, r3) with hs'
      have hj : s' = (jAt n, s'.2.1, s'.2.2.1, s'.2.2.2.1, s'.2.2.2.2.1, s'.2.2.2.2.2.1, s'.2.2.2.2.2.2.1, s'.2.2.2.2.2.2.2.1,
          s'.2.2.2.2.2.2.2.2.1, s'.2.2.2.2.2.2.2.2.2) := by
        rw [← jAt_succ hn]; rfl
      dsimp only
      rw [show Scalar.addi (Scalar.addi (1024#32) (Scalar.muli (BitVec.ofNat 32 (i 1).val) 16#32)) 16#32 = qEnd i from rfl]
      simp only [seen_2, acc0_2, run0_2, acc1_2, run1_2, acc2_2, run2_2, acc3_2, run3_2, top_2]
      iapply (wp_call_spec 𝒱₀ (c : Thread nD τ) (some (n + 1)) E (spec c arg3 arg4 arg5 (arg3.view.read (Elt F) f1) (arg4.view.read (Elt F) f2) (arg5.view.read (Elt F) f3) _) n
        (fun u hu => by cases hu; exact Nat.lt_succ_self n)
        (ih (Nat.le_of_succ_le hn) s'.2.1 s'.2.2.1 s'.2.2.2.1 s'.2.2.2.2.1 s'.2.2.2.2.2.1 s'.2.2.2.2.2.2.1 s'.2.2.2.2.2.2.2.1
          s'.2.2.2.2.2.2.2.2.1 s'.2.2.2.2.2.2.2.2.2))
      rw [spec_apply]
      isplitl [H1 H2 H3]
      · unfold reads owns
        isplitl [H1]
        · iexists f1; isplitr; · ipureintro; rfl
          iexact H1
        isplitl [H2]
        · iexists f2; isplitr; · ipureintro; rfl
          iexact H2
        iexists f3; isplitr; · ipureintro; rfl
        iexact H3
      iintro H
      rw [wp_ret]; imodintro
      rw [← hj]
      iapply Hk
      unfold reads owns
      iexact H
    · next h =>
      have hm : ¬ more i (jAt (n + 1)) live = 1#1 := h
      iintro ⟨H, Hk⟩
      simp only [Prog.pure_eq_ret]
      rw [wp_ret]; imodintro
      simp only [loop, if_neg hm]
      iapply Hk
      iexact H

set_option maxHeartbeats 400000 in
/-- Loop 3, entered with `n` trips possible. -/
theorem loop3_le (c : Dev nD) (E : Set ℕ) (i : grid0.Coords) (arg3 : Memref sig .tc .vmem S1x1040x1024 .bf16) (harg3 : arg3.IsWhole)
    (arg4 : Memref sig .tc .vmem S1x1040x1024 .bf16) (harg4 : arg4.IsWhole) (arg5 : Memref sig .tc .vmem S512x512 .bf16) (harg5 : arg5.IsWhole)
    (x1 x2 : Vec F S1x1040x1024 .bf16) (x3 : Vec F S512x512 .bf16)
    (qpos : IVec S16x1 32) (q0 q1 q2 q3 : FVec F S16x256 .bf16) :
    ∀ n, n ≤ 4 → ∀ (live : BitVec 32) (a0 : FVec F S16x256 .f32) (r0 : FVec F S16x1 .f32) (a1 : FVec F S16x256 .f32) (r1 : FVec F S16x1 .f32)
        (a2 : FVec F S16x256 .f32) (r2 : FVec F S16x1 .f32) (a3 : FVec F S16x256 .f32) (r3 : FVec F S16x1 .f32) K,
      spec c arg3 arg4 arg5 x1 x2 x3 (loop i qpos q0 q1 q2 q3 (View.ld x3 (Rect.unit (s := S512x512) ![0, 0] S512x512.size inb_S512x512_S512x512_0_0)) (blk3 i x1) (blk3 i x2) n (jAt n, live, a0, r0, a1, r1, a2, r2, a3, r3)) K
        ⊢ wp frame (wpE (defs₀ (F := F)) 𝒱₀ (c : Thread nD τ) (some n)) E
            (defs₀ (F := F) .tc 3 ⟨i, arg3, harg3, arg4, harg4, qpos, q0, arg5, harg5, q1, q2, q3, jAt n, live, a0, r0, a1, r1, a2, r2, a3, r3⟩) K := by
  intro n
  induction n with
  | zero =>
    intro _ live a0 r0 a1 r1 a2 r2 a3 r3 K
    rw [spec_apply]
    show _ ⊢ wp frame (wpE (defs₀ (F := F)) 𝒱₀ (c : Thread nD τ) (some 0)) E
      (cc0_while3 i arg3 harg3 arg4 harg4 qpos q0 arg5 harg5 q1 q2 q3 (jAt 0) live a0 r0 a1 r1 a2 r2 a3 r3) K
    simp only [cc0_while3_eq_skeleton]; unfold cc0_while3_skel
    dsimp only
    split
    · next h => exact absurd h (not_more_last i live)
    · iintro ⟨H, Hk⟩
      simp only [Prog.pure_eq_ret]
      rw [wp_ret]; imodintro
      simp only [loop]
      iapply Hk
      iexact H
  | succ n ih =>
    intro hn live a0 r0 a1 r1 a2 r2 a3 r3 K
    rw [spec_apply]
    show _ ⊢ wp frame (wpE (defs₀ (F := F)) 𝒱₀ (c : Thread nD τ) (some (n + 1))) E
      (cc0_while3 i arg3 harg3 arg4 harg4 qpos q0 arg5 harg5 q1 q2 q3 (jAt (n + 1)) live a0 r0 a1 r1 a2 r2 a3 r3) K
    simp only [cc0_while3_eq_skeleton]; unfold cc0_while3_skel
    dsimp only
    split
    · next h =>
      have hm : more i (jAt (n + 1)) live = 1#1 := h
      have hc := chk3 hn i
      have hkb : ∀ x : Vec F S1x1040x1024 .bf16, blk3 i x (jAt (n + 1))
          = View.ld x (Rect.unit (s := S1x1040x1024) (k0_off3 i (jAt (n + 1))) S1x512x256.size (k0_off3_inb i (jAt (n + 1)) hc)) := fun x => by
        unfold blk3; rw [dif_pos hc]
      rw [loop, if_pos hm]
      unfold trip
      simp only [hkb]
      simp only [k0_part16_eq_skeleton, k0_part16_skel, k0_part17_eq_skeleton, k0_part17_skel, k0_part18_eq_skeleton, k0_part18_skel]
      unfold reads owns
      iintro ⟨⟨⟨%f1, %hf1, H1⟩, ⟨%f2, %hf2, H2⟩, ⟨%f3, %hf3, H3⟩⟩, Hk⟩
      subst hf1 hf2 hf3
      sl_exec
      rw [jAt_succ hn]
      set s' := tripOf i qpos q0 q1 q2 q3 (View.ld (arg5.view.read (Elt F) f3) (Rect.unit (s := S512x512) ![0, 0] S512x512.size inb_S512x512_S512x512_0_0))
        (View.ld (arg3.view.read (Elt F) f1) (Rect.unit (s := S1x1040x1024) (k0_off3 i (jAt (n + 1))) S1x512x256.size (k0_off3_inb i (jAt (n + 1)) hc)))
        (View.ld (arg4.view.read (Elt F) f2) (Rect.unit (s := S1x1040x1024) (k0_off3 i (jAt (n + 1))) S1x512x256.size (k0_off3_inb i (jAt (n + 1)) hc)))
        (jAt (n + 1), live, a0, r0, a1, r1, a2, r2, a3, r3) with hs'
      have hj : s' = (jAt n, s'.2.1, s'.2.2.1, s'.2.2.2.1, s'.2.2.2.2.1, s'.2.2.2.2.2.1, s'.2.2.2.2.2.2.1, s'.2.2.2.2.2.2.2.1,
          s'.2.2.2.2.2.2.2.2.1, s'.2.2.2.2.2.2.2.2.2) := by
        rw [← jAt_succ hn]; rfl
      dsimp only
      rw [show Scalar.addi (Scalar.addi (1024#32) (Scalar.muli (BitVec.ofNat 32 (i 1).val) 16#32)) 16#32 = qEnd i from rfl]
      simp only [seen_3, acc0_3, run0_3, acc1_3, run1_3, acc2_3, run2_3, acc3_3, run3_3, top_3]
      iapply (wp_call_spec 𝒱₀ (c : Thread nD τ) (some (n + 1)) E (spec c arg3 arg4 arg5 (arg3.view.read (Elt F) f1) (arg4.view.read (Elt F) f2) (arg5.view.read (Elt F) f3) _) n
        (fun u hu => by cases hu; exact Nat.lt_succ_self n)
        (ih (Nat.le_of_succ_le hn) s'.2.1 s'.2.2.1 s'.2.2.2.1 s'.2.2.2.2.1 s'.2.2.2.2.2.1 s'.2.2.2.2.2.2.1 s'.2.2.2.2.2.2.2.1
          s'.2.2.2.2.2.2.2.2.1 s'.2.2.2.2.2.2.2.2.2))
      rw [spec_apply]
      isplitl [H1 H2 H3]
      · unfold reads owns
        isplitl [H1]
        · iexists f1; isplitr; · ipureintro; rfl
          iexact H1
        isplitl [H2]
        · iexists f2; isplitr; · ipureintro; rfl
          iexact H2
        iexists f3; isplitr; · ipureintro; rfl
        iexact H3
      iintro H
      rw [wp_ret]; imodintro
      rw [← hj]
      iapply Hk
      unfold reads owns
      iexact H
    · next h =>
      have hm : ¬ more i (jAt (n + 1)) live = 1#1 := h
      iintro ⟨H, Hk⟩
      simp only [Prog.pure_eq_ret]
      rw [wp_ret]; imodintro
      simp only [loop, if_neg hm]
      iapply Hk
      iexact H

set_option maxHeartbeats 400000 in
/-- Loop 4, entered with `n` trips possible. -/
theorem loop4_le (c : Dev nD) (E : Set ℕ) (i : grid0.Coords) (arg3 : Memref sig .tc .vmem S1x1040x1024 .bf16) (harg3 : arg3.IsWhole)
    (arg4 : Memref sig .tc .vmem S1x1040x1024 .bf16) (harg4 : arg4.IsWhole) (arg5 : Memref sig .tc .vmem S512x512 .bf16) (harg5 : arg5.IsWhole)
    (x1 x2 : Vec F S1x1040x1024 .bf16) (x3 : Vec F S512x512 .bf16)
    (qpos : IVec S16x1 32) (q0 q1 q2 q3 : FVec F S16x256 .bf16) :
    ∀ n, n ≤ 4 → ∀ (live : BitVec 32) (a0 : FVec F S16x256 .f32) (r0 : FVec F S16x1 .f32) (a1 : FVec F S16x256 .f32) (r1 : FVec F S16x1 .f32)
        (a2 : FVec F S16x256 .f32) (r2 : FVec F S16x1 .f32) (a3 : FVec F S16x256 .f32) (r3 : FVec F S16x1 .f32) K,
      spec c arg3 arg4 arg5 x1 x2 x3 (loop i qpos q0 q1 q2 q3 (View.ld x3 (Rect.unit (s := S512x512) ![0, 0] S512x512.size inb_S512x512_S512x512_0_0)) (blk4 i x1) (blk4 i x2) n (jAt n, live, a0, r0, a1, r1, a2, r2, a3, r3)) K
        ⊢ wp frame (wpE (defs₀ (F := F)) 𝒱₀ (c : Thread nD τ) (some n)) E
            (defs₀ (F := F) .tc 4 ⟨i, arg3, harg3, arg4, harg4, qpos, q0, arg5, harg5, q1, q2, q3, jAt n, live, a0, r0, a1, r1, a2, r2, a3, r3⟩) K := by
  intro n
  induction n with
  | zero =>
    intro _ live a0 r0 a1 r1 a2 r2 a3 r3 K
    rw [spec_apply]
    show _ ⊢ wp frame (wpE (defs₀ (F := F)) 𝒱₀ (c : Thread nD τ) (some 0)) E
      (cc0_while4 i arg3 harg3 arg4 harg4 qpos q0 arg5 harg5 q1 q2 q3 (jAt 0) live a0 r0 a1 r1 a2 r2 a3 r3) K
    simp only [cc0_while4_eq_skeleton]; unfold cc0_while4_skel
    dsimp only
    split
    · next h => exact absurd h (not_more_last i live)
    · iintro ⟨H, Hk⟩
      simp only [Prog.pure_eq_ret]
      rw [wp_ret]; imodintro
      simp only [loop]
      iapply Hk
      iexact H
  | succ n ih =>
    intro hn live a0 r0 a1 r1 a2 r2 a3 r3 K
    rw [spec_apply]
    show _ ⊢ wp frame (wpE (defs₀ (F := F)) 𝒱₀ (c : Thread nD τ) (some (n + 1))) E
      (cc0_while4 i arg3 harg3 arg4 harg4 qpos q0 arg5 harg5 q1 q2 q3 (jAt (n + 1)) live a0 r0 a1 r1 a2 r2 a3 r3) K
    simp only [cc0_while4_eq_skeleton]; unfold cc0_while4_skel
    dsimp only
    split
    · next h =>
      have hm : more i (jAt (n + 1)) live = 1#1 := h
      have hc := chk4 hn i
      have hkb : ∀ x : Vec F S1x1040x1024 .bf16, blk4 i x (jAt (n + 1))
          = View.ld x (Rect.unit (s := S1x1040x1024) (k0_off4 i (jAt (n + 1))) S1x512x256.size (k0_off4_inb i (jAt (n + 1)) hc)) := fun x => by
        unfold blk4; rw [dif_pos hc]
      rw [loop, if_pos hm]
      unfold trip
      simp only [hkb]
      simp only [k0_part19_eq_skeleton, k0_part19_skel, k0_part20_eq_skeleton, k0_part20_skel, k0_part21_eq_skeleton, k0_part21_skel]
      unfold reads owns
      iintro ⟨⟨⟨%f1, %hf1, H1⟩, ⟨%f2, %hf2, H2⟩, ⟨%f3, %hf3, H3⟩⟩, Hk⟩
      subst hf1 hf2 hf3
      sl_exec
      rw [jAt_succ hn]
      set s' := tripOf i qpos q0 q1 q2 q3 (View.ld (arg5.view.read (Elt F) f3) (Rect.unit (s := S512x512) ![0, 0] S512x512.size inb_S512x512_S512x512_0_0))
        (View.ld (arg3.view.read (Elt F) f1) (Rect.unit (s := S1x1040x1024) (k0_off4 i (jAt (n + 1))) S1x512x256.size (k0_off4_inb i (jAt (n + 1)) hc)))
        (View.ld (arg4.view.read (Elt F) f2) (Rect.unit (s := S1x1040x1024) (k0_off4 i (jAt (n + 1))) S1x512x256.size (k0_off4_inb i (jAt (n + 1)) hc)))
        (jAt (n + 1), live, a0, r0, a1, r1, a2, r2, a3, r3) with hs'
      have hj : s' = (jAt n, s'.2.1, s'.2.2.1, s'.2.2.2.1, s'.2.2.2.2.1, s'.2.2.2.2.2.1, s'.2.2.2.2.2.2.1, s'.2.2.2.2.2.2.2.1,
          s'.2.2.2.2.2.2.2.2.1, s'.2.2.2.2.2.2.2.2.2) := by
        rw [← jAt_succ hn]; rfl
      dsimp only
      rw [show Scalar.addi (Scalar.addi (1024#32) (Scalar.muli (BitVec.ofNat 32 (i 1).val) 16#32)) 16#32 = qEnd i from rfl]
      simp only [seen_4, acc0_4, run0_4, acc1_4, run1_4, acc2_4, run2_4, acc3_4, run3_4, top_4]
      iapply (wp_call_spec 𝒱₀ (c : Thread nD τ) (some (n + 1)) E (spec c arg3 arg4 arg5 (arg3.view.read (Elt F) f1) (arg4.view.read (Elt F) f2) (arg5.view.read (Elt F) f3) _) n
        (fun u hu => by cases hu; exact Nat.lt_succ_self n)
        (ih (Nat.le_of_succ_le hn) s'.2.1 s'.2.2.1 s'.2.2.2.1 s'.2.2.2.2.1 s'.2.2.2.2.2.1 s'.2.2.2.2.2.2.1 s'.2.2.2.2.2.2.2.1
          s'.2.2.2.2.2.2.2.2.1 s'.2.2.2.2.2.2.2.2.2))
      rw [spec_apply]
      isplitl [H1 H2 H3]
      · unfold reads owns
        isplitl [H1]
        · iexists f1; isplitr; · ipureintro; rfl
          iexact H1
        isplitl [H2]
        · iexists f2; isplitr; · ipureintro; rfl
          iexact H2
        iexists f3; isplitr; · ipureintro; rfl
        iexact H3
      iintro H
      rw [wp_ret]; imodintro
      rw [← hj]
      iapply Hk
      unfold reads owns
      iexact H
    · next h =>
      have hm : ¬ more i (jAt (n + 1)) live = 1#1 := h
      iintro ⟨H, Hk⟩
      simp only [Prog.pure_eq_ret]
      rw [wp_ret]; imodintro
      simp only [loop, if_neg hm]
      iapply Hk
      iexact H

end Cert.SampleIdeal.Attn

end
-- ==== Proof.SampleIdeal.Body.lean ====
/-
  The attention kernel's body at one grid point: what it leaves in the output block, as a function of the query tile, the
  batch's keys and values and the triangle, and the triple that says so. Each of the four groups of heads loads its lanes
  of the query tile, runs its loop from nothing and stores its four heads' sums side by side.
-/
module

public import proofs.«01_k».proof.Proof.SampleIdeal.Loop

@[expose] public section

-- the stores' rectangles are looked at once per lane
set_option maxRecDepth 16384

noncomputable section

namespace Cert.SampleIdeal.Attn

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### What one group computes -/

/-- The positions of the tile's queries. -/
def qposOf (i : grid0.Coords) : IVec S16x1 32 := k0_pay21 (BitVec.ofNat 32 (i 1).val)

/-- A group's queries with every lane outside head `h` set to zero. -/
def headQ (h : Fin 4) (x : Vec F S1x16x256 .bf16) : FVec F S16x256 .bf16 :=
  match h with
  | 0 => k0_pay17 x
  | 1 => k0_pay18 x
  | 2 => k0_pay19 x
  | 3 => k0_pay20 (k0_pay14 x) k0_pay15 (k0_pay16 (F := F)) 3#32

/-- Each head's lanes of its own sum, side by side. -/
def merge (a0 a1 a2 a3 : FVec F S16x256 .f32) : Vec F S1x16x256 .bf16 := k0_pay37 k0_pay28 a0 a1 a2 a3

/-- A group's loop, from nothing. -/
def sums (i : grid0.Coords) (x : Vec F S1x16x256 .bf16) (T : Vec F S512x512 .bf16) (kb vb : BitVec 32 → Vec F S1x512x256 .bf16) : Carried F :=
  loop i (qposOf i) (headQ 0 x) (headQ 1 x) (headQ 2 x) (headQ 3 x) T kb vb 4
    (jAt 4, 1#32, k0_pay62, k0_pay63, k0_pay62, k0_pay63, k0_pay62, k0_pay63, k0_pay62, k0_pay63)

/-- What a group stores. -/
def group (i : grid0.Coords) (x : Vec F S1x16x256 .bf16) (T : Vec F S512x512 .bf16) (kb vb : BitVec 32 → Vec F S1x512x256 .bf16) :
    Vec F S1x16x256 .bf16 :=
  merge (sums i x T kb vb).2.2.1 (sums i x T kb vb).2.2.2.2.1 (sums i x T kb vb).2.2.2.2.2.2.1 (sums i x T kb vb).2.2.2.2.2.2.2.2.1

/-! ### The groups' own spellings -/

section
variable (a : BitVec 32) (v : Vec F S1x16x256 .bf16) (a0 a1 a2 a3 : FVec F S16x256 .f32)
theorem q0_1 : k0_pay17 v = headQ 0 v := rfl
theorem q1_1 : k0_pay18 v = headQ 1 v := rfl
theorem q2_1 : k0_pay19 v = headQ 2 v := rfl
theorem q3_1 : k0_pay20 (k0_pay14 v) k0_pay15 (k0_pay16 (F := F)) 3#32 = headQ 3 v := rfl
theorem q0_2 : k0_pay30 v = headQ 0 v := rfl
theorem q1_2 : k0_pay31 (k0_pay27 v) k0_pay28 (k0_pay29 (F := F)) = headQ 1 v := rfl
theorem q2_2 : k0_pay32 (k0_pay27 v) k0_pay28 (k0_pay29 (F := F)) = headQ 2 v := rfl
theorem q3_2 : k0_pay33 (k0_pay27 v) k0_pay28 (k0_pay29 (F := F)) = headQ 3 v := rfl
theorem q0_3 : k0_pay44 (k0_pay38 v) k0_pay39 k0_pay40 k0_pay41 = headQ 0 v := rfl
theorem q1_3 : k0_pay45 (k0_pay38 v) k0_pay39 k0_pay40 k0_pay41 = headQ 1 v := rfl
theorem q2_3 : k0_pay46 (k0_pay38 v) k0_pay39 k0_pay40 k0_pay41 = headQ 2 v := rfl
theorem q3_3 : k0_pay47 (k0_pay38 v) k0_pay39 k0_pay40 k0_pay41 = headQ 3 v := rfl
theorem q0_4 : k0_pay57 (k0_pay52 v) (iota .tc S1x256 32 [1] iota_S1x256_d1_w32) 64#32 k0_pay53 k0_pay54 0#32 = headQ 0 v := rfl
theorem q1_4 : k0_pay58 (k0_pay52 v) (iota .tc S1x256 32 [1] iota_S1x256_d1_w32) 64#32 k0_pay53 k0_pay54 0#32 = headQ 1 v := rfl
theorem q2_4 : k0_pay59 (k0_pay52 v) (iota .tc S1x256 32 [1] iota_S1x256_d1_w32) 64#32 k0_pay53 k0_pay54 0#32 = headQ 2 v := rfl
theorem q3_4 : k0_pay60 (k0_pay52 v) (iota .tc S1x256 32 [1] iota_S1x256_d1_w32) 64#32 k0_pay53 k0_pay54 0#32 = headQ 3 v := rfl
theorem qp_2 : k0_pay34 a = k0_pay21 a := rfl
theorem qp_3 : k0_pay48 a = k0_pay21 a := rfl
theorem qp_4 : k0_pay61 a = k0_pay21 a := rfl
theorem z_1 : k0_pay22 (F := F) = k0_pay62 := rfl
theorem z_2 : k0_pay35 (F := F) = k0_pay62 := rfl
theorem z_3 : k0_pay49 (F := F) = k0_pay62 := rfl
theorem y_1 : k0_pay23 (F := F) = k0_pay63 := rfl
theorem y_2 : k0_pay36 (F := F) = k0_pay63 := rfl
theorem y_3 : k0_pay50 (F := F) = k0_pay63 := rfl
theorem m_1 : k0_pay26 k0_pay15 a2 a3 (k0_pay24 k0_pay15 a0 a1) (k0_pay25 k0_pay15) = merge a0 a1 a2 a3 := rfl
theorem m_2 : k0_pay37 k0_pay28 a0 a1 a2 a3 = merge a0 a1 a2 a3 := rfl
theorem m_3 : k0_pay51 (k0_pay42 k0_pay39 k0_pay40 k0_pay41) a0 a1 a2 a3 = merge a0 a1 a2 a3 := rfl
theorem m_4 : k0_pay1 (k0_pay64 (k0_pay55 (iota .tc S1x256 32 [1] iota_S1x256_d1_w32) 64#32 k0_pay53 k0_pay54 0#32) a0 a1 a2 a3)
    = merge a0 a1 a2 a3 := rfl
end

/-! ### What the body leaves -/

abbrev lane1 : Rect S1x16x1024 := Rect.unit (s := S1x16x1024) ![0, 0, 0] S1x16x256.size inb_S1x16x1024_S1x16x256_0_0_0
abbrev lane2 : Rect S1x16x1024 := Rect.unit (s := S1x16x1024) ![0, 0, 256] S1x16x256.size inb_S1x16x1024_S1x16x256_0_0_256
abbrev lane3 : Rect S1x16x1024 := Rect.unit (s := S1x16x1024) ![0, 0, 512] S1x16x256.size inb_S1x16x1024_S1x16x256_0_0_512
abbrev lane4 : Rect S1x16x1024 := Rect.unit (s := S1x16x1024) ![0, 0, 768] S1x16x256.size inb_S1x16x1024_S1x16x256_0_0_768
/-- The triangle, all of it. -/
abbrev tri (x3 : Vec F S512x512 .bf16) : Vec F S512x512 .bf16 :=
  View.ld x3 (Rect.unit (s := S512x512) ![0, 0] S512x512.size inb_S512x512_S512x512_0_0)

/-- The output block after the body: the four groups' stores. -/
def outBlock (i : grid0.Coords) (x0 : Vec F S1x16x1024 .bf16) (x1 x2 : Vec F S1x1040x1024 .bf16) (x3 : Vec F S512x512 .bf16) : Vec F S1x16x1024 .bf16 :=
  View.canon [⟨lane4, group i (View.ld x0 lane4) (tri x3) (blk4 i x1) (blk4 i x2)⟩,
    ⟨lane3, group i (View.ld x0 lane3) (tri x3) (blk3 i x1) (blk3 i x2)⟩,
    ⟨lane2, group i (View.ld x0 lane2) (tri x3) (blk2 i x1) (blk2 i x2)⟩,
    ⟨lane1, group i (View.ld x0 lane1) (tri x3) (blk1 i x1) (blk1 i x2)⟩]

/-- The four groups' lanes are all of the block. -/
theorem lanes_cover (p0 p1 p2 p3 : Vec F S1x16x256 .bf16) (y : S1x16x1024.Idx) :
    ∃ pc ∈ ([⟨lane4, p0⟩, ⟨lane3, p1⟩, ⟨lane2, p2⟩, ⟨lane1, p3⟩] : List (View.Piece (Elt F) S1x16x1024 .bf16)), y ∈ pc.1.set :=
  View.cover_of_tiled [⟨lane4, p0⟩, ⟨lane3, p1⟩, ⟨lane2, p2⟩, ⟨lane1, p3⟩] S1x16x256.size (by rfl) y

set_option maxHeartbeats 1000000 in
/-- The body's triple. -/
theorem sound_kernel (c : Dev nD) (E : Set ℕ) (i : grid0.Coords) (arg2 : Memref sig .tc .vmem S1x16x1024 .bf16) (harg2 : arg2.IsWhole)
    (arg3 : Memref sig .tc .vmem S1x1040x1024 .bf16) (harg3 : arg3.IsWhole) (arg4 : Memref sig .tc .vmem S1x1040x1024 .bf16) (harg4 : arg4.IsWhole)
    (arg5 : Memref sig .tc .vmem S512x512 .bf16) (harg5 : arg5.IsWhole) (arg6 : Memref sig .tc .vmem S1x16x1024 .bf16) (harg6 : arg6.IsWhole)
    (x0 : Vec F S1x16x1024 .bf16) (x1 x2 : Vec F S1x1040x1024 .bf16) (x3 : Vec F S512x512 .bf16) (K : PUnit → sProp 𝕄) :
    iprop(owns (c : Thread nD τ) arg2 fullShare x0 ∗ reads c arg3 arg4 arg5 x1 x2 x3 ∗ (∃ d, owns (c : Thread nD τ) arg6 fullShare d)
        ∗ (iprop(owns (c : Thread nD τ) arg2 fullShare x0 ∗ reads c arg3 arg4 arg5 x1 x2 x3
            ∗ owns (c : Thread nD τ) arg6 fullShare (outBlock i x0 x1 x2 x3)) -∗ K ⟨⟩))
      ⊢ wp frame (wpE (defs₀ (F := F)) 𝒱₀ c none) E (cc0_sb_attention i arg2 harg2 arg3 harg3 arg4 harg4 arg5 harg5 arg6 harg6) K := by
  simp only [cc0_sb_attention_eq_skeleton]; unfold cc0_sb_attention_skel
  simp only [k0_part9_eq_skeleton, k0_part9_skel, k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%f0, %hf0, H0⟩, HR, ⟨%d4, %f4, -, H4⟩, Hk⟩
  subst hf0
  sl_exec
  iapply (wp_call_spec 𝒱₀ (c : Thread nD τ) none E (spec c arg3 arg4 arg5 x1 x2 x3 _) 4 (fun u hu => by cases hu)
    (loop1_le c E i arg3 harg3 arg4 harg4 arg5 harg5 x1 x2 x3 (qposOf i) (headQ 0 (View.ld (arg2.view.read (Elt F) f0) lane1))
      (headQ 1 (View.ld (arg2.view.read (Elt F) f0) lane1)) (headQ 2 (View.ld (arg2.view.read (Elt F) f0) lane1))
      (headQ 3 (View.ld (arg2.view.read (Elt F) f0) lane1)) 4 le_rfl 1#32 k0_pay62 k0_pay63 k0_pay62 k0_pay63 k0_pay62 k0_pay63 k0_pay62 k0_pay63))
  rw [spec_apply]
  isplitl [HR]; · iexact HR
  iintro HR
  rcases hs1 : loop _ _ _ _ _ _ _ _ _ 4 _ with ⟨j1, l1, a10, r10, a11, r11, a12, r12, a13, r13⟩
  have hg1 : group i (View.ld (arg2.view.read (Elt F) f0) lane1) (tri x3) (blk1 i x1) (blk1 i x2) = merge a10 a11 a12 a13 := by
    unfold group; rw [show sums i (View.ld (arg2.view.read (Elt F) f0) lane1) (tri x3) (blk1 i x1) (blk1 i x2) = _ from hs1]
  clear hs1
  dsimp only
  sl_exec
  iapply (wp_call_spec 𝒱₀ (c : Thread nD τ) none E (spec c arg3 arg4 arg5 x1 x2 x3 _) 4 (fun u hu => by cases hu)
    (loop2_le c E i arg3 harg3 arg4 harg4 arg5 harg5 x1 x2 x3 (qposOf i) (headQ 0 (View.ld (arg2.view.read (Elt F) f0) lane2))
      (headQ 1 (View.ld (arg2.view.read (Elt F) f0) lane2)) (headQ 2 (View.ld (arg2.view.read (Elt F) f0) lane2))
      (headQ 3 (View.ld (arg2.view.read (Elt F) f0) lane2)) 4 le_rfl 1#32 k0_pay62 k0_pay63 k0_pay62 k0_pay63 k0_pay62 k0_pay63 k0_pay62 k0_pay63))
  rw [spec_apply]
  isplitl [HR]; · iexact HR
  iintro HR
  rcases hs2 : loop _ _ _ _ _ _ _ _ _ 4 _ with ⟨j2, l2, a20, r20, a21, r21, a22, r22, a23, r23⟩
  have hg2 : group i (View.ld (arg2.view.read (Elt F) f0) lane2) (tri x3) (blk2 i x1) (blk2 i x2) = merge a20 a21 a22 a23 := by
    unfold group; rw [show sums i (View.ld (arg2.view.read (Elt F) f0) lane2) (tri x3) (blk2 i x1) (blk2 i x2) = _ from hs2]
  clear hs2
  dsimp only
  sl_exec
  iapply (wp_call_spec 𝒱₀ (c : Thread nD τ) none E (spec c arg3 arg4 arg5 x1 x2 x3 _) 4 (fun u hu => by cases hu)
    (loop3_le c E i arg3 harg3 arg4 harg4 arg5 harg5 x1 x2 x3 (qposOf i) (headQ 0 (View.ld (arg2.view.read (Elt F) f0) lane3))
      (headQ 1 (View.ld (arg2.view.read (Elt F) f0) lane3)) (headQ 2 (View.ld (arg2.view.read (Elt F) f0) lane3))
      (headQ 3 (View.ld (arg2.view.read (Elt F) f0) lane3)) 4 le_rfl 1#32 k0_pay62 k0_pay63 k0_pay62 k0_pay63 k0_pay62 k0_pay63 k0_pay62 k0_pay63))
  rw [spec_apply]
  isplitl [HR]; · iexact HR
  iintro HR
  rcases hs3 : loop _ _ _ _ _ _ _ _ _ 4 _ with ⟨j3, l3, a30, r30, a31, r31, a32, r32, a33, r33⟩
  have hg3 : group i (View.ld (arg2.view.read (Elt F) f0) lane3) (tri x3) (blk3 i x1) (blk3 i x2) = merge a30 a31 a32 a33 := by
    unfold group; rw [show sums i (View.ld (arg2.view.read (Elt F) f0) lane3) (tri x3) (blk3 i x1) (blk3 i x2) = _ from hs3]
  clear hs3
  dsimp only
  sl_exec
  iapply (wp_call_spec 𝒱₀ (c : Thread nD τ) none E (spec c arg3 arg4 arg5 x1 x2 x3 _) 4 (fun u hu => by cases hu)
    (loop4_le c E i arg3 harg3 arg4 harg4 arg5 harg5 x1 x2 x3 (qposOf i) (headQ 0 (View.ld (arg2.view.read (Elt F) f0) lane4))
      (headQ 1 (View.ld (arg2.view.read (Elt F) f0) lane4)) (headQ 2 (View.ld (arg2.view.read (Elt F) f0) lane4))
      (headQ 3 (View.ld (arg2.view.read (Elt F) f0) lane4)) 4 le_rfl 1#32 k0_pay62 k0_pay63 k0_pay62 k0_pay63 k0_pay62 k0_pay63 k0_pay62 k0_pay63))
  rw [spec_apply]
  isplitl [HR]; · iexact HR
  iintro HR
  rcases hs4 : loop _ _ _ _ _ _ _ _ _ 4 _ with ⟨j4, l4, a40, r40, a41, r41, a42, r42, a43, r43⟩
  have hg4 : group i (View.ld (arg2.view.read (Elt F) f0) lane4) (tri x3) (blk4 i x1) (blk4 i x2) = merge a40 a41 a42 a43 := by
    unfold group; rw [show sums i (View.ld (arg2.view.read (Elt F) f0) lane4) (tri x3) (blk4 i x1) (blk4 i x2) = _ from hs4]
  clear hs4
  dsimp only
  sl_exec
  sl_step
  iapply Hk
  unfold outBlock
  rw [hg1, hg2, hg3, hg4]
  isplitl [H0]
  · iexists f0; isplitr; · ipureintro; rfl
    iexact H0
  isplitl [HR]; · iexact HR
  iexists _; isplitr
  swap; · iexact H4
  ipureintro
  exact View.read_writes_eq_canon _ _ _ (lanes_cover _ _ _ _)

end Cert.SampleIdeal.Attn

end
-- ==== Proof.SampleIdeal.Positions.lean ====
/-
  The positions of the attention kernel: which keys a trip's block holds, which of them a query looks at, when the loop
  goes on, and which lanes of a group belong to which head.
-/
module

public import proofs.«01_k».proof.Proof.SampleIdeal.TripValue
public import proofs.«01_k».proof.Proof.SampleIdeal.Body

@[expose] public section

set_option maxRecDepth 16384

noncomputable section

namespace Cert.SampleIdeal.Attn

open Cert.SampleIdeal Cert.SampleIdeal.Gen
open Stick (slt_small)
open Idealize.ShloMosaic

/-! ### Keys -/

/-- One past the last key of trip `t`'s block, in the tile `a`; zero when no key is left. Where trip `t`'s block starts is
    `hi a (t + 1)`. -/
def hi (a t : ℕ) : ℕ := 1024 + 16 * a + 16 - 512 * t

theorem hi_step (a t : ℕ) : hi a (t + 1) ≤ hi a t ∧ hi a t ≤ hi a (t + 1) + 512 := by unfold hi; omega

/-- The words of trip `t`, as numbers. -/
theorem words_tile : ∀ a : Fin 1, ∀ t : Fin 4, 0 < hi a.val t.val →
    Scalar.subi (Scalar.addi (Scalar.addi 1024#32 (Scalar.muli (BitVec.ofNat 32 a.val) 16#32)) 16#32) (Scalar.muli (BitVec.ofNat 32 t.val) 512#32)
        = BitVec.ofNat 32 (hi a.val t.val)
      ∧ Scalar.maxsi (Scalar.subi (Scalar.subi (Scalar.addi (Scalar.addi 1024#32 (Scalar.muli (BitVec.ofNat 32 a.val) 16#32)) 16#32)
          (Scalar.muli (BitVec.ofNat 32 t.val) 512#32)) 512#32) 0#32 = BitVec.ofNat 32 (hi a.val (t.val + 1)) := by
  decide

theorem start_tile : ∀ a : Fin 1, Scalar.addi 1024#32 (Scalar.muli (BitVec.ofNat 32 a.val) 16#32) = BitVec.ofNat 32 (1024 + 16 * a.val) := by
  decide

/-- A query at row `r` of the tile looks at the keys of trip `t`'s block that are before it. -/
theorem seen_at (i : grid0.Coords) (t : ℕ) (ht : t < 4) (h : 0 < hi (i 1).val t) (r : Fin 16) :
    Looks (seen i (qposOf i) (BitVec.ofNat 32 t)) r (hi (i 1).val (t + 1)) (min (1024 + 16 * (i 1).val + r.val) (hi (i 1).val t)) := by
  intro c
  have ha : (i 1).val < 1 := (i 1).isLt
  obtain ⟨w1, w2⟩ := forall_tile (p := fun a => ∀ t : Fin 4, 0 < hi a.val t.val → _ ∧ _) words_tile i ⟨t, ht⟩ h
  have w3 := forall_tile (p := fun a => _ = _) start_tile i
  have hz : ∀ t, hi (i 1).val t = hi 0 t := fun t => congrArg (hi · t) (by omega)
  have e : seen i (qposOf i) (BitVec.ofNat 32 t) (ix2 r c)
      = BitVec.ofBool ((BitVec.ofNat 32 (hi (i 1).val (t + 1)) + BitVec.ofNat 32 c.val).slt
        (if (BitVec.ofNat 32 (1024 + 16 * (i 1).val) + BitVec.ofNat 32 r.val).slt (BitVec.ofNat 32 (hi (i 1).val t))
          then BitVec.ofNat 32 (1024 + 16 * (i 1).val) + BitVec.ofNat 32 r.val else BitVec.ofNat 32 (hi (i 1).val t))) := by
    pointwise [seen, qposOf, k0_pay67, k0_pay21]
    unfold qEnd
    rw [w2, w1, hz, hz, show Scalar.addi 1024#32 (Scalar.muli 0#32 16#32) = 1024#32 from by decide]
    rfl
  have hr := r.isLt
  have hc := c.isLt
  have hh : ∀ t, hi (i 1).val t ≤ 2048 := by intro t; unfold hi; omega
  have h1 := hh t
  have h2 := hh (t + 1)
  rw [e, ← BitVec.ofNat_add, ← BitVec.ofNat_add, slt_small (by omega) (by omega)]
  by_cases hq : 1024 + 16 * (i 1).val + r.val < hi (i 1).val t
  · rw [if_pos (by simpa using hq), slt_small (by omega) (by omega), min_eq_left hq.le]
    by_cases hk : hi (i 1).val (t + 1) + c.val < 1024 + 16 * (i 1).val + r.val <;> simp [hk]
  · rw [if_neg (by simpa using hq), slt_small (by omega) (by omega), min_eq_right (by omega)]
    by_cases hk : hi (i 1).val (t + 1) + c.val < hi (i 1).val t <;> simp [hk]

/-- The loop goes on while keys are left. -/
theorem more_iff (i : grid0.Coords) (t : ℕ) (ht : t ≤ 4) : more i (BitVec.ofNat 32 t) 1#32 = 1#1 ↔ 0 < hi (i 1).val t := by
  have := forall_tile (p := fun a => ∀ t : Fin 5, Scalar.andi (Scalar.cmpi .slt (BitVec.ofNat 32 t.val) (let x : BitVec 32 := Scalar.subi (Scalar.addi (Scalar.addi (Scalar.addi 1024#32 (Scalar.muli (BitVec.ofNat 32 a.val) 16#32)) 16#32) 512#32) 1#32
    let sx : BitVec 32 := Scalar.subi (Scalar.extui (Scalar.cmpi .sgt x 0#32)) (Scalar.extui (Scalar.cmpi .slt x 0#32))
    let sd : BitVec 32 := Scalar.subi (Scalar.extui (Scalar.cmpi .sgt 512#32 0#32)) (Scalar.extui (Scalar.cmpi .slt 512#32 0#32))
    let up : BitVec 1 := Scalar.andi (Scalar.cmpi .ne sx sd) (Scalar.cmpi .ne (Scalar.remsi x 512#32) 0#32)
    Scalar.select up (Scalar.subi (Scalar.divsi x 512#32) 1#32) (Scalar.divsi x 512#32))) (Scalar.cmpi .sgt 1#32 0#32) = 1#1
      ↔ 0 < hi a.val t.val) (by decide) i ⟨t, by omega⟩
  exact this

/-! ### The blocks the trips load -/

theorem at_trip {t : ℕ} (ht : t < 4) : BitVec.ofNat 32 t = jAt (3 - t + 1) := by
  unfold jAt; congr 1; omega

/-- A key of a block is one of the batch's keys. -/
theorem key_lt (i : grid0.Coords) (t : ℕ) (c : Fin 512) : hi (i 1).val (t + 1) + c.val < 1040 := by
  have h : (i 1).val < 1 := (i 1).isLt
  have := c.isLt
  unfold hi; omega

/-- A window of keys and lanes read at an index. -/
theorem window_at (off : Fin 3 → ℕ) (s o : ℕ) (ho : off = ![0, s, o]) (inb : ∀ a, off a + S1x512x256.size a ≤ S1x1040x1024.size a)
    (x : Vec Ideal S1x1040x1024 .bf16) (c : Fin 512) (l : Fin 256) (hs : s + c.val < 1040) (hl : o + l.val < 1024) :
    View.ld x (Rect.unit (s := S1x1040x1024) off S1x512x256.size inb) (ix3 0 c l) = x (ix3 0 ⟨s + c.val, hs⟩ ⟨o + l.val, hl⟩) := by
  subst ho
  refine congrArg x (funext fun a => Fin.ext ?_)
  fin_cases a
  · rfl
  · show s + 1 * c.val = s + c.val; rw [one_mul]
  · show o + 1 * l.val = o + l.val; rw [one_mul]

/-- The row a trip's block starts at, as the program spells it. -/
theorem row_word (i : grid0.Coords) (t : ℕ) (ht : t < 4) (h : 0 < hi (i 1).val t) :
    (Scalar.maxsi (Scalar.subi (Scalar.subi (Scalar.addi (Scalar.addi 1024#32 (Scalar.muli (BitVec.ofNat 32 (i 1).val) 16#32)) 16#32)
      (Scalar.muli (BitVec.ofNat 32 t) 512#32)) 512#32) 0#32).toNat = hi (i 1).val (t + 1) := by
  obtain ⟨_, w2⟩ := forall_tile (p := fun a => ∀ t : Fin 4, 0 < hi a.val t.val → _ ∧ _) words_tile i ⟨t, ht⟩ h
  rw [w2, BitVec.toNat_ofNat, Nat.mod_eq_of_lt (by have : (i 1).val < 1 := (i 1).isLt; unfold hi; omega)]

/-- Group 1's block of trip `t`. -/
theorem blk1_at (i : grid0.Coords) (t : ℕ) (ht : t < 4) (h : 0 < hi (i 1).val t) (x : Vec Ideal S1x1040x1024 .bf16) (c : Fin 512) (l : Fin 256) :
    blk1 (F := Ideal) i x (BitVec.ofNat 32 t) (ix3 0 c l)
      = x (ix3 0 ⟨hi (i 1).val (t + 1) + c.val, key_lt i t c⟩ ⟨0 + l.val, by omega⟩) := by
  have hc : k0_chk1 i (BitVec.ofNat 32 t) := by rw [at_trip ht]; exact chk1 (by omega) i
  have ho : k0_off1 i (BitVec.ofNat 32 t) = ![0, hi (i 1).val (t + 1), 0] := by
    rw [← row_word i t ht h]; rfl
  unfold blk1
  rw [dif_pos hc]
  exact window_at _ _ _ ho _ x c l _ _

/-- Group 2's block of trip `t`. -/
theorem blk2_at (i : grid0.Coords) (t : ℕ) (ht : t < 4) (h : 0 < hi (i 1).val t) (x : Vec Ideal S1x1040x1024 .bf16) (c : Fin 512) (l : Fin 256) :
    blk2 (F := Ideal) i x (BitVec.ofNat 32 t) (ix3 0 c l)
      = x (ix3 0 ⟨hi (i 1).val (t + 1) + c.val, key_lt i t c⟩ ⟨256 + l.val, by omega⟩) := by
  have hc : k0_chk2 i (BitVec.ofNat 32 t) := by rw [at_trip ht]; exact chk2 (by omega) i
  have ho : k0_off2 i (BitVec.ofNat 32 t) = ![0, hi (i 1).val (t + 1), 256] := by
    rw [← row_word i t ht h]; rfl
  unfold blk2
  rw [dif_pos hc]
  exact window_at _ _ _ ho _ x c l _ _

/-- Group 3's block of trip `t`. -/
theorem blk3_at (i : grid0.Coords) (t : ℕ) (ht : t < 4) (h : 0 < hi (i 1).val t) (x : Vec Ideal S1x1040x1024 .bf16) (c : Fin 512) (l : Fin 256) :
    blk3 (F := Ideal) i x (BitVec.ofNat 32 t) (ix3 0 c l)
      = x (ix3 0 ⟨hi (i 1).val (t + 1) + c.val, key_lt i t c⟩ ⟨512 + l.val, by omega⟩) := by
  have hc : k0_chk3 i (BitVec.ofNat 32 t) := by rw [at_trip ht]; exact chk3 (by omega) i
  have ho : k0_off3 i (BitVec.ofNat 32 t) = ![0, hi (i 1).val (t + 1), 512] := by
    rw [← row_word i t ht h]; rfl
  unfold blk3
  rw [dif_pos hc]
  exact window_at _ _ _ ho _ x c l _ _

/-- Group 4's block of trip `t`. -/
theorem blk4_at (i : grid0.Coords) (t : ℕ) (ht : t < 4) (h : 0 < hi (i 1).val t) (x : Vec Ideal S1x1040x1024 .bf16) (c : Fin 512) (l : Fin 256) :
    blk4 (F := Ideal) i x (BitVec.ofNat 32 t) (ix3 0 c l)
      = x (ix3 0 ⟨hi (i 1).val (t + 1) + c.val, key_lt i t c⟩ ⟨768 + l.val, by omega⟩) := by
  have hc : k0_chk4 i (BitVec.ofNat 32 t) := by rw [at_trip ht]; exact chk4 (by omega) i
  have ho : k0_off4 i (BitVec.ofNat 32 t) = ![0, hi (i 1).val (t + 1), 768] := by
    rw [← row_word i t ht h]; rfl
  unfold blk4
  rw [dif_pos hc]
  exact window_at _ _ _ ho _ x c l _ _

/-! ### The lanes of a head -/

/-- The head a lane of a group belongs to. -/
theorem head_of_lane : ∀ l : Fin 256, k0_pay28 (ix2 0 l) = BitVec.ofNat 32 (l.val / 64) := by
  intro l
  pointwise [k0_pay28]
  revert l
  decide

theorem lane_eq (l : Fin 256) (h : Fin 4) : BitVec.ofNat 32 (l.val / 64) = BitVec.ofNat 32 h.val ↔ l.val / 64 = h.val := by
  have := l.isLt
  have := h.isLt
  constructor
  · intro e
    have := congrArg BitVec.toNat e
    simp only [BitVec.toNat_ofNat] at this
    omega
  · intro e; rw [e]

theorem headQ_at (x : FVec Ideal S1x16x256 .bf16) (h : Fin 4) (r : Fin 16) (l : Fin 256) :
    headQ (F := Ideal) h x (ix2 r l) = if l.val / 64 = h.val then x (ix3 0 r l) else 0 := by
  have e : headQ (F := Ideal) h x (ix2 r l)
      = Scalar.select (IntOp.cmpi .eq (k0_pay28 (ix2 0 l)) (BitVec.ofNat 32 h.val)) (x (ix3 0 r l)) (0 : EReal) := by
    fin_cases h
    · show k0_pay17 (F := Ideal) x (ix2 r l) = _
      pointwise [k0_pay17, k0_pay14, k0_pay16]; rfl
    · show k0_pay18 (F := Ideal) x (ix2 r l) = _
      pointwise [k0_pay18, k0_pay14, k0_pay16]; rfl
    · show k0_pay19 (F := Ideal) x (ix2 r l) = _
      pointwise [k0_pay19, k0_pay14, k0_pay16]; rfl
    · show k0_pay20 (k0_pay14 (F := Ideal) x) k0_pay15 (k0_pay16 (F := Ideal)) 3#32 (ix2 r l) = _
      pointwise [k0_pay20, k0_pay14, k0_pay16]; rfl
  rw [e, head_of_lane]
  show (if BitVec.ofBool (BitVec.ofNat 32 (l.val / 64) == BitVec.ofNat 32 h.val) = 1 then _ else _) = _
  by_cases hl : l.val / 64 = h.val
  · rw [if_pos hl, hl]; simp
  · have hb : (BitVec.ofNat 32 (l.val / 64) == BitVec.ofNat 32 h.val) = false := by
      simpa using fun e => hl ((lane_eq l h).1 e)
    rw [if_neg hl, hb]; rfl

/-- Side by side, each lane is its own head's. -/
theorem merge_at (a : Fin 4 → FVec Ideal S16x256 .f32) (h : Fin 4) (r : Fin 16) (l : Fin 256) (hl : l.val / 64 = h.val) :
    merge (F := Ideal) (a 0) (a 1) (a 2) (a 3) (ix3 0 r l) = a h (ix2 r l) := by
  pointwise [merge, k0_pay37]
  rw [head_of_lane, hl]
  fin_cases h <;> rfl

end Cert.SampleIdeal.Attn

end
-- ==== Proof.SampleIdeal.LoopValue.lean ====
/-
  The loop of one group of heads over the extended reals: each trip moves the boundary down by a block of keys, and the
  loop ends when no key is left, so that every query has then met all the keys before it. With real scores the running
  sums stay real numbers, so that the loop never ends early.
-/
module

public import proofs.«01_k».proof.Proof.SampleIdeal.Positions

@[expose] public section

set_option maxRecDepth 16384

noncomputable section

namespace Cert.SampleIdeal.Attn

open Cert.SampleIdeal Cert.SampleIdeal.Gen
open Idealize.ShloMosaic
open Stick (abs_coe min_coe max_coe coe_ite coe_sum slt_small)

/-- The heads' weighted sums among what the loop carries. -/
def accOf (s : Carried Ideal) (h : Fin 4) : FVec Ideal S16x256 .f32 :=
  match h with
  | 0 => s.2.2.1
  | 1 => s.2.2.2.2.1
  | 2 => s.2.2.2.2.2.2.1
  | 3 => s.2.2.2.2.2.2.2.2.1

/-- The heads' running sums among what the loop carries. -/
def runOf (s : Carried Ideal) (h : Fin 4) : FVec Ideal S16x1 .f32 :=
  match h with
  | 0 => s.2.2.2.1
  | 1 => s.2.2.2.2.2.1
  | 2 => s.2.2.2.2.2.2.2.1
  | 3 => s.2.2.2.2.2.2.2.2.2

section
variable (i : grid0.Coords) (x : Vec Ideal S1x16x256 .bf16) (T : Vec Ideal S512x512 .bf16)
  (kb vb : BitVec 32 → Vec Ideal S1x512x256 .bf16) (ζ : Fin 4 → Fin 16 → ℕ → ℝ) (v : Fin 256 → ℕ → EReal)

/-- The group's loop. -/
abbrev groupLoop (n : ℕ) (s : Carried Ideal) : Carried Ideal :=
  loop i (qposOf i) (headQ 0 x) (headQ 1 x) (headQ 2 x) (headQ 3 x) T kb vb n s

/-- The group's trip. -/
abbrev groupTrip (s : Carried Ideal) : Carried Ideal :=
  trip i (qposOf i) (headQ 0 x) (headQ 1 x) (headQ 2 x) (headQ 3 x) T kb vb s

theorem trip_acc (s : Carried Ideal) (h : Fin 4) : accOf (groupTrip i x T kb vb s) h
    = accNext (headQ h x) (kb s.1) (vb s.1) T (seen i (qposOf i) s.1) (accOf s h) (runOf s h) := by
  fin_cases h <;> rfl

theorem trip_run (s : Carried Ideal) (h : Fin 4) : runOf (groupTrip i x T kb vb s) h
    = runNext (headQ h x) (kb s.1) (seen i (qposOf i) s.1) (runOf s h) := by
  fin_cases h <;> rfl

theorem trip_live (s : Carried Ideal) : (groupTrip i x T kb vb s).2.1
    = alive (runOf (groupTrip i x T kb vb s) 0) (runOf (groupTrip i x T kb vb s) 1) (runOf (groupTrip i x T kb vb s) 2)
        (runOf (groupTrip i x T kb vb s) 3) := rfl

theorem trip_number (s : Carried Ideal) : (groupTrip i x T kb vb s).1 = Scalar.addi s.1 1#32 := rfl

/-- A query's position. -/
abbrev pos (r : Fin 16) : ℕ := 1024 + 16 * (i 1).val + r.val

/-- What the loop carries before trip `t`: what the keys from the boundary on leave, and their weighted values. -/
structure Inv (t : ℕ) (s : Carried Ideal) : Prop where
  number : s.1 = BitVec.ofNat 32 t
  live : s.2.1 = 1#32
  run : ∀ h r, runOf s h (ix2 r 0) = ((Stick.left (ζ h r) (hi (i 1).val t) (pos i r) : ℝ) : EReal)
  acc : ∀ h r l, accOf s h (ix2 r l) = Stick.attend (ζ h r) (v l) (hi (i 1).val t) (pos i r)

/-- The blocks the trips load hold the scores `ζ` and the values `v`. -/
structure Blocks : Prop where
  scores : ∀ t, t < 4 → 0 < hi (i 1).val t → ∀ h r, Scores (headQ h x) (kb (BitVec.ofNat 32 t)) r (hi (i 1).val (t + 1)) (ζ h r)
  values : ∀ t, t < 4 → 0 < hi (i 1).val t → ∀ (c : Fin 512) (l : Fin 256), vb (BitVec.ofNat 32 t) (ix3 0 c l) = v l (hi (i 1).val (t + 1) + c.val)
  triangle : ∀ a b : Fin 512, T (ix2 a b) = if b.val < a.val then (1 : EReal) else 0

variable {i x T kb vb ζ v}

/-- A trip keeps it. -/
theorem Inv.step (B : Blocks i x T kb vb ζ v) {t : ℕ} (ht : t < 4) (h0 : 0 < hi (i 1).val t) {s : Carried Ideal}
    (I : Inv i ζ v t s) : Inv i ζ v (t + 1) (groupTrip i x T kb vb s) := by
  obtain ⟨s1, s2⟩ := hi_step (i 1).val t
  have hrun : ∀ h r, runOf (groupTrip i x T kb vb s) h (ix2 r 0)
      = ((Stick.left (ζ h r) (hi (i 1).val (t + 1)) (pos i r) : ℝ) : EReal) := by
    intro h r
    rw [trip_run, I.number, runNext_at (B.scores t ht h0 h r) (seen_at i t ht h0 r) (le_trans (min_le_right _ _) s2) (I.run h r),
      Stick.left_block _ s1]
  refine ⟨?_, ?_, hrun, fun h r l => ?_⟩
  · rw [trip_number, I.number]; exact (BitVec.ofNat_add t 1).symm
  · rw [trip_live]; exact alive_of_real _ _ _ _ _ (hrun 0 0)
  · rw [trip_acc, I.number, accNext_at (B.scores t ht h0 h r) (seen_at i t ht h0 r) s2 B.triangle (I.run h r) l (v l)
      (fun c => B.values t ht h0 c l), I.acc h r l, Stick.attend_block _ _ s1]

/-- When the loop is over every query has met all the keys before it. -/
theorem loop_value (B : Blocks i x T kb vb ζ v) : ∀ (n t : ℕ) (s : Carried Ideal), t + n = 4 → Inv i ζ v t s →
    ∀ h r l, accOf (groupLoop i x T kb vb n s) h (ix2 r l) = Stick.attend (ζ h r) (v l) 0 (pos i r) := by
  intro n
  induction n with
  | zero =>
    intro t s ht I h r l
    have h1 : (i 1).val < 1 := (i 1).isLt
    have e : hi (i 1).val t = 0 := by unfold hi; omega
    have := I.acc h r l
    rw [e] at this
    exact this
  | succ n ih =>
    intro t s ht I h r l
    have hm : more i s.1 s.2.1 = 1#1 ↔ 0 < hi (i 1).val t := by rw [I.number, I.live]; exact more_iff i t (by omega)
    by_cases h0 : 0 < hi (i 1).val t
    · have e : groupLoop i x T kb vb (n + 1) s = groupLoop i x T kb vb n (groupTrip i x T kb vb s) := by
        show (if more i s.1 s.2.1 = 1#1 then _ else _) = _
        rw [if_pos (hm.2 h0)]
      rw [e]
      exact ih (t + 1) _ (by omega) (I.step B (by omega) h0) h r l
    · have e : groupLoop i x T kb vb (n + 1) s = s := by
        show (if more i s.1 s.2.1 = 1#1 then _ else _) = _
        rw [if_neg (fun e => h0 (hm.1 e))]
      rw [e, I.acc h r l]
      have : hi (i 1).val t = 0 := by omega
      rw [this]

/-- Before the first trip. -/
theorem inv_start : Inv i ζ v 0 (jAt 4, 1#32, k0_pay62, k0_pay63, k0_pay62, k0_pay63, k0_pay62, k0_pay63, k0_pay62, k0_pay63) := by
  have z1 : ∀ r : Fin 16, (k0_pay63 (F := Ideal)) (ix2 r 0) = (0 : EReal) := by intro r; pointwise [k0_pay63]
  have z2 : ∀ (r : Fin 16) (l : Fin 256), (k0_pay62 (F := Ideal)) (ix2 r l) = (0 : EReal) := by intro r l; pointwise [k0_pay62]
  have hp : ∀ r : Fin 16, pos i r ≤ hi (i 1).val 0 := by intro r; have := r.isLt; unfold pos hi; omega
  refine ⟨rfl, rfl, fun h r => ?_, fun h r l => ?_⟩
  · rw [Stick.left_empty _ (hp r), EReal.coe_zero]; fin_cases h <;> exact z1 r
  · rw [Stick.attend_empty _ _ (hp r)]; fin_cases h <;> exact z2 r l

/-- What a group stores: each lane its head's stick-breaking sum over all the keys before the query. -/
theorem group_at (B : Blocks i x T kb vb ζ v) (h : Fin 4) (r : Fin 16) (l : Fin 256) (hl : l.val / 64 = h.val) :
    group i x T kb vb (ix3 0 r l) = Stick.attend (ζ h r) (v l) 0 (pos i r) := by
  have e := merge_at (accOf (sums i x T kb vb)) h r l hl
  exact e.trans (loop_value B 4 0 _ rfl inv_start h r l)

end

end Cert.SampleIdeal.Attn

end
-- ==== Proof.Stick.Cached.lean ====
/-
  The attention of new queries over cached and new keys, over the extended reals: the cached positions come first, the new
  ones after them, and a new query looks at every cached key and at the new keys before it.
-/
module

public import proofs.«01_k».proof.Proof.Stick.Sums
public import Idealize.ShloMosaic.Lib.IdealHost

@[expose] public section

noncomputable section

namespace Stick.Cached

open Idealize.ShloMosaic

/-- Batch, position, head, entry, of `n` positions. -/
abbrev Heads (n : ℕ) : Shape := ⟨4, ![32, n, 16, 64]⟩

/-- An array of heads read at a lane: lane `64·H + d` is head `H`'s entry `d`. -/
def entry {α : Type} (n : ℕ) [NeZero n] (A : (Heads n).Idx → α) (b : Fin 32) (k L : ℕ) : α :=
  A (ix4 b ⟨k % n, Nat.mod_lt _ (NeZero.pos n)⟩ ⟨L / 64 % 16, Nat.mod_lt _ (by decide)⟩ ⟨L % 64, Nat.mod_lt _ (by decide)⟩)

/-- Position `k` of the 1024 cached positions followed by the new ones. -/
def joined {α : Type} (P : (Heads 1024).Idx → α) (N : (Heads 16).Idx → α) (b : Fin 32) (k L : ℕ) : α :=
  if k < 1024 then entry 1024 P b k L else entry 16 N b (k - 1024) L

/-- The score of key `k` for the `r`-th new query, in the head whose lanes start at `o`. -/
def score (Q : (Heads 16).Idx → ℝ) (P : (Heads 1024).Idx → ℝ) (N : (Heads 16).Idx → ℝ) (b : Fin 32) (o r k : ℕ) : ℝ :=
  (∑ d : Fin 64, entry 16 Q b r (o + d.val) * joined P N b k (o + d.val)) * (1 / 8)

/-- The attention of the `r`-th new query, at lane `L`. -/
def attention (Q : (Heads 16).Idx → ℝ) (P : (Heads 1024).Idx → ℝ) (N : (Heads 16).Idx → ℝ) (VP : (Heads 1024).Idx → EReal)
    (VN : (Heads 16).Idx → EReal) (b : Fin 32) (r L : ℕ) : EReal :=
  attend (score Q P N b (64 * (L / 64)) r) (fun k => joined VP VN b k L) 0 (1024 + r)

/-- Head `h`'s entry `d` is lane `64·h + d`. -/
theorem entry_head {α : Type} (n : ℕ) [NeZero n] (A : (Heads n).Idx → α) (b : Fin 32) (k : Fin n) (h : Fin 16) (d : Fin 64) :
    entry n A b k.val (64 * h.val + d.val) = A (ix4 b k h d) := by
  have hh := h.isLt; have hd := d.isLt
  unfold entry
  refine congrArg A ?_
  congr 1
  · exact Fin.ext (Nat.mod_eq_of_lt k.isLt)
  all_goals exact Fin.ext (by dsimp only; omega)

/-- An array of heads flattened to lanes, read at a lane. -/
theorem entry_lane {α : Type} (n : ℕ) [NeZero n] (A : (Heads n).Idx → α) (b : Fin 32) (k : Fin n) (L : Fin 1024) (h1 : L.val / 64 < 16) (h2 : L.val % 64 < 64) :
    A (ix4 b k ⟨L.val / 64, h1⟩ ⟨L.val % 64, h2⟩) = entry n A b k.val L.val := by
  unfold entry
  refine congrArg A ?_
  congr 1
  · exact Fin.ext (Nat.mod_eq_of_lt k.isLt).symm
  all_goals exact Fin.ext (by dsimp only; omega)

/-- Mapping the entries maps the joined array's. -/
theorem joined_map {α β : Type} (f : α → β) (P : (Heads 1024).Idx → α) (N : (Heads 16).Idx → α) (b : Fin 32) (k L : ℕ) :
    joined (fun j => f (P j)) (fun j => f (N j)) b k L = f (joined P N b k L) := by
  unfold joined
  split <;> rfl

end Stick.Cached

end
-- ==== Proof.SampleIdeal.Block.lean ====
/-
  The output block of a grid point over the extended reals: from the tile's queries, the batch's cached and new keys and
  values and the triangle, every lane is the stick-breaking sum of its own head.
-/
module

public import proofs.«01_k».proof.Proof.SampleIdeal.LoopValue
public import proofs.«01_k».proof.Proof.Stick.Cached
public import Idealize.ShloMosaic.Lib.FinSumWindow
public import Idealize.ShloMosaic.Lib.Pipeline.ValueKit

@[expose] public section

set_option maxRecDepth 16384

noncomputable section

namespace Cert.SampleIdeal.Attn

open Cert.SampleIdeal Cert.SampleIdeal.Gen
open Idealize.ShloMosaic
open Stick (abs_coe min_coe max_coe coe_ite coe_sum slt_small)
open Stick.Cached (Heads entry joined score attention)

/-! ### A head's product over its group's lanes -/

/-- The lanes outside head `h` being zero, the product over a group's lanes is head `h`'s scaled product. -/
theorem head_product (f g : ℕ → ℝ) (G h : Fin 4) :
    (∑ l : Fin 256, (if l.val / 64 = h.val then ((f (256 * G.val + l.val) * (1 / 8) : ℝ) : EReal) else 0) * ((g (256 * G.val + l.val) : ℝ) : EReal))
      = (((∑ d : Fin 64, f (256 * G.val + 64 * h.val + d.val) * g (256 * G.val + 64 * h.val + d.val)) * (1 / 8) : ℝ) : EReal) := by
  have hh := h.isLt
  rw [FinSumWindow.sum_window (64 * h.val) (W := 64) (by omega) _ (by
    intro l hl
    rw [if_neg (by omega), zero_mul]), Finset.sum_mul, coe_sum]
  refine Finset.sum_congr rfl fun d _ => ?_
  have hd := d.isLt
  rw [if_pos (by show (64 * h.val + d.val) / 64 = h.val; omega), ← EReal.coe_mul]
  refine congrArg _ ?_
  show f (256 * G.val + (64 * h.val + d.val)) * (1 / 8) * g (256 * G.val + (64 * h.val + d.val)) = _
  rw [← Nat.add_assoc]; ring

/-- A query's row among the new queries. -/
abbrev row (i : grid0.Coords) (r : Fin 16) : ℕ := 16 * (i 1).val + r.val

/-! ### What a tile's blocks hold -/

/-- The blocks of batch `b` and tile `a`: the scaled queries, the keys, the values and the strict triangle. -/
structure Tile (Q : (Heads 16).Idx → ℝ) (K : (Heads 1024).Idx → ℝ) (N : (Heads 16).Idx → ℝ) (V : (Heads 1024).Idx → EReal) (W : (Heads 16).Idx → EReal) (b : Fin 32) (a : ℕ)
    (x0 : Vec Ideal S1x16x1024 .bf16) (x1 x2 : Vec Ideal S1x1040x1024 .bf16) (x3 : Vec Ideal S512x512 .bf16) : Prop where
  queries : ∀ (r : Fin 16) (L : Fin 1024), x0 (ix3 0 r L) = ((entry 16 Q b (16 * a + r.val) L.val * (1 / 8) : ℝ) : EReal)
  keys : ∀ (k : Fin 1040) (L : Fin 1024), x1 (ix3 0 k L) = ((joined K N b k.val L.val : ℝ) : EReal)
  values : ∀ (k : Fin 1040) (L : Fin 1024), x2 (ix3 0 k L) = joined V W b k.val L.val
  triangle : ∀ s t : Fin 512, x3 (ix2 s t) = if t.val < s.val then (1 : EReal) else 0

section
variable {Q : (Heads 16).Idx → ℝ} {K : (Heads 1024).Idx → ℝ} {N : (Heads 16).Idx → ℝ} {V : (Heads 1024).Idx → EReal} {W : (Heads 16).Idx → EReal} {b : Fin 32} {i : grid0.Coords}
  {x0 : Vec Ideal S1x16x1024 .bf16} {x1 x2 : Vec Ideal S1x1040x1024 .bf16} {x3 : Vec Ideal S512x512 .bf16}

/-- A group's lanes of the query tile. -/
theorem lanes_at (o : ℕ) (inb : ∀ a, (![0, 0, o] : Fin 3 → ℕ) a + S1x16x256.size a ≤ S1x16x1024.size a)
    (x : Vec Ideal S1x16x1024 .bf16) (r : Fin 16) (l : Fin 256) (hl : o + l.val < 1024) :
    View.ld x (Rect.unit (s := S1x16x1024) ![0, 0, o] S1x16x256.size inb) (ix3 0 r l) = x (ix3 0 r ⟨o + l.val, hl⟩) := by
  refine congrArg x (funext fun a => Fin.ext ?_)
  fin_cases a
  · rfl
  · show 0 + 1 * r.val = r.val; omega
  · show o + 1 * l.val = o + l.val; omega

theorem tri_at (x : Vec Ideal S512x512 .bf16) (s t : Fin 512) : tri (F := Ideal) x (ix2 s t) = x (ix2 s t) := by
  refine congrArg x (funext fun a => Fin.ext ?_)
  fin_cases a
  · show 0 + 1 * s.val = s.val; omega
  · show 0 + 1 * t.val = t.val; omega

/-- A group's blocks hold its heads' scores and its lanes' values. -/
theorem group_blocks (G : Fin 4) (X : Tile Q K N V W b (i 1).val x0 x1 x2 x3) (x : Vec Ideal S1x16x256 .bf16) (kb vb : BitVec 32 → Vec Ideal S1x512x256 .bf16)
    (hx : ∀ (r : Fin 16) (l : Fin 256), x (ix3 0 r l) = x0 (ix3 0 r ⟨256 * G.val + l.val, by omega⟩))
    (hk : ∀ t, t < 4 → 0 < hi (i 1).val t → ∀ (c : Fin 512) (l : Fin 256), kb (BitVec.ofNat 32 t) (ix3 0 c l)
      = x1 (ix3 0 ⟨hi (i 1).val (t + 1) + c.val, key_lt i t c⟩ ⟨256 * G.val + l.val, by omega⟩))
    (hv : ∀ t, t < 4 → 0 < hi (i 1).val t → ∀ (c : Fin 512) (l : Fin 256), vb (BitVec.ofNat 32 t) (ix3 0 c l)
      = x2 (ix3 0 ⟨hi (i 1).val (t + 1) + c.val, key_lt i t c⟩ ⟨256 * G.val + l.val, by omega⟩)) :
    Blocks i x (tri x3) kb vb (fun h r k => score Q K N b (256 * G.val + 64 * h.val) (row i r) k)
      (fun l k => joined V W b k (256 * G.val + l.val)) where
  scores t ht h0 h r c := by
    dsimp only
    unfold score
    rw [← head_product (entry 16 Q b (row i r)) (joined K N b (hi (i 1).val (t + 1) + c.val)) G h]
    refine Finset.sum_congr rfl fun l _ => ?_
    rw [headQ_at, hx, X.queries, hk t ht h0, X.keys]
  values t ht h0 c l := by rw [hv t ht h0, X.values]
  triangle s t := by rw [tri_at, X.triangle]

/-- So each lane of a group is its head's attention. -/
theorem group_attention (G : Fin 4) (x : Vec Ideal S1x16x256 .bf16) (kb vb : BitVec 32 → Vec Ideal S1x512x256 .bf16)
    (B : Blocks i x (tri x3) kb vb (fun h r k => score Q K N b (256 * G.val + 64 * h.val) (row i r) k)
      (fun l k => joined V W b k (256 * G.val + l.val))) (r : Fin 16) (l : Fin 256) :
    group i x (tri x3) kb vb (ix3 0 r l) = attention Q K N V W b (row i r) (256 * G.val + l.val) := by
  have hl := l.isLt
  rw [group_at B ⟨l.val / 64, by omega⟩ r l rfl]
  unfold attention
  rw [show 64 * ((256 * G.val + l.val) / 64) = 256 * G.val + 64 * (l.val / 64) from by omega,
    show pos i r = 1024 + row i r from Nat.add_assoc _ _ _]

/-- The output block, at a row and a lane. -/
theorem outBlock_at (X : Tile Q K N V W b (i 1).val x0 x1 x2 x3) (y : S1x16x1024.Idx) :
    outBlock i x0 x1 x2 x3 y = attention Q K N V W b (16 * (i 1).val + (y 1).val) (y 2).val := by
  have g1 := fun r l => group_attention (Q := Q) (K := K) (N := N) (V := V) (W := W) (b := b) (0 : Fin 4) _ _ _ (group_blocks 0 X (View.ld x0 lane1) (blk1 i x1) (blk1 i x2)
    (fun r l => by rw [lanes_at]; rfl) (fun t ht h0 c l => by rw [blk1_at i t ht h0]; rfl) (fun t ht h0 c l => by rw [blk1_at i t ht h0]; rfl)) r l
  have g2 := fun r l => group_attention (Q := Q) (K := K) (N := N) (V := V) (W := W) (b := b) (1 : Fin 4) _ _ _ (group_blocks 1 X (View.ld x0 lane2) (blk2 i x1) (blk2 i x2)
    (fun r l => by rw [lanes_at]; rfl) (fun t ht h0 c l => by rw [blk2_at i t ht h0]; rfl) (fun t ht h0 c l => by rw [blk2_at i t ht h0]; rfl)) r l
  have g3 := fun r l => group_attention (Q := Q) (K := K) (N := N) (V := V) (W := W) (b := b) (2 : Fin 4) _ _ _ (group_blocks 2 X (View.ld x0 lane3) (blk3 i x1) (blk3 i x2)
    (fun r l => by rw [lanes_at]; rfl) (fun t ht h0 c l => by rw [blk3_at i t ht h0]; rfl) (fun t ht h0 c l => by rw [blk3_at i t ht h0]; rfl)) r l
  have g4 := fun r l => group_attention (Q := Q) (K := K) (N := N) (V := V) (W := W) (b := b) (3 : Fin 4) _ _ _ (group_blocks 3 X (View.ld x0 lane4) (blk4 i x1) (blk4 i x2)
    (fun r l => by rw [lanes_at]; rfl) (fun t ht h0 c l => by rw [blk4_at i t ht h0]; rfl) (fun t ht h0 c l => by rw [blk4_at i t ht h0]; rfl)) r l
  unfold outBlock
  have key : ∀ (p : Vec Ideal S1x16x256 .bf16) (G : Fin 4) (x : S1x16x256.Idx),
      (∀ (r : Fin 16) (l : Fin 256), p (ix3 0 r l) = attention Q K N V W b (row i r) (256 * G.val + l.val)) →
      (y 1).val = (x 1).val → (y 2).val = 256 * G.val + (x 2).val →
      p x = attention Q K N V W b (16 * (i 1).val + (y 1).val) (y 2).val := by
    intro p G x hp h1 h2
    have ex : x = ix3 0 (x 1) (x 2) := by
      funext a; fin_cases a
      · exact Subsingleton.elim (α := Fin 1) _ _
      · rfl
      · rfl
    rw [ex]
    refine (hp (x 1) (x 2)).trans ?_
    rw [h2, h1]
  canon_tiles x h
  case piece0 => exact key _ 3 x g4 h1 h2
  case piece1 => exact key _ 2 x g3 h1 h2
  case piece2 => exact key _ 1 x g2 h1 h2
  case piece3 => exact key _ 0 x g1 h1 (by rw [h2]; simp)

end

end Cert.SampleIdeal.Attn

end
-- ==== Proof.SampleIdeal.Run.lean ====
/-
  The attention kernel's launch: the host operations up to the grid, each window's block at a grid point, the proof data
  the pipeline is run with, and the run. Every grid point is the body's triple (Body.lean) at that point's blocks; the run
  leaves the five arguments as launched, every counter at zero, and the output array at what the points stored.
-/
module

public import proofs.«01_k».proof.Proof.SampleIdeal.Body
public import proofs.«01_k».proof.Proof.Gen.SampleIdeal.Launch
public import proofs.«01_k».proof.Proof.Gen.SampleIdeal.Points
public import Idealize.ShloMosaic.Lib.Claim

@[expose] public section

set_option maxRecDepth 16384

noncomputable section

namespace Cert.SampleIdeal.Attn

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### Up to the grid -/

/-- A core's buffers once the host operations before the grid have run. -/
abbrev atGrid (c : Dev nD) (b : Ref sig .tc) : Buf (Elt F) ((c : Thread nD τ).loc b) := StableHlo.after hostOps0 (fun b => m (c, b)) b

theorem hostOps_fresh : (hostOps0 : List (HloOp τ sig (Elt F))).Forall fun op => op.fresh = ∅ := by
  simp only [List.Forall]; repeat' constructor

set_option maxHeartbeats 800000 in
/-- The host operations, then the grid. -/
theorem hmain (v : Variants) : Pipeline.HMain (Ix := Unit) (Name := ℕ) (U := UR sig nD τ) (Lvl := ℕ) cfgs 0 defs₀ v m (main (F := F)) (atGrid m) :=
  Pipeline.hmain_prefix cfgs 0 defs₀ v m main hostOps0 hostOps0_sub hostOps_fresh main_chain

/-- No host operation writes argument 0. -/
theorem atGrid_arg0 (c : Dev nD) : atGrid m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-- No host operation writes argument 1. -/
theorem atGrid_arg1 (c : Dev nD) : atGrid m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-- No host operation writes argument 2. -/
theorem atGrid_arg2 (c : Dev nD) : atGrid m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-- No host operation writes argument 3. -/
theorem atGrid_arg3 (c : Dev nD) : atGrid m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-- No host operation writes argument 4. -/
theorem atGrid_arg4 (c : Dev nD) : atGrid m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-! ### The windows' blocks -/

/-- Window `w`'s block at point `t`. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (atGrid m c (Pipeline.arrRef spec0 w))

/-! ### The proof data -/

/-- At each point the four inputs' buffers keep their blocks and the output's holds the body's block. -/
def dats (_ : Fin 1) (c : Dev nD) : Dat τ (Elt F) Unit ℕ (UR sig nD τ) ℕ (cfg0 (F := F)) c where
  A w := atGrid m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outBlock (grid0.coords t) (blockAt m c 0 t) (blockAt m c 1 t) (blockAt m c 2 t) (blockAt m c 3 t)
  Φ _ := Pipeline.ΦA spec0 c
  q _ := fullShare
  owed _ := 0

theorem A_eq (c : Dev nD) (w : Fin (cfg0 (F := F)).W) : (dats m 0 c).A w = atGrid m c (Pipeline.arrRef spec0 w) := by
  dsimp only [dats]

theorem after_4 (c : Dev nD) (t : Fin (cfg0 (F := F)).N) : (dats m 0 c).after 4 t
    = outBlock (grid0.coords t) (blockAt m c 0 t) (blockAt m c 1 t) (blockAt m c 2 t) (blockAt m c 3 t) := by dsimp only [dats]; rfl

theorem after_0 (c : Dev nD) (t : Fin (cfg0 (F := F)).N) : (dats m 0 c).after 0 t = blockAt m c 0 t := by dsimp only [dats]; rfl

/-- Input 0's buffer holds its block at every point, fetched there or kept from the point before. -/
theorem before_0 (c : Dev nD) (t : Fin (cfg0 (F := F)).N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)

theorem after_1 (c : Dev nD) (t : Fin (cfg0 (F := F)).N) : (dats m 0 c).after 1 t = blockAt m c 1 t := by dsimp only [dats]; rfl

/-- Input 1's buffer holds its block at every point, fetched there or kept from the point before. -/
theorem before_1 (c : Dev nD) (t : Fin (cfg0 (F := F)).N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)

theorem after_2 (c : Dev nD) (t : Fin (cfg0 (F := F)).N) : (dats m 0 c).after 2 t = blockAt m c 2 t := by dsimp only [dats]; rfl

/-- Input 2's buffer holds its block at every point, fetched there or kept from the point before. -/
theorem before_2 (c : Dev nD) (t : Fin (cfg0 (F := F)).N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)

theorem after_3 (c : Dev nD) (t : Fin (cfg0 (F := F)).N) : (dats m 0 c).after 3 t = blockAt m c 3 t := by dsimp only [dats]; rfl

/-- Input 3's buffer holds its block at every point, fetched there or kept from the point before. -/
theorem before_3 (c : Dev nD) (t : Fin (cfg0 (F := F)).N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)

/-! ### The body at a point -/

/-- What the body is called with at point `t`, window by window, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body's triple at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (blockAt m c 0 t) (blockAt m c 1 t) (blockAt m c 2 t) (blockAt m c 3 t) _)
  isplitl [H0]; · iexact H0
  isplitl [H1 H2 H3]
  · unfold reads
    isplitl [H1]; · iexact H1
    isplitl [H2]; · iexact H2
    iexact H3
  isplitl [H4]; · iexists _; iexact H4
  unfold reads
  iintro ⟨H0, ⟨H1, H2, H3⟩, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

-- the run's implicit arguments are found by unifying its conclusion with this one
set_option backward.isDefEq.respectTransparency.types false in
set_option maxHeartbeats 800000 in
/-- The whole run: what the pipeline leaves, and every counter at zero. -/
theorem run_all : θ_run defs (onTc (τ := τ) (main (F := F))) (s₀ m ρ)
    (fun r => (Pipeline.FramePost cfgs (dats m) 0 (atGrid m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := atGrid m) (hmain := hmain m 𝒱₀) (hA := A_eq m) (hΦ := fun _ _ => rfl)

/-- The arguments end as launched. -/
theorem kept (r : _) (h : Pipeline.FramePost cfgs (dats m) 0 (atGrid m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (show ∀ w : Fin 5, (spec0 w).arr.view.ref ≠ main_arg0 by decide))).trans (atGrid_arg0 m c),
    ((h c).2 main_arg1 (Pipeline.mem_restRefs_of main_arg1 (by decide) (show ∀ w : Fin 5, (spec0 w).arr.view.ref ≠ main_arg1 by decide))).trans (atGrid_arg1 m c),
    ((h c).2 main_arg2 (Pipeline.mem_restRefs_of main_arg2 (by decide) (show ∀ w : Fin 5, (spec0 w).arr.view.ref ≠ main_arg2 by decide))).trans (atGrid_arg2 m c),
    ((h c).2 main_arg3 (Pipeline.mem_restRefs_of main_arg3 (by decide) (show ∀ w : Fin 5, (spec0 w).arr.view.ref ≠ main_arg3 by decide))).trans (atGrid_arg3 m c),
    ((h c).2 main_arg4 (Pipeline.mem_restRefs_of main_arg4 (by decide) (show ∀ w : Fin 5, (spec0 w).arr.view.ref ≠ main_arg4 by decide))).trans (atGrid_arg4 m c)⟩

/-- The output array at the end is what the grid's points left of it, and the arguments end as launched. -/
theorem run_out : θ_run defs (onTc (τ := τ) (main (F := F))) ⟨m, fun _ => 0, ρ⟩
    (fun r => ∀ c : Dev nD, r.2.mem ((c.tc : Thread nD τ).loc main_v18) = (dats m 0 c).arrAt 4 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 4, kept m r h.1 c⟩) (run_all m ρ)

/-- The frame: the arguments end as launched and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_all m ρ)

end Cert.SampleIdeal.Attn

end
-- ==== Proof.SampleIdeal.Array.lean ====
/-
  The output array of the launch over the extended reals: the host operations' arrays at an index, each grid point's
  blocks as a batch's tile, and the attention the points' blocks make up together.
-/
module

public import proofs.«01_k».proof.Proof.SampleIdeal.Block
public import proofs.«01_k».proof.Proof.SampleIdeal.Run
public import proofs.«01_k».proof.Proof.Stick.Attention

@[expose] public section

set_option maxRecDepth 16384

noncomputable section

namespace Cert.SampleIdeal.Attn

open Cert.SampleIdeal Cert.SampleIdeal.Gen
open Idealize.ShloMosaic Idealize.ShloMosaic.TcCoe Idealize.ShloMosaic.Tactic
open Idealize.ShloMosaic.Pipeline (Dat Cfg Window)
open Stick.Cached (Heads entry joined score attention entry_lane joined_map)
open Stick (slt_small)

variable (m : (ℓ : Loc nD τ sig) → Buf (Elt Ideal) ℓ) (c : Dev nD)

/-- The queries, the cached keys and values and the new ones as launched. -/
abbrev argQ : (Heads 16).Idx → EReal := m ((c : Thread nD τ).loc main_arg0)
abbrev argK : (Heads 1024).Idx → EReal := m ((c : Thread nD τ).loc main_arg1)
abbrev argV : (Heads 1024).Idx → EReal := m ((c : Thread nD τ).loc main_arg2)
abbrev argN : (Heads 16).Idx → EReal := m ((c : Thread nD τ).loc main_arg3)
abbrev argW : (Heads 16).Idx → EReal := m ((c : Thread nD τ).loc main_arg4)

/-! ### The host operations' arrays -/

/-- The scaled queries. -/
theorem queries_at (b : Fin 32) (s : Fin 16) (L : Fin 1024) :
    (atGrid m c main_v3 : Vec Ideal S32x16x1024 .bf16) (ix3 b s L)
      = entry 16 (argQ m c) b s.val L.val * (((1 : ℝ) / 8 : ℝ) : EReal) := by
  unfold atGrid
  entry_read
  pointwise
  rw [Stick.eighth]
  exact congrArg (· * _) (entry_lane 16 (argQ m c) b s L _ _)

/-- The keys, the cached before the new. -/
theorem keys_at (b : Fin 32) (s : Fin 1040) (L : Fin 1024) :
    (atGrid m c main_v10 : Vec Ideal S32x1040x1024 .bf16) (ix3 b s L) = joined (argK m c) (argN m c) b s.val L.val := by
  unfold atGrid
  entry_read
  unfold joined
  pointwise
  split
  · exact entry_lane 1024 (argK m c) b ⟨s.val, _⟩ L _ _
  · exact entry_lane 16 (argN m c) b ⟨s.val - 1024, _⟩ L _ _

/-- The values, the cached before the new. -/
theorem values_at (b : Fin 32) (s : Fin 1040) (L : Fin 1024) :
    (atGrid m c main_v13 : Vec Ideal S32x1040x1024 .bf16) (ix3 b s L) = joined (argV m c) (argW m c) b s.val L.val := by
  unfold atGrid
  entry_read
  unfold joined
  pointwise
  split
  · exact entry_lane 1024 (argV m c) b ⟨s.val, _⟩ L _ _
  · exact entry_lane 16 (argW m c) b ⟨s.val - 1024, _⟩ L _ _

/-- The strict triangle. -/
theorem triangle_at (s t : Fin 512) :
    (atGrid m c main_v17 : Vec Ideal S512x512 .bf16) (ix2 s t) = if t.val < s.val then (1 : EReal) else 0 := by
  unfold atGrid
  entry_read
  pointwise
  have hs := s.isLt; have ht := t.isLt
  have e : (BitVec.ofNat 32 t.val).slt (BitVec.ofNat 32 s.val) = decide (t.val < s.val) := by
    rw [slt_small (by omega) (by omega)]
  show (((BitVec.ofBool ((BitVec.ofNat 32 t.val).slt (BitVec.ofNat 32 s.val))).toNat : ℝ) : EReal) = _
  rw [e]
  by_cases h : t.val < s.val <;> simp [h]

/-! ### The windows -/

theorem index0 : ∀ t : Fin (cfg0 (F := Ideal)).N, win0_0.index t = ![(grid0.coords t 0).val, (grid0.coords t 1).val, 0] :=
  (by decide +kernel : ∀ t : Fin grid0.N, _)
theorem index1 : ∀ t : Fin (cfg0 (F := Ideal)).N, win0_1.index t = ![(grid0.coords t 0).val, 0, 0] :=
  (by decide +kernel : ∀ t : Fin grid0.N, _)
theorem index2 : ∀ t : Fin (cfg0 (F := Ideal)).N, win0_2.index t = ![(grid0.coords t 0).val, 0, 0] :=
  (by decide +kernel : ∀ t : Fin grid0.N, _)
theorem index3 : ∀ t : Fin (cfg0 (F := Ideal)).N, win0_3.index t = ![0, 0] :=
  (by decide +kernel : ∀ t : Fin grid0.N, _)
theorem index4 : ∀ t : Fin (cfg0 (F := Ideal)).N, win0_4.index t = ![(grid0.coords t 0).val, (grid0.coords t 1).val, 0] :=
  (by decide +kernel : ∀ t : Fin grid0.N, _)

theorem row_lt (i : grid0.Coords) (r : Fin 16) : 16 * (i 1).val + r.val < 16 := by
  have h : (i 1).val < 1 := (i 1).isLt
  have := r.isLt; omega

/-- Each point's blocks are its batch's and its tile's. -/
theorem tile (Q : (Heads 16).Idx → ℝ) (K : (Heads 1024).Idx → ℝ) (N : (Heads 16).Idx → ℝ) (hQ : ∀ j, argQ m c j = Q j)
    (hK : ∀ j, argK m c j = K j) (hN : ∀ j, argN m c j = N j) (t : Fin (cfg0 (F := Ideal)).N) :
    Tile Q K N (argV m c) (argW m c) ⟨(grid0.coords t 0).val, (grid0.coords t 0).isLt⟩ (grid0.coords t 1).val
      (blockAt m c 0 t) (blockAt m c 1 t) (blockAt m c 2 t) (blockAt m c 3 t) where
  queries r L := by
    have e : (win0_0.blk t).view.emb (ix3 0 r L : S1x16x1024.Idx)
        = (ix3 ⟨(grid0.coords t 0).val, (grid0.coords t 0).isLt⟩ ⟨16 * (grid0.coords t 1).val + r.val, row_lt _ r⟩ L : S32x16x1024.Idx) := by
      blk_ext [index0 t]
    unfold blockAt
    blk_simp
    refine (congrArg (atGrid m c main_v3) e).trans ((queries_at m c _ _ L).trans ?_)
    rw [show argQ m c = fun j => (Q j : EReal) from funext hQ, EReal.coe_mul]
    refine congrArg (· * (((1 : ℝ) / 8 : ℝ) : EReal)) (congrArg (fun s : ℕ => entry 16 (fun j => (Q j : EReal)) _ s L.val) ?_)
    show 16 * (grid0.coords t 1).val + r.val = _
    have h : (grid0.coords t 1).val < 1 := (grid0.coords t 1).isLt
    omega
  keys k L := by
    have e : (win0_1.blk t).view.emb (ix3 0 k L : S1x1040x1024.Idx)
        = (ix3 ⟨(grid0.coords t 0).val, (grid0.coords t 0).isLt⟩ k L : S32x1040x1024.Idx) := by
      blk_ext [index1 t]
    unfold blockAt
    blk_simp
    refine (congrArg (atGrid m c main_v10) e).trans ((keys_at m c _ _ L).trans ?_)
    rw [show argK m c = fun j => (K j : EReal) from funext hK, show argN m c = fun j => (N j : EReal) from funext hN]
    exact joined_map (fun r : ℝ => (r : EReal)) K N _ _ _
  values k L := by
    have e : (win0_2.blk t).view.emb (ix3 0 k L : S1x1040x1024.Idx)
        = (ix3 ⟨(grid0.coords t 0).val, (grid0.coords t 0).isLt⟩ k L : S32x1040x1024.Idx) := by
      blk_ext [index2 t]
    unfold blockAt
    blk_simp
    exact (congrArg (atGrid m c main_v13) e).trans (values_at m c _ _ L)
  triangle s u := by
    have e : (win0_3.blk t).view.emb (ix2 s u : S512x512.Idx) = (ix2 s u : S512x512.Idx) := by
      blk_ext [index3 t]
    unfold blockAt
    blk_simp
    exact (congrArg (atGrid m c main_v17) e).trans (triangle_at m c s u)

/-- The output array: the attention. -/
theorem output (Q : (Heads 16).Idx → ℝ) (K : (Heads 1024).Idx → ℝ) (N : (Heads 16).Idx → ℝ) (hQ : ∀ j, argQ m c j = Q j)
    (hK : ∀ j, argK m c j = K j) (hN : ∀ j, argN m c j = N j) :
    (dats m 0 c).arrAt 4 (cfg0 (F := Ideal)).N
      = fun y : S32x16x1024.Idx => attention Q K N (argV m c) (argW m c) (y 0) (y 1).val (y 2).val := by
  refine (dats m 0 c).arrAt_eq_of_covers 4 _ (by decide +kernel) fun t _ y => ?_
  blk_simp
  rw [after_4, outBlock_at (tile m c Q K N hQ hK hN t), index4]
  have e : (win0_4.blk t).view.emb y 0 = (⟨(grid0.coords t 0).val, (grid0.coords t 0).isLt⟩ : Fin 32) := by
    refine Fin.ext ?_
    blk_simp
    rw [index4]
    rfl
  rw [e]
  refine congr_arg₂ (attention Q K N (argV m c) (argW m c) _) ?_ ?_
  · show 16 * (grid0.coords t 1).val + (y 1).val = (grid0.coords t 1).val * 16 + (y 1).val
    omega
  · show (y 2).val = 0 * 1024 + (y 2).val
    omega

end Cert.SampleIdeal.Attn

end
-- ==== Proof.RefSampleIdeal.Value.lean ====
/-
  What the reference of the cached attention computes over the extended reals: its score, its two logarithms, its running sum from the right and
  its weights, each at an index; its result is the attention.
-/
module

public import proofs.«01_k».proof.Proof.Stick.Cached
public import proofs.«01_k».proof.Proof.Stick.Attention
public import proofs.«01_k».proof.Proof.Stick.Suffix
public import proofs.«01_k».proof.Proof.Stick.Reals
public import proofs.«01_k».proof.Proof.Gen.RefSampleIdeal.Run

@[expose] public section

set_option maxRecDepth 16384

noncomputable section

namespace Cert.RefSampleIdeal.Attn

open Cert.RefSampleIdeal Cert.RefSampleIdeal.Gen
open Idealize.ShloMosaic
open Stick.Cached (Heads entry joined score attention entry_head entry_lane)
open Stick (abs_coe max_coe coe_ite coe_sum slt_small)

/-! ### The reference's operations, by name -/

/-- An array of scores. -/
abbrev Scores : Type := FVec Ideal S32x16x16x1040 .f32

/-- One number everywhere. -/
abbrev all (w : BitVec 32) : Scores := broadcastInDim S32x16x16x1040 ![] bcast_S_S32x16x16x1040 (constant (F := Ideal) S_ .f32 w)

/-- The cached positions followed by the new ones. -/
def both (p : FVec Ideal S32x1024x16x64 .f32) (n : FVec Ideal S32x16x16x64 .f32) : FVec Ideal S32x1040x16x64 .f32 :=
  concatenate S32x1040x16x64 1 [⟨S32x1024x16x64, p⟩, ⟨S32x16x16x64, n⟩] concatenates_S32x1024x16x64_S32x16x16x64_S32x1040x16x64_d1

/-- The scaled scores. -/
def scores (q : FVec Ideal S32x16x16x64 .f32) (k : FVec Ideal S32x1040x16x64 .f32) : Scores :=
  mulf (Host.dotGeneral dot_S32x16x16x64_S32x1040x16x64_S32x16x16x1040_3_3_1_1_02_02 none q k) (all 0x3E000000#32)

/-- `log(1 + exp x)` as it is spelt. -/
def softplus (x : Scores) : Scores :=
  select (cmpf .une (subf x (all 0x00000000#32)) (subf x (all 0x00000000#32))) (addf x (all 0x00000000#32))
    (addf (maximumf x (all 0x00000000#32)) (Host.log1p (Host.exp (Host.negf (Host.absf (subf x (all 0x00000000#32)))))))

/-- The keys before the query, whose position is 1024 past its own. -/
def before : IVec S32x16x16x1040 1 :=
  broadcastInDim S32x16x16x1040 ![2, 3] bcast_S16x1040_S32x16x16x1040_2_3 (cmpi .slt
    (broadcastInDim S16x1040 ![0, 1] bcast_S1x1040_S16x1040_0_1 (broadcastInDim S1x1040 ![1] bcast_S1040_S1x1040_1 (iotaInDim S1040 32 0)))
    (broadcastInDim S16x1040 ![0, 1] bcast_S16x1_S16x1040_0_1 (broadcastInDim S16x1 ![0] bcast_S16_S16x1_0
      (addi (broadcastInDim S16 ![] bcast_S_S16 (constantI S_ 32 1024#32)) (iotaInDim S16 32 0)))))

/-- The logarithm of what each key leaves, zero at the keys not before the query. -/
def logNots (z : Scores) : Scores := select before (Host.negf (softplus (Host.negf (Host.negf z)))) (all 0x00000000#32)

/-- The sum from each key on. -/
def running (x : Scores) : Scores :=
  Host.reduceWindowAdd ![1, 1, 1, 1040] ![1, 1, 1, 1] ![0, 0, 0, 0] ![0, 0, 0, 1039] x
    (broadcastInDim S_ ![] bcast_S_S_ (constant (F := Ideal) S_ .f32 0x00000000#32))
    reduceWindows_S32x16x16x1040_S32x16x16x1040_w1s1p0_0_w1s1p0_0_w1s1p0_0_w1040s1p0_1039 h_S_

/-- The weights. -/
def weights (z : Scores) : Scores :=
  select before (Host.exp (addf (Host.negf (softplus (Host.negf z))) (subf (running (logNots z)) (logNots z)))) (all 0x00000000#32)

/-- The result, the heads side by side. -/
def result (v : FVec Ideal S32x1040x16x64 .f32) (a : Scores) : FVec Ideal S32x16x1024 .bf16 :=
  truncf .bf16 (shapeCast _ (transpose S32x16x16x64 [0, 3, 1, 2]
    (Host.dotGeneral dot_S32x1040x16x64_S32x16x16x1040_S32x16x64x16_1_3_3_2_02_01 none v a)
    transposes_S32x16x64x16_S32x16x16x64_0_3_1_2) shapeCasts_S32x16x16x64_S32x16x1024) bitsLt_bf16_f32

/-- The run's result is these operations'. -/
theorem result_eq (m : (ℓ : Loc nD τ sig) → Buf (Elt Ideal) ℓ) (c : Dev nD) :
    Value.res_main_v26 m c = result (both (m ((c.tc : Thread nD τ).loc main_arg2)) (m ((c.tc : Thread nD τ).loc main_arg4)))
      (weights (scores (m ((c.tc : Thread nD τ).loc main_arg0))
        (both (m ((c.tc : Thread nD τ).loc main_arg1)) (m ((c.tc : Thread nD τ).loc main_arg3))))) := rfl

/-! ### Each at an index -/

theorem both_at (p : FVec Ideal S32x1024x16x64 .f32) (n : FVec Ideal S32x16x16x64 .f32) (b : Fin 32) (k : Fin 1040) (h : Fin 16) (d : Fin 64) :
    both p n (ix4 b k h d) = joined p n b k.val (64 * h.val + d.val) := by
  unfold both joined
  pointwise
  split
  · exact (entry_head 1024 p b ⟨k.val, _⟩ h d).symm
  · exact (entry_head 16 n b ⟨k.val - 1024, _⟩ h d).symm

theorem scores_at (q : FVec Ideal S32x16x16x64 .f32) (kp : FVec Ideal S32x1024x16x64 .f32) (kn : FVec Ideal S32x16x16x64 .f32)
    (Q : (Heads 16).Idx → ℝ) (K : (Heads 1024).Idx → ℝ) (N : (Heads 16).Idx → ℝ) (hq : ∀ j, q j = (Q j : EReal))
    (hk : ∀ j, kp j = (K j : EReal)) (hn : ∀ j, kn j = (N j : EReal)) (b : Fin 32) (h p : Fin 16) (j : Fin 1040) :
    scores q (both kp kn) (ix4 b h p j) = ((score Q K N b (64 * h.val) p.val j.val : ℝ) : EReal) := by
  unfold scores
  pointwise
  rw [Stick.eighth]
  unfold score
  rw [EReal.coe_mul, coe_sum]
  refine congrArg (· * _) (Finset.sum_congr rfl fun d _ => ?_)
  rw [both_at, show kp = fun j => (K j : EReal) from funext hk, show kn = fun j => (N j : EReal) from funext hn,
    Stick.Cached.joined_map (fun r : ℝ => (r : EReal)) K N, entry_head, EReal.coe_mul, hq]

theorem softplus_at (x : Scores) (i : S32x16x16x1040.Idx) (r : ℝ) (hx : x i = (r : EReal)) :
    softplus x i = ((max r 0 + Real.log (1 + Real.exp (-|r|)) : ℝ) : EReal) := by
  unfold softplus
  pointwise
  have hpos : ¬ (1 + Real.exp (-|r|)) ≤ 0 := not_le.mpr (by positivity)
  rw [if_neg (fun e => e rfl), hx, abs_coe, ← EReal.coe_neg, Ideal.exp_coe]
  unfold Ideal.log1p
  rw [← EReal.coe_one, ← EReal.coe_add, Ideal.log_coe, if_neg hpos, ← EReal.coe_zero, max_coe, ← EReal.coe_add]

theorem before_at (b : Fin 32) (h p : Fin 16) (j : Fin 1040) : before (ix4 b h p j) = BitVec.ofBool (decide (j.val < 1024 + p.val)) := by
  unfold before
  pointwise
  have hp := p.isLt; have hj := j.isLt
  have e : (1024#32 + BitVec.ofNat 32 p.val : BitVec 32) = BitVec.ofNat 32 (1024 + p.val) := (BitVec.ofNat_add 1024 p.val).symm
  show BitVec.ofBool ((BitVec.ofNat 32 j.val).slt (1024#32 + BitVec.ofNat 32 p.val)) = _
  rw [e]
  rw [slt_small (by omega) (by omega)]

theorem running_at (x : Scores) (b : Fin 32) (h p : Fin 16) (j : Fin 1040) :
    running x (ix4 b h p j) = ∑ r : Fin 1040, if hr : j.val + r.val < 1040 then x (ix4 b h p ⟨j.val + r.val, hr⟩) else 0 :=
  Stick.suffix_sum (by rfl) x _ _ _ (by pointwise) b h p j

section
variable {z : Scores} {b : Fin 32} {h p : Fin 16} {ζ : ℕ → ℝ}

theorem logNots_at (hz : ∀ j : Fin 1040, z (ix4 b h p j) = ((ζ j.val : ℝ) : EReal)) (j : Fin 1040) :
    logNots z (ix4 b h p j) = ((if j.val < 1024 + p.val then Stick.logNot (ζ j.val) else 0 : ℝ) : EReal) := by
  have hs := softplus_at (Host.negf (Host.negf z)) (ix4 b h p j) (ζ j.val) (by pointwise; rw [hz, neg_neg])
  unfold logNots
  pointwise
  rw [before_at, hs, ← EReal.coe_neg, Stick.logNot_softplus]
  by_cases hc : j.val < 1024 + p.val <;> simp [hc, Scalar.select]

theorem running_logNots (hz : ∀ j : Fin 1040, z (ix4 b h p j) = ((ζ j.val : ℝ) : EReal)) (j : Fin 1040) :
    running (logNots z) (ix4 b h p j) = ((Stick.left ζ j.val (1024 + p.val) : ℝ) : EReal) := by
  have hp := p.isLt
  rw [running_at]
  unfold Stick.left
  rw [← Stick.sum_window 1040 j.val (1024 + p.val) (by omega) (fun k => Stick.logNot (ζ k)), coe_sum]
  refine Finset.sum_congr rfl fun r _ => ?_
  by_cases hr : j.val + r.val < 1040
  · rw [dif_pos hr, logNots_at hz]
  · rw [dif_neg hr, if_neg (by omega), EReal.coe_zero]

theorem weights_at (hz : ∀ j : Fin 1040, z (ix4 b h p j) = ((ζ j.val : ℝ) : EReal)) (j : Fin 1040) :
    weights z (ix4 b h p j) = if j.val < 1024 + p.val then ((Stick.weight ζ (1024 + p.val) j.val : ℝ) : EReal) else 0 := by
  have hs := softplus_at (Host.negf z) (ix4 b h p j) (-ζ j.val) (by pointwise; rw [hz, EReal.coe_neg])
  unfold weights
  pointwise
  rw [before_at, hs, running_logNots hz, logNots_at hz, abs_neg, ← EReal.coe_neg, Stick.logSig_softplus, ← EReal.coe_sub, ← EReal.coe_add, Ideal.exp_coe]
  by_cases hc : j.val < 1024 + p.val
  · have hl : Stick.left ζ j.val (1024 + p.val) = Stick.logNot (ζ j.val) + Stick.left ζ (j.val + 1) (1024 + p.val) := by
      unfold Stick.left; exact Finset.sum_eq_sum_Ico_succ_bot hc _
    rw [if_pos hc, hl]
    unfold Stick.weight
    simp [hc, Scalar.select]
  · simp [hc, Scalar.select]

end

theorem result_at (v : FVec Ideal S32x1040x16x64 .f32) (a : Scores) (b : Fin 32) (p : Fin 16) (L : Fin 1024) :
    result v a (ix3 b p L) = ∑ k : Fin 1040, v (ix4 b k ⟨L.val / 64, by omega⟩ ⟨L.val % 64, by omega⟩) * a (ix4 b ⟨L.val / 64, by omega⟩ p k) := by
  unfold result
  pointwise

/-- The reference's result: the attention. -/
theorem output (q : FVec Ideal S32x16x16x64 .f32) (kp vp : FVec Ideal S32x1024x16x64 .f32) (kn vn : FVec Ideal S32x16x16x64 .f32)
    (Q : (Heads 16).Idx → ℝ) (K : (Heads 1024).Idx → ℝ) (N : (Heads 16).Idx → ℝ) (hq : ∀ j, q j = (Q j : EReal))
    (hk : ∀ j, kp j = (K j : EReal)) (hn : ∀ j, kn j = (N j : EReal)) :
    result (both vp vn) (weights (scores q (both kp kn))) = fun y : S32x16x1024.Idx => attention Q K N vp vn (y 0) (y 1).val (y 2).val := by
  funext y
  have hy : y = ix3 (y 0) (y 1) (y 2) := by
    funext a; fin_cases a <;> rfl
  have h2 : (y 2).val < 1024 := (y 2).isLt
  have h1 : (y 1).val < 16 := (y 1).isLt
  refine (congrArg (result (both vp vn) (weights (scores q (both kp kn)))) hy).trans ((result_at _ _ (y 0) (y 1) (y 2)).trans ?_)
  unfold attention Stick.attend
  rw [← Stick.sum_window 1040 0 (1024 + (y 1).val) (by omega)]
  refine Finset.sum_congr rfl fun j _ => ?_
  rw [weights_at (scores_at q kp kn Q K N hq hk hn (y 0) ⟨(y 2).val / 64, by omega⟩ (y 1))]
  simp only [Nat.zero_add]
  by_cases hc : j.val < 1024 + (y 1).val
  · rw [if_pos hc, if_pos hc, mul_comm]
    exact congrArg _ ((both_at vp vn (y 0) j ⟨(y 2).val / 64, _⟩ ⟨(y 2).val % 64, _⟩).trans
      (congrArg (joined vp vn (y 0) j.val) (Nat.div_add_mod (y 2).val 64)))
  · rw [if_neg hc, if_neg hc, mul_zero]

end Cert.RefSampleIdeal.Attn

end
-- ==== Proof.FiniteSample.lean ====
/-
  The precondition of the cached attention read back: where it holds, every query and every key, cached or new, is a real
  number.
-/
module

public import proofs.«01_k».proof.Pre_finite_sample
public import proofs.«01_k».proof.Proof.Gen.Pre_finite_sample
public import proofs.«01_k».proof.Proof.Finite
public import proofs.«01_k».proof.Proof.Stick.Cached

@[expose] public section

set_option maxRecDepth 16384

noncomputable section

namespace Cert.Finite

open Idealize.ShloMosaic
open Stick.Cached (Heads)

instance : Subsingleton (Cert.Pre_finite_sample.S_).Idx := ⟨fun a b => funext fun i => i.elim0⟩

theorem reals_sample (q : FVec Ideal (Heads 16) .f32) (kp vp : FVec Ideal (Heads 1024) .f32) (kn vn : FVec Ideal (Heads 16) .f32)
    (h : Cert.Pre_finite_sample.fn (F := Ideal) q kp vp kn vn = fun _ => 1#1) :
    (∃ Q : (Heads 16).Idx → ℝ, ∀ j, q j = (Q j : EReal)) ∧ (∃ K : (Heads 1024).Idx → ℝ, ∀ j, kp j = (K j : EReal))
      ∧ (∃ N : (Heads 16).Idx → ℝ, ∀ j, kn j = (N j : EReal)) := by
  have e := congrFun h (fun i => i.elim0)
  unfold Cert.Pre_finite_sample.fn at e
  obtain ⟨e01, e2⟩ := IntOp.andi_eq_one.1 e
  obtain ⟨e0, e1⟩ := IntOp.andi_eq_one.1 e01
  have r0 : ∀ j, ∃ r : ℝ, q j = (r : EReal) := fun j => real_of_olt (Host.reduce_andi_all _ _ _ _ _ e0 j)
  have r1 : ∀ j, ∃ r : ℝ, kp j = (r : EReal) := fun j => real_of_olt (Host.reduce_andi_all _ _ _ _ _ e1 j)
  have r2 : ∀ j, ∃ r : ℝ, kn j = (r : EReal) := fun j => real_of_olt (Host.reduce_andi_all _ _ _ _ _ e2 j)
  exact ⟨⟨fun j => (r0 j).choose, fun j => (r0 j).choose_spec⟩, ⟨fun j => (r1 j).choose, fun j => (r1 j).choose_spec⟩,
    ⟨fun j => (r2 j).choose, fun j => (r2 j).choose_spec⟩⟩

end Cert.Finite

end
-- ==== Proof.SampleAttention.lean ====
/-
  The certificate of the cached attention: the frames of its kernel, of its idealization and of its reference, the rewrite of
  the one named constant, and the equation: over the extended reals, of real queries and keys, the kernel's array is the
  reference's.
-/
module

public import proofs.«01_k».proof.Defs
public import proofs.«01_k».proof.Proof.Sample.Run
public import proofs.«01_k».proof.Proof.SampleIdeal.Array
public import proofs.«01_k».proof.Proof.RefSampleIdeal.Value
public import proofs.«01_k».proof.Proof.FiniteSample
public import proofs.«01_k».proof.Proof.Gen.RefSampleIdeal
public import proofs.«01_k».proof.Proof.Gen.RefSampleIdeal.Run
public import Idealize.ShloMosaic.Lib.Quiescent
public import Idealize.ShloMosaic.Adequacy
public import Idealize.ShloMosaic.Init

@[expose] public section

noncomputable section

namespace Cert.SampleAttention

open Idealize.ShloMosaic Idealize.SL.Sem

/-- The kernel runs, leaves its arguments and ends with every counter at zero. -/
theorem frame : Cert.quiescent_Sample := fun m ρ _ => Cert.Sample.Attn.frame_run m ρ

/-- So does its idealization. -/
theorem frameIdeal : Cert.quiescent_SampleIdeal := fun m ρ _ => Cert.SampleIdeal.Attn.frame_run m ρ

/-- The reference is host code and declares no semaphore. -/
theorem frameRef : Cert.quiescent_RefSampleIdeal := fun m ρ _ =>
  (θ_run Cert.RefSampleIdeal.defs _ _).mono (fun r h => ⟨fun c => (h c).2, sem_eq_zero_of_no_sems (by decide) r.2⟩)
    (Cert.RefSampleIdeal.Value.run (F := Ideal) m ρ)

/-- The two frames hold under the precondition too. -/
theorem frameIdeal_finite : Cert.quiescent_SampleIdeal_pre_finite_sample := fun m ρ _ => frameIdeal m ρ trivial

theorem frameRef_finite : Cert.quiescent_RefSampleIdeal_pre_finite_sample := fun m ρ _ => frameRef m ρ trivial

theorem preserves : Cert.preserves_Sample_SampleIdeal :=
  IdealRules.named_const.statement _ _ _ _ _ rfl

/-- Both runs end with the attention in the result. -/
theorem equation : Cert.algebraic_SampleIdeal_RefSampleIdeal_pre_finite_sample := by
  intro m g m' g' hpre hargs
  refine ⟨fun c => (Cert.SampleIdeal.Attn.dats m 0 c).arrAt 4 (Cert.SampleIdeal.cfg0 (F := Ideal)).N, ?_, ?_⟩
  · exact Cert.SampleIdeal.Attn.run_out m g
  · refine (θ_run Cert.RefSampleIdeal.defs _ _).mono (fun r h c => ⟨(h c).1.trans ?_, (h c).2⟩) (Cert.RefSampleIdeal.Value.run (F := Ideal) m' g')
    obtain ⟨h0, h1, h2, h3, h4⟩ := hargs c
    obtain ⟨⟨Q, hQ⟩, ⟨K, hK⟩, ⟨N, hN⟩⟩ := Cert.Finite.reals_sample _ _ _ _ _ (hpre c)
    rw [Cert.RefSampleIdeal.Attn.result_eq]
    refine (Cert.RefSampleIdeal.Attn.output _ _ _ _ _ Q K N (fun j => (congrFun h0 j).trans (hQ j))
      (fun j => (congrFun h1 j).trans (hK j)) (fun j => (congrFun h3 j).trans (hN j))).trans ?_
    refine Eq.trans ?_ (Cert.SampleIdeal.Attn.output m c Q K N hQ hK hN).symm
    funext y
    exact congr_arg₂ (fun v w => Stick.Cached.attention Q K N v w (y 0) (y 1).val (y 2).val) h2 h4

end Cert.SampleAttention

end
-- ==== Proof.SampleKeysValuesIdeal.Value.lean ====
/-
  The shared keys and values over the extended reals: each grid point's rows times the two weight matrices side by side,
  and the four arrays the rows make up: the two products and their narrowed copies.
-/
module

public import proofs.«01_k».proof.Proof.Gen.SampleKeysValuesIdeal.Frame
public import proofs.«01_k».proof.Proof.Gen.RefSampleKeysValuesIdeal
public import Idealize.ShloMosaic.Lib.Pipeline.ValueKit
public import Idealize.ShloMosaic.Lib.Claim

@[expose] public section

set_option maxRecDepth 16384

noncomputable section

namespace Cert.SampleKeysValuesIdeal.Proj

open Cert.SampleKeysValuesIdeal Cert.SampleKeysValuesIdeal.Gen
open Idealize.ShloMosaic Idealize.ShloMosaic.TcCoe Idealize.SL.Sem
open Idealize.ShloMosaic.Pipeline (Dat)

variable (m : (ℓ : Loc nD τ sig) → Buf (Elt Ideal) ℓ)

/-- The hidden states and the two weight matrices as launched. -/
abbrev argH (c : Dev nD) : FVec Ideal S32x16x1024 .f32 := m ((c : Thread nD τ).loc main_arg0)
abbrev argK (c : Dev nD) : FVec Ideal S1024x1024 .f32 := m ((c : Thread nD τ).loc main_arg1)
abbrev argV (c : Dev nD) : FVec Ideal S1024x1024 .f32 := m ((c : Thread nD τ).loc main_arg2)

/-- The reference's product. -/
abbrev product (h : FVec Ideal S32x16x1024 .f32) (w : FVec Ideal S1024x1024 .f32) : FVec Ideal S32x16x1024 .f32 :=
  Host.dotGeneral Cert.RefSampleKeysValuesIdeal.dot_S32x16x1024_S1024x1024_S32x16x1024_2_0_01_1_n_n none h w

/-- An array with batch and position as one row. -/
abbrev rows (p : FVec Ideal S32x16x1024 .f32) : FVec Ideal S512x1024 .f32 :=
  fun y => p (ix3 ⟨(y 0).val / 16, by have : (y 0).val < 512 := (y 0).isLt; omega⟩ ⟨(y 0).val % 16, by omega⟩ (y 1))

/-! ### The host operations' arrays -/

theorem rows_at (c : Dev nD) (r : Fin 512) (l : Fin 1024) : (V m c main_v2 : Vec Ideal S512x1024 .f32) (ix2 r l)
    = argH m c (ix3 ⟨r.val / 16, by omega⟩ ⟨r.val % 16, by omega⟩ l) := by
  unfold V V0; rw [show ([hostOps0].flatten : List (HloOp τ sig (Elt Ideal))) = hostOps0 from rfl]; after_results
  pointwise

theorem weights_at (c : Dev nD) (k : Fin 1024) (l : Fin 2048) : (V m c main_v1 : Vec Ideal S1024x2048 .bf16) (ix2 k l)
    = if h : l.val < 1024 then argK m c (ix2 k ⟨l.val, h⟩) else argV m c (ix2 k ⟨l.val - 1024, by omega⟩) := by
  unfold V V0; rw [show ([hostOps0].flatten : List (HloOp τ sig (Elt Ideal))) = hostOps0 from rfl]; after_results
  pointwise

/-! ### The windows -/

theorem index : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- A block's rows are the array's. -/
theorem block0 (c : Dev nD) (t : Fin cfg0.N) (r : Fin 512) (l : Fin 1024) : (iblk m c 0 t : Vec Ideal S512x1024 .f32) (ix2 r l)
    = (V m c main_v2 : Vec Ideal S512x1024 .f32) (ix2 r l) := by
  have e : (win0_0.blk t).view.emb (ix2 r l : S512x1024.Idx) = (ix2 r l : S512x1024.Idx) := by
    blk_ext [(index t).1]
  unfold iblk
  blk_simp
  exact congrArg (V m c main_v2) e

/-- The weights' block is the array. -/
theorem block1 (c : Dev nD) (t : Fin cfg0.N) (k : Fin 1024) (l : Fin 2048) : (iblk m c 1 t : Vec Ideal S1024x2048 .bf16) (ix2 k l)
    = (V m c main_v1 : Vec Ideal S1024x2048 .bf16) (ix2 k l) := by
  have e : (win0_1.blk t).view.emb (ix2 k l : S1024x2048.Idx) = (ix2 k l : S1024x2048.Idx) := by
    blk_ext [(index t).2.1]
  unfold iblk
  blk_simp
  exact congrArg (V m c main_v1) e

theorem place2 (t : Fin cfg0.N) (y : S512x1024.Idx) :
    (((cfg0.win 2).blk t).view.emb y : S512x1024.Idx) = ix2 (y 0) (y 1) := by
  blk_ext [(index t).2.2.1]
theorem place3 (t : Fin cfg0.N) (y : S512x1024.Idx) :
    (((cfg0.win 3).blk t).view.emb y : S512x1024.Idx) = ix2 (y 0) (y 1) := by
  blk_ext [(index t).2.2.2.1]
theorem place4 (t : Fin cfg0.N) (y : S512x1024.Idx) :
    (((cfg0.win 4).blk t).view.emb y : S512x1024.Idx) = ix2 (y 0) (y 1) := by
  blk_ext [(index t).2.2.2.2.1]
theorem place5 (t : Fin cfg0.N) (y : S512x1024.Idx) :
    (((cfg0.win 5).blk t).view.emb y : S512x1024.Idx) = ix2 (y 0) (y 1) := by
  blk_ext [(index t).2.2.2.2.2]

/-! ### One point's blocks -/

theorem point2 (c : Dev nD) (t : Fin cfg0.N) (y : S512x1024.Idx) : k0_pay2 (iblk m c 0 t) (iblk m c 1 t) y
    = rows (product (argH m c) (argK m c)) (ix2 (y 0) (y 1)) := by
  have h1 : (y 1).val < 1024 := (y 1).isLt
  pointwise [k0_pay2, k0_pay1, rows, product]
  refine Finset.sum_congr rfl fun k _ => congr_arg₂ (· * ·) ((block0 m c t (y 0) k).trans (rows_at m c _ _)) ((block1 m c t k _).trans ((weights_at m c _ _).trans ?_))
  exact dif_pos h1

theorem point3 (c : Dev nD) (t : Fin cfg0.N) (y : S512x1024.Idx) : k0_pay3 (iblk m c 0 t) (iblk m c 1 t) y
    = rows (product (argH m c) (argV m c)) (ix2 (y 0) (y 1)) := by
  have h1 : (y 1).val < 1024 := (y 1).isLt
  pointwise [k0_pay3, k0_pay1, rows, product]
  refine Finset.sum_congr rfl fun k _ => congr_arg₂ (· * ·) ((block0 m c t (y 0) k).trans (rows_at m c _ _)) ((block1 m c t k _).trans ((weights_at m c _ _).trans ?_))
  exact (dif_neg (show ¬ 1024 + (y 1).val < 1024 by omega)).trans (congrArg (fun l => argV m c (ix2 k l)) (Fin.ext (show 1024 + (y 1).val - 1024 = (y 1).val by omega)))

theorem array2 (c : Dev nD) : (dats m 0 c).arrAt 2 cfg0.N = rows (product (argH m c) (argK m c)) := by
  refine (dats m 0 c).arrAt_eq_of_covers 2 _ (by decide +kernel) fun t _ y => ?_
  blk_simp
  rw [after0_2]; frame_out
  exact (point2 m c t y).trans (congrArg _ (place2 t y).symm)

theorem array3 (c : Dev nD) : (dats m 0 c).arrAt 3 cfg0.N = rows (product (argH m c) (argV m c)) := by
  refine (dats m 0 c).arrAt_eq_of_covers 3 _ (by decide +kernel) fun t _ y => ?_
  blk_simp
  rw [after0_3]; frame_out
  exact (point3 m c t y).trans (congrArg _ (place3 t y).symm)

theorem array4 (c : Dev nD) : (dats m 0 c).arrAt 4 cfg0.N = rows (product (argH m c) (argK m c)) := by
  refine (dats m 0 c).arrAt_eq_of_covers 4 _ (by decide +kernel) fun t _ y => ?_
  blk_simp
  rw [after0_4]; frame_out
  exact (point2 m c t y).trans (congrArg _ (place4 t y).symm)

theorem array5 (c : Dev nD) : (dats m 0 c).arrAt 5 cfg0.N = rows (product (argH m c) (argV m c)) := by
  refine (dats m 0 c).arrAt_eq_of_covers 5 _ (by decide +kernel) fun t _ y => ?_
  blk_simp
  rw [after0_5]; frame_out
  exact (point3 m c t y).trans (congrArg _ (place5 t y).symm)

/-! ### The results -/

/-- Batch and position apart, and the heads apart. -/
theorem heads (p : FVec Ideal S32x16x1024 .f32) :
    shapeCast S32x16x16x64 (rows p) shapeCasts_S512x1024_S32x16x16x64
      = shapeCast S32x16x16x64 p Cert.RefSampleKeysValuesIdeal.Gen.shapeCasts_S32x16x1024_S32x16x16x64 := by
  funext y
  have h1 : (y 1).val < 16 := (y 1).isLt
  have h2 : (y 2).val < 16 := (y 2).isLt
  have h3 : (y 3).val < 64 := (y 3).isLt
  pointwise
  refine congr_arg₂ (fun a b => p (ix3 a b _)) (Fin.ext ?_) (Fin.ext ?_)
  · show ((y 0).val * 16 + (y 1).val) / 16 = (y 0).val; omega
  · show ((y 0).val * 16 + (y 1).val) % 16 = (y 1).val; omega

/-- Batch and position apart. -/
theorem apart (p : FVec Ideal S32x16x1024 .f32) : shapeCast S32x16x1024 (rows p) shapeCasts_S512x1024_S32x16x1024 = p := by
  funext y
  have h1 : (y 1).val < 16 := (y 1).isLt
  pointwise
  refine (congr_arg₂ (fun a b => p (ix3 a b (y 2))) (Fin.ext ?_) (Fin.ext ?_)).trans (congrArg p (ix3_eta y))
  · show ((y 0).val * 16 + (y 1).val) / 16 = (y 0).val; omega
  · show ((y 0).val * 16 + (y 1).val) % 16 = (y 1).val; omega

/-- No two windows share an array. -/
theorem arrays_inj : Function.Injective (Pipeline.arrRef (cfgs 0).spec) := by
  intro a b h
  revert a b
  decide

/-- The run: each result is the reference's, and the arguments are unchanged. -/
theorem run (g : Dev nD → PrngReg) : θ_run defs (onTc (τ := τ) (main (F := Ideal))) ⟨m, fun _ => 0, g⟩ (fun r => ∀ c : Dev nD,
      r.2.mem ((c.tc : Thread nD τ).loc main_v4) = shapeCast S32x16x16x64 (product (argH m c) (argK m c)) Cert.RefSampleKeysValuesIdeal.Gen.shapeCasts_S32x16x1024_S32x16x16x64
      ∧ r.2.mem ((c.tc : Thread nD τ).loc main_v5) = shapeCast S32x16x16x64 (product (argH m c) (argV m c)) Cert.RefSampleKeysValuesIdeal.Gen.shapeCasts_S32x16x1024_S32x16x16x64
      ∧ r.2.mem ((c.tc : Thread nD τ).loc main_v6) = truncf .bf16 (product (argH m c) (argK m c)) Cert.RefSampleKeysValuesIdeal.Gen.bitsLt_bf16_f32
      ∧ r.2.mem ((c.tc : Thread nD τ).loc main_v7) = truncf .bf16 (product (argH m c) (argV m c)) Cert.RefSampleKeysValuesIdeal.Gen.bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m g & unchanged m g
  all_goals unfold Pipeline.afterTail₀
  all_goals rw [show ([hostOps1].flatten : List (HloOp τ sig (Elt Ideal))) = hostOps1 from rfl]
  all_goals after_results
  · exact (congrArg (fun a => shapeCast S32x16x16x64 a shapeCasts_S512x1024_S32x16x16x64)
      ((Pipeline.withArrays_arr _ arrays_inj c _ _ 2).trans (array2 m c))).trans (heads _)
  · exact (congrArg (fun a => shapeCast S32x16x16x64 a shapeCasts_S512x1024_S32x16x16x64)
      ((Pipeline.withArrays_arr _ arrays_inj c _ _ 3).trans (array3 m c))).trans (heads _)
  · exact (congrArg (fun a => shapeCast S32x16x1024 a shapeCasts_S512x1024_S32x16x1024)
      ((Pipeline.withArrays_arr _ arrays_inj c _ _ 4).trans (array4 m c))).trans (apart _)
  · exact (congrArg (fun a => shapeCast S32x16x1024 a shapeCasts_S512x1024_S32x16x1024)
      ((Pipeline.withArrays_arr _ arrays_inj c _ _ 5).trans (array5 m c))).trans (apart _)

end Cert.SampleKeysValuesIdeal.Proj

end
-- ==== Proof.SampleQueriesIdeal.Value.lean ====
/-
  The query projection over the extended reals: each grid point's rows times the weights, scaled, and the array the
  rows make up, is the reference's product read with batch and position as one row.
-/
module

public import proofs.«01_k».proof.Proof.Gen.SampleQueriesIdeal.Frame
public import proofs.«01_k».proof.Proof.Gen.RefSampleQueriesIdeal
public import Idealize.ShloMosaic.Lib.Pipeline.ValueKit
public import Idealize.ShloMosaic.Lib.Claim

@[expose] public section

set_option maxRecDepth 16384

noncomputable section

namespace Cert.SampleQueriesIdeal.Proj

open Cert.SampleQueriesIdeal Cert.SampleQueriesIdeal.Gen
open Idealize.ShloMosaic Idealize.ShloMosaic.TcCoe Idealize.SL.Sem
open Idealize.ShloMosaic.Pipeline (Dat)

variable (m : (ℓ : Loc nD τ sig) → Buf (Elt Ideal) ℓ)

/-- The reference's scaled product. -/
abbrev product (h : FVec Ideal S32x16x1024 .f32) (w : FVec Ideal S1024x1024 .f32) : FVec Ideal S32x16x1024 .bf16 :=
  truncf .bf16 (mulf (Host.dotGeneral Cert.RefSampleQueriesIdeal.dot_S32x16x1024_S1024x1024_S32x16x1024_2_0_01_1_n_n none h w)
    (broadcastInDim S32x16x1024 ![] Cert.RefSampleQueriesIdeal.Gen.bcast_S_S32x16x1024 (constant Cert.RefSampleQueriesIdeal.S_ .f32 0x3E000000#32)))
    Cert.RefSampleQueriesIdeal.Gen.bitsLt_bf16_f32

/-- The same with batch and position as one row. -/
abbrev rows (h : FVec Ideal S32x16x1024 .f32) (w : FVec Ideal S1024x1024 .f32) : FVec Ideal S512x1024 .bf16 :=
  fun y => product h w (ix3 ⟨(y 0).val / 16, by have : (y 0).val < 512 := (y 0).isLt; omega⟩ ⟨(y 0).val % 16, by omega⟩ (y 1))

theorem index : ∀ t : Fin cfg0.N, win0_0.index t = ![t.val, 0] ∧ win0_1.index t = ![0, 0] ∧ win0_2.index t = ![t.val, 0] :=
  (by decide +kernel : ∀ t : Fin grid0.N, _)

/-- The hidden states with batch and position as one row. -/
theorem rows_at (c : Dev nD) (r : Fin 512) (l : Fin 1024) : (V m c main_v0 : Vec Ideal S512x1024 .f32) (ix2 r l)
    = (m ((c : Thread nD τ).loc main_arg0) : Vec Ideal S32x16x1024 .f32) (ix3 ⟨r.val / 16, by omega⟩ ⟨r.val % 16, by omega⟩ l) := by
  unfold V V0; rw [show ([hostOps0].flatten : List (HloOp τ sig (Elt Ideal))) = hostOps0 from rfl]; after_results
  pointwise

theorem weights_at (c : Dev nD) (k l : Fin 1024) : (V m c main_v1 : Vec Ideal S1024x1024 .bf16) (ix2 k l)
    = (m ((c : Thread nD τ).loc main_arg1) : Vec Ideal S1024x1024 .f32) (ix2 k l) := by
  unfold V V0; rw [show ([hostOps0].flatten : List (HloOp τ sig (Elt Ideal))) = hostOps0 from rfl]; after_results
  pointwise

/-- A block's rows are the array's. -/
theorem block0 (c : Dev nD) (t : Fin cfg0.N) (r : Fin 512) (l : Fin 1024) : (iblk m c 0 t : Vec Ideal S512x1024 .f32) (ix2 r l)
    = (V m c main_v0 : Vec Ideal S512x1024 .f32) (ix2 r l) := by
  have e : (win0_0.blk t).view.emb (ix2 r l : S512x1024.Idx) = (ix2 r l : S512x1024.Idx) := by
    blk_ext [(index t).1]
  unfold iblk
  blk_simp
  exact congrArg (V m c main_v0) e

/-- The weights' block is the array. -/
theorem block1 (c : Dev nD) (t : Fin cfg0.N) (k l : Fin 1024) : (iblk m c 1 t : Vec Ideal S1024x1024 .bf16) (ix2 k l)
    = (V m c main_v1 : Vec Ideal S1024x1024 .bf16) (ix2 k l) := by
  have e : (win0_1.blk t).view.emb (ix2 k l : S1024x1024.Idx) = (ix2 k l : S1024x1024.Idx) := by
    blk_ext [(index t).2.1]
  unfold iblk
  blk_simp
  exact congrArg (V m c main_v1) e

theorem place (t : Fin cfg0.N) (y : S512x1024.Idx) :
    (((cfg0.win 2).blk t).view.emb y : S512x1024.Idx) = ix2 (y 0) (y 1) := by
  blk_ext [(index t).2.2]

/-- One point's stored block. -/
theorem point (c : Dev nD) (t : Fin cfg0.N) (y : S512x1024.Idx) : k0_pay1 (iblk m c 0 t) (iblk m c 1 t) y
    = rows (m ((c : Thread nD τ).loc main_arg0)) (m ((c : Thread nD τ).loc main_arg1)) (((cfg0.win 2).blk t).view.emb y) := by
  rw [place]
  pointwise [k0_pay1, rows, product]
  refine congrArg (· * _) (Finset.sum_congr rfl fun k _ => ?_)
  exact congr_arg₂ (· * ·) ((block0 m c t (y 0) k).trans (rows_at m c _ _)) ((block1 m c t k (y 1)).trans (weights_at m c _ _))

/-- The launch's array. -/
theorem array (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The result: the array with batch and position apart. -/
theorem result (h : FVec Ideal S32x16x1024 .f32) (w : FVec Ideal S1024x1024 .f32) :
    shapeCast S32x16x1024 (rows h w) shapeCasts_S512x1024_S32x16x1024 = product h w := by
  funext y
  have h1 : (y 1).val < 16 := (y 1).isLt
  pointwise
  refine congrArg (· * _) (Finset.sum_congr rfl fun k _ => congrArg (fun i => h i * _) ?_)
  refine congr_arg₂ (fun a b => ix3 a b k) (Fin.ext ?_) (Fin.ext ?_)
  · show ((y 0).val * 16 + (y 1).val) / 16 = (y 0).val
    omega
  · show ((y 0).val * 16 + (y 1).val) % 16 = (y 1).val
    omega

/-- No two windows share an array. -/
theorem arrays_inj : Function.Injective (Pipeline.arrRef (cfgs 0).spec) := by
  intro a b h
  revert a b
  decide

/-- The run: the result is the reference's product, and the arguments are unchanged. -/
theorem run (g : Dev nD → PrngReg) : θ_run defs (onTc (τ := τ) (main (F := Ideal))) ⟨m, fun _ => 0, g⟩ (fun r => ∀ c : Dev nD,
      r.2.mem ((c.tc : Thread nD τ).loc main_v3) = product (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g & unchanged m g
  unfold Pipeline.afterTail₀
  rw [show ([hostOps1].flatten : List (HloOp τ sig (Elt Ideal))) = hostOps1 from rfl]
  after_results
  exact (congrArg (fun a => shapeCast S32x16x1024 a shapeCasts_S512x1024_S32x16x1024)
    ((Pipeline.withArrays_arr _ arrays_inj c _ _ 2).trans (array m c))).trans (result _ _)

end Cert.SampleQueriesIdeal.Proj

end
-- ==== Proof.RefSampleProjectOutIdeal.Value.lean ====
/-
  The reference of the output projection over the extended reals, at an index.
-/
module

public import proofs.«01_k».proof.Proof.Stick.Norm
public import proofs.«01_k».proof.Proof.Gen.RefSampleProjectOutIdeal.Run
public import Idealize.ShloMosaic.Lib.Pipeline.ValueKit

@[expose] public section

set_option maxRecDepth 16384

noncomputable section

namespace Cert.RefSampleProjectOutIdeal.Proj

open Cert.RefSampleProjectOutIdeal Cert.RefSampleProjectOutIdeal.Gen
open Idealize.ShloMosaic Idealize.SL.Sem
open Stick (alpha mean norm)

/-- The residual stream plus the projection. -/
def mixed (o : FVec Ideal S32x16x1024 .bf16) (h : FVec Ideal S32x16x1024 .f32) (w : FVec Ideal S1024x1024 .f32) : FVec Ideal S32x16x1024 .f32 :=
  addf (mulf (broadcastInDim S32x16x1024 ![] bcast_S_S32x16x1024 (constant (F := Ideal) S_ .f32 0x3FD744FD#32)) h)
    (Host.dotGeneral dot_S32x16x1024_S1024x1024_S32x16x1024_2_0_01_1_n_n none (extf .f32 o bitsLt_bf16_f32) w)

/-- Each row's mean, along the row. -/
def means (x : FVec Ideal S32x16x1024 .f32) : FVec Ideal S32x16x1 .f32 :=
  Host.divf (broadcastInDim S32x16x1 ![0, 1] bcast_S32x16_S32x16x1_0_1
    (Host.reduceAdd x (constant (F := Ideal) S_ .f32 0x00000000#32) reducesTo_S32x16x1024_S32x16_d2 h_S_))
    (broadcastInDim S32x16x1 ![] bcast_S_S32x16x1 (constant (F := Ideal) S_ .f32 0x44800000#32))

/-- Each row less its mean. -/
def centred (x : FVec Ideal S32x16x1024 .f32) : FVec Ideal S32x16x1024 .f32 :=
  subf x (broadcastInDim S32x16x1024 ![0, 1, 2] bcast_S32x16x1_S32x16x1024_0_1_2 (means x))

/-- A vector along every row. -/
def along (g : FVec Ideal S1024 .f32) : FVec Ideal S32x16x1024 .f32 :=
  broadcastInDim S32x16x1024 ![0, 1, 2] bcast_S1x1x1024_S32x16x1024_0_1_2 (broadcastInDim S1x1x1024 ![2] bcast_S1024_S1x1x1024_2 g)

/-- The layer norm of every row. -/
def normed (x : FVec Ideal S32x16x1024 .f32) (g b : FVec Ideal S1024 .f32) : FVec Ideal S32x16x1024 .f32 :=
  addf (mulf (mulf (centred x) (broadcastInDim S32x16x1024 ![0, 1, 2] bcast_S32x16x1_S32x16x1024_0_1_2
    (Host.rsqrt (addf (means (mulf (centred x) (centred x)))
      (broadcastInDim S32x16x1 ![] bcast_S_S32x16x1 (constant (F := Ideal) S_ .f32 0x3727C5AC#32)))))) (along g)) (along b)

theorem means_at (x : FVec Ideal S32x16x1024 .f32) (i : Fin 32) (s : Fin 16) (z : Fin 1) :
    means x (ix3 i s z) = mean fun k => x (ix3 i s k) := by
  unfold means
  pointwise
  rfl

theorem centred_at (x : FVec Ideal S32x16x1024 .f32) (i : Fin 32) (s : Fin 16) (l : Fin 1024) :
    centred x (ix3 i s l) = x (ix3 i s l) - mean fun k => x (ix3 i s k) := by
  unfold centred
  pointwise
  exact congrArg _ (means_at x i s _)

theorem normed_at (x : FVec Ideal S32x16x1024 .f32) (g b : FVec Ideal S1024 .f32) (i : Fin 32) (s : Fin 16) (l : Fin 1024) :
    normed x g b (ix3 i s l) = norm (fun k => x (ix3 i s k)) (fun k => g (ix1 k)) (fun k => b (ix1 k)) l := by
  unfold normed along
  pointwise
  have hv : means (mulf (centred x) (centred x)) (ix3 i s 0)
      = mean fun k => (x (ix3 i s k) - mean fun k => x (ix3 i s k)) * (x (ix3 i s k) - mean fun k => x (ix3 i s k)) := by
    rw [means_at]
    refine congrArg mean (funext fun k => ?_)
    exact congr_arg₂ (· * ·) (centred_at x i s k) (centred_at x i s k)
  rw [hv, centred_at]
  rfl

theorem mixed_at (o : FVec Ideal S32x16x1024 .bf16) (h : FVec Ideal S32x16x1024 .f32) (w : FVec Ideal S1024x1024 .f32)
    (i : Fin 32) (s : Fin 16) (l : Fin 1024) :
    mixed o h w (ix3 i s l) = alpha * h (ix3 i s l) + ∑ k, o (ix3 i s k) * w (ix2 k l) := by
  unfold mixed
  pointwise
  rfl

/-- What the reference returns. -/
def out (o : FVec Ideal S32x16x1024 .bf16) (h : FVec Ideal S32x16x1024 .f32) (w : FVec Ideal S1024x1024 .f32) (g b : FVec Ideal S1024 .f32) :
    FVec Ideal S32x16x1024 .f32 := normed (mixed o h w) g b

theorem out_at (o : FVec Ideal S32x16x1024 .bf16) (h : FVec Ideal S32x16x1024 .f32) (w : FVec Ideal S1024x1024 .f32) (g b : FVec Ideal S1024 .f32)
    (i : Fin 32) (s : Fin 16) (l : Fin 1024) :
    out o h w g b (ix3 i s l) = norm (fun k => alpha * h (ix3 i s k) + ∑ j, o (ix3 i s j) * w (ix2 j k)) (fun k => g (ix1 k)) (fun k => b (ix1 k)) l := by
  unfold out
  rw [normed_at]
  exact congrArg (fun f => norm f (fun k => g (ix1 k)) (fun k => b (ix1 k)) l) (funext fun k => mixed_at o h w i s k)

end Cert.RefSampleProjectOutIdeal.Proj

end
-- ==== Proof.SampleProjectOutIdeal.Value.lean ====
/-
  The output projection over the extended reals: each grid point's rows of the residual stream plus the projection,
  normed, and the array the rows make up, is the reference's result read with batch and position as one row.
-/
module

public import proofs.«01_k».proof.Proof.Gen.SampleProjectOutIdeal.Frame
public import proofs.«01_k».proof.Proof.RefSampleProjectOutIdeal.Value
public import Idealize.ShloMosaic.Lib.Pipeline.ValueKit
public import Idealize.ShloMosaic.Lib.Claim

@[expose] public section

set_option maxRecDepth 16384

noncomputable section

namespace Cert.SampleProjectOutIdeal.Proj

open Cert.SampleProjectOutIdeal Cert.SampleProjectOutIdeal.Gen
open Idealize.ShloMosaic Idealize.ShloMosaic.TcCoe Idealize.SL.Sem
open Idealize.ShloMosaic.Pipeline (Dat)
open Cert.RefSampleProjectOutIdeal.Proj (out out_at)
open Stick (alpha mean norm)

variable (m : (ℓ : Loc nD τ sig) → Buf (Elt Ideal) ℓ)

abbrev argO (c : Dev nD) : FVec Ideal S32x16x1024 .bf16 := m ((c : Thread nD τ).loc main_arg0)
abbrev argH (c : Dev nD) : FVec Ideal S32x16x1024 .f32 := m ((c : Thread nD τ).loc main_arg1)
abbrev argW (c : Dev nD) : FVec Ideal S1024x1024 .f32 := m ((c : Thread nD τ).loc main_arg2)
abbrev argG (c : Dev nD) : FVec Ideal S1024 .f32 := m ((c : Thread nD τ).loc main_arg3)
abbrev argB (c : Dev nD) : FVec Ideal S1024 .f32 := m ((c : Thread nD τ).loc main_arg4)

/-- An array with batch and position as one row. -/
abbrev rows (p : FVec Ideal S32x16x1024 .f32) : FVec Ideal S512x1024 .f32 :=
  fun y => p (ix3 ⟨(y 0).val / 16, by have : (y 0).val < 512 := (y 0).isLt; omega⟩ ⟨(y 0).val % 16, by omega⟩ (y 1))

/-! ### The arrays as the region finds them -/

/-- The attention's rows. -/
theorem outputs_at (c : Dev nD) (r : Fin 512) (l : Fin 1024) : (V m c main_v1 : Vec Ideal S512x1024 .bf16) (ix2 r l) = argO m c (ix3 ⟨r.val / 16, by omega⟩ ⟨r.val % 16, by omega⟩ l) := by
  unfold V V0; rw [show ([hostOps0].flatten : List (HloOp τ sig (Elt Ideal))) = hostOps0 from rfl]; after_results
  pointwise

/-- The residual stream's rows. -/
theorem hidden_at (c : Dev nD) (r : Fin 512) (l : Fin 1024) : (V m c main_v0 : Vec Ideal S512x1024 .f32) (ix2 r l) = argH m c (ix3 ⟨r.val / 16, by omega⟩ ⟨r.val % 16, by omega⟩ l) := by
  unfold V V0; rw [show ([hostOps0].flatten : List (HloOp τ sig (Elt Ideal))) = hostOps0 from rfl]; after_results
  pointwise

/-- The weights. -/
theorem weights_at (c : Dev nD) (k l : Fin 1024) : (V m c main_v2 : Vec Ideal S1024x1024 .bf16) (ix2 k l) = argW m c (ix2 k l) := by
  unfold V V0; rw [show ([hostOps0].flatten : List (HloOp τ sig (Elt Ideal))) = hostOps0 from rfl]; after_results
  pointwise

/-- The norm's scales. -/
theorem scales_at (c : Dev nD) (z : Fin 1) (l : Fin 1024) : (V m c main_v3 : Vec Ideal S1x1024 .f32) (ix2 z l) = argG m c (ix1 l) := by
  unfold V V0; rw [show ([hostOps0].flatten : List (HloOp τ sig (Elt Ideal))) = hostOps0 from rfl]; after_results
  pointwise

/-- The norm's shifts. -/
theorem shifts_at (c : Dev nD) (z : Fin 1) (l : Fin 1024) : (V m c main_v4 : Vec Ideal S1x1024 .f32) (ix2 z l) = argB m c (ix1 l) := by
  unfold V V0; rw [show ([hostOps0].flatten : List (HloOp τ sig (Elt Ideal))) = hostOps0 from rfl]; after_results
  pointwise

/-! ### The windows -/

theorem index : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- A block of the attention's rows. -/
theorem block0 (c : Dev nD) (t : Fin cfg0.N) (r : Fin 512) (l : Fin 1024) : (iblk m c 0 t : Vec Ideal S512x1024 .bf16) (ix2 r l)
    = (V m c main_v1 : Vec Ideal S512x1024 .bf16) (ix2 r l) := by
  have e : (win0_0.blk t).view.emb (ix2 r l : S512x1024.Idx) = (ix2 r l : S512x1024.Idx) := by
    blk_ext [(index t).1]
  unfold iblk
  blk_simp
  exact congrArg (V m c main_v1) e

/-- A block of the residual stream's rows. -/
theorem block1 (c : Dev nD) (t : Fin cfg0.N) (r : Fin 512) (l : Fin 1024) : (iblk m c 1 t : Vec Ideal S512x1024 .f32) (ix2 r l)
    = (V m c main_v0 : Vec Ideal S512x1024 .f32) (ix2 r l) := by
  have e : (win0_1.blk t).view.emb (ix2 r l : S512x1024.Idx) = (ix2 r l : S512x1024.Idx) := by
    blk_ext [(index t).2.1]
  unfold iblk
  blk_simp
  exact congrArg (V m c main_v0) e

/-- The weights' block is the array. -/
theorem block2 (c : Dev nD) (t : Fin cfg0.N) (k l : Fin 1024) : (iblk m c 2 t : Vec Ideal S1024x1024 .bf16) (ix2 k l)
    = (V m c main_v2 : Vec Ideal S1024x1024 .bf16) (ix2 k l) := by
  have e : (win0_2.blk t).view.emb (ix2 k l : S1024x1024.Idx) = (ix2 k l : S1024x1024.Idx) := by
    blk_ext [(index t).2.2.1]
  unfold iblk
  blk_simp
  exact congrArg (V m c main_v2) e

/-- The scales' block is the array. -/
theorem block3 (c : Dev nD) (t : Fin cfg0.N) (z : Fin 1) (l : Fin 1024) : (iblk m c 3 t : Vec Ideal S1x1024 .f32) (ix2 z l)
    = (V m c main_v3 : Vec Ideal S1x1024 .f32) (ix2 z l) := by
  have e : (win0_3.blk t).view.emb (ix2 z l : S1x1024.Idx) = (ix2 z l : S1x1024.Idx) := by
    blk_ext [(index t).2.2.2.1]
  unfold iblk
  blk_simp
  exact congrArg (V m c main_v3) e

/-- The shifts' block is the array. -/
theorem block4 (c : Dev nD) (t : Fin cfg0.N) (z : Fin 1) (l : Fin 1024) : (iblk m c 4 t : Vec Ideal S1x1024 .f32) (ix2 z l)
    = (V m c main_v4 : Vec Ideal S1x1024 .f32) (ix2 z l) := by
  have e : (win0_4.blk t).view.emb (ix2 z l : S1x1024.Idx) = (ix2 z l : S1x1024.Idx) := by
    blk_ext [(index t).2.2.2.2.1]
  unfold iblk
  blk_simp
  exact congrArg (V m c main_v4) e

theorem place (t : Fin cfg0.N) (y : S512x1024.Idx) :
    (((cfg0.win 5).blk t).view.emb y : S512x1024.Idx) = ix2 (y 0) (y 1) := by
  blk_ext [(index t).2.2.2.2.2]

/-! ### One point -/

/-- A block's row of the residual stream plus the projection. -/
abbrev mix (o : Vec Ideal S512x1024 .bf16) (w : Vec Ideal S1024x1024 .bf16) (h : Vec Ideal S512x1024 .f32) (r : Fin 512) (k : Fin 1024) : EReal :=
  alpha * h (ix2 r k) + ∑ j, o (ix2 r j) * w (ix2 j k)

/-- The body's result at an index. -/
theorem payload (o : Vec Ideal S512x1024 .bf16) (w : Vec Ideal S1024x1024 .bf16) (h : Vec Ideal S512x1024 .f32) (g b : Vec Ideal S1x1024 .f32)
    (r : Fin 512) (l : Fin 1024) : k0_pay1 o w h g b (ix2 r l)
      = norm (mix o w h r) (fun k => g (ix2 0 k)) (fun k => b (ix2 0 k)) l := by
  pointwise [k0_pay1]
  rfl

theorem point (c : Dev nD) (t : Fin cfg0.N) (r : Fin 512) (l : Fin 1024) :
    k0_pay1 (iblk m c 0 t) (iblk m c 2 t) (iblk m c 1 t) (iblk m c 3 t) (iblk m c 4 t) (ix2 r l)
      = rows (out (argO m c) (argH m c) (argW m c) (argG m c) (argB m c)) (ix2 r l) := by
  refine (payload _ _ _ _ _ r l).trans ?_
  have hrow := r.isLt
  refine Eq.trans ?_ (out_at (argO m c) (argH m c) (argW m c) (argG m c) (argB m c)
    ⟨r.val / 16, by omega⟩ ⟨r.val % 16, by omega⟩ l).symm
  have hx : mix (iblk m c 0 t) (iblk m c 2 t) (iblk m c 1 t) r
      = fun k => alpha * argH m c (ix3 ⟨r.val / 16, by omega⟩ ⟨r.val % 16, by omega⟩ k)
        + ∑ j : Fin 1024, argO m c (ix3 ⟨r.val / 16, by omega⟩ ⟨r.val % 16, by omega⟩ j) * argW m c (ix2 j k) :=
    funext fun k => congr_arg₂ (· + ·) (congrArg (alpha * ·) ((block1 m c t r k).trans (hidden_at m c _ _)))
      (Finset.sum_congr rfl fun j _ => congr_arg₂ (· * ·) ((block0 m c t r j).trans (outputs_at m c _ _)) ((block2 m c t j k).trans (weights_at m c _ _)))
  have hg : (fun k : Fin 1024 => (iblk m c 3 t : Vec Ideal S1x1024 .f32) (ix2 0 k)) = fun k => argG m c (ix1 k) :=
    funext fun k => (block3 m c t 0 k).trans (scales_at m c _ _)
  have hb : (fun k : Fin 1024 => (iblk m c 4 t : Vec Ideal S1x1024 .f32) (ix2 0 k)) = fun k => argB m c (ix1 k) :=
    funext fun k => (block4 m c t 0 k).trans (shifts_at m c _ _)
  exact congr (congr (congr (congrArg norm hx) hg) hb) rfl

theorem array (c : Dev nD) : (dats m 0 c).arrAt 5 cfg0.N = rows (out (argO m c) (argH m c) (argW m c) (argG m c) (argB m c)) := by
  refine (dats m 0 c).arrAt_eq_of_covers 5 _ (by decide +kernel) fun t _ y => ?_
  blk_simp
  rw [after0_5]; frame_out
  exact (congrArg (k0_pay1 (F := Ideal) _ _ _ _ _) (ix2_eta y).symm).trans ((point m c t (y 0) (y 1)).trans (congrArg _ (place t y).symm))

/-! ### The result -/

/-- Batch and position apart. -/
theorem apart (p : FVec Ideal S32x16x1024 .f32) : shapeCast S32x16x1024 (rows p) shapeCasts_S512x1024_S32x16x1024 = p := by
  funext y
  have h1 : (y 1).val < 16 := (y 1).isLt
  pointwise
  refine (congr_arg₂ (fun a b => p (ix3 a b (y 2))) (Fin.ext ?_) (Fin.ext ?_)).trans (congrArg p (ix3_eta y))
  · show ((y 0).val * 16 + (y 1).val) / 16 = (y 0).val; omega
  · show ((y 0).val * 16 + (y 1).val) % 16 = (y 1).val; omega

/-- No two windows share an array. -/
theorem arrays_inj : Function.Injective (Pipeline.arrRef (cfgs 0).spec) := by
  intro a b h
  revert a b
  decide

/-- The run: the result is the reference's, and the arguments are unchanged. -/
theorem run (g : Dev nD → PrngReg) : θ_run defs (onTc (τ := τ) (main (F := Ideal))) ⟨m, fun _ => 0, g⟩ (fun r => ∀ c : Dev nD,
      r.2.mem ((c.tc : Thread nD τ).loc main_v6) = out (argO m c) (argH m c) (argW m c) (argG m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from run_main m g & unchanged m g
  unfold Pipeline.afterTail₀
  rw [show ([hostOps1].flatten : List (HloOp τ sig (Elt Ideal))) = hostOps1 from rfl]
  after_results
  exact (congrArg (fun a => shapeCast S32x16x1024 a shapeCasts_S512x1024_S32x16x1024)
    ((Pipeline.withArrays_arr _ arrays_inj c _ _ 5).trans (array m c))).trans (apart _)

end Cert.SampleProjectOutIdeal.Proj

end
-- ==== Proof.SampleProjections.lean ====
/-
  The certificates of the sample batch's projections: keys and values, queries, and the output projection
  with its residual and norm.
  Of each, the frames of the three programs and the equation. No program is rewritten, so each idealization is its
  program's own text.
-/
module

public import proofs.«01_k».proof.Defs
public import proofs.«01_k».proof.Proof.Gen.SampleKeysValues.Frame
public import proofs.«01_k».proof.Proof.SampleKeysValuesIdeal.Value
public import proofs.«01_k».proof.Proof.Gen.RefSampleKeysValuesIdeal.Run
public import proofs.«01_k».proof.Proof.Gen.SampleQueries.Frame
public import proofs.«01_k».proof.Proof.SampleQueriesIdeal.Value
public import proofs.«01_k».proof.Proof.Gen.RefSampleQueriesIdeal.Run
public import proofs.«01_k».proof.Proof.Gen.SampleProjectOut.Frame
public import proofs.«01_k».proof.Proof.SampleProjectOutIdeal.Value
public import proofs.«01_k».proof.Proof.Gen.RefSampleProjectOutIdeal.Run
public import Idealize.ShloMosaic.Lib.Quiescent
public import Idealize.ShloMosaic.Adequacy
public import Idealize.ShloMosaic.Init

@[expose] public section

noncomputable section

namespace Cert.SampleProjections

open Idealize.ShloMosaic Idealize.SL.Sem

/-! ### The keys and values -/

theorem keysValues_frame : Cert.quiescent_SampleKeysValues := fun m ρ _ => Cert.SampleKeysValues.Gen.frame m ρ

theorem keysValues_frameIdeal : Cert.quiescent_SampleKeysValuesIdeal := fun m ρ _ => Cert.SampleKeysValuesIdeal.Gen.frame m ρ

/-- The reference is host code and declares no semaphore. -/
theorem keysValues_frameRef : Cert.quiescent_RefSampleKeysValuesIdeal := fun m ρ _ =>
  (θ_run Cert.RefSampleKeysValuesIdeal.defs _ _).mono (fun r h => ⟨fun c => (h c).2.2.2.2, sem_eq_zero_of_no_sems (by decide) r.2⟩)
    (Cert.RefSampleKeysValuesIdeal.Value.run (F := Ideal) m ρ)

theorem keysValues_preserves : Cert.preserves_SampleKeysValues_SampleKeysValuesIdeal := trivial

/-- Both runs end with the two products, the heads apart, and their copies. -/
theorem keysValues_equation : Cert.algebraic_SampleKeysValuesIdeal_RefSampleKeysValuesIdeal := by
  intro m g m' g' _ hargs
  refine ⟨_, _, _, _, Cert.SampleKeysValuesIdeal.Proj.run m g, ?_⟩
  refine (θ_run Cert.RefSampleKeysValuesIdeal.defs _ _).mono (fun r h c => ?_) (Cert.RefSampleKeysValuesIdeal.Value.run (F := Ideal) m' g')
  obtain ⟨h0, h1, h2⟩ := hargs c
  obtain ⟨r0, r1, r2, r3, rest⟩ := h c
  refine ⟨r0.trans ?_, r1.trans ?_, r2.trans ?_, r3.trans ?_, rest⟩
  · exact congrArg (fun p => shapeCast Cert.SampleKeysValuesIdeal.S32x16x16x64 p Cert.RefSampleKeysValuesIdeal.Gen.shapeCasts_S32x16x1024_S32x16x16x64) (congr_arg₂ Cert.SampleKeysValuesIdeal.Proj.product h0 h1)
  · exact congrArg (fun p => shapeCast Cert.SampleKeysValuesIdeal.S32x16x16x64 p Cert.RefSampleKeysValuesIdeal.Gen.shapeCasts_S32x16x1024_S32x16x16x64) (congr_arg₂ Cert.SampleKeysValuesIdeal.Proj.product h0 h2)
  · exact congrArg (fun p => truncf .bf16 p Cert.RefSampleKeysValuesIdeal.Gen.bitsLt_bf16_f32) (congr_arg₂ Cert.SampleKeysValuesIdeal.Proj.product h0 h1)
  · exact congrArg (fun p => truncf .bf16 p Cert.RefSampleKeysValuesIdeal.Gen.bitsLt_bf16_f32) (congr_arg₂ Cert.SampleKeysValuesIdeal.Proj.product h0 h2)

/-! ### The queries -/

theorem queries_frame : Cert.quiescent_SampleQueries := fun m ρ _ => Cert.SampleQueries.Gen.frame m ρ

theorem queries_frameIdeal : Cert.quiescent_SampleQueriesIdeal := fun m ρ _ => Cert.SampleQueriesIdeal.Gen.frame m ρ

/-- The reference is host code and declares no semaphore. -/
theorem queries_frameRef : Cert.quiescent_RefSampleQueriesIdeal := fun m ρ _ =>
  (θ_run Cert.RefSampleQueriesIdeal.defs _ _).mono (fun r h => ⟨fun c => (h c).2, sem_eq_zero_of_no_sems (by decide) r.2⟩)
    (Cert.RefSampleQueriesIdeal.Value.run (F := Ideal) m ρ)

theorem queries_preserves : Cert.preserves_SampleQueries_SampleQueriesIdeal := trivial

/-- Both runs end with the scaled product. -/
theorem queries_equation : Cert.algebraic_SampleQueriesIdeal_RefSampleQueriesIdeal := by
  intro m g m' g' _ hargs
  refine ⟨_, Cert.SampleQueriesIdeal.Proj.run m g, ?_⟩
  refine (θ_run Cert.RefSampleQueriesIdeal.defs _ _).mono (fun r h c => ⟨(h c).1.trans ?_, (h c).2⟩) (Cert.RefSampleQueriesIdeal.Value.run (F := Ideal) m' g')
  obtain ⟨h0, h1⟩ := hargs c
  exact congr_arg₂ Cert.SampleQueriesIdeal.Proj.product h0 h1

/-! ### The output projection -/

theorem projectOut_frame : Cert.quiescent_SampleProjectOut := fun m ρ _ => Cert.SampleProjectOut.Gen.frame m ρ

theorem projectOut_frameIdeal : Cert.quiescent_SampleProjectOutIdeal := fun m ρ _ => Cert.SampleProjectOutIdeal.Gen.frame m ρ

/-- The reference is host code and declares no semaphore. -/
theorem projectOut_frameRef : Cert.quiescent_RefSampleProjectOutIdeal := fun m ρ _ =>
  (θ_run Cert.RefSampleProjectOutIdeal.defs _ _).mono (fun r h => ⟨fun c => (h c).2, sem_eq_zero_of_no_sems (by decide) r.2⟩)
    (Cert.RefSampleProjectOutIdeal.Value.run (F := Ideal) m ρ)

theorem projectOut_preserves : Cert.preserves_SampleProjectOut_SampleProjectOutIdeal := trivial

/-- Both runs end with the normed rows. -/
theorem projectOut_equation : Cert.algebraic_SampleProjectOutIdeal_RefSampleProjectOutIdeal := by
  intro m g m' g' _ hargs
  refine ⟨_, Cert.SampleProjectOutIdeal.Proj.run m g, ?_⟩
  refine (θ_run Cert.RefSampleProjectOutIdeal.defs _ _).mono (fun r h c => ⟨(h c).1.trans ?_, (h c).2⟩) (Cert.RefSampleProjectOutIdeal.Value.run (F := Ideal) m' g')
  obtain ⟨h0, h1, h2, h3, h4⟩ := hargs c
  change Cert.RefSampleProjectOutIdeal.Proj.out _ _ _ _ _ = Cert.RefSampleProjectOutIdeal.Proj.out _ _ _ _ _
  exact congr (congr (congr (congr (congrArg Cert.RefSampleProjectOutIdeal.Proj.out h0) h1) h2) h3) h4

end Cert.SampleProjections

end
-- ==== Proof.SampleConvIdeal.Body.lean ====
/-
  The sample batch's convolution layer at one grid point: what the body leaves in the output block and in the state block,
  as functions of the blocks. One tile holds a whole batch row, so the two rows before it are always the previous
  state's, stored in the scratch and read back.
-/
module

public import proofs.«01_k».proof.Proof.Gen.SampleConvIdeal.Frame
public import proofs.«01_k».proof.Proof.Gen.SampleConvIdeal.Skeleton
public import Idealize.ShloMosaic.Lib.Tactic
public import Idealize.ShloMosaic.Lib.VecWindow

@[expose] public section

set_option maxRecDepth 16384

noncomputable section

namespace Cert.SampleConvIdeal.Layer

open Cert.SampleConvIdeal Cert.SampleConvIdeal.Gen
open Idealize.ShloMosaic Idealize.ShloMosaic.TcCoe Idealize.ShloMosaic.Tactic
open Idealize.SL.Sem

variable {F : FTy → Type} [FloatOps F]

/-! ### What the body computes -/

/-- The scratch's two carried rows, -/
abbrev two : Rect S8x1024 := Rect.unit (s := S8x1024) ![0, 0] S2x1024.size inb_S8x1024_S2x1024_0_0
/-- the first of them, -/
abbrev fst : Rect S8x1024 := Rect.unit (s := S8x1024) ![0, 0] S1x1024.size inb_S8x1024_S1x1024_0_0
/-- and the second. -/
abbrev snd : Rect S8x1024 := Rect.unit (s := S8x1024) ![1, 0] S1x1024.size inb_S8x1024_S1x1024_1_0

/-- The taps' rows of the depthwise weights. -/
abbrev tap0 (w : Vec F S3x1024 .f32) : Vec F S1x1024 .f32 := View.ld w (Rect.unit (s := S3x1024) ![0, 0] S1x1024.size inb_S3x1024_S1x1024_0_0)
abbrev tap1 (w : Vec F S3x1024 .f32) : Vec F S1x1024 .f32 := View.ld w (Rect.unit (s := S3x1024) ![1, 0] S1x1024.size inb_S3x1024_S1x1024_1_0)
abbrev tap2 (w : Vec F S3x1024 .f32) : Vec F S1x1024 .f32 := View.ld w (Rect.unit (s := S3x1024) ![2, 0] S1x1024.size inb_S3x1024_S1x1024_2_0)

/-- Row `k` of the two carried. -/
def rowOf (k : Fin 2) (z : Vec F S2x1024 .f32) : Vec F S1x1024 .f32 := fun y => z fun | 0 => k | 1 => y 1

/-- The output block, from the blocks and the carried rows `p`, `q`. -/
def outRows (x : Vec F S1x16x1024 .f32) (win : Vec F S1024x3072 .bf16) (wdw : Vec F S3x1024 .f32) (wout : Vec F S1024x1024 .bf16)
    (g b p q : Vec F S1x1024 .f32) : Vec F S1x16x1024 .f32 :=
  k0_pay1 (k0_pay11 b) (k0_pay12 (k0_pay3 x) (k0_pay5 x win) (k0_pay6 x win)
    (k0_pay8 x win q) (k0_pay9 x win p q (tap0 wdw)) (tap1 wdw) (tap2 wdw) wout g)

/-- The output block, from the blocks and the two rows `z` carried in. -/
def outBlock (x : Vec F S1x16x1024 .f32) (win : Vec F S1024x3072 .bf16) (wdw : Vec F S3x1024 .f32) (wout : Vec F S1024x1024 .bf16)
    (g b : Vec F S1x1024 .f32) (z : Vec F S2x1024 .f32) : Vec F S1x16x1024 .f32 :=
  outRows x win wdw wout g b (rowOf 0 z) (rowOf 1 z)

/-- The two rows before a batch row. -/
def carryStart (prev : Vec F S1x2x1024 .f32) : Vec F S2x1024 .f32 := k0_pay7 prev

/-- The state block. -/
def stateBlock (x : Vec F S1x16x1024 .f32) (win : Vec F S1024x3072 .bf16) : Vec F S1x2x1024 .f32 := k0_pay2 (k0_pay6 x win)

/-! ### The carried rows in the scratch -/

/-- The first carried row, read from the scratch, -/
theorem ld_fst (s : Vec F S8x1024 .f32) : View.ld s fst = rowOf 0 (View.ld s two) := by
  funext y
  show s _ = s _
  congr 1; funext a; apply Fin.ext; fin_cases a
  · have h0 : (y 0).val < 1 := (y 0).isLt
    show 0 + 1 * (y 0).val = 0 + 1 * 0; omega
  · rfl

/-- and the second. -/
theorem ld_snd (s : Vec F S8x1024 .f32) : View.ld s snd = rowOf 1 (View.ld s two) := by
  funext y
  show s _ = s _
  congr 1; funext a; apply Fin.ext; fin_cases a
  · have h0 : (y 0).val < 1 := (y 0).isLt
    show 1 + 1 * (y 0).val = 0 + 1 * 1; omega
  · rfl

/-- The two rows, read after they were stored. -/
theorem ld_two (v : View sig .tc .vmem S8x1024 .f32) (f : v.ty.Contents (Elt F)) (w : Vec F S2x1024 .f32) (L : List (View.Piece (Elt F) S8x1024 .f32)) :
    View.ld (v.read (Elt F) (v.writes (Elt F) f (⟨two, w⟩ :: L))) two = w := by
  funext y
  exact View.read_writes_cons_emb v f two w L y

/-- Each of the two rows, read after both were stored. -/
theorem cov_fst (v : View sig .tc .vmem S8x1024 .f32) (w : Vec F S2x1024 .f32) (L : List (View.Piece (Elt F) S8x1024 .f32)) :
    v.readCov (⟨two, w⟩ :: L) fst.toLoadRect = rowOf 0 w := by
  unfold View.readCov
  exact (ld_fst _).trans (congrArg (rowOf 0) (ld_two v v.junk w L))

theorem cov_snd (v : View sig .tc .vmem S8x1024 .f32) (w : Vec F S2x1024 .f32) (L : List (View.Piece (Elt F) S8x1024 .f32)) :
    v.readCov (⟨two, w⟩ :: L) snd.toLoadRect = rowOf 1 w := by
  unfold View.readCov
  exact (ld_snd _).trans (congrArg (rowOf 1) (ld_two v v.junk w L))

end Cert.SampleConvIdeal.Layer

end
-- ==== Proof.SampleConvIdeal.Point.lean ====
/-
  One tile of the convolution layer over the extended reals: the body's output at an index is the layer norm of the
  layer's row, whose two rows before are the tile's own, or, at the tile's first two rows, those carried in.
-/
module

public import proofs.«01_k».proof.Proof.SampleConvIdeal.Body
public import proofs.«01_k».proof.Proof.Stick.Conv
public import Idealize.ShloMosaic.Lib.Pipeline.ValueKit

@[expose] public section

set_option maxRecDepth 16384

noncomputable section

namespace Cert.SampleConvIdeal.Layer

open Cert.SampleConvIdeal Cert.SampleConvIdeal.Gen
open Idealize.ShloMosaic
open Stick (alpha mean norm gate gated layer)

variable (x : Vec Ideal S1x16x1024 .f32) (win : Vec Ideal S1024x3072 .bf16)

/-! ### The taps -/

theorem tap0_at (w : Vec Ideal S3x1024 .f32) (l : Fin 1024) : tap0 w (ix2 0 l) = w (ix2 0 l) := by
  unfold tap0; pointwise

theorem tap1_at (w : Vec Ideal S3x1024 .f32) (l : Fin 1024) : tap1 w (ix2 0 l) = w (ix2 1 l) := by
  unfold tap1; pointwise

theorem tap2_at (w : Vec Ideal S3x1024 .f32) (l : Fin 1024) : tap2 w (ix2 0 l) = w (ix2 2 l) := by
  unfold tap2; pointwise

/-! ### The projections and the gated rows -/

/-- A row of the tile. -/
abbrev rowX (r : Fin 16) : Fin 1024 → EReal := fun k => x (ix3 0 r k)

/-- The input weights, entry by entry. -/
abbrev entriesIn : Fin 1024 → Fin 3072 → EReal := fun k l => win (ix2 k l)

/-- The three projections, side by side. -/
theorem projected_at (r : Fin 16) (l : Fin 3072) : k0_pay4 x win (ix2 r l) = ∑ k, x (ix3 0 r k) * win (ix2 k l) := by
  pointwise [k0_pay4, k0_pay3]

theorem gate_at (r : Fin 16) (l : Fin 1024) : k0_pay5 x win (ix2 r l) = gate (rowX x r) (entriesIn win) l := by
  unfold k0_pay5
  pointwise
  exact projected_at x win r _

theorem gated_at (r : Fin 16) (l : Fin 1024) : k0_pay6 x win (ix2 r l) = gated (rowX x r) (entriesIn win) l := by
  unfold k0_pay6
  pointwise
  exact congr_arg₂ (· * ·) (projected_at x win r _) (projected_at x win r _)

/-- The gated row one before: the second carried row at the tile's first. -/
def oneBefore (q : Vec Ideal S1x1024 .f32) (r : Fin 16) : Fin 1024 → EReal := fun l =>
  if r.val = 0 then q (ix2 0 l) else gated (rowX x ⟨r.val - 1, by omega⟩) (entriesIn win) l

/-- The gated row two before: the carried rows at the tile's first two. -/
def twoBefore (p q : Vec Ideal S1x1024 .f32) (r : Fin 16) : Fin 1024 → EReal := fun l =>
  if r.val = 0 then p (ix2 0 l) else if r.val = 1 then q (ix2 0 l) else gated (rowX x ⟨r.val - 2, by omega⟩) (entriesIn win) l

/-- A choice by the row's number, as the body computes it. -/
theorem choose_row (r : Fin 16) (n : ℕ) (hn : n < 16) (a b : EReal) :
    Scalar.select (IntOp.cmpi CmpIPredicate.eq (BitVec.ofNat 32 r.val) (BitVec.ofNat 32 n)) a b = if r.val = n then a else b := by
  have hr := r.isLt
  have e : (BitVec.ofNat 32 r.val == BitVec.ofNat 32 n) = decide (r.val = n) := by
    rw [Bool.eq_iff_iff, beq_iff_eq, decide_eq_true_iff, ← BitVec.toNat_inj, BitVec.toNat_ofNat, BitVec.toNat_ofNat,
      Nat.mod_eq_of_lt (by omega), Nat.mod_eq_of_lt (by omega)]
  unfold IntOp.cmpi
  simp only [e]
  by_cases h : r.val = n
  · rw [if_pos h, decide_eq_true h]; rfl
  · rw [if_neg h, decide_eq_false h]; rfl

/-- A row that is not among the first two is the rotated vector's. -/
theorem rotated_at (n : ℕ) (r : Fin 16) (hn : n ≤ r.val) (l : Fin 1024) (h) :
    k0_pay6 x win (ix2 ⟨(r.val + 16 - n) % 16, h⟩ l) = gated (rowX x ⟨r.val - n, by omega⟩) (entriesIn win) l :=
  (congrArg (fun i => k0_pay6 x win (ix2 i l)) (Fin.ext (show (r.val + 16 - n) % 16 = r.val - n by omega))).trans (gated_at x win _ l)

theorem oneBefore_at (q : Vec Ideal S1x1024 .f32) (r : Fin 16) (l : Fin 1024) : k0_pay8 x win q (ix2 r l) = oneBefore x win q r l := by
  unfold k0_pay8 oneBefore
  pointwise
  refine (choose_row r 0 (by omega) _ _).trans ?_
  split
  · rfl
  · exact rotated_at x win 1 r (by omega) l _

theorem twoBefore_at (t0 p q : Vec Ideal S1x1024 .f32) (r : Fin 16) (l : Fin 1024) :
    k0_pay9 x win p q t0 (ix2 r l) = t0 (ix2 0 l) * twoBefore x win p q r l := by
  unfold k0_pay9 twoBefore
  pointwise
  refine congrArg (t0 (ix2 0 l) * ·) ((choose_row r 0 (by omega) _ _).trans ?_)
  split
  · rfl
  refine (choose_row r 1 (by omega) _ _).trans ?_
  split
  · rfl
  · exact rotated_at x win 2 r (by omega) l _

theorem tile (t0 t1 t2 : Vec Ideal S1x1024 .f32) (wout : Vec Ideal S1024x1024 .bf16) (g b p q : Vec Ideal S1x1024 .f32) (r : Fin 16) (l : Fin 1024) :
    k0_pay1 (k0_pay11 b) (k0_pay12 (k0_pay3 x) (k0_pay5 x win) (k0_pay6 x win) (k0_pay8 x win q) (k0_pay9 x win p q t0) t1 t2 wout g) (ix3 0 r l)
      = norm (layer (rowX x r) (entriesIn win) (fun | 0 => fun l => t0 (ix2 0 l) | 1 => fun l => t1 (ix2 0 l) | 2 => fun l => t2 (ix2 0 l)) (fun k l => wout (ix2 k l))
          (twoBefore x win p q r) (oneBefore x win q r) (gated (rowX x r) (entriesIn win))) (fun k => g (ix2 0 k)) (fun k => b (ix2 0 k)) l := by
  pointwise [k0_pay1, k0_pay11, k0_pay12, k0_pay3]
  simp only [gate_at, gated_at, oneBefore_at, twoBefore_at]
  rfl

/-- The body's output at an index. -/
theorem outRows_at (wdw : Vec Ideal S3x1024 .f32) (wout : Vec Ideal S1024x1024 .bf16) (g b p q : Vec Ideal S1x1024 .f32) (r : Fin 16) (l : Fin 1024) :
    outRows x win wdw wout g b p q (ix3 0 r l)
      = norm (layer (rowX x r) (entriesIn win) (fun j l => wdw (ix2 j l)) (fun k l => wout (ix2 k l)) (twoBefore x win p q r) (oneBefore x win q r)
          (gated (rowX x r) (entriesIn win))) (fun k => g (ix2 0 k)) (fun k => b (ix2 0 k)) l := by
  unfold outRows
  rw [tile]
  refine congrArg (fun d => norm (layer (rowX x r) (entriesIn win) d (fun k l => wout (ix2 k l)) (twoBefore x win p q r) (oneBefore x win q r)
    (gated (rowX x r) (entriesIn win))) (fun k => g (ix2 0 k)) (fun k => b (ix2 0 k)) l) (funext fun j => ?_)
  fin_cases j
  · exact funext (tap0_at wdw)
  · exact funext (tap1_at wdw)
  · exact funext (tap2_at wdw)

/-- The rows the first tile starts from. -/
theorem carryStart_at (prev : Vec Ideal S1x2x1024 .f32) (j : Fin 2) (l : Fin 1024) : carryStart prev (ix2 j l) = prev (ix3 0 j l) := by
  unfold carryStart
  pointwise [k0_pay7]

/-- The state written out. -/
theorem stateBlock_at (j : Fin 2) (l : Fin 1024) : stateBlock x win (ix3 0 j l) = gated (rowX x ⟨14 + j.val, by omega⟩) (entriesIn win) l := by
  unfold stateBlock
  pointwise [k0_pay2]
  exact gated_at x win _ l

end Cert.SampleConvIdeal.Layer

end
-- ==== Proof.RefSampleConvIdeal.Value.lean ====
/-
  The reference of the convolution layer over the extended reals, at an index.
-/
module

public import proofs.«01_k».proof.Proof.Stick.Conv
public import proofs.«01_k».proof.Proof.Gen.RefSampleConvIdeal.Run
public import Idealize.ShloMosaic.Lib.Pipeline.ValueKit

@[expose] public section

set_option maxRecDepth 16384

noncomputable section

namespace Cert.RefSampleConvIdeal.Layer

open Cert.RefSampleConvIdeal Cert.RefSampleConvIdeal.Gen
open Idealize.ShloMosaic Idealize.SL.Sem
open Stick (alpha mean norm gate gated layer)

/-! ### What the reference computes -/

/-- The three projections, side by side. -/
def projected (h : FVec Ideal S32x16x1024 .f32) (w : FVec Ideal S1024x3072 .f32) : FVec Ideal S32x16x3072 .f32 :=
  Host.dotGeneral dot_S32x16x1024_S1024x3072_S32x16x3072_2_0_01_1_n_n none h w

/-- The gated rows, behind the two of the previous state. -/
def padded (prev : FVec Ideal S32x2x1024 .f32) (p : FVec Ideal S32x16x3072 .f32) : FVec Ideal S32x18x1024 .f32 :=
  concatenate S32x18x1024 1 [⟨S32x2x1024, prev⟩, ⟨S32x16x1024, mulf (extractStridedSlice S32x16x1024 ![0, 0, 1024] p slices_S32x16x3072_S32x16x1024_0_0_1024)
    (extractStridedSlice S32x16x1024 ![0, 0, 2048] p slices_S32x16x3072_S32x16x1024_0_0_2048)⟩] concatenates_S32x2x1024_S32x16x1024_S32x18x1024_d1

/-- Each row's mean, along the row. -/
def means (x : FVec Ideal S32x16x1024 .f32) : FVec Ideal S32x16x1 .f32 :=
  Host.divf (broadcastInDim S32x16x1 ![0, 1] bcast_S32x16_S32x16x1_0_1
    (Host.reduceAdd x (constant (F := Ideal) S_ .f32 0x00000000#32) reducesTo_S32x16x1024_S32x16_d2 h_S_))
    (broadcastInDim S32x16x1 ![] bcast_S_S32x16x1 (constant (F := Ideal) S_ .f32 0x44800000#32))

/-- Each row less its mean. -/
def centred (x : FVec Ideal S32x16x1024 .f32) : FVec Ideal S32x16x1024 .f32 :=
  subf x (broadcastInDim S32x16x1024 ![0, 1, 2] bcast_S32x16x1_S32x16x1024_0_1_2 (means x))

/-- A vector along every row. -/
def along (g : FVec Ideal S1024 .f32) : FVec Ideal S32x16x1024 .f32 :=
  broadcastInDim S32x16x1024 ![0, 1, 2] bcast_S1x1x1024_S32x16x1024_0_1_2 (broadcastInDim S1x1x1024 ![2] bcast_S1024_S1x1x1024_2 g)

/-- The layer norm of every row. -/
def normed (x : FVec Ideal S32x16x1024 .f32) (g b : FVec Ideal S1024 .f32) : FVec Ideal S32x16x1024 .f32 :=
  addf (mulf (mulf (centred x) (broadcastInDim S32x16x1024 ![0, 1, 2] bcast_S32x16x1_S32x16x1024_0_1_2
    (Host.rsqrt (addf (means (mulf (centred x) (centred x)))
      (broadcastInDim S32x16x1 ![] bcast_S_S32x16x1 (constant (F := Ideal) S_ .f32 0x3727C5AC#32)))))) (along g)) (along b)

/-- A tap's weights along every row. -/
def taps (r : FVec Ideal S1x1024 .f32) : FVec Ideal S32x16x1024 .f32 := along (shapeCast S1024 r shapeCasts_S1x1024_S1024)

/-- The convolution over three positions. -/
def convolved (d : FVec Ideal S3x1024 .f32) (u : FVec Ideal S32x18x1024 .f32) : FVec Ideal S32x16x1024 .f32 :=
  addf (addf (mulf (taps (extractStridedSlice S1x1024 ![0, 0] d slices_S3x1024_S1x1024_0_0)) (extractStridedSlice S32x16x1024 ![0, 0, 0] u slices_S32x18x1024_S32x16x1024_0_0_0))
      (mulf (taps (extractStridedSlice S1x1024 ![1, 0] d slices_S3x1024_S1x1024_1_0)) (extractStridedSlice S32x16x1024 ![0, 1, 0] u slices_S32x18x1024_S32x16x1024_0_1_0)))
    (mulf (taps (extractStridedSlice S1x1024 ![2, 0] d slices_S3x1024_S1x1024_2_0)) (extractStridedSlice S32x16x1024 ![0, 2, 0] u slices_S32x18x1024_S32x16x1024_0_2_0))

/-- The residual stream plus the layer's output. -/
def mixed (h : FVec Ideal S32x16x1024 .f32) (prev : FVec Ideal S32x2x1024 .f32) (w : FVec Ideal S1024x3072 .f32) (d : FVec Ideal S3x1024 .f32)
    (wo : FVec Ideal S1024x1024 .f32) : FVec Ideal S32x16x1024 .f32 :=
  addf (mulf (broadcastInDim S32x16x1024 ![] bcast_S_S32x16x1024 (constant (F := Ideal) S_ .f32 0x3FD744FD#32)) h)
    (Host.dotGeneral dot_S32x16x1024_S1024x1024_S32x16x1024_2_0_01_1_n_n none
      (mulf (extractStridedSlice S32x16x1024 ![0, 0, 0] (projected h w) slices_S32x16x3072_S32x16x1024_0_0_0) (convolved d (padded prev (projected h w)))) wo)

/-- What the reference returns: the normed rows, -/
def out (h : FVec Ideal S32x16x1024 .f32) (prev : FVec Ideal S32x2x1024 .f32) (w : FVec Ideal S1024x3072 .f32) (d : FVec Ideal S3x1024 .f32)
    (wo : FVec Ideal S1024x1024 .f32) (g b : FVec Ideal S1024 .f32) : FVec Ideal S32x16x1024 .f32 := normed (mixed h prev w d wo) g b

/-- and the new state, the last two gated rows. -/
def state (h : FVec Ideal S32x16x1024 .f32) (prev : FVec Ideal S32x2x1024 .f32) (w : FVec Ideal S1024x3072 .f32) : FVec Ideal S32x2x1024 .f32 :=
  extractStridedSlice S32x2x1024 ![0, 16, 0] (padded prev (projected h w)) slices_S32x18x1024_S32x2x1024_0_16_0

/-! ### The same, index by index -/

theorem means_at (x : FVec Ideal S32x16x1024 .f32) (i : Fin 32) (s : Fin 16) (z : Fin 1) :
    means x (ix3 i s z) = mean fun k => x (ix3 i s k) := by
  unfold means
  pointwise
  rfl

theorem centred_at (x : FVec Ideal S32x16x1024 .f32) (i : Fin 32) (s : Fin 16) (l : Fin 1024) :
    centred x (ix3 i s l) = x (ix3 i s l) - mean fun k => x (ix3 i s k) := by
  unfold centred
  pointwise
  exact congrArg _ (means_at x i s _)

theorem normed_at (x : FVec Ideal S32x16x1024 .f32) (g b : FVec Ideal S1024 .f32) (i : Fin 32) (s : Fin 16) (l : Fin 1024) :
    normed x g b (ix3 i s l) = norm (fun k => x (ix3 i s k)) (fun k => g (ix1 k)) (fun k => b (ix1 k)) l := by
  unfold normed along
  pointwise
  have hv : means (mulf (centred x) (centred x)) (ix3 i s 0)
      = mean fun k => (x (ix3 i s k) - mean fun k => x (ix3 i s k)) * (x (ix3 i s k) - mean fun k => x (ix3 i s k)) := by
    rw [means_at]
    refine congrArg mean (funext fun k => ?_)
    exact congr_arg₂ (· * ·) (centred_at x i s k) (centred_at x i s k)
  rw [hv, centred_at]
  rfl

/-- A row of the residual stream. -/
abbrev row (h : FVec Ideal S32x16x1024 .f32) (i : Fin 32) (s : Fin 16) : Fin 1024 → EReal := fun k => h (ix3 i s k)

/-- A weight matrix, entry by entry. -/
abbrev entries {m n : ℕ} (w : FVec Ideal ⟨2, ![m, n]⟩ .f32) : Fin m → Fin n → EReal := fun k l => w (ix2 k l)

theorem projected_at (h : FVec Ideal S32x16x1024 .f32) (w : FVec Ideal S1024x3072 .f32) (i : Fin 32) (s : Fin 16) (l : Fin 3072) :
    projected h w (ix3 i s l) = ∑ k, h (ix3 i s k) * w (ix2 k l) := by
  unfold projected
  pointwise

/-- Row `q` of the padded gated rows: the previous state's, then the gated rows from position 0 on. -/
def before (h : FVec Ideal S32x16x1024 .f32) (prev : FVec Ideal S32x2x1024 .f32) (w : FVec Ideal S1024x3072 .f32) (i : Fin 32) (q : Fin 18) : Fin 1024 → EReal := fun l =>
  if hq : q.val < 2 then prev (ix3 i ⟨q.val, hq⟩ l) else gated (row h i ⟨q.val - 2, by omega⟩) (entries w) l

theorem padded_at (h : FVec Ideal S32x16x1024 .f32) (prev : FVec Ideal S32x2x1024 .f32) (w : FVec Ideal S1024x3072 .f32) (i : Fin 32) (q : Fin 18) (l : Fin 1024) :
    padded prev (projected h w) (ix3 i q l) = before h prev w i q l := by
  unfold padded before
  pointwise
  split
  · rfl
  · rw [projected_at, projected_at]; rfl

theorem taps_at (r : FVec Ideal S1x1024 .f32) (i : Fin 32) (s : Fin 16) (l : Fin 1024) : taps r (ix3 i s l) = r (ix2 0 l) := by
  unfold taps along
  pointwise

theorem convolved_at (h : FVec Ideal S32x16x1024 .f32) (prev : FVec Ideal S32x2x1024 .f32) (w : FVec Ideal S1024x3072 .f32) (d : FVec Ideal S3x1024 .f32)
    (i : Fin 32) (s : Fin 16) (l : Fin 1024) : convolved d (padded prev (projected h w)) (ix3 i s l)
      = d (ix2 0 l) * before h prev w i ⟨s.val, by omega⟩ l + d (ix2 1 l) * before h prev w i ⟨1 + s.val, by omega⟩ l
        + d (ix2 2 l) * before h prev w i ⟨2 + s.val, by omega⟩ l := by
  rw [← padded_at, ← padded_at, ← padded_at]
  unfold convolved
  pointwise [taps_at]

theorem mixed_at (h : FVec Ideal S32x16x1024 .f32) (prev : FVec Ideal S32x2x1024 .f32) (w : FVec Ideal S1024x3072 .f32) (d : FVec Ideal S3x1024 .f32)
    (wo : FVec Ideal S1024x1024 .f32) (i : Fin 32) (s : Fin 16) (l : Fin 1024) : mixed h prev w d wo (ix3 i s l)
      = layer (row h i s) (entries w) (entries d) (entries wo) (before h prev w i ⟨s.val, by omega⟩) (before h prev w i ⟨1 + s.val, by omega⟩)
          (before h prev w i ⟨2 + s.val, by omega⟩) l := by
  unfold mixed layer
  pointwise
  refine congrArg (alpha * h (ix3 i s l) + ·) (Finset.sum_congr rfl fun j _ => congrArg (· * wo (ix2 j l)) ?_)
  exact congr_arg₂ (· * ·) (projected_at h w i s _) (convolved_at h prev w d i s j)

theorem out_at (h : FVec Ideal S32x16x1024 .f32) (prev : FVec Ideal S32x2x1024 .f32) (w : FVec Ideal S1024x3072 .f32) (d : FVec Ideal S3x1024 .f32)
    (wo : FVec Ideal S1024x1024 .f32) (g b : FVec Ideal S1024 .f32) (i : Fin 32) (s : Fin 16) (l : Fin 1024) : out h prev w d wo g b (ix3 i s l)
      = norm (layer (row h i s) (entries w) (entries d) (entries wo) (before h prev w i ⟨s.val, by omega⟩) (before h prev w i ⟨1 + s.val, by omega⟩)
          (before h prev w i ⟨2 + s.val, by omega⟩)) (fun k => g (ix1 k)) (fun k => b (ix1 k)) l := by
  unfold out
  rw [normed_at]
  exact congrArg (fun f => norm f (fun k => g (ix1 k)) (fun k => b (ix1 k)) l) (funext fun k => mixed_at h prev w d wo i s k)

theorem state_at (h : FVec Ideal S32x16x1024 .f32) (prev : FVec Ideal S32x2x1024 .f32) (w : FVec Ideal S1024x3072 .f32) (i : Fin 32) (r : Fin 2) (l : Fin 1024) :
    state h prev w (ix3 i r l) = gated (row h i ⟨14 + r.val, by omega⟩) (entries w) l := by
  have e : state h prev w (ix3 i r l) = before h prev w i ⟨16 + r.val, by omega⟩ l := by
    rw [← padded_at]; unfold state; pointwise
  rw [e]; unfold before
  rw [dif_neg (by show ¬ 16 + r.val < 2; omega)]
  exact congrArg (fun q => gated (row h i q) (entries w) l) (Fin.ext (by show 16 + r.val - 2 = 14 + r.val; omega))

theorem out_eq (m : (ℓ : Loc nD τ sig) → Buf (Elt Ideal) ℓ) (c : Dev nD) : Value.res_out0 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Cert.RefSampleConvIdeal.Layer

end
-- ==== Proof.SampleConvIdeal.Value.lean ====
/-
  The sample batch's convolution layer over the extended reals: each grid point's rows are the
  reference's of its batch row, so the arrays the tiles make up are the reference's two results.
-/
module

public import Idealize.ShloMosaic.Lib.Pipeline.ValueKit
public import Idealize.ShloMosaic.Lib.Claim
public import proofs.«01_k».proof.Proof.SampleConvIdeal.Point
public import proofs.«01_k».proof.Proof.RefSampleConvIdeal.Value

@[expose] public section

set_option maxRecDepth 16384

noncomputable section

namespace Cert.SampleConvIdeal.Layer

open Cert.SampleConvIdeal Cert.SampleConvIdeal.Gen
open Idealize.ShloMosaic Idealize.ShloMosaic.TcCoe Idealize.SL.Sem
open Idealize.ShloMosaic.Pipeline (Dat)
open Cert.RefSampleConvIdeal.Layer (out out_at state state_at row entries before)
open Stick (norm gated layer)

variable (m : (ℓ : Loc nD τ sig) → Buf (Elt Ideal) ℓ)

abbrev argH (c : Dev nD) : FVec Ideal S32x16x1024 .f32 := m ((c : Thread nD τ).loc main_arg0)
abbrev argP (c : Dev nD) : FVec Ideal S32x2x1024 .f32 := m ((c : Thread nD τ).loc main_arg1)
abbrev argW (c : Dev nD) : FVec Ideal S1024x3072 .f32 := m ((c : Thread nD τ).loc main_arg2)
abbrev argD (c : Dev nD) : FVec Ideal S3x1024 .f32 := m ((c : Thread nD τ).loc main_arg3)
abbrev argO (c : Dev nD) : FVec Ideal S1024x1024 .f32 := m ((c : Thread nD τ).loc main_arg4)
abbrev argG (c : Dev nD) : FVec Ideal S1024 .f32 := m ((c : Thread nD τ).loc main_arg5)
abbrev argB (c : Dev nD) : FVec Ideal S1024 .f32 := m ((c : Thread nD τ).loc main_arg6)

/-! ### The host operations' arrays -/

/-- The input weights. -/
theorem weightsIn_at (c : Dev nD) (k : Fin 1024) (l : Fin 3072) : (V m c main_v0 : Vec Ideal S1024x3072 .bf16) (ix2 k l) = argW m c (ix2 k l) := by
  unfold V; after_results
  pointwise

/-- The output weights. -/
theorem weightsOut_at (c : Dev nD) (k l : Fin 1024) : (V m c main_v1 : Vec Ideal S1024x1024 .bf16) (ix2 k l) = argO m c (ix2 k l) := by
  unfold V; after_results
  pointwise

/-- The norm's scales. -/
theorem scales_at (c : Dev nD) (z : Fin 1) (l : Fin 1024) : (V m c main_v2 : Vec Ideal S1x1024 .f32) (ix2 z l) = argG m c (ix1 l) := by
  unfold V; after_results
  pointwise

/-- The norm's shifts. -/
theorem shifts_at (c : Dev nD) (z : Fin 1) (l : Fin 1024) : (V m c main_v3 : Vec Ideal S1x1024 .f32) (ix2 z l) = argB m c (ix1 l) := by
  unfold V; after_results
  pointwise

/-! ### The windows -/

theorem index : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] :=
  (by decide +kernel : ∀ t : Fin grid0.N, _)

/-- The batch row of a point. -/
abbrev batch (t : Fin cfg0.N) : Fin 32 := ⟨t.val, by have h : t.val < 32 := t.isLt; omega⟩

/-- A tile of the residual stream. -/
theorem block0 (c : Dev nD) (t : Fin cfg0.N) (r : Fin 16) (l : Fin 1024) : (iblk m c 0 t : Vec Ideal S1x16x1024 .f32) (ix3 0 r l)
    = argH m c (ix3 (batch t) r l) := by
  have e : (win0_0.blk t).view.emb (ix3 0 r l : S1x16x1024.Idx) = (ix3 (batch t) r l : S32x16x1024.Idx) := by
    blk_ext [(index t).1]
  unfold iblk
  blk_simp
  exact (congrArg (V m c main_arg0) e).trans (congrFun (V_main_arg0 m c) _)

/-- The previous state's two rows of the batch row. -/
theorem block1 (c : Dev nD) (t : Fin cfg0.N) (j : Fin 2) (l : Fin 1024) : (iblk m c 1 t : Vec Ideal S1x2x1024 .f32) (ix3 0 j l)
    = argP m c (ix3 (batch t) j l) := by
  have e : (win0_1.blk t).view.emb (ix3 0 j l : S1x2x1024.Idx) = (ix3 (batch t) j l : S32x2x1024.Idx) := by
    blk_ext [(index t).2.1]
  unfold iblk
  blk_simp
  exact (congrArg (V m c main_arg1) e).trans (congrFun (V_main_arg1 m c) _)

/-- The input weights' block is the array. -/
theorem block2 (c : Dev nD) (t : Fin cfg0.N) (k : Fin 1024) (l : Fin 3072) : (iblk m c 2 t : Vec Ideal S1024x3072 .bf16) (ix2 k l)
    = argW m c (ix2 k l) := by
  have e : (win0_2.blk t).view.emb (ix2 k l : S1024x3072.Idx) = (ix2 k l : S1024x3072.Idx) := by
    blk_ext [(index t).2.2.1]
  unfold iblk
  blk_simp
  exact (congrArg (V m c main_v0) e).trans (weightsIn_at m c k l)

/-- The taps' block is the array. -/
theorem block3 (c : Dev nD) (t : Fin cfg0.N) (k : Fin 3) (l : Fin 1024) : (iblk m c 3 t : Vec Ideal S3x1024 .f32) (ix2 k l)
    = argD m c (ix2 k l) := by
  have e : (win0_3.blk t).view.emb (ix2 k l : S3x1024.Idx) = (ix2 k l : S3x1024.Idx) := by
    blk_ext [(index t).2.2.2.1]
  unfold iblk
  blk_simp
  exact (congrArg (V m c main_arg3) e).trans (congrFun (V_main_arg3 m c) _)

/-- The output weights' block is the array. -/
theorem block4 (c : Dev nD) (t : Fin cfg0.N) (k l : Fin 1024) : (iblk m c 4 t : Vec Ideal S1024x1024 .bf16) (ix2 k l)
    = argO m c (ix2 k l) := by
  have e : (win0_4.blk t).view.emb (ix2 k l : S1024x1024.Idx) = (ix2 k l : S1024x1024.Idx) := by
    blk_ext [(index t).2.2.2.2.1]
  unfold iblk
  blk_simp
  exact (congrArg (V m c main_v1) e).trans (weightsOut_at m c k l)

/-- The scales' block is the array. -/
theorem block5 (c : Dev nD) (t : Fin cfg0.N) (l : Fin 1024) : (iblk m c 5 t : Vec Ideal S1x1024 .f32) (ix2 0 l) = argG m c (ix1 l) := by
  have e : (win0_5.blk t).view.emb (ix2 0 l : S1x1024.Idx) = (ix2 0 l : S1x1024.Idx) := by
    blk_ext [(index t).2.2.2.2.2.1]
  unfold iblk
  blk_simp
  exact (congrArg (V m c main_v2) e).trans (scales_at m c 0 l)

/-- The shifts' block is the array. -/
theorem block6 (c : Dev nD) (t : Fin cfg0.N) (l : Fin 1024) : (iblk m c 6 t : Vec Ideal S1x1024 .f32) (ix2 0 l) = argB m c (ix1 l) := by
  have e : (win0_6.blk t).view.emb (ix2 0 l : S1x1024.Idx) = (ix2 0 l : S1x1024.Idx) := by
    blk_ext [(index t).2.2.2.2.2.2.1]
  unfold iblk
  blk_simp
  exact (congrArg (V m c main_v3) e).trans (shifts_at m c 0 l)

theorem place7 (t : Fin cfg0.N) (r : Fin 16) (l : Fin 1024) :
    (((cfg0.win 7).blk t).view.emb (ix3 0 r l : S1x16x1024.Idx) : S32x16x1024.Idx) = ix3 (batch t) r l := by
  blk_ext [(index t).2.2.2.2.2.2.2.1]

theorem place8 (t : Fin cfg0.N) (j : Fin 2) (l : Fin 1024) :
    (((cfg0.win 8).blk t).view.emb (ix3 0 j l : S1x2x1024.Idx) : S32x2x1024.Idx) = ix3 (batch t) j l := by
  blk_ext [(index t).2.2.2.2.2.2.2.2]

/-! ### The rows of a point -/

/-- A tile's row, -/
theorem rowX_eq (c : Dev nD) (t : Fin cfg0.N) (r : Fin 16) : rowX (iblk m c 0 t) r = row (argH m c) (batch t) r :=
  funext fun k => block0 m c t r k

/-- the input weights, -/
theorem entriesIn_eq (c : Dev nD) (t : Fin cfg0.N) : entriesIn (iblk m c 2 t) = entries (argW m c) :=
  funext fun k => funext fun l => block2 m c t k l

/-- and the gated row. -/
theorem gated_eq (c : Dev nD) (t : Fin cfg0.N) (r : Fin 16) :
    gated (rowX (iblk m c 0 t) r) (entriesIn (iblk m c 2 t)) = gated (row (argH m c) (batch t) r) (entries (argW m c)) :=
  congr_arg₂ gated (rowX_eq m c t r) (entriesIn_eq m c t)

/-- The reference's padded gated rows. -/
abbrev ahead (c : Dev nD) (t : Fin cfg0.N) (q : Fin 18) : Fin 1024 → EReal := before (argH m c) (argP m c) (argW m c) (batch t) q

/-- Past the first two they are the gated rows. -/
theorem ahead_gated (c : Dev nD) (t : Fin cfg0.N) (q : Fin 18) (s : Fin 16) (h : q.val = s.val + 2) :
    ahead m c t q = gated (row (argH m c) (batch t) s) (entries (argW m c)) := by
  funext l
  unfold ahead before
  rw [dif_neg (by omega)]
  exact congrArg (fun s => gated (row (argH m c) (batch t) s) (entries (argW m c)) l) (Fin.ext (by show q.val - 2 = s.val; omega))

/-- The rows a point starts from are the previous state's. -/
abbrev carryIn (c : Dev nD) (t : Fin cfg0.N) : Vec Ideal S2x1024 .f32 := carryStart (iblk m c 1 t)

/-- They are the reference's two before the tile. -/
theorem carryIn_at (c : Dev nD) (t : Fin cfg0.N) (j : Fin 2) (l : Fin 1024) :
    carryIn m c t (ix2 j l) = ahead m c t ⟨j.val, by omega⟩ l := by
  refine (carryStart_at _ j l).trans ((block1 m c t j l).trans ?_)
  unfold ahead before
  rw [dif_pos (by show j.val < 2; omega)]

/-- The gated row one before a tile's row, -/
theorem one_eq (c : Dev nD) (t : Fin cfg0.N) (r : Fin 16) : oneBefore (iblk m c 0 t) (iblk m c 2 t) (rowOf 1 (carryIn m c t)) r
    = ahead m c t ⟨1 + r.val, by omega⟩ := by
  funext l
  unfold oneBefore
  split
  · refine (congrArg (carryIn m c t) (ix2_eta _).symm).trans ((carryIn_at m c t 1 l).trans ?_)
    exact congrArg (fun q => ahead m c t q l) (Fin.ext (by show 1 = 1 + r.val; omega))
  · rw [gated_eq]
    refine (congrFun (ahead_gated m c t _ _ ?_) l).symm
    show 1 + r.val = (r.val - 1) + 2
    omega

/-- and two before. -/
theorem two_eq (c : Dev nD) (t : Fin cfg0.N) (r : Fin 16) :
    twoBefore (iblk m c 0 t) (iblk m c 2 t) (rowOf 0 (carryIn m c t)) (rowOf 1 (carryIn m c t)) r = ahead m c t ⟨r.val, by omega⟩ := by
  funext l
  unfold twoBefore
  split
  · refine (congrArg (carryIn m c t) (ix2_eta _).symm).trans ((carryIn_at m c t 0 l).trans ?_)
    exact congrArg (fun q => ahead m c t q l) (Fin.ext (by show 0 = r.val; omega))
  split
  · refine (congrArg (carryIn m c t) (ix2_eta _).symm).trans ((carryIn_at m c t 1 l).trans ?_)
    exact congrArg (fun q => ahead m c t q l) (Fin.ext (by show 1 = r.val; omega))
  · rw [gated_eq]
    refine (congrFun (ahead_gated m c t _ _ ?_) l).symm
    show r.val = (r.val - 2) + 2
    omega

/-! ### The results -/

/-- A tile's output is the reference's there. -/
theorem point (c : Dev nD) (t : Fin cfg0.N) (r : Fin 16) (l : Fin 1024) :
    outBlock (iblk m c 0 t) (iblk m c 2 t) (iblk m c 3 t) (iblk m c 4 t) (iblk m c 5 t) (iblk m c 6 t) (carryIn m c t) (ix3 0 r l)
      = out (argH m c) (argP m c) (argW m c) (argD m c) (argO m c) (argG m c) (argB m c) (ix3 (batch t) r l) := by
  refine (outRows_at _ _ _ _ _ _ _ _ r l).trans ?_
  rw [out_at, two_eq, one_eq, gated_eq, rowX_eq, entriesIn_eq]
  have hu := ahead_gated m c t ⟨2 + r.val, by omega⟩ r (Nat.add_comm _ _)
  rw [← hu]
  have hd : (fun (j : Fin 3) (l : Fin 1024) => (iblk m c 3 t : Vec Ideal S3x1024 .f32) (ix2 j l)) = entries (argD m c) :=
    funext fun j => funext fun l => block3 m c t j l
  have ho : (fun (k l : Fin 1024) => (iblk m c 4 t : Vec Ideal S1024x1024 .bf16) (ix2 k l)) = entries (argO m c) :=
    funext fun k => funext fun l => block4 m c t k l
  have hg : (fun k : Fin 1024 => (iblk m c 5 t : Vec Ideal S1x1024 .f32) (ix2 0 k)) = fun k => argG m c (ix1 k) := funext fun k => block5 m c t k
  have hb : (fun k : Fin 1024 => (iblk m c 6 t : Vec Ideal S1x1024 .f32) (ix2 0 k)) = fun k => argB m c (ix1 k) := funext fun k => block6 m c t k
  exact congr (congr (congr (congrArg norm (congr (congr (congr (congr (congrArg (layer _ _) hd) ho) rfl) rfl) rfl)) hg) hb) rfl

/-- An index of a block of one batch row. -/
theorem alone {a b : ℕ} (y : (⟨3, ![1, a, b]⟩ : Shape).Idx) : ∃ (r : Fin a) (l : Fin b), y = ix3 0 r l :=
  ⟨y 1, y 2, ((congrArg (fun z : Fin 1 => ix3 z (y 1) (y 2)) (Subsingleton.elim (0 : Fin 1) (y 0 : Fin 1))).trans (ix3_eta y)).symm⟩

/-- The output array. -/
theorem array7 (c : Dev nD) : (dats m 0 c).arrAt 7 cfg0.N = out (argH m c) (argP m c) (argW m c) (argD m c) (argO m c) (argG m c) (argB m c) := by
  refine (dats m 0 c).arrAt_eq_of_covers 7 _ (by decide +kernel) fun t _ y => ?_
  obtain ⟨r, l, rfl⟩ := alone (a := 16) (b := 1024) y
  blk_simp
  rw [after0_7]; unfold outsAt0; frame_out
  rw [show (View.whole cc0_scratch0 : View sig .tc .vmem S8x1024 .f32).readCov [⟨two, k0_pay7 (iblk m c 1 t)⟩] fst.toLoadRect = rowOf 0 (carryIn m c t) from cov_fst _ _ _,
    show (View.whole cc0_scratch0 : View sig .tc .vmem S8x1024 .f32).readCov [⟨two, k0_pay7 (iblk m c 1 t)⟩] snd.toLoadRect = rowOf 1 (carryIn m c t) from cov_snd _ _ _]
  exact (point m c t r l).trans (congrArg _ (place7 t r l).symm)

/-- The state of a batch row, is the reference's. -/
theorem array8 (c : Dev nD) : (dats m 0 c).arrAt 8 cfg0.N = state (argH m c) (argP m c) (argW m c) := by
  refine (dats m 0 c).arrAt_eq_of_covers 8 _ (by decide +kernel) fun t _ y => ?_
  obtain ⟨j, l, rfl⟩ := alone (a := 2) (b := 1024) y
  blk_simp
  rw [after0_8]; unfold outsAt0; frame_out
  refine (stateBlock_at _ _ j l).trans (Eq.trans ?_ (congrArg (state (argH m c) (argP m c) (argW m c)) (place8 t j l).symm))
  rw [state_at, gated_eq]

/-- The run: both results are the reference's, and the arguments are unchanged. -/
theorem run (g : Dev nD → PrngReg) : θ_run defs (onTc (τ := τ) (main (F := Ideal))) ⟨m, fun _ => 0, g⟩ (fun r => ∀ c : Dev nD,
      r.2.mem ((c.tc : Thread nD τ).loc main_v4_0) = out (argH m c) (argP m c) (argW m c) (argD m c) (argO m c) (argG m c) (argB m c)
      ∧ r.2.mem ((c.tc : Thread nD τ).loc main_v4_1) = state (argH m c) (argP m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m g & unchanged m g
  · exact array7 m c
  · exact array8 m c

end Cert.SampleConvIdeal.Layer

end
-- ==== Proof.SampleConvLayer.lean ====
/-
  The certificate of the sample batch's convolution layer: the frames of its three programs and
  the equation. No operation is rewritten, so the idealization is the kernel's own text.
-/
module

public import proofs.«01_k».proof.Defs
public import proofs.«01_k».proof.Proof.Gen.SampleConv.Frame
public import proofs.«01_k».proof.Proof.SampleConvIdeal.Value
public import proofs.«01_k».proof.Proof.Gen.RefSampleConvIdeal.Run
public import Idealize.ShloMosaic.Lib.Quiescent
public import Idealize.ShloMosaic.Adequacy
public import Idealize.ShloMosaic.Init

@[expose] public section

set_option maxRecDepth 16384

noncomputable section

namespace Cert.SampleConvLayer

open Idealize.ShloMosaic Idealize.SL.Sem

theorem frame : Cert.quiescent_SampleConv := fun m ρ _ => Cert.SampleConv.Gen.frame m ρ

theorem frameIdeal : Cert.quiescent_SampleConvIdeal := fun m ρ _ => Cert.SampleConvIdeal.Gen.frame m ρ

/-- The reference is host code and declares no semaphore. -/
theorem frameRef : Cert.quiescent_RefSampleConvIdeal := fun m ρ _ =>
  (θ_run Cert.RefSampleConvIdeal.defs _ _).mono (fun r h => ⟨fun c => (h c).2.2, sem_eq_zero_of_no_sems (by decide) r.2⟩)
    (Cert.RefSampleConvIdeal.Value.run (F := Ideal) m ρ)

theorem preserves : Cert.preserves_SampleConv_SampleConvIdeal := trivial

/-- Both runs end with the normed rows and the new state. -/
theorem equation : Cert.algebraic_SampleConvIdeal_RefSampleConvIdeal := by
  intro m g m' g' _ hargs
  refine ⟨_, _, Cert.SampleConvIdeal.Layer.run m g, ?_⟩
  refine (θ_run Cert.RefSampleConvIdeal.defs _ _).mono (fun r h c => ⟨(h c).1.trans ?_, (h c).2.1.trans ?_, (h c).2.2⟩)
    (Cert.RefSampleConvIdeal.Value.run (F := Ideal) m' g')
  all_goals obtain ⟨h0, h1, h2, h3, h4, h5, h6⟩ := hargs c
  · refine (Cert.RefSampleConvIdeal.Layer.out_eq m' c).trans ?_
    exact congr (congr (congr (congr (congr (congr (congrArg Cert.RefSampleConvIdeal.Layer.out h0) h1) h2) h3) h4) h5) h6
  · change Cert.RefSampleConvIdeal.Layer.state _ _ _ = Cert.RefSampleConvIdeal.Layer.state _ _ _
    exact congr (congr (congrArg Cert.RefSampleConvIdeal.Layer.state h0) h1) h2

end Cert.SampleConvLayer

end
-- ==== Proof.lean ====
/-
  The certificate of the attention kernel, and with it those of the other calls (ConvLayer.lean, Projections.lean,
  SampleAttention.lean). Of the attention: the frames of the kernel, of its idealization and of the reference, the rewrite
  of the one named constant, and the equation: over the extended reals, of real queries and keys, the kernel's array is the
  reference's.
-/
module

public import proofs.«01_k».proof.Defs
public import proofs.«01_k».proof.Proof.Kernel.Run
public import proofs.«01_k».proof.Proof.KernelIdeal.Array
public import proofs.«01_k».proof.Proof.ReferenceIdeal.Value
public import proofs.«01_k».proof.Proof.Finite
public import proofs.«01_k».proof.Proof.ConvLayer
public import proofs.«01_k».proof.Proof.Projections
public import proofs.«01_k».proof.Proof.SampleAttention
public import proofs.«01_k».proof.Proof.SampleProjections
public import proofs.«01_k».proof.Proof.SampleConvLayer
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem
open Cert.Projections

/-- The kernel runs, leaves its arguments and ends with every counter at zero. -/
theorem frame_kernel : Cert.quiescent_Kernel := fun m ρ _ => Cert.Kernel.Attn.frame_run m ρ

/-- So does its idealization. -/
theorem frame_kernelIdeal : Cert.quiescent_KernelIdeal := fun m ρ _ => Cert.KernelIdeal.Attn.frame_run m ρ

/-- The reference is host code and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement _ _ _ _ _ rfl

/-- The two frames hold under the precondition too. -/
theorem frame_kernelIdeal_finite : Cert.quiescent_KernelIdeal_pre_finite := fun m ρ _ => frame_kernelIdeal m ρ trivial

theorem frame_referenceIdeal_finite : Cert.quiescent_ReferenceIdeal_pre_finite := fun m ρ _ => frame_referenceIdeal m ρ trivial

/-- Both runs end with the attention in the result. -/
theorem equation : Cert.algebraic_KernelIdeal_ReferenceIdeal_pre_finite := by
  intro m g m' g' hpre hargs
  refine ⟨fun c => (Cert.KernelIdeal.Attn.dats m 0 c).arrAt 4 (Cert.KernelIdeal.cfg0 (F := Ideal)).N, ?_, ?_⟩
  · exact Cert.KernelIdeal.Attn.run_out m g
  · refine (θ_run Cert.ReferenceIdeal.defs _ _).mono (fun r h c => ⟨(h c).1.trans ?_, (h c).2⟩) (Cert.ReferenceIdeal.Value.run (F := Ideal) m' g')
    obtain ⟨h0, h1, h2⟩ := hargs c
    obtain ⟨⟨Q, hQ⟩, ⟨K, hK⟩⟩ := Cert.Finite.reals _ _ _ (hpre c)
    rw [Cert.ReferenceIdeal.Attn.result_eq]
    refine (Cert.ReferenceIdeal.Attn.output _ _ _ Q K (fun j => (congrFun h0 j).trans (hQ j)) (fun j => (congrFun h1 j).trans (hK j))).trans ?_
    refine Eq.trans ?_ (Cert.KernelIdeal.Attn.output m c Q K hQ hK).symm
    funext y
    exact congrArg (fun v => Stick.attention Q K v (y 0) (y 1).val (y 2).val) h2

theorem claim : Cert.Claim :=
  ⟨Cert.Kernel.Gen.facts, Cert.KernelIdeal.Gen.facts, Cert.ReferenceIdeal.Gen.facts,
    Cert.Conv.Gen.facts, Cert.ConvIdeal.Gen.facts, Cert.RefConvIdeal.Gen.facts,
    Cert.KeysValues.Gen.facts, Cert.KeysValuesIdeal.Gen.facts, Cert.RefKeysValuesIdeal.Gen.facts,
    Cert.Queries.Gen.facts, Cert.QueriesIdeal.Gen.facts, Cert.RefQueriesIdeal.Gen.facts,
    Cert.ProjectOut.Gen.facts, Cert.ProjectOutIdeal.Gen.facts, Cert.RefProjectOutIdeal.Gen.facts,
    Cert.Sample.Gen.facts, Cert.SampleIdeal.Gen.facts, Cert.RefSampleIdeal.Gen.facts,
    Cert.SampleKeysValues.Gen.facts, Cert.SampleKeysValuesIdeal.Gen.facts, Cert.RefSampleKeysValuesIdeal.Gen.facts,
    Cert.SampleQueries.Gen.facts, Cert.SampleQueriesIdeal.Gen.facts, Cert.RefSampleQueriesIdeal.Gen.facts,
    Cert.SampleProjectOut.Gen.facts, Cert.SampleProjectOutIdeal.Gen.facts, Cert.RefSampleProjectOutIdeal.Gen.facts,
    Cert.SampleConv.Gen.facts, Cert.SampleConvIdeal.Gen.facts, Cert.RefSampleConvIdeal.Gen.facts,
    Cert.Pre_finite.Gen.facts, Cert.Pre_finite_sample.Gen.facts,
    frame_kernel, frame_kernelIdeal, frame_kernelIdeal_finite, frame_referenceIdeal, frame_referenceIdeal_finite,
    Cert.ConvLayer.frame, Cert.ConvLayer.frameIdeal, Cert.ConvLayer.frameRef,
    keysValues_frame, keysValues_frameIdeal, keysValues_frameRef, queries_frame, queries_frameIdeal, queries_frameRef,
    projectOut_frame, projectOut_frameIdeal, projectOut_frameRef,
    Cert.SampleAttention.frame, Cert.SampleAttention.frameIdeal, Cert.SampleAttention.frameIdeal_finite, Cert.SampleAttention.frameRef,
    Cert.SampleAttention.frameRef_finite,
    Cert.SampleProjections.keysValues_frame, Cert.SampleProjections.keysValues_frameIdeal, Cert.SampleProjections.keysValues_frameRef,
    Cert.SampleProjections.queries_frame, Cert.SampleProjections.queries_frameIdeal, Cert.SampleProjections.queries_frameRef,
    Cert.SampleProjections.projectOut_frame, Cert.SampleProjections.projectOut_frameIdeal, Cert.SampleProjections.projectOut_frameRef,
    Cert.SampleConvLayer.frame, Cert.SampleConvLayer.frameIdeal, Cert.SampleConvLayer.frameRef,
    preserves, equation, Cert.ConvLayer.preserves, Cert.ConvLayer.equation,
    keysValues_preserves, keysValues_equation, queries_preserves, queries_equation, projectOut_preserves, projectOut_equation,
    Cert.SampleAttention.preserves, Cert.SampleAttention.equation,
    Cert.SampleProjections.keysValues_preserves, Cert.SampleProjections.keysValues_equation,
    Cert.SampleProjections.queries_preserves, Cert.SampleProjections.queries_equation,
    Cert.SampleProjections.projectOut_preserves, Cert.SampleProjections.projectOut_equation,
    Cert.SampleConvLayer.preserves, Cert.SampleConvLayer.equation⟩

end Cert.Proof

end
